-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_OutSample (m : (ℓ : Loc Cert.OutSample.nD Cert.OutSample.τ Cert.OutSample.sig) → Buf (Elt Bits) ℓ) : Prop :=
  True

def Pre_OutSampleIdeal (m : (ℓ : Loc Cert.OutSampleIdeal.nD Cert.OutSampleIdeal.τ Cert.OutSampleIdeal.sig) → Buf (Elt Ideal) ℓ) : Prop :=
  True

def Pre_OutSampleRefIdeal (m : (ℓ : Loc Cert.OutSampleRefIdeal.nD Cert.OutSampleRefIdeal.τ Cert.OutSampleRefIdeal.sig) → Buf (Elt Ideal) ℓ) : Prop :=
  True

def Pre_CrossSample (m : (ℓ : Loc Cert.CrossSample.nD Cert.CrossSample.τ Cert.CrossSample.sig) → Buf (Elt Bits) ℓ) : Prop :=
  True

def Pre_CrossSampleIdeal (m : (ℓ : Loc Cert.CrossSampleIdeal.nD Cert.CrossSampleIdeal.τ Cert.CrossSampleIdeal.sig) → Buf (Elt Ideal) ℓ) : Prop :=
  True

def Pre_CrossSampleRefIdeal (m : (ℓ : Loc Cert.CrossSampleRefIdeal.nD Cert.CrossSampleRefIdeal.τ Cert.CrossSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6))
      ∧ r.2.sem = fun _ => 0)

def quiescent_OutSample [hOutSample : Cert.OutSample.Facts] : Prop :=
  ∀ (m : (ℓ : Loc Cert.OutSample.nD Cert.OutSample.τ Cert.OutSample.sig) → Buf (Elt Bits) ℓ) (g : Dev Cert.OutSample.nD → PrngReg), Pre_OutSample m →
    θ_run (Cert.OutSample.defs (F := Bits)) (onTc (τ := Cert.OutSample.τ) (Cert.OutSample.main (F := Bits))) ⟨m, fun _ => 0, g⟩ (fun r => (∀ c : Dev Cert.OutSample.nD,
      r.2.mem ((c.tc : Thread Cert.OutSample.nD Cert.OutSample.τ).loc Cert.OutSample.main_arg0) = m ((c.tc : Thread Cert.OutSample.nD Cert.OutSample.τ).loc Cert.OutSample.main_arg0)
      ∧ r.2.mem ((c.tc : Thread Cert.OutSample.nD Cert.OutSample.τ).loc Cert.OutSample.main_arg1) = m ((c.tc : Thread Cert.OutSample.nD Cert.OutSample.τ).loc Cert.OutSample.main_arg1)
      ∧ r.2.mem ((c.tc : Thread Cert.OutSample.nD Cert.OutSample.τ).loc Cert.OutSample.main_arg2) = m ((c.tc : Thread Cert.OutSample.nD Cert.OutSample.τ).loc Cert.OutSample.main_arg2)
      ∧ r.2.mem ((c.tc : Thread Cert.OutSample.nD Cert.OutSample.τ).loc Cert.OutSample.main_arg3) = m ((c.tc : Thread Cert.OutSample.nD Cert.OutSample.τ).loc Cert.OutSample.main_arg3)
      ∧ r.2.mem ((c.tc : Thread Cert.OutSample.nD Cert.OutSample.τ).loc Cert.OutSample.main_arg4) = m ((c.tc : Thread Cert.OutSample.nD Cert.OutSample.τ).loc Cert.OutSample.main_arg4))
      ∧ r.2.sem = fun _ => 0)

def quiescent_OutSampleIdeal [hOutSampleIdeal : Cert.OutSampleIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg), Pre_OutSampleIdeal m →
    θ_run (Cert.OutSampleIdeal.defs (F := Ideal)) (onTc (τ := Cert.OutSampleIdeal.τ) (Cert.OutSampleIdeal.main (F := Ideal))) ⟨m, fun _ => 0, g⟩ (fun r => (∀ c : Dev Cert.OutSampleIdeal.nD,
      r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
      ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
      ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
      ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
      ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4))
      ∧ r.2.sem = fun _ => 0)

def quiescent_OutSampleRefIdeal [hOutSampleRefIdeal : Cert.OutSampleRefIdeal.Facts] : Prop :=
  ∀ (m : (ℓ : Loc Cert.OutSampleRefIdeal.nD Cert.OutSampleRefIdeal.τ Cert.OutSampleRefIdeal.sig) → Buf (Elt Ideal) ℓ) (g : Dev Cert.OutSampleRefIdeal.nD → PrngReg), Pre_OutSampleRefIdeal m →
    θ_run (Cert.OutSampleRefIdeal.defs (F := Ideal)) (onTc (τ := Cert.OutSampleRefIdeal.τ) (Cert.OutSampleRefIdeal.main (F := Ideal))) ⟨m, fun _ => 0, g⟩ (fun r => (∀ c : Dev Cert.OutSampleRefIdeal.nD,
      r.2.mem ((c.tc : Thread Cert.OutSampleRefIdeal.nD Cert.OutSampleRefIdeal.τ).loc Cert.OutSampleRefIdeal.main_arg0) = m ((c.tc : Thread Cert.OutSampleRefIdeal.nD Cert.OutSampleRefIdeal.τ).loc Cert.OutSampleRefIdeal.main_arg0)
      ∧ r.2.mem ((c.tc : Thread Cert.OutSampleRefIdeal.nD Cert.OutSampleRefIdeal.τ).loc Cert.OutSampleRefIdeal.main_arg1) = m ((c.tc : Thread Cert.OutSampleRefIdeal.nD Cert.OutSampleRefIdeal.τ).loc Cert.OutSampleRefIdeal.main_arg1)
      ∧ r.2.mem ((c.tc : Thread Cert.OutSampleRefIdeal.nD Cert.OutSampleRefIdeal.τ).loc Cert.OutSampleRefIdeal.main_arg2) = m ((c.tc : Thread Cert.OutSampleRefIdeal.nD Cert.OutSampleRefIdeal.τ).loc Cert.OutSampleRefIdeal.main_arg2)
      ∧ r.2.mem ((c.tc : Thread Cert.OutSampleRefIdeal.nD Cert.OutSampleRefIdeal.τ).loc Cert.OutSampleRefIdeal.main_arg3) = m ((c.tc : Thread Cert.OutSampleRefIdeal.nD Cert.OutSampleRefIdeal.τ).loc Cert.OutSampleRefIdeal.main_arg3)
      ∧ r.2.mem ((c.tc : Thread Cert.OutSampleRefIdeal.nD Cert.OutSampleRefIdeal.τ).loc Cert.OutSampleRefIdeal.main_arg4) = m ((c.tc : Thread Cert.OutSampleRefIdeal.nD Cert.OutSampleRefIdeal.τ).loc Cert.OutSampleRefIdeal.main_arg4))
      ∧ r.2.sem = fun _ => 0)

def quiescent_CrossSample [hCrossSample : Cert.CrossSample.Facts] : Prop :=
  ∀ (m : (ℓ : Loc Cert.CrossSample.nD Cert.CrossSample.τ Cert.CrossSample.sig) → Buf (Elt Bits) ℓ) (g : Dev Cert.CrossSample.nD → PrngReg), Pre_CrossSample m →
    θ_run (Cert.CrossSample.defs (F := Bits)) (onTc (τ := Cert.CrossSample.τ) (Cert.CrossSample.main (F := Bits))) ⟨m, fun _ => 0, g⟩ (fun r => (∀ c : Dev Cert.CrossSample.nD,
      r.2.mem ((c.tc : Thread Cert.CrossSample.nD Cert.CrossSample.τ).loc Cert.CrossSample.main_arg0) = m ((c.tc : Thread Cert.CrossSample.nD Cert.CrossSample.τ).loc Cert.CrossSample.main_arg0)
      ∧ r.2.mem ((c.tc : Thread Cert.CrossSample.nD Cert.CrossSample.τ).loc Cert.CrossSample.main_arg1) = m ((c.tc : Thread Cert.CrossSample.nD Cert.CrossSample.τ).loc Cert.CrossSample.main_arg1)
      ∧ r.2.mem ((c.tc : Thread Cert.CrossSample.nD Cert.CrossSample.τ).loc Cert.CrossSample.main_arg2) = m ((c.tc : Thread Cert.CrossSample.nD Cert.CrossSample.τ).loc Cert.CrossSample.main_arg2)
      ∧ r.2.mem ((c.tc : Thread Cert.CrossSample.nD Cert.CrossSample.τ).loc Cert.CrossSample.main_arg3) = m ((c.tc : Thread Cert.CrossSample.nD Cert.CrossSample.τ).loc Cert.CrossSample.main_arg3)
      ∧ r.2.mem ((c.tc : Thread Cert.CrossSample.nD Cert.CrossSample.τ).loc Cert.CrossSample.main_arg4) = m ((c.tc : Thread Cert.CrossSample.nD Cert.CrossSample.τ).loc Cert.CrossSample.main_arg4)
      ∧ r.2.mem ((c.tc : Thread Cert.CrossSample.nD Cert.CrossSample.τ).loc Cert.CrossSample.main_arg5) = m ((c.tc : Thread Cert.CrossSample.nD Cert.CrossSample.τ).loc Cert.CrossSample.main_arg5))
      ∧ r.2.sem = fun _ => 0)

def quiescent_CrossSampleIdeal [hCrossSampleIdeal : Cert.CrossSampleIdeal.Facts] : Prop :=
  ∀ (m : (ℓ : Loc Cert.CrossSampleIdeal.nD Cert.CrossSampleIdeal.τ Cert.CrossSampleIdeal.sig) → Buf (Elt Ideal) ℓ) (g : Dev Cert.CrossSampleIdeal.nD → PrngReg), Pre_CrossSampleIdeal m →
    θ_run (Cert.CrossSampleIdeal.defs (F := Ideal)) (onTc (τ := Cert.CrossSampleIdeal.τ) (Cert.CrossSampleIdeal.main (F := Ideal))) ⟨m, fun _ => 0, g⟩ (fun r => (∀ c : Dev Cert.CrossSampleIdeal.nD,
      r.2.mem ((c.tc : Thread Cert.CrossSampleIdeal.nD Cert.CrossSampleIdeal.τ).loc Cert.CrossSampleIdeal.main_arg0) = m ((c.tc : Thread Cert.CrossSampleIdeal.nD Cert.CrossSampleIdeal.τ).loc Cert.CrossSampleIdeal.main_arg0)
      ∧ r.2.mem ((c.tc : Thread Cert.CrossSampleIdeal.nD Cert.CrossSampleIdeal.τ).loc Cert.CrossSampleIdeal.main_arg1) = m ((c.tc : Thread Cert.CrossSampleIdeal.nD Cert.CrossSampleIdeal.τ).loc Cert.CrossSampleIdeal.main_arg1)
      ∧ r.2.mem ((c.tc : Thread Cert.CrossSampleIdeal.nD Cert.CrossSampleIdeal.τ).loc Cert.CrossSampleIdeal.main_arg2) = m ((c.tc : Thread Cert.CrossSampleIdeal.nD Cert.CrossSampleIdeal.τ).loc Cert.CrossSampleIdeal.main_arg2)
      ∧ r.2.mem ((c.tc : Thread Cert.CrossSampleIdeal.nD Cert.CrossSampleIdeal.τ).loc Cert.CrossSampleIdeal.main_arg3) = m ((c.tc : Thread Cert.CrossSampleIdeal.nD Cert.CrossSampleIdeal.τ).loc Cert.CrossSampleIdeal.main_arg3)
      ∧ r.2.mem ((c.tc : Thread Cert.CrossSampleIdeal.nD Cert.CrossSampleIdeal.τ).loc Cert.CrossSampleIdeal.main_arg4) = m ((c.tc : Thread Cert.CrossSampleIdeal.nD Cert.CrossSampleIdeal.τ).loc Cert.CrossSampleIdeal.main_arg4)
      ∧ r.2.mem ((c.tc : Thread Cert.CrossSampleIdeal.nD Cert.CrossSampleIdeal.τ).loc Cert.CrossSampleIdeal.main_arg5) = m ((c.tc : Thread Cert.CrossSampleIdeal.nD Cert.CrossSampleIdeal.τ).loc Cert.CrossSampleIdeal.main_arg5))
      ∧ r.2.sem = fun _ => 0)

def quiescent_CrossSampleRefIdeal [hCrossSampleRefIdeal : Cert.CrossSampleRefIdeal.Facts] : Prop :=
  ∀ (m : (ℓ : Loc Cert.CrossSampleRefIdeal.nD Cert.CrossSampleRefIdeal.τ Cert.CrossSampleRefIdeal.sig) → Buf (Elt Ideal) ℓ) (g : Dev Cert.CrossSampleRefIdeal.nD → PrngReg), Pre_CrossSampleRefIdeal m →
    θ_run (Cert.CrossSampleRefIdeal.defs (F := Ideal)) (onTc (τ := Cert.CrossSampleRefIdeal.τ) (Cert.CrossSampleRefIdeal.main (F := Ideal))) ⟨m, fun _ => 0, g⟩ (fun r => (∀ c : Dev Cert.CrossSampleRefIdeal.nD,
      r.2.mem ((c.tc : Thread Cert.CrossSampleRefIdeal.nD Cert.CrossSampleRefIdeal.τ).loc Cert.CrossSampleRefIdeal.main_arg0) = m ((c.tc : Thread Cert.CrossSampleRefIdeal.nD Cert.CrossSampleRefIdeal.τ).loc Cert.CrossSampleRefIdeal.main_arg0)
      ∧ r.2.mem ((c.tc : Thread Cert.CrossSampleRefIdeal.nD Cert.CrossSampleRefIdeal.τ).loc Cert.CrossSampleRefIdeal.main_arg1) = m ((c.tc : Thread Cert.CrossSampleRefIdeal.nD Cert.CrossSampleRefIdeal.τ).loc Cert.CrossSampleRefIdeal.main_arg1)
      ∧ r.2.mem ((c.tc : Thread Cert.CrossSampleRefIdeal.nD Cert.CrossSampleRefIdeal.τ).loc Cert.CrossSampleRefIdeal.main_arg2) = m ((c.tc : Thread Cert.CrossSampleRefIdeal.nD Cert.CrossSampleRefIdeal.τ).loc Cert.CrossSampleRefIdeal.main_arg2)
      ∧ r.2.mem ((c.tc : Thread Cert.CrossSampleRefIdeal.nD Cert.CrossSampleRefIdeal.τ).loc Cert.CrossSampleRefIdeal.main_arg3) = m ((c.tc : Thread Cert.CrossSampleRefIdeal.nD Cert.CrossSampleRefIdeal.τ).loc Cert.CrossSampleRefIdeal.main_arg3)
      ∧ r.2.mem ((c.tc : Thread Cert.CrossSampleRefIdeal.nD Cert.CrossSampleRefIdeal.τ).loc Cert.CrossSampleRefIdeal.main_arg4) = m ((c.tc : Thread Cert.CrossSampleRefIdeal.nD Cert.CrossSampleRefIdeal.τ).loc Cert.CrossSampleRefIdeal.main_arg4)
      ∧ r.2.mem ((c.tc : Thread Cert.CrossSampleRefIdeal.nD Cert.CrossSampleRefIdeal.τ).loc Cert.CrossSampleRefIdeal.main_arg5) = m ((c.tc : Thread Cert.CrossSampleRefIdeal.nD Cert.CrossSampleRefIdeal.τ).loc Cert.CrossSampleRefIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)) →
    ∃ (v0 : (c : Dev Cert.MixerIdeal.nD) → Buf (Elt Ideal) ((c.tc : Thread Cert.MixerIdeal.nD Cert.MixerIdeal.τ).loc Cert.MixerIdeal.main_v85_0)) (v1 : (c : Dev Cert.MixerIdeal.nD) → Buf (Elt Ideal) ((c.tc : Thread Cert.MixerIdeal.nD Cert.MixerIdeal.τ).loc Cert.MixerIdeal.main_v85_1)) (v2 : (c : Dev Cert.MixerIdeal.nD) → Buf (Elt Ideal) ((c.tc : Thread Cert.MixerIdeal.nD Cert.MixerIdeal.τ).loc Cert.MixerIdeal.main_v85_2)) (v3 : (c : Dev Cert.MixerIdeal.nD) → Buf (Elt Ideal) ((c.tc : Thread Cert.MixerIdeal.nD Cert.MixerIdeal.τ).loc Cert.MixerIdeal.main_v85_3)) (v4 : (c : Dev Cert.MixerIdeal.nD) → Buf (Elt Ideal) ((c.tc : Thread Cert.MixerIdeal.nD Cert.MixerIdeal.τ).loc Cert.MixerIdeal.main_v85_4)) (v5 : (c : Dev Cert.MixerIdeal.nD) → Buf (Elt Ideal) ((c.tc : Thread Cert.MixerIdeal.nD Cert.MixerIdeal.τ).loc Cert.MixerIdeal.main_v85_5)) (v6 : (c : Dev Cert.MixerIdeal.nD) → Buf (Elt Ideal) ((c.tc : Thread Cert.MixerIdeal.nD Cert.MixerIdeal.τ).loc Cert.MixerIdeal.main_v85_6)) (v7 : (c : Dev Cert.MixerIdeal.nD) → Buf (Elt Ideal) ((c.tc : Thread Cert.MixerIdeal.nD Cert.MixerIdeal.τ).loc Cert.MixerIdeal.main_v85_7)) (v8 : (c : Dev Cert.MixerIdeal.nD) → Buf (Elt Ideal) ((c.tc : Thread Cert.MixerIdeal.nD Cert.MixerIdeal.τ).loc Cert.MixerIdeal.main_v85_8)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v85_0) = v0 c
          ∧ r.2.mem ((c.tc : Thread Cert.MixerIdeal.nD Cert.MixerIdeal.τ).loc Cert.MixerIdeal.main_v85_1) = v1 c
          ∧ r.2.mem ((c.tc : Thread Cert.MixerIdeal.nD Cert.MixerIdeal.τ).loc Cert.MixerIdeal.main_v85_2) = v2 c
          ∧ r.2.mem ((c.tc : Thread Cert.MixerIdeal.nD Cert.MixerIdeal.τ).loc Cert.MixerIdeal.main_v85_3) = v3 c
          ∧ r.2.mem ((c.tc : Thread Cert.MixerIdeal.nD Cert.MixerIdeal.τ).loc Cert.MixerIdeal.main_v85_4) = v4 c
          ∧ r.2.mem ((c.tc : Thread Cert.MixerIdeal.nD Cert.MixerIdeal.τ).loc Cert.MixerIdeal.main_v85_5) = v5 c
          ∧ r.2.mem ((c.tc : Thread Cert.MixerIdeal.nD Cert.MixerIdeal.τ).loc Cert.MixerIdeal.main_v85_6) = v6 c
          ∧ r.2.mem ((c.tc : Thread Cert.MixerIdeal.nD Cert.MixerIdeal.τ).loc Cert.MixerIdeal.main_v85_7) = v7 c
          ∧ r.2.mem ((c.tc : Thread Cert.MixerIdeal.nD Cert.MixerIdeal.τ).loc Cert.MixerIdeal.main_v85_8) = v8 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v253) = v0 c
          ∧ r.2.mem ((c.tc : Thread Cert.MixerRefIdeal.nD Cert.MixerRefIdeal.τ).loc Cert.MixerRefIdeal.main_v254) = v1 c
          ∧ r.2.mem ((c.tc : Thread Cert.MixerRefIdeal.nD Cert.MixerRefIdeal.τ).loc Cert.MixerRefIdeal.main_v255) = v2 c
          ∧ r.2.mem ((c.tc : Thread Cert.MixerRefIdeal.nD Cert.MixerRefIdeal.τ).loc Cert.MixerRefIdeal.main_v256) = v3 c
          ∧ r.2.mem ((c.tc : Thread Cert.MixerRefIdeal.nD Cert.MixerRefIdeal.τ).loc Cert.MixerRefIdeal.main_v257) = v4 c
          ∧ r.2.mem ((c.tc : Thread Cert.MixerRefIdeal.nD Cert.MixerRefIdeal.τ).loc Cert.MixerRefIdeal.main_v258) = v5 c
          ∧ r.2.mem ((c.tc : Thread Cert.MixerRefIdeal.nD Cert.MixerRefIdeal.τ).loc Cert.MixerRefIdeal.main_v259) = v6 c
          ∧ r.2.mem ((c.tc : Thread Cert.MixerRefIdeal.nD Cert.MixerRefIdeal.τ).loc Cert.MixerRefIdeal.main_v260) = v7 c
          ∧ r.2.mem ((c.tc : Thread Cert.MixerRefIdeal.nD Cert.MixerRefIdeal.τ).loc Cert.MixerRefIdeal.main_v261) = v8 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v3_0)) (v1 : (c : Dev Cert.MemoryIdeal.nD) → Buf (Elt Ideal) ((c.tc : Thread Cert.MemoryIdeal.nD Cert.MemoryIdeal.τ).loc Cert.MemoryIdeal.main_v3_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v3_0) = v0 c
          ∧ r.2.mem ((c.tc : Thread Cert.MemoryIdeal.nD Cert.MemoryIdeal.τ).loc Cert.MemoryIdeal.main_v3_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v13) = v0 c
          ∧ r.2.mem ((c.tc : Thread Cert.MemoryRefIdeal.nD Cert.MemoryRefIdeal.τ).loc Cert.MemoryRefIdeal.main_v14) = v1 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3))

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)) →
    ∃ (v0 : (c : Dev Cert.CrossIdeal.nD) → Buf (Elt Ideal) ((c.tc : Thread Cert.CrossIdeal.nD Cert.CrossIdeal.τ).loc Cert.CrossIdeal.main_v3)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v3) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v37) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)) →
    ∃ (v0 : (c : Dev Cert.SampleIdeal.nD) → Buf (Elt Ideal) ((c.tc : Thread Cert.SampleIdeal.nD Cert.SampleIdeal.τ).loc Cert.SampleIdeal.main_v87_0)) (v1 : (c : Dev Cert.SampleIdeal.nD) → Buf (Elt Ideal) ((c.tc : Thread Cert.SampleIdeal.nD Cert.SampleIdeal.τ).loc Cert.SampleIdeal.main_v87_1)) (v2 : (c : Dev Cert.SampleIdeal.nD) → Buf (Elt Ideal) ((c.tc : Thread Cert.SampleIdeal.nD Cert.SampleIdeal.τ).loc Cert.SampleIdeal.main_v87_2)) (v3 : (c : Dev Cert.SampleIdeal.nD) → Buf (Elt Ideal) ((c.tc : Thread Cert.SampleIdeal.nD Cert.SampleIdeal.τ).loc Cert.SampleIdeal.main_v87_3)) (v4 : (c : Dev Cert.SampleIdeal.nD) → Buf (Elt Ideal) ((c.tc : Thread Cert.SampleIdeal.nD Cert.SampleIdeal.τ).loc Cert.SampleIdeal.main_v87_4)) (v5 : (c : Dev Cert.SampleIdeal.nD) → Buf (Elt Ideal) ((c.tc : Thread Cert.SampleIdeal.nD Cert.SampleIdeal.τ).loc Cert.SampleIdeal.main_v87_5)) (v6 : (c : Dev Cert.SampleIdeal.nD) → Buf (Elt Ideal) ((c.tc : Thread Cert.SampleIdeal.nD Cert.SampleIdeal.τ).loc Cert.SampleIdeal.main_v87_6)) (v7 : (c : Dev Cert.SampleIdeal.nD) → Buf (Elt Ideal) ((c.tc : Thread Cert.SampleIdeal.nD Cert.SampleIdeal.τ).loc Cert.SampleIdeal.main_v87_7)) (v8 : (c : Dev Cert.SampleIdeal.nD) → Buf (Elt Ideal) ((c.tc : Thread Cert.SampleIdeal.nD Cert.SampleIdeal.τ).loc Cert.SampleIdeal.main_v87_8)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v87_0) = v0 c
          ∧ r.2.mem ((c.tc : Thread Cert.SampleIdeal.nD Cert.SampleIdeal.τ).loc Cert.SampleIdeal.main_v87_1) = v1 c
          ∧ r.2.mem ((c.tc : Thread Cert.SampleIdeal.nD Cert.SampleIdeal.τ).loc Cert.SampleIdeal.main_v87_2) = v2 c
          ∧ r.2.mem ((c.tc : Thread Cert.SampleIdeal.nD Cert.SampleIdeal.τ).loc Cert.SampleIdeal.main_v87_3) = v3 c
          ∧ r.2.mem ((c.tc : Thread Cert.SampleIdeal.nD Cert.SampleIdeal.τ).loc Cert.SampleIdeal.main_v87_4) = v4 c
          ∧ r.2.mem ((c.tc : Thread Cert.SampleIdeal.nD Cert.SampleIdeal.τ).loc Cert.SampleIdeal.main_v87_5) = v5 c
          ∧ r.2.mem ((c.tc : Thread Cert.SampleIdeal.nD Cert.SampleIdeal.τ).loc Cert.SampleIdeal.main_v87_6) = v6 c
          ∧ r.2.mem ((c.tc : Thread Cert.SampleIdeal.nD Cert.SampleIdeal.τ).loc Cert.SampleIdeal.main_v87_7) = v7 c
          ∧ r.2.mem ((c.tc : Thread Cert.SampleIdeal.nD Cert.SampleIdeal.τ).loc Cert.SampleIdeal.main_v87_8) = v8 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v255) = v0 c
          ∧ r.2.mem ((c.tc : Thread Cert.SampleRefIdeal.nD Cert.SampleRefIdeal.τ).loc Cert.SampleRefIdeal.main_v256) = v1 c
          ∧ r.2.mem ((c.tc : Thread Cert.SampleRefIdeal.nD Cert.SampleRefIdeal.τ).loc Cert.SampleRefIdeal.main_v257) = v2 c
          ∧ r.2.mem ((c.tc : Thread Cert.SampleRefIdeal.nD Cert.SampleRefIdeal.τ).loc Cert.SampleRefIdeal.main_v258) = v3 c
          ∧ r.2.mem ((c.tc : Thread Cert.SampleRefIdeal.nD Cert.SampleRefIdeal.τ).loc Cert.SampleRefIdeal.main_v259) = v4 c
          ∧ r.2.mem ((c.tc : Thread Cert.SampleRefIdeal.nD Cert.SampleRefIdeal.τ).loc Cert.SampleRefIdeal.main_v260) = v5 c
          ∧ r.2.mem ((c.tc : Thread Cert.SampleRefIdeal.nD Cert.SampleRefIdeal.τ).loc Cert.SampleRefIdeal.main_v261) = v6 c
          ∧ r.2.mem ((c.tc : Thread Cert.SampleRefIdeal.nD Cert.SampleRefIdeal.τ).loc Cert.SampleRefIdeal.main_v262) = v7 c
          ∧ r.2.mem ((c.tc : Thread Cert.SampleRefIdeal.nD Cert.SampleRefIdeal.τ).loc Cert.SampleRefIdeal.main_v263) = v8 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6))

def preserves_OutSample_OutSampleIdeal : Prop :=
  True

def algebraic_OutSampleIdeal_OutSampleRefIdeal [hOutSampleIdeal : Cert.OutSampleIdeal.Facts] [hOutSampleRefIdeal : Cert.OutSampleRefIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg)
    (m' : (ℓ : Loc Cert.OutSampleRefIdeal.nD Cert.OutSampleRefIdeal.τ Cert.OutSampleRefIdeal.sig) → Buf (Elt Ideal) ℓ) (g' : Dev Cert.OutSampleRefIdeal.nD → PrngReg), Pre_OutSampleIdeal m →
    (∀ c : Dev Cert.OutSampleIdeal.nD,
      m' ((c.tc : Thread Cert.OutSampleRefIdeal.nD Cert.OutSampleRefIdeal.τ).loc Cert.OutSampleRefIdeal.main_arg0) = m ((c.tc : Thread Cert.OutSampleIdeal.nD Cert.OutSampleIdeal.τ).loc Cert.OutSampleIdeal.main_arg0)
      ∧ m' ((c.tc : Thread Cert.OutSampleRefIdeal.nD Cert.OutSampleRefIdeal.τ).loc Cert.OutSampleRefIdeal.main_arg1) = m ((c.tc : Thread Cert.OutSampleIdeal.nD Cert.OutSampleIdeal.τ).loc Cert.OutSampleIdeal.main_arg1)
      ∧ m' ((c.tc : Thread Cert.OutSampleRefIdeal.nD Cert.OutSampleRefIdeal.τ).loc Cert.OutSampleRefIdeal.main_arg2) = m ((c.tc : Thread Cert.OutSampleIdeal.nD Cert.OutSampleIdeal.τ).loc Cert.OutSampleIdeal.main_arg2)
      ∧ m' ((c.tc : Thread Cert.OutSampleRefIdeal.nD Cert.OutSampleRefIdeal.τ).loc Cert.OutSampleRefIdeal.main_arg3) = m ((c.tc : Thread Cert.OutSampleIdeal.nD Cert.OutSampleIdeal.τ).loc Cert.OutSampleIdeal.main_arg3)
      ∧ m' ((c.tc : Thread Cert.OutSampleRefIdeal.nD Cert.OutSampleRefIdeal.τ).loc Cert.OutSampleRefIdeal.main_arg4) = m ((c.tc : Thread Cert.OutSampleIdeal.nD Cert.OutSampleIdeal.τ).loc Cert.OutSampleIdeal.main_arg4)) →
    ∃ (v0 : (c : Dev Cert.OutSampleIdeal.nD) → Buf (Elt Ideal) ((c.tc : Thread Cert.OutSampleIdeal.nD Cert.OutSampleIdeal.τ).loc Cert.OutSampleIdeal.main_v3)),
      θ_run (Cert.OutSampleIdeal.defs (F := Ideal)) (onTc (τ := Cert.OutSampleIdeal.τ) (Cert.OutSampleIdeal.main (F := Ideal))) ⟨m, fun _ => 0, g⟩ (fun r => ∀ c : Dev Cert.OutSampleIdeal.nD,
          r.2.mem ((c.tc : Thread Cert.OutSampleIdeal.nD Cert.OutSampleIdeal.τ).loc Cert.OutSampleIdeal.main_v3) = v0 c
          ∧ r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
          ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
          ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
          ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3)
          ∧ r.2.mem ((c.tc : Thread Cert.OutSampleIdeal.nD Cert.OutSampleIdeal.τ).loc Cert.OutSampleIdeal.main_arg4) = m ((c.tc : Thread Cert.OutSampleIdeal.nD Cert.OutSampleIdeal.τ).loc Cert.OutSampleIdeal.main_arg4))
      ∧ θ_run (Cert.OutSampleRefIdeal.defs (F := Ideal)) (onTc (τ := Cert.OutSampleRefIdeal.τ) (Cert.OutSampleRefIdeal.main (F := Ideal))) ⟨m', fun _ => 0, g'⟩ (fun r => ∀ c : Dev Cert.OutSampleRefIdeal.nD,
          r.2.mem ((c.tc : Thread Cert.OutSampleRefIdeal.nD Cert.OutSampleRefIdeal.τ).loc Cert.OutSampleRefIdeal.main_v5) = v0 c
          ∧ r.2.mem ((c.tc : Thread Cert.OutSampleRefIdeal.nD Cert.OutSampleRefIdeal.τ).loc Cert.OutSampleRefIdeal.main_arg0) = m' ((c.tc : Thread Cert.OutSampleRefIdeal.nD Cert.OutSampleRefIdeal.τ).loc Cert.OutSampleRefIdeal.main_arg0)
          ∧ r.2.mem ((c.tc : Thread Cert.OutSampleRefIdeal.nD Cert.OutSampleRefIdeal.τ).loc Cert.OutSampleRefIdeal.main_arg1) = m' ((c.tc : Thread Cert.OutSampleRefIdeal.nD Cert.OutSampleRefIdeal.τ).loc Cert.OutSampleRefIdeal.main_arg1)
          ∧ r.2.mem ((c.tc : Thread Cert.OutSampleRefIdeal.nD Cert.OutSampleRefIdeal.τ).loc Cert.OutSampleRefIdeal.main_arg2) = m' ((c.tc : Thread Cert.OutSampleRefIdeal.nD Cert.OutSampleRefIdeal.τ).loc Cert.OutSampleRefIdeal.main_arg2)
          ∧ r.2.mem ((c.tc : Thread Cert.OutSampleRefIdeal.nD Cert.OutSampleRefIdeal.τ).loc Cert.OutSampleRefIdeal.main_arg3) = m' ((c.tc : Thread Cert.OutSampleRefIdeal.nD Cert.OutSampleRefIdeal.τ).loc Cert.OutSampleRefIdeal.main_arg3)
          ∧ r.2.mem ((c.tc : Thread Cert.OutSampleRefIdeal.nD Cert.OutSampleRefIdeal.τ).loc Cert.OutSampleRefIdeal.main_arg4) = m' ((c.tc : Thread Cert.OutSampleRefIdeal.nD Cert.OutSampleRefIdeal.τ).loc Cert.OutSampleRefIdeal.main_arg4))

def preserves_CrossSample_CrossSampleIdeal : Prop :=
  True

def algebraic_CrossSampleIdeal_CrossSampleRefIdeal [hCrossSampleIdeal : Cert.CrossSampleIdeal.Facts] [hCrossSampleRefIdeal : Cert.CrossSampleRefIdeal.Facts] : Prop :=
  ∀ (m : (ℓ : Loc Cert.CrossSampleIdeal.nD Cert.CrossSampleIdeal.τ Cert.CrossSampleIdeal.sig) → Buf (Elt Ideal) ℓ) (g : Dev Cert.CrossSampleIdeal.nD → PrngReg)
    (m' : (ℓ : Loc Cert.CrossSampleRefIdeal.nD Cert.CrossSampleRefIdeal.τ Cert.CrossSampleRefIdeal.sig) → Buf (Elt Ideal) ℓ) (g' : Dev Cert.CrossSampleRefIdeal.nD → PrngReg), Pre_CrossSampleIdeal m →
    (∀ c : Dev Cert.CrossSampleIdeal.nD,
      m' ((c.tc : Thread Cert.CrossSampleRefIdeal.nD Cert.CrossSampleRefIdeal.τ).loc Cert.CrossSampleRefIdeal.main_arg0) = m ((c.tc : Thread Cert.CrossSampleIdeal.nD Cert.CrossSampleIdeal.τ).loc Cert.CrossSampleIdeal.main_arg0)
      ∧ m' ((c.tc : Thread Cert.CrossSampleRefIdeal.nD Cert.CrossSampleRefIdeal.τ).loc Cert.CrossSampleRefIdeal.main_arg1) = m ((c.tc : Thread Cert.CrossSampleIdeal.nD Cert.CrossSampleIdeal.τ).loc Cert.CrossSampleIdeal.main_arg1)
      ∧ m' ((c.tc : Thread Cert.CrossSampleRefIdeal.nD Cert.CrossSampleRefIdeal.τ).loc Cert.CrossSampleRefIdeal.main_arg2) = m ((c.tc : Thread Cert.CrossSampleIdeal.nD Cert.CrossSampleIdeal.τ).loc Cert.CrossSampleIdeal.main_arg2)
      ∧ m' ((c.tc : Thread Cert.CrossSampleRefIdeal.nD Cert.CrossSampleRefIdeal.τ).loc Cert.CrossSampleRefIdeal.main_arg3) = m ((c.tc : Thread Cert.CrossSampleIdeal.nD Cert.CrossSampleIdeal.τ).loc Cert.CrossSampleIdeal.main_arg3)
      ∧ m' ((c.tc : Thread Cert.CrossSampleRefIdeal.nD Cert.CrossSampleRefIdeal.τ).loc Cert.CrossSampleRefIdeal.main_arg4) = m ((c.tc : Thread Cert.CrossSampleIdeal.nD Cert.CrossSampleIdeal.τ).loc Cert.CrossSampleIdeal.main_arg4)
      ∧ m' ((c.tc : Thread Cert.CrossSampleRefIdeal.nD Cert.CrossSampleRefIdeal.τ).loc Cert.CrossSampleRefIdeal.main_arg5) = m ((c.tc : Thread Cert.CrossSampleIdeal.nD Cert.CrossSampleIdeal.τ).loc Cert.CrossSampleIdeal.main_arg5)) →
    ∃ (v0 : (c : Dev Cert.CrossSampleIdeal.nD) → Buf (Elt Ideal) ((c.tc : Thread Cert.CrossSampleIdeal.nD Cert.CrossSampleIdeal.τ).loc Cert.CrossSampleIdeal.main_v3)),
      θ_run (Cert.CrossSampleIdeal.defs (F := Ideal)) (onTc (τ := Cert.CrossSampleIdeal.τ) (Cert.CrossSampleIdeal.main (F := Ideal))) ⟨m, fun _ => 0, g⟩ (fun r => ∀ c : Dev Cert.CrossSampleIdeal.nD,
          r.2.mem ((c.tc : Thread Cert.CrossSampleIdeal.nD Cert.CrossSampleIdeal.τ).loc Cert.CrossSampleIdeal.main_v3) = v0 c
          ∧ r.2.mem ((c.tc : Thread Cert.CrossSampleIdeal.nD Cert.CrossSampleIdeal.τ).loc Cert.CrossSampleIdeal.main_arg0) = m ((c.tc : Thread Cert.CrossSampleIdeal.nD Cert.CrossSampleIdeal.τ).loc Cert.CrossSampleIdeal.main_arg0)
          ∧ r.2.mem ((c.tc : Thread Cert.CrossSampleIdeal.nD Cert.CrossSampleIdeal.τ).loc Cert.CrossSampleIdeal.main_arg1) = m ((c.tc : Thread Cert.CrossSampleIdeal.nD Cert.CrossSampleIdeal.τ).loc Cert.CrossSampleIdeal.main_arg1)
          ∧ r.2.mem ((c.tc : Thread Cert.CrossSampleIdeal.nD Cert.CrossSampleIdeal.τ).loc Cert.CrossSampleIdeal.main_arg2) = m ((c.tc : Thread Cert.CrossSampleIdeal.nD Cert.CrossSampleIdeal.τ).loc Cert.CrossSampleIdeal.main_arg2)
          ∧ r.2.mem ((c.tc : Thread Cert.CrossSampleIdeal.nD Cert.CrossSampleIdeal.τ).loc Cert.CrossSampleIdeal.main_arg3) = m ((c.tc : Thread Cert.CrossSampleIdeal.nD Cert.CrossSampleIdeal.τ).loc Cert.CrossSampleIdeal.main_arg3)
          ∧ r.2.mem ((c.tc : Thread Cert.CrossSampleIdeal.nD Cert.CrossSampleIdeal.τ).loc Cert.CrossSampleIdeal.main_arg4) = m ((c.tc : Thread Cert.CrossSampleIdeal.nD Cert.CrossSampleIdeal.τ).loc Cert.CrossSampleIdeal.main_arg4)
          ∧ r.2.mem ((c.tc : Thread Cert.CrossSampleIdeal.nD Cert.CrossSampleIdeal.τ).loc Cert.CrossSampleIdeal.main_arg5) = m ((c.tc : Thread Cert.CrossSampleIdeal.nD Cert.CrossSampleIdeal.τ).loc Cert.CrossSampleIdeal.main_arg5))
      ∧ θ_run (Cert.CrossSampleRefIdeal.defs (F := Ideal)) (onTc (τ := Cert.CrossSampleRefIdeal.τ) (Cert.CrossSampleRefIdeal.main (F := Ideal))) ⟨m', fun _ => 0, g'⟩ (fun r => ∀ c : Dev Cert.CrossSampleRefIdeal.nD,
          r.2.mem ((c.tc : Thread Cert.CrossSampleRefIdeal.nD Cert.CrossSampleRefIdeal.τ).loc Cert.CrossSampleRefIdeal.main_v37) = v0 c
          ∧ r.2.mem ((c.tc : Thread Cert.CrossSampleRefIdeal.nD Cert.CrossSampleRefIdeal.τ).loc Cert.CrossSampleRefIdeal.main_arg0) = m' ((c.tc : Thread Cert.CrossSampleRefIdeal.nD Cert.CrossSampleRefIdeal.τ).loc Cert.CrossSampleRefIdeal.main_arg0)
          ∧ r.2.mem ((c.tc : Thread Cert.CrossSampleRefIdeal.nD Cert.CrossSampleRefIdeal.τ).loc Cert.CrossSampleRefIdeal.main_arg1) = m' ((c.tc : Thread Cert.CrossSampleRefIdeal.nD Cert.CrossSampleRefIdeal.τ).loc Cert.CrossSampleRefIdeal.main_arg1)
          ∧ r.2.mem ((c.tc : Thread Cert.CrossSampleRefIdeal.nD Cert.CrossSampleRefIdeal.τ).loc Cert.CrossSampleRefIdeal.main_arg2) = m' ((c.tc : Thread Cert.CrossSampleRefIdeal.nD Cert.CrossSampleRefIdeal.τ).loc Cert.CrossSampleRefIdeal.main_arg2)
          ∧ r.2.mem ((c.tc : Thread Cert.CrossSampleRefIdeal.nD Cert.CrossSampleRefIdeal.τ).loc Cert.CrossSampleRefIdeal.main_arg3) = m' ((c.tc : Thread Cert.CrossSampleRefIdeal.nD Cert.CrossSampleRefIdeal.τ).loc Cert.CrossSampleRefIdeal.main_arg3)
          ∧ r.2.mem ((c.tc : Thread Cert.CrossSampleRefIdeal.nD Cert.CrossSampleRefIdeal.τ).loc Cert.CrossSampleRefIdeal.main_arg4) = m' ((c.tc : Thread Cert.CrossSampleRefIdeal.nD Cert.CrossSampleRefIdeal.τ).loc Cert.CrossSampleRefIdeal.main_arg4)
          ∧ r.2.mem ((c.tc : Thread Cert.CrossSampleRefIdeal.nD Cert.CrossSampleRefIdeal.τ).loc Cert.CrossSampleRefIdeal.main_arg5) = m' ((c.tc : Thread Cert.CrossSampleRefIdeal.nD Cert.CrossSampleRefIdeal.τ).loc Cert.CrossSampleRefIdeal.main_arg5))

def Claim : Prop :=
  ∃ (hKernel : Cert.Kernel.Facts) (hKernelIdeal : Cert.KernelIdeal.Facts) (hReferenceIdeal : Cert.ReferenceIdeal.Facts) (hMixer : Cert.Mixer.Facts) (hMixerIdeal : Cert.MixerIdeal.Facts) (hMixerRefIdeal : Cert.MixerRefIdeal.Facts) (hOut : Cert.Out.Facts) (hOutIdeal : Cert.OutIdeal.Facts) (hOutRefIdeal : Cert.OutRefIdeal.Facts) (hMemory : Cert.Memory.Facts) (hMemoryIdeal : Cert.MemoryIdeal.Facts) (hMemoryRefIdeal : Cert.MemoryRefIdeal.Facts) (hCross : Cert.Cross.Facts) (hCrossIdeal : Cert.CrossIdeal.Facts) (hCrossRefIdeal : Cert.CrossRefIdeal.Facts) (hSample : Cert.Sample.Facts) (hSampleIdeal : Cert.SampleIdeal.Facts) (hSampleRefIdeal : Cert.SampleRefIdeal.Facts) (hOutSample : Cert.OutSample.Facts) (hOutSampleIdeal : Cert.OutSampleIdeal.Facts) (hOutSampleRefIdeal : Cert.OutSampleRefIdeal.Facts) (hCrossSample : Cert.CrossSample.Facts) (hCrossSampleIdeal : Cert.CrossSampleIdeal.Facts) (hCrossSampleRefIdeal : Cert.CrossSampleRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mixer (hMixer := hMixer)
    ∧ quiescent_MixerIdeal (hMixerIdeal := hMixerIdeal)
    ∧ quiescent_MixerRefIdeal (hMixerRefIdeal := hMixerRefIdeal)
    ∧ quiescent_Out (hOut := hOut)
    ∧ quiescent_OutIdeal (hOutIdeal := hOutIdeal)
    ∧ quiescent_OutRefIdeal (hOutRefIdeal := hOutRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Cross (hCross := hCross)
    ∧ quiescent_CrossIdeal (hCrossIdeal := hCrossIdeal)
    ∧ quiescent_CrossRefIdeal (hCrossRefIdeal := hCrossRefIdeal)
    ∧ quiescent_Sample (hSample := hSample)
    ∧ quiescent_SampleIdeal (hSampleIdeal := hSampleIdeal)
    ∧ quiescent_SampleRefIdeal (hSampleRefIdeal := hSampleRefIdeal)
    ∧ quiescent_OutSample (hOutSample := hOutSample)
    ∧ quiescent_OutSampleIdeal (hOutSampleIdeal := hOutSampleIdeal)
    ∧ quiescent_OutSampleRefIdeal (hOutSampleRefIdeal := hOutSampleRefIdeal)
    ∧ quiescent_CrossSample (hCrossSample := hCrossSample)
    ∧ quiescent_CrossSampleIdeal (hCrossSampleIdeal := hCrossSampleIdeal)
    ∧ quiescent_CrossSampleRefIdeal (hCrossSampleRefIdeal := hCrossSampleRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mixer_MixerIdeal
    ∧ algebraic_MixerIdeal_MixerRefIdeal (hMixerIdeal := hMixerIdeal) (hMixerRefIdeal := hMixerRefIdeal)
    ∧ preserves_Out_OutIdeal
    ∧ algebraic_OutIdeal_OutRefIdeal (hOutIdeal := hOutIdeal) (hOutRefIdeal := hOutRefIdeal)
    ∧ preserves_Memory_MemoryIdeal
    ∧ algebraic_MemoryIdeal_MemoryRefIdeal (hMemoryIdeal := hMemoryIdeal) (hMemoryRefIdeal := hMemoryRefIdeal)
    ∧ preserves_Cross_CrossIdeal
    ∧ algebraic_CrossIdeal_CrossRefIdeal (hCrossIdeal := hCrossIdeal) (hCrossRefIdeal := hCrossRefIdeal)
    ∧ preserves_Sample_SampleIdeal
    ∧ algebraic_SampleIdeal_SampleRefIdeal (hSampleIdeal := hSampleIdeal) (hSampleRefIdeal := hSampleRefIdeal)
    ∧ preserves_OutSample_OutSampleIdeal
    ∧ algebraic_OutSampleIdeal_OutSampleRefIdeal (hOutSampleIdeal := hOutSampleIdeal) (hOutSampleRefIdeal := hOutSampleRefIdeal)
    ∧ preserves_CrossSample_CrossSampleIdeal
    ∧ algebraic_CrossSampleIdeal_CrossSampleRefIdeal (hCrossSampleIdeal := hCrossSampleIdeal) (hCrossSampleRefIdeal := hCrossSampleRefIdeal)
-- ==== Pre_finite.lean ====
abbrev S8x32768x128 : Shape := ⟨3, ![8, 32768, 128]⟩
abbrev S32768x256 : Shape := ⟨2, ![32768, 256]⟩
abbrev S32768x128 : Shape := ⟨2, ![32768, 128]⟩
abbrev S32768x32 : Shape := ⟨2, ![32768, 32]⟩
abbrev S_ : Shape := ⟨0, ![]⟩

class Facts : Prop where
  bcast_S_S8x32768x128 : S_.BroadcastsInDim S8x32768x128 (![] : Fin 0 → Fin S8x32768x128.rank)
  bcast_S_S32768x256 : S_.BroadcastsInDim S32768x256 (![] : Fin 0 → Fin S32768x256.rank)
  bcast_S_S32768x128 : S_.BroadcastsInDim S32768x128 (![] : Fin 0 → Fin S32768x128.rank)
  bcast_S_S32768x32 : S_.BroadcastsInDim S32768x32 (![] : Fin 0 → Fin S32768x32.rank)

variable [Facts]

def fn {F : FTy → Type} [FloatOps F] (main_arg0 : FVec F S8x32768x128 .f32) (main_arg1 : FVec F S32768x256 .f32) (main_arg2 : FVec F S32768x128 .f32) (main_arg3 : FVec F S32768x32 .f32) : IVec S8x32768x128 1 × IVec S32768x256 1 × IVec S32768x128 1 × IVec S32768x32 1 :=
  let main_v0 : FVec F S8x32768x128 .f32 := Host.absf main_arg0
  let main_cst : FVec F S_ .f32 := constant S_ .f32 0x7F800000#32
  let main_v1 : FVec F S8x32768x128 .f32 := broadcastInDim S8x32768x128 ![] bcast_S_S8x32768x128 main_cst
  let main_v2 : IVec S8x32768x128 1 := cmpf .olt main_v0 main_v1
  let main_v3 : FVec F S32768x256 .f32 := Host.absf main_arg1
  let main_cst_0 : FVec F S_ .f32 := constant S_ .f32 0x7F800000#32
  let main_v4 : FVec F S32768x256 .f32 := broadcastInDim S32768x256 ![] bcast_S_S32768x256 main_cst_0
  let main_v5 : IVec S32768x256 1 := cmpf .olt main_v3 main_v4
  let main_v6 : FVec F S32768x128 .f32 := Host.absf main_arg2
  let main_cst_1 : FVec F S_ .f32 := constant S_ .f32 0x7F800000#32
  let main_v7 : FVec F S32768x128 .f32 := broadcastInDim S32768x128 ![] bcast_S_S32768x128 main_cst_1
  let main_v8 : IVec S32768x128 1 := cmpf .olt main_v6 main_v7
  let main_v9 : FVec F S32768x32 .f32 := Host.absf main_arg3
  let main_cst_2 : FVec F S_ .f32 := constant S_ .f32 0x7F800000#32
  let main_v10 : FVec F S32768x32 .f32 := broadcastInDim S32768x32 ![] bcast_S_S32768x32 main_cst_2
  let main_v11 : IVec S32768x32 1 := cmpf .olt main_v9 main_v10
  (main_v2, main_v5, main_v8, main_v11)
-- ==== Kernel.lean ====
abbrev S8x32768x128 : Shape := ⟨3, ![8, 32768, 128]⟩
abbrev S32768x256 : Shape := ⟨2, ![32768, 256]⟩
abbrev S32768x128 : Shape := ⟨2, ![32768, 128]⟩
abbrev S32768x32 : Shape := ⟨2, ![32768, 32]⟩
abbrev S8x128x128 : Shape := ⟨3, ![8, 128, 128]⟩
abbrev S128x256 : Shape := ⟨2, ![128, 256]⟩
abbrev S2048x128 : Shape := ⟨2, ![2048, 128]⟩
abbrev S2048x32 : Shape := ⟨2, ![2048, 32]⟩
abbrev S1024x1 : Shape := ⟨2, ![1024, 1]⟩
abbrev S1024x128 : Shape := ⟨2, ![1024, 128]⟩
abbrev S128x32 : Shape := ⟨2, ![128, 32]⟩
abbrev S1024x32 : Shape := ⟨2, ![1024, 32]⟩
abbrev S512x128 : Shape := ⟨2, ![512, 128]⟩
abbrev S512x32 : Shape := ⟨2, ![512, 32]⟩
abbrev S256x128 : Shape := ⟨2, ![256, 128]⟩
abbrev S256x512 : Shape := ⟨2, ![256, 512]⟩
abbrev S256x32 : Shape := ⟨2, ![256, 32]⟩
abbrev S256x1 : Shape := ⟨2, ![256, 1]⟩
abbrev S256 : Shape := ⟨1, ![256]⟩

abbrev nBuf : Space → Nat
  | .hbm => 5
  | .vmem => 13
  | .smem => 0
  | _ => 0

abbrev bufTy : (tb : Table) → Fin (tcTables nBuf tb) → BufTy
  | .hbm, ⟨0, _⟩ => ⟨S8x32768x128, .f32⟩
  | .hbm, ⟨1, _⟩ => ⟨S32768x256, .f32⟩
  | .hbm, ⟨2, _⟩ => ⟨S32768x128, .f32⟩
  | .hbm, ⟨3, _⟩ => ⟨S32768x32, .f32⟩
  | .hbm, ⟨4, _⟩ => ⟨S8x32768x128, .f32⟩
  | .local _ .vmem, ⟨0, _⟩ => ⟨S8x128x128, .f32⟩
  | .local _ .vmem, ⟨1, _⟩ => ⟨S8x128x128, .f32⟩
  | .local _ .vmem, ⟨2, _⟩ => ⟨S128x256, .f32⟩
  | .local _ .vmem, ⟨3, _⟩ => ⟨S128x256, .f32⟩
  | .local _ .vmem, ⟨4, _⟩ => ⟨S2048x128, .f32⟩
  | .local _ .vmem, ⟨5, _⟩ => ⟨S2048x128, .f32⟩
  | .local _ .vmem, ⟨6, _⟩ => ⟨S2048x32, .f32⟩
  | .local _ .vmem, ⟨7, _⟩ => ⟨S2048x32, .f32⟩
  | .local _ .vmem, ⟨8, _⟩ => ⟨S8x128x128, .f32⟩
  | .local _ .vmem, ⟨9, _⟩ => ⟨S8x128x128, .f32⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | _, _ => ⟨S8x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_20 : BitVec 32 := 0#32
  let arg1 : BitVec 32 := BitVec.ofNat 32 (i 1).val
  let c128_i32 : BitVec 32 := 128#32
  let v30 : BitVec 32 := Scalar.muli arg1 c128_i32
  let c1_i32 : BitVec 32 := 1#32
  let v31 : BitVec 32 := Scalar.addi v30 c1_i32
  let c0_i32 : BitVec 32 := 0#32
  let v33 : BitVec 1 := Scalar.cmpi .sgt v31 c0_i32
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c512_i32 : BitVec 32 := 512#32
  let c0_i32_15 : BitVec 32 := 0#32
  let v38 : BitVec 1 := Scalar.cmpi .sgt c512_i32 c0_i32_15
  let v39 : BitVec 32 := Scalar.extui v38
  let c0_i32_16 : BitVec 32 := 0#32
  let v40 : BitVec 1 := Scalar.cmpi .slt c512_i32 c0_i32_16
  let v41 : BitVec 32 := Scalar.extui v40
  let v42 : BitVec 32 := Scalar.subi v39 v41
  let v43 : BitVec 1 := Scalar.cmpi .ne v37 v42
  let v44 : BitVec 32 := Scalar.remsi v31 c512_i32
  let c0_i32_17 : BitVec 32 := 0#32
  let v45 : BitVec 1 := Scalar.cmpi .ne v44 c0_i32_17
  let v46 : BitVec 1 := Scalar.andi v43 v45
  let v32 : BitVec 32 := Scalar.divsi v31 c512_i32
  let c1_i32_18 : BitVec 32 := 1#32
  let v47 : BitVec 32 := Scalar.subi v32 c1_i32_18
  let v48 : BitVec 32 := Scalar.select v46 v47 v32
  let v49 : BitVec 32 := Scalar.subi v48 c0_i32_20
  let c1_i32_21 : BitVec 32 := 1#32
  let v51 : BitVec 32 := Scalar.divsi v49 c1_i32_21
  let v52 : BitVec 32 := Scalar.muli v51 c1_i32_21
  let v53 : BitVec 32 := Scalar.addi c0_i32_20 v52
  let c1_i32_22 : BitVec 32 := 1#32
  ⟨c0_i32_20, v53, c1_i32_22⟩
def k0_mult1 (i : grid0.Coords) (k0_t1 : Fin (k0_t1_loop i).trips) : BitVec 32 :=
  let c0_i32_20 : BitVec 32 := 0#32
  let c1_i32_22 : BitVec 32 := 1#32
  let arg10 : BitVec 32 := Scf.iv c0_i32_20 c1_i32_22 k0_t1
  let c512_i32_112 : BitVec 32 := 512#32
  let v264 : BitVec 32 := Scalar.muli arg10 c512_i32_112
  v264
def k0_off1 (i : grid0.Coords) (k0_t1 : Fin (k0_t1_loop i).trips) : Fin 2 → Nat :=
  let c0_i32_20 : BitVec 32 := 0#32
  let c1_i32_22 : BitVec 32 := 1#32
  let arg10 : BitVec 32 := Scf.iv c0_i32_20 c1_i32_22 k0_t1
  let c512_i32_112 : BitVec 32 := 512#32
  let v264 : BitVec 32 := Scalar.muli arg10 c512_i32_112
  let v265 : BitVec 32 := v264
  let v266 : Index := Scalar.indexCast v265
  let c0_113 : Index := 0#32
  ![v266.toNat, 0]
def k0_off2 (i : grid0.Coords) (k0_t1 : Fin (k0_t1_loop i).trips) : Fin 2 → Nat :=
  let c0_i32_20 : BitVec 32 := 0#32
  let c1_i32_22 : BitVec 32 := 1#32
  let arg10 : BitVec 32 := Scf.iv c0_i32_20 c1_i32_22 k0_t1
  let c512_i32_112 : BitVec 32 := 512#32
  let v264 : BitVec 32 := Scalar.muli arg10 c512_i32_112
  let v265 : BitVec 32 := v264
  let v269 : Index := Scalar.indexCast v265
  let c0_114 : Index := 0#32
  ![v269.toNat, 0]
@[reducible] def k0_t2_loop (i : grid0.Coords) : Scf.Loop 32 :=
  let c0_i32_20 : BitVec 32 := 0#32
  let arg1 : BitVec 32 := BitVec.ofNat 32 (i 1).val
  let c128_i32 : BitVec 32 := 128#32
  let v30 : BitVec 32 := Scalar.muli arg1 c128_i32
  let c1_i32 : BitVec 32 := 1#32
  let v31 : BitVec 32 := Scalar.addi v30 c1_i32
  let c0_i32 : BitVec 32 := 0#32
  let v33 : BitVec 1 := Scalar.cmpi .sgt v31 c0_i32
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c512_i32 : BitVec 32 := 512#32
  let c0_i32_15 : BitVec 32 := 0#32
  let v38 : BitVec 1 := Scalar.cmpi .sgt c512_i32 c0_i32_15
  let v39 : BitVec 32 := Scalar.extui v38
  let c0_i32_16 : BitVec 32 := 0#32
  let v40 : BitVec 1 := Scalar.cmpi .slt c512_i32 c0_i32_16
  let v41 : BitVec 32 := Scalar.extui v40
  let v42 : BitVec 32 := Scalar.subi v39 v41
  let v43 : BitVec 1 := Scalar.cmpi .ne v37 v42
  let v44 : BitVec 32 := Scalar.remsi v31 c512_i32
  let c0_i32_17 : BitVec 32 := 0#32
  let v45 : BitVec 1 := Scalar.cmpi .ne v44 c0_i32_17
  let v46 : BitVec 1 := Scalar.andi v43 v45
  let v32 : BitVec 32 := Scalar.divsi v31 c512_i32
  let c1_i32_18 : BitVec 32 := 1#32
  let v47 : BitVec 32 := Scalar.subi v32 c1_i32_18
  let v48 : BitVec 32 := Scalar.select v46 v47 v32
  let v49 : BitVec 32 := Scalar.subi v48 c0_i32_20
  let c1_i32_21 : BitVec 32 := 1#32
  let v51 : BitVec 32 := Scalar.divsi v49 c1_i32_21
  let v52 : BitVec 32 := Scalar.muli v51 c1_i32_21
  let v53 : BitVec 32 := Scalar.addi c0_i32_20 v52
  let v50 : BitVec 32 := Scalar.addi c0_i32_20 v49
  let c1_i32_23 : BitVec 32 := 1#32
  ⟨v53, v50, c1_i32_23⟩
def k0_mult2 (i : grid0.Coords) (k0_t2 : Fin (k0_t2_loop i).trips) : BitVec 32 :=
  let c0_i32_20 : BitVec 32 := 0#32
  let arg1 : BitVec 32 := BitVec.ofNat 32 (i 1).val
  let c128_i32 : BitVec 32 := 128#32
  let v30 : BitVec 32 := Scalar.muli arg1 c128_i32
  let c1_i32 : BitVec 32 := 1#32
  let v31 : BitVec 32 := Scalar.addi v30 c1_i32
  let c0_i32 : BitVec 32 := 0#32
  let v33 : BitVec 1 := Scalar.cmpi .sgt v31 c0_i32
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c512_i32 : BitVec 32 := 512#32
  let c0_i32_15 : BitVec 32 := 0#32
  let v38 : BitVec 1 := Scalar.cmpi .sgt c512_i32 c0_i32_15
  let v39 : BitVec 32 := Scalar.extui v38
  let c0_i32_16 : BitVec 32 := 0#32
  let v40 : BitVec 1 := Scalar.cmpi .slt c512_i32 c0_i32_16
  let v41 : BitVec 32 := Scalar.extui v40
  let v42 : BitVec 32 := Scalar.subi v39 v41
  let v43 : BitVec 1 := Scalar.cmpi .ne v37 v42
  let v44 : BitVec 32 := Scalar.remsi v31 c512_i32
  let c0_i32_17 : BitVec 32 := 0#32
  let v45 : BitVec 1 := Scalar.cmpi .ne v44 c0_i32_17
  let v46 : BitVec 1 := Scalar.andi v43 v45
  let v32 : BitVec 32 := Scalar.divsi v31 c512_i32
  let c1_i32_18 : BitVec 32 := 1#32
  let v47 : BitVec 32 := Scalar.subi v32 c1_i32_18
  let v48 : BitVec 32 := Scalar.select v46 v47 v32
  let v49 : BitVec 32 := Scalar.subi v48 c0_i32_20
  let c1_i32_21 : BitVec 32 := 1#32
  let v51 : BitVec 32 := Scalar.divsi v49 c1_i32_21
  let v52 : BitVec 32 := Scalar.muli v51 c1_i32_21
  let v53 : BitVec 32 := Scalar.addi c0_i32_20 v52
  let c1_i32_23 : BitVec 32 := 1#32
  let arg10 : BitVec 32 := Scf.iv v53 c1_i32_23 k0_t2
  let c512_i32_112 : BitVec 32 := 512#32
  let v264 : BitVec 32 := Scalar.muli arg10 c512_i32_112
  v264
def k0_off3 (i : grid0.Coords) (k0_t2 : Fin (k0_t2_loop i).trips) : Fin 2 → Nat :=
  let c0_i32_20 : BitVec 32 := 0#32
  let arg1 : BitVec 32 := BitVec.ofNat 32 (i 1).val
  let c128_i32 : BitVec 32 := 128#32
  let v30 : BitVec 32 := Scalar.muli arg1 c128_i32
  let c1_i32 : BitVec 32 := 1#32
  let v31 : BitVec 32 := Scalar.addi v30 c1_i32
  let c0_i32 : BitVec 32 := 0#32
  let v33 : BitVec 1 := Scalar.cmpi .sgt v31 c0_i32
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c512_i32 : BitVec 32 := 512#32
  let c0_i32_15 : BitVec 32 := 0#32
  let v38 : BitVec 1 := Scalar.cmpi .sgt c512_i32 c0_i32_15
  let v39 : BitVec 32 := Scalar.extui v38
  let c0_i32_16 : BitVec 32 := 0#32
  let v40 : BitVec 1 := Scalar.cmpi .slt c512_i32 c0_i32_16
  let v41 : BitVec 32 := Scalar.extui v40
  let v42 : BitVec 32 := Scalar.subi v39 v41
  let v43 : BitVec 1 := Scalar.cmpi .ne v37 v42
  let v44 : BitVec 32 := Scalar.remsi v31 c512_i32
  let c0_i32_17 : BitVec 32 := 0#32
  let v45 : BitVec 1 := Scalar.cmpi .ne v44 c0_i32_17
  let v46 : BitVec 1 := Scalar.andi v43 v45
  let v32 : BitVec 32 := Scalar.divsi v31 c512_i32
  let c1_i32_18 : BitVec 32 := 1#32
  let v47 : BitVec 32 := Scalar.subi v32 c1_i32_18
  let v48 : BitVec 32 := Scalar.select v46 v47 v32
  let v49 : BitVec 32 := Scalar.subi v48 c0_i32_20
  let c1_i32_21 : BitVec 32 := 1#32
  let v51 : BitVec 32 := Scalar.divsi v49 c1_i32_21
  let v52 : BitVec 32 := Scalar.muli v51 c1_i32_21
  let v53 : BitVec 32 := Scalar.addi c0_i32_20 v52
  let c1_i32_23 : BitVec 32 := 1#32
  let arg10 : BitVec 32 := Scf.iv v53 c1_i32_23 k0_t2
  let c512_i32_112 : BitVec 32 := 512#32
  let v264 : BitVec 32 := Scalar.muli arg10 c512_i32_112
  let v265 : BitVec 32 := v264
  let v266 : Index := Scalar.indexCast v265
  let c0_113 : Index := 0#32
  ![v266.toNat, 0]
def k0_off4 (i : grid0.Coords) (k0_t2 : Fin (k0_t2_loop i).trips) : Fin 2 → Nat :=
  let c0_i32_20 : BitVec 32 := 0#32
  let arg1 : BitVec 32 := BitVec.ofNat 32 (i 1).val
  let c128_i32 : BitVec 32 := 128#32
  let v30 : BitVec 32 := Scalar.muli arg1 c128_i32
  let c1_i32 : BitVec 32 := 1#32
  let v31 : BitVec 32 := Scalar.addi v30 c1_i32
  let c0_i32 : BitVec 32 := 0#32
  let v33 : BitVec 1 := Scalar.cmpi .sgt v31 c0_i32
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c512_i32 : BitVec 32 := 512#32
  let c0_i32_15 : BitVec 32 := 0#32
  let v38 : BitVec 1 := Scalar.cmpi .sgt c512_i32 c0_i32_15
  let v39 : BitVec 32 := Scalar.extui v38
  let c0_i32_16 : BitVec 32 := 0#32
  let v40 : BitVec 1 := Scalar.cmpi .slt c512_i32 c0_i32_16
  let v41 : BitVec 32 := Scalar.extui v40
  let v42 : BitVec 32 := Scalar.subi v39 v41
  let v43 : BitVec 1 := Scalar.cmpi .ne v37 v42
  let v44 : BitVec 32 := Scalar.remsi v31 c512_i32
  let c0_i32_17 : BitVec 32 := 0#32
  let v45 : BitVec 1 := Scalar.cmpi .ne v44 c0_i32_17
  let v46 : BitVec 1 := Scalar.andi v43 v45
  let v32 : BitVec 32 := Scalar.divsi v31 c512_i32
  let c1_i32_18 : BitVec 32 := 1#32
  let v47 : BitVec 32 := Scalar.subi v32 c1_i32_18
  let v48 : BitVec 32 := Scalar.select v46 v47 v32
  let v49 : BitVec 32 := Scalar.subi v48 c0_i32_20
  let c1_i32_21 : BitVec 32 := 1#32
  let v51 : BitVec 32 := Scalar.divsi v49 c1_i32_21
  let v52 : BitVec 32 := Scalar.muli v51 c1_i32_21
  let v53 : BitVec 32 := Scalar.addi c0_i32_20 v52
  let c1_i32_23 : BitVec 32 := 1#32
  let arg10 : BitVec 32 := Scf.iv v53 c1_i32_23 k0_t2
  let c512_i32_112 : BitVec 32 := 512#32
  let v264 : BitVec 32 := Scalar.muli arg10 c512_i32_112
  let v265 : BitVec 32 := v264
  let v269 : Index := Scalar.indexCast v265
  let c0_114 : Index := 0#32
  ![v269.toNat, 0]
def k0_mult3 (i : grid0.Coords) : BitVec 32 :=
  let arg1 : BitVec 32 := BitVec.ofNat 32 (i 1).val
  let c128_i32 : BitVec 32 := 128#32
  let v30 : BitVec 32 := Scalar.muli arg1 c128_i32
  let c1_i32 : BitVec 32 := 1#32
  let v31 : BitVec 32 := Scalar.addi v30 c1_i32
  let c0_i32 : BitVec 32 := 0#32
  let v33 : BitVec 1 := Scalar.cmpi .sgt v31 c0_i32
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c512_i32 : BitVec 32 := 512#32
  let c0_i32_15 : BitVec 32 := 0#32
  let v38 : BitVec 1 := Scalar.cmpi .sgt c512_i32 c0_i32_15
  let v39 : BitVec 32 := Scalar.extui v38
  let c0_i32_16 : BitVec 32 := 0#32
  let v40 : BitVec 1 := Scalar.cmpi .slt c512_i32 c0_i32_16
  let v41 : BitVec 32 := Scalar.extui v40
  let v42 : BitVec 32 := Scalar.subi v39 v41
  let v43 : BitVec 1 := Scalar.cmpi .ne v37 v42
  let v44 : BitVec 32 := Scalar.remsi v31 c512_i32
  let c0_i32_17 : BitVec 32 := 0#32
  let v45 : BitVec 1 := Scalar.cmpi .ne v44 c0_i32_17
  let v46 : BitVec 1 := Scalar.andi v43 v45
  let v32 : BitVec 32 := Scalar.divsi v31 c512_i32
  let c1_i32_18 : BitVec 32 := 1#32
  let v47 : BitVec 32 := Scalar.subi v32 c1_i32_18
  let v48 : BitVec 32 := Scalar.select v46 v47 v32
  let c512_i32_24 : BitVec 32 := 512#32
  let v54 : BitVec 32 := Scalar.muli v48 c512_i32_24
  v54
def k0_off5 (i : grid0.Coords) : Fin 2 → Nat :=
  let arg1 : BitVec 32 := BitVec.ofNat 32 (i 1).val
  let c128_i32 : BitVec 32 := 128#32
  let v30 : BitVec 32 := Scalar.muli arg1 c128_i32
  let c1_i32 : BitVec 32 := 1#32
  let v31 : BitVec 32 := Scalar.addi v30 c1_i32
  let c0_i32 : BitVec 32 := 0#32
  let v33 : BitVec 1 := Scalar.cmpi .sgt v31 c0_i32
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c512_i32 : BitVec 32 := 512#32
  let c0_i32_15 : BitVec 32 := 0#32
  let v38 : BitVec 1 := Scalar.cmpi .sgt c512_i32 c0_i32_15
  let v39 : BitVec 32 := Scalar.extui v38
  let c0_i32_16 : BitVec 32 := 0#32
  let v40 : BitVec 1 := Scalar.cmpi .slt c512_i32 c0_i32_16
  let v41 : BitVec 32 := Scalar.extui v40
  let v42 : BitVec 32 := Scalar.subi v39 v41
  let v43 : BitVec 1 := Scalar.cmpi .ne v37 v42
  let v44 : BitVec 32 := Scalar.remsi v31 c512_i32
  let c0_i32_17 : BitVec 32 := 0#32
  let v45 : BitVec 1 := Scalar.cmpi .ne v44 c0_i32_17
  let v46 : BitVec 1 := Scalar.andi v43 v45
  let v32 : BitVec 32 := Scalar.divsi v31 c512_i32
  let c1_i32_18 : BitVec 32 := 1#32
  let v47 : BitVec 32 := Scalar.subi v32 c1_i32_18
  let v48 : BitVec 32 := Scalar.select v46 v47 v32
  let c512_i32_24 : BitVec 32 := 512#32
  let v54 : BitVec 32 := Scalar.muli v48 c512_i32_24
  let v55 : BitVec 32 := v54
  let v56 : Index := Scalar.indexCast v55
  let c0_25 : Index := 0#32
  ![v56.toNat, 0]
def k0_off6 (i : grid0.Coords) : Fin 2 → Nat :=
  let arg1 : BitVec 32 := BitVec.ofNat 32 (i 1).val
  let c128_i32 : BitVec 32 := 128#32
  let v30 : BitVec 32 := Scalar.muli arg1 c128_i32
  let c1_i32 : BitVec 32 := 1#32
  let v31 : BitVec 32 := Scalar.addi v30 c1_i32
  let c0_i32 : BitVec 32 := 0#32
  let v33 : BitVec 1 := Scalar.cmpi .sgt v31 c0_i32
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c512_i32 : BitVec 32 := 512#32
  let c0_i32_15 : BitVec 32 := 0#32
  let v38 : BitVec 1 := Scalar.cmpi .sgt c512_i32 c0_i32_15
  let v39 : BitVec 32 := Scalar.extui v38
  let c0_i32_16 : BitVec 32 := 0#32
  let v40 : BitVec 1 := Scalar.cmpi .slt c512_i32 c0_i32_16
  let v41 : BitVec 32 := Scalar.extui v40
  let v42 : BitVec 32 := Scalar.subi v39 v41
  let v43 : BitVec 1 := Scalar.cmpi .ne v37 v42
  let v44 : BitVec 32 := Scalar.remsi v31 c512_i32
  let c0_i32_17 : BitVec 32 := 0#32
  let v45 : BitVec 1 := Scalar.cmpi .ne v44 c0_i32_17
  let v46 : BitVec 1 := Scalar.andi v43 v45
  let v32 : BitVec 32 := Scalar.divsi v31 c512_i32
  let c1_i32_18 : BitVec 32 := 1#32
  let v47 : BitVec 32 := Scalar.subi v32 c1_i32_18
  let v48 : BitVec 32 := Scalar.select v46 v47 v32
  let c512_i32_24 : BitVec 32 := 512#32
  let v54 : BitVec 32 := Scalar.muli v48 c512_i32_24
  let v55 : BitVec 32 := v54
  let v59 : Index := Scalar.indexCast v55
  let c0_26 : Index := 0#32
  ![v59.toNat, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x32768x128 : Shape := ⟨3, ![8, 32768, 128]⟩
abbrev S32768x256 : Shape := ⟨2, ![32768, 256]⟩
abbrev S32768x128 : Shape := ⟨2, ![32768, 128]⟩
abbrev S32768x32 : Shape := ⟨2, ![32768, 32]⟩
abbrev S8x16x2048x128 : Shape := ⟨4, ![8, 16, 2048, 128]⟩
abbrev S16x2048x8x32 : Shape := ⟨4, ![16, 2048, 8, 32]⟩
abbrev S16x2048x128 : Shape := ⟨3, ![16, 2048, 128]⟩
abbrev S16x2048x32 : Shape := ⟨3, ![16, 2048, 32]⟩
abbrev S2048 : Shape := ⟨1, ![2048]⟩
abbrev S16x8x2048x2048 : Shape := ⟨4, ![16, 8, 2048, 2048]⟩
abbrev S16x2048x2048x8 : Shape := ⟨4, ![16, 2048, 2048, 8]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S16x8x2048 : Shape := ⟨3, ![16, 8, 2048]⟩
abbrev S16x8x2048x1 : Shape := ⟨4, ![16, 8, 2048, 1]⟩
abbrev S16x128x8x2048 : Shape := ⟨4, ![16, 128, 8, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x32768x128, .f32⟩
  | .hbm, ⟨1, _⟩ => ⟨S32768x256, .f32⟩
  | .hbm, ⟨2, _⟩ => ⟨S32768x128, .f32⟩
  | .hbm, ⟨3, _⟩ => ⟨S32768x32, .f32⟩
  | .hbm, ⟨4, _⟩ => ⟨S8x16x2048x128, .f32⟩
  | .hbm, ⟨5, _⟩ => ⟨S16x2048x8x32, .f32⟩
  | .hbm, ⟨6, _⟩ => ⟨S16x2048x128, .f32⟩
  | .hbm, ⟨7, _⟩ => ⟨S16x2048x32, .f32⟩
  | .hbm, ⟨8, _⟩ => ⟨S2048, .i32⟩
  | .hbm, ⟨9, _⟩ => ⟨S16x8x2048x2048, .f32⟩
  | .hbm, ⟨10, _⟩ => ⟨S16x2048x2048x8, .f32⟩
  | .hbm, ⟨11, _⟩ => ⟨S16x8x2048x2048, .f32⟩
  | .hbm, ⟨12, _⟩ => ⟨S16x8x2048x2048, .f32⟩
  | .hbm, ⟨13, _⟩ => ⟨S_, .f32⟩
  | .hbm, ⟨14, _⟩ => ⟨S16x8x2048x2048, .f32⟩
  | .hbm, ⟨15, _⟩ => ⟨S16x8x2048x2048, .f32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S1x1x2048x2048, .i1⟩
  | .hbm, ⟨22, _⟩ => ⟨S_, .f32⟩
  | .hbm, ⟨23, _⟩ => ⟨S_, .f32⟩
  | .hbm, ⟨24, _⟩ => ⟨S16x8x2048x2048, .i1⟩
  | .hbm, ⟨25, _⟩ => ⟨S16x8x2048x2048, .f32⟩
  | .hbm, ⟨26, _⟩ => ⟨S16x8x2048x2048, .f32⟩
  | .hbm, ⟨27, _⟩ => ⟨S_, .f32⟩
  | .hbm, ⟨28, _⟩ => ⟨S16x8x2048, .f32⟩
  | .hbm, ⟨29, _⟩ => ⟨S_, .f32⟩
  | .hbm, ⟨30, _⟩ => ⟨S16x8x2048, .f32⟩
  | .hbm, ⟨31, _⟩ => ⟨S16x8x2048, .f32⟩
  | .hbm, ⟨32, _⟩ => ⟨S16x8x2048x1, .f32⟩
  | .hbm, ⟨33, _⟩ => ⟨S16x8x2048x2048, .f32⟩
  | .hbm, ⟨34, _⟩ => ⟨S16x8x2048x2048, .f32⟩
  | .hbm, ⟨35, _⟩ => ⟨S16x8x2048x2048, .f32⟩
  | .hbm, ⟨36, _⟩ => ⟨S_, .f32⟩
  | .hbm, ⟨37, _⟩ => ⟨S16x8x2048, .f32⟩
  | .hbm, ⟨38, _⟩ => ⟨S16x8x2048x1, .f32⟩
  | .hbm, ⟨39, _⟩ => ⟨S16x8x2048x2048, .f32⟩
  | .hbm, ⟨40, _⟩ => ⟨S16x8x2048x2048, .f32⟩
  | .hbm, ⟨41, _⟩ => ⟨S16x128x8x2048, .f32⟩
  | .hbm, ⟨42, _⟩ => ⟨S8x16x2048x128, .f32⟩
  | .hbm, ⟨43, _⟩ => ⟨S8x32768x128, .f32⟩
  | _, _ => ⟨S8x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Mixer.lean ====
abbrev S32768x1024 : Shape := ⟨2, ![32768, 1024]⟩
abbrev S1024 : Shape := ⟨1, ![1024]⟩
abbrev S1024x1768 : Shape := ⟨2, ![1024, 1768]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x8 : Shape := ⟨2, ![1024, 8]⟩
abbrev S1024x64 : Shape := ⟨2, ![1024, 64]⟩
abbrev S_ : Shape := ⟨0, ![]⟩
abbrev S1024x2048 : Shape := ⟨2, ![1024, 2048]⟩
abbrev S256x8x96 : Shape := ⟨3, ![256, 8, 96]⟩
abbrev S256x8x64 : Shape := ⟨3, ![256, 8, 64]⟩
abbrev S256x512 : Shape := ⟨2, ![256, 512]⟩
abbrev S256x8x32 : Shape := ⟨3, ![256, 8, 32]⟩
abbrev S256x256 : Shape := ⟨2, ![256, 256]⟩
abbrev S1x1024 : Shape := ⟨2, ![1, 1024]⟩
abbrev S1x256 : Shape := ⟨2, ![1, 256]⟩
abbrev S1x128 : Shape := ⟨2, ![1, 128]⟩
abbrev S8x64x128 : Shape := ⟨3, ![8, 64, 128]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2048x1x128 : Shape := ⟨4, ![1, 2048, 1, 128]⟩
abbrev S16 : Shape := ⟨1, ![16]⟩
abbrev S1x16 : Shape := ⟨2, ![1, 16]⟩
abbrev S2048x16 : Shape := ⟨2, ![2048, 16]⟩
abbrev S1x2048x1x32 : Shape := ⟨4, ![1, 2048, 1, 32]⟩
abbrev S1x2048x4x32 : Shape := ⟨4, ![1, 2048, 4, 32]⟩
abbrev S32768x128 : Shape := ⟨2, ![32768, 128]⟩
abbrev S32768x32 : Shape := ⟨2, ![32768, 32]⟩
abbrev S32768x256 : Shape := ⟨2, ![32768, 256]⟩
abbrev S32768x64 : Shape := ⟨2, ![32768, 64]⟩
abbrev S8x32768x128 : Shape := ⟨3, ![8, 32768, 128]⟩
abbrev S32768x512 : Shape := ⟨2, ![32768, 512]⟩
abbrev S32768x8 : Shape := ⟨2, ![32768, 8]⟩
abbrev S512x1024 : Shape := ⟨2, ![512, 1024]⟩
abbrev S512x128 : Shape := ⟨2, ![512, 128]⟩
abbrev S512x32 : Shape := ⟨2, ![512, 32]⟩
abbrev S512x256 : Shape := ⟨2, ![512, 256]⟩
abbrev S512x64 : Shape := ⟨2, ![512, 64]⟩
abbrev S8x512x128 : Shape := ⟨3, ![8, 512, 128]⟩
abbrev S512x512 : Shape := ⟨2, ![512, 512]⟩
abbrev S512x8 : Shape := ⟨2, ![512, 8]⟩
abbrev S512 : Shape := ⟨1, ![512]⟩
abbrev S512x1 : Shape := ⟨2, ![512, 1]⟩
abbrev S512x2048 : Shape := ⟨2, ![512, 2048]⟩
abbrev S512x768 : Shape := ⟨2, ![512, 768]⟩
abbrev S1x64x128 : Shape := ⟨3, ![1, 64, 128]⟩
abbrev S64x128 : Shape := ⟨2, ![64, 128]⟩
abbrev S1x512x128 : Shape := ⟨3, ![1, 512, 128]⟩

abbrev nBuf : Space → Nat
  | .hbm => 111
  | .vmem => 34
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1768, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x8x64, .f32⟩
  | .hbm, ⟨7, _⟩ => ⟨S1024x256, .f32⟩
  | .hbm, ⟨8, _⟩ => ⟨S1024x128, .f32⟩
  | .hbm, ⟨9, _⟩ => ⟨S1024x32, .f32⟩
  | .hbm, ⟨10, _⟩ => ⟨S1024x512, .f32⟩
  | .hbm, ⟨11, _⟩ => ⟨S1024x128, .f32⟩
  | .hbm, ⟨12, _⟩ => ⟨S1024x128, .f32⟩
  | .hbm, ⟨13, _⟩ => ⟨S1024x512, .f32⟩
  | .hbm, ⟨14, _⟩ => ⟨S1024x8, .f32⟩
  | .hbm, ⟨15, _⟩ => ⟨S1024x64, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S1024x2048, .f32⟩
  | .hbm, ⟨26, _⟩ => ⟨S256x8x96, .f32⟩
  | .hbm, ⟨27, _⟩ => ⟨S256x8x64, .f32⟩
  | .hbm, ⟨28, _⟩ => ⟨S256x512, .f32⟩
  | .hbm, ⟨29, _⟩ => ⟨S256x8x32, .f32⟩
  | .hbm, ⟨30, _⟩ => ⟨S256x256, .f32⟩
  | .hbm, ⟨31, _⟩ => ⟨S256x768, .f32⟩
  | .hbm, ⟨32, _⟩ => ⟨S1x1024, .f32⟩
  | .hbm, ⟨33, _⟩ => ⟨S1024x2048, .bf16⟩
  | .hbm, ⟨34, _⟩ => ⟨S1x256, .f32⟩
  | .hbm, ⟨35, _⟩ => ⟨S256x768, .bf16⟩
  | .hbm, ⟨36, _⟩ => ⟨S1x128, .f32⟩
  | .hbm, ⟨37, _⟩ => ⟨S8x64x128, .f32⟩
  | .hbm, ⟨38, _⟩ => ⟨S8x64x128, .bf16⟩
  | .hbm, ⟨39, _⟩ => ⟨S2048, .i32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S2048, .f32⟩
  | .hbm, ⟨49, _⟩ => ⟨S2048x1, .f32⟩
  | .hbm, ⟨50, _⟩ => ⟨S1x32, .f32⟩
  | .hbm, ⟨51, _⟩ => ⟨S2048x32, .f32⟩
  | .hbm, ⟨52, _⟩ => ⟨S2048x32, .f32⟩
  | .hbm, ⟨53, _⟩ => ⟨S2048x32, .f32⟩
  | .hbm, ⟨54, _⟩ => ⟨S2048x32, .f32⟩
  | .hbm, ⟨55, _⟩ => ⟨S2048x32, .f32⟩
  | .hbm, ⟨56, _⟩ => ⟨S2048x64, .f32⟩
  | .hbm, ⟨57, _⟩ => ⟨S1x2048x1x64, .f32⟩
  | .hbm, ⟨58, _⟩ => ⟨S1x2048x2x64, .f32⟩
  | .hbm, ⟨59, _⟩ => ⟨S2048x128, .f32⟩
  | .hbm, ⟨60, _⟩ => ⟨S2048x32, .f32⟩
  | .hbm, ⟨61, _⟩ => ⟨S2048x64, .f32⟩
  | .hbm, ⟨62, _⟩ => ⟨S1x2048x1x64, .f32⟩
  | .hbm, ⟨63, _⟩ => ⟨S1x2048x2x64, .f32⟩
  | .hbm, ⟨64, _⟩ => ⟨S2048x128, .f32⟩
  | .hbm, ⟨65, _⟩ => ⟨S1x2048x1x128, .f32⟩
  | .hbm, ⟨66, _⟩ => ⟨S1x2048x1x128, .f32⟩
  | .hbm, ⟨67, _⟩ => ⟨S2048x128, .f32⟩
  | .hbm, ⟨68, _⟩ => ⟨S1x2048x1x128, .f32⟩
  | .hbm, ⟨69, _⟩ => ⟨S1x2048x1x128, .f32⟩
  | .hbm, ⟨70, _⟩ => ⟨S2048x128, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S2048, .f32⟩
  | .hbm, ⟨80, _⟩ => ⟨S2048x1, .f32⟩
  | .hbm, ⟨81, _⟩ => ⟨S1x16, .f32⟩
  | .hbm, ⟨82, _⟩ => ⟨S2048x16, .f32⟩
  | .hbm, ⟨83, _⟩ => ⟨S2048x16, .f32⟩
  | .hbm, ⟨84, _⟩ => ⟨S2048x16, .f32⟩
  | .hbm, ⟨85, _⟩ => ⟨S2048x16, .f32⟩
  | .hbm, ⟨86, _⟩ => ⟨S2048x16, .f32⟩
  | .hbm, ⟨87, _⟩ => ⟨S2048x32, .f32⟩
  | .hbm, ⟨88, _⟩ => ⟨S1x2048x1x32, .f32⟩
  | .hbm, ⟨89, _⟩ => ⟨S1x2048x4x32, .f32⟩
  | .hbm, ⟨90, _⟩ => ⟨S2048x128, .f32⟩
  | .hbm, ⟨91, _⟩ => ⟨S2048x16, .f32⟩
  | .hbm, ⟨92, _⟩ => ⟨S2048x32, .f32⟩
  | .hbm, ⟨93, _⟩ => ⟨S1x2048x1x32, .f32⟩
  | .hbm, ⟨94, _⟩ => ⟨S1x2048x4x32, .f32⟩
  | .hbm, ⟨95, _⟩ => ⟨S2048x128, .f32⟩
  | .hbm, ⟨96, _⟩ => ⟨S1x2048x1x128, .f32⟩
  | .hbm, ⟨97, _⟩ => ⟨S1x2048x1x128, .f32⟩
  | .hbm, ⟨98, _⟩ => ⟨S2048x128, .f32⟩
  | .hbm, ⟨99, _⟩ => ⟨S1x2048x1x128, .f32⟩
  | .hbm, ⟨100, _⟩ => ⟨S1x2048x1x128, .f32⟩
  | .hbm, ⟨101, _⟩ => ⟨S2048x128, .f32⟩
  | .hbm, ⟨102, _⟩ => ⟨S32768x128, .f32⟩
  | .hbm, ⟨103, _⟩ => ⟨S32768x32, .f32⟩
  | .hbm, ⟨104, _⟩ => ⟨S32768x256, .f32⟩
  | .hbm, ⟨105, _⟩ => ⟨S32768x64, .f32⟩
  | .hbm, ⟨106, _⟩ => ⟨S8x32768x128, .f32⟩
  | .hbm, ⟨107, _⟩ => ⟨S32768x256, .f32⟩
  | .hbm, ⟨108, _⟩ => ⟨S32768x512, .f32⟩
  | .hbm, ⟨109, _⟩ => ⟨S32768x512, .f32⟩
  | .hbm, ⟨110, _⟩ => ⟨S32768x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x256, .f32⟩
  | .local _ .vmem, ⟨5, _⟩ => ⟨S256x768, .bf16⟩
  | .local _ .vmem, ⟨6, _⟩ => ⟨S1x128, .f32⟩
  | .local _ .vmem, ⟨7, _⟩ => ⟨S8x64x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x32, .f32⟩
  | .local _ .vmem, ⟨19, _⟩ => ⟨S512x32, .f32⟩
  | .local _ .vmem, ⟨20, _⟩ => ⟨S512x256, .f32⟩
  | .local _ .vmem, ⟨21, _⟩ => ⟨S512x256, .f32⟩
  | .local _ .vmem, ⟨22, _⟩ => ⟨S512x64, .f32⟩
  | .local _ .vmem, ⟨23, _⟩ => ⟨S512x64, .f32⟩
  | .local _ .vmem, ⟨24, _⟩ => ⟨S8x512x128, .f32⟩
  | .local _ .vmem, ⟨25, _⟩ => ⟨S8x512x128, .f32⟩
  | .local _ .vmem, ⟨26, _⟩ => ⟨S512x256, .f32⟩
  | .local _ .vmem, ⟨27, _⟩ => ⟨S512x256, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x8, .f32⟩
  | .local _ .vmem, ⟨33, _⟩ => ⟨S512x8, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_c_0 : Ref sig .tc := ⟨.hbm, 19, rfl⟩
abbrev main_call1_v0 : Ref sig .tc := ⟨.hbm, 20, rfl⟩
abbrev main_v10 : Ref sig .tc := ⟨.hbm, 21, rfl⟩
abbrev main_c_1 : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_3 : Ref sig .tc := ⟨.hbm, 73, rfl⟩
abbrev main_v58 : Ref sig .tc := ⟨.hbm, 74, rfl⟩
abbrev main_v59 : Ref sig .tc := ⟨.hbm, 75, rfl⟩
abbrev main_cst_4 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85_0 : Ref sig .tc := ⟨.hbm, 102, rfl⟩
abbrev main_v85_1 : Ref sig .tc := ⟨.hbm, 103, rfl⟩
abbrev main_v85_2 : Ref sig .tc := ⟨.hbm, 104, rfl⟩
abbrev main_v85_3 : Ref sig .tc := ⟨.hbm, 105, rfl⟩
abbrev main_v85_4 : Ref sig .tc := ⟨.hbm, 106, rfl⟩
abbrev main_v85_5 : Ref sig .tc := ⟨.hbm, 107, rfl⟩
abbrev main_v85_6 : Ref sig .tc := ⟨.hbm, 108, rfl⟩
abbrev main_v85_7 : Ref sig .tc := ⟨.hbm, 109, rfl⟩
abbrev main_v85_8 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x8 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MixerRefIdeal.lean ====
abbrev S32768x1024 : Shape := ⟨2, ![32768, 1024]⟩
abbrev S1024 : Shape := ⟨1, ![1024]⟩
abbrev S1024x1768 : Shape := ⟨2, ![1024, 1768]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S2048 : Shape := ⟨1, ![2048]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x1768 : Shape := ⟨3, ![16, 2048, 1768]⟩
abbrev S16x2048x256 : Shape := ⟨3, ![16, 2048, 256]⟩
abbrev S16x2048x128 : Shape := ⟨3, ![16, 2048, 128]⟩
abbrev S16x2048x32 : Shape := ⟨3, ![16, 2048, 32]⟩
abbrev S16x2048x512 : Shape := ⟨3, ![16, 2048, 512]⟩
abbrev S16x2048x8 : Shape := ⟨3, ![16, 2048, 8]⟩
abbrev S16x2048x64 : Shape := ⟨3, ![16, 2048, 64]⟩
abbrev S1x1x256 : Shape := ⟨3, ![1, 1, 256]⟩
abbrev S16x2048x768 : Shape := ⟨3, ![16, 2048, 768]⟩
abbrev S16x2048x8x96 : Shape := ⟨4, ![16, 2048, 8, 96]⟩
abbrev S16x2048x8x64 : Shape := ⟨4, ![16, 2048, 8, 64]⟩
abbrev S8x16x2048x128 : Shape := ⟨4, ![8, 16, 2048, 128]⟩
abbrev S16x2048x8x32 : Shape := ⟨4, ![16, 2048, 8, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S16x2048x8x16 : Shape := ⟨4, ![16, 2048, 8, 16]⟩
abbrev S1x2048x1x16 : Shape := ⟨4, ![1, 2048, 1, 16]⟩
abbrev S1x1x128 : Shape := ⟨3, ![1, 1, 128]⟩
abbrev S16x2048x16 : Shape := ⟨3, ![16, 2048, 16]⟩
abbrev S1x2048x16 : Shape := ⟨3, ![1, 2048, 16]⟩
abbrev S32 : Shape := ⟨1, ![32]⟩
abbrev S1x32 : Shape := ⟨2, ![1, 32]⟩
abbrev S2048x32 : Shape := ⟨2, ![2048, 32]⟩
abbrev S2048x1x32 : Shape := ⟨3, ![2048, 1, 32]⟩
abbrev S1x2048x1x32 : Shape := ⟨4, ![1, 2048, 1, 32]⟩
abbrev S16x2048x2x64 : Shape := ⟨4, ![16, 2048, 2, 64]⟩
abbrev S16x2048x2x32 : Shape := ⟨4, ![16, 2048, 2, 32]⟩
abbrev S16x2048x1x2x64 : Shape := ⟨5, ![16, 2048, 1, 2, 64]⟩
abbrev S16x2048x2x2x64 : Shape := ⟨5, ![16, 2048, 2, 2, 64]⟩
abbrev S1x2048x32 : Shape := ⟨3, ![1, 2048, 32]⟩
abbrev S32768x128 : Shape := ⟨2, ![32768, 128]⟩
abbrev S32768x32 : Shape := ⟨2, ![32768, 32]⟩
abbrev S32768x256 : Shape := ⟨2, ![32768, 256]⟩
abbrev S32768x64 : Shape := ⟨2, ![32768, 64]⟩
abbrev S8x32768x128 : Shape := ⟨3, ![8, 32768, 128]⟩
abbrev S32768x512 : Shape := ⟨2, ![32768, 512]⟩
abbrev S32768x8 : Shape := ⟨2, ![32768, 8]⟩

abbrev nBuf : Space → Nat
  | .hbm => 290
  | .vmem => 0
  | .smem => 0
  | _ => 0

abbrev hbmTy0_0 (i : Nat) : BufTy := match i % 128 with
  | 0 => ⟨S32768x1024, .f32⟩
  | 1 => ⟨S1024, .f32⟩
  | 2 => ⟨S1024x1768, .f32⟩
  | 3 => ⟨S256, .f32⟩
  | 4 => ⟨S256x768, .f32⟩
  | 5 => ⟨S128, .f32⟩
  | 6 => ⟨S128x8x64, .f32⟩
  | 7 => ⟨S2048, .i32⟩
  | 8 => ⟨S16x2048x1024, .f32⟩
  | 9 => ⟨S16x2048x1024, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S_, .f32⟩
  | 17 => ⟨S16x2048x1, .f32⟩
  | 18 => ⟨S16x2048x1, .f32⟩
  | 19 => ⟨S16x2048x1, .f32⟩
  | 20 => ⟨S16x2048x1024, .f32⟩
  | 21 => ⟨S16x2048x1024, .f32⟩
  | 22 => ⟨S1x1x1024, .f32⟩
  | 23 => ⟨S16x2048x1024, .f32⟩
  | 24 => ⟨S16x2048x1024, .f32⟩
  | 25 => ⟨S16x2048x1768, .f32⟩
  | 26 => ⟨S16x2048x256, .f32⟩
  | 27 => ⟨S16x2048x128, .f32⟩
  | 28 => ⟨S16x2048x32, .f32⟩
  | 29 => ⟨S16x2048x512, .f32⟩
  | 30 => ⟨S16x2048x128, .f32⟩
  | 31 => ⟨S16x2048x128, .f32⟩
  | 32 => ⟨S16x2048x512, .f32⟩
  | 33 => ⟨S16x2048x8, .f32⟩
  | 34 => ⟨S16x2048x64, .f32⟩
  | 35 => ⟨S16x2048x256, .f32⟩
  | 36 => ⟨S_, .f32⟩
  | 37 => ⟨S16x2048, .f32⟩
  | 38 => ⟨S16x2048x1, .f32⟩
  | 39 => ⟨S_, .f32⟩
  | 40 => ⟨S16x2048x1, .f32⟩
  | 41 => ⟨S16x2048x1, .f32⟩
  | 42 => ⟨S_, .f32⟩
  | 43 => ⟨S16x2048x1, .f32⟩
  | 44 => ⟨S16x2048x1, .f32⟩
  | 45 => ⟨S16x2048x1, .f32⟩
  | 46 => ⟨S16x2048x256, .f32⟩
  | 47 => ⟨S16x2048x256, .f32⟩
  | 48 => ⟨S1x1x256, .f32⟩
  | 49 => ⟨S16x2048x256, .f32⟩
  | 50 => ⟨S16x2048x256, .f32⟩
  | 51 => ⟨S16x2048x768, .f32⟩
  | 52 => ⟨S16x2048x8x96, .f32⟩
  | 53 => ⟨S16x2048x8x64, .f32⟩
  | 54 => ⟨S8x16x2048x128, .f32⟩
  | 55 => ⟨S16x2048x8x32, .f32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S2048, .f32⟩
  | 65 => ⟨S2048x1, .f32⟩
  | 66 => ⟨S1x16, .f32⟩
  | 67 => ⟨S2048x16, .f32⟩
  | 68 => ⟨S2048x16, .f32⟩
  | 69 => ⟨S2048x16, .f32⟩
  | 70 => ⟨S2048x1x16, .f32⟩
  | 71 => ⟨S2048x1x16, .f32⟩
  | 72 => ⟨S2048x1x16, .f32⟩
  | 73 => ⟨S16x2048x8x16, .f32⟩
  | 74 => ⟨S16x2048x8x16, .f32⟩
  | 75 => ⟨S1x2048x1x16, .f32⟩
  | 76 => ⟨S16x2048x8x16, .f32⟩
  | 77 => ⟨S16x2048x8x16, .f32⟩
  | 78 => ⟨S1x2048x1x16, .f32⟩
  | 79 => ⟨S16x2048x8x16, .f32⟩
  | 80 => ⟨S16x2048x8x16, .f32⟩
  | 81 => ⟨S16x2048x8x16, .f32⟩
  | 82 => ⟨S1x2048x1x16, .f32⟩
  | 83 => ⟨S16x2048x8x16, .f32⟩
  | 84 => ⟨S16x2048x8x16, .f32⟩
  | 85 => ⟨S1x2048x1x16, .f32⟩
  | 86 => ⟨S16x2048x8x16, .f32⟩
  | 87 => ⟨S16x2048x8x16, .f32⟩
  | 88 => ⟨S16x2048x8x16, .f32⟩
  | 89 => ⟨S16x2048x8x32, .f32⟩
  | 90 => ⟨S16x2048x128, .f32⟩
  | 91 => ⟨S_, .f32⟩
  | 92 => ⟨S16x2048, .f32⟩
  | 93 => ⟨S16x2048x1, .f32⟩
  | 94 => ⟨S_, .f32⟩
  | 95 => ⟨S16x2048x1, .f32⟩
  | 96 => ⟨S16x2048x1, .f32⟩
  | 97 => ⟨S_, .f32⟩
  | 98 => ⟨S16x2048x1, .f32⟩
  | 99 => ⟨S16x2048x1, .f32⟩
  | 100 => ⟨S16x2048x1, .f32⟩
  | 101 => ⟨S16x2048x128, .f32⟩
  | 102 => ⟨S16x2048x128, .f32⟩
  | 103 => ⟨S1x1x128, .f32⟩
  | 104 => ⟨S16x2048x128, .f32⟩
  | 105 => ⟨S16x2048x128, .f32⟩
  | 106 => ⟨S16, .f32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S2048, .f32⟩
  | 115 => ⟨S2048x1, .f32⟩
  | 116 => ⟨S1x16, .f32⟩
  | 117 => ⟨S2048x16, .f32⟩
  | 118 => ⟨S2048x16, .f32⟩
  | 119 => ⟨S2048x16, .f32⟩
  | 120 => ⟨S2048x16, .f32⟩
  | 121 => ⟨S2048x16, .f32⟩
  | 122 => ⟨S16x2048x16, .f32⟩
  | 123 => ⟨S16x2048x16, .f32⟩
  | 124 => ⟨S1x2048x16, .f32⟩
  | 125 => ⟨S16x2048x16, .f32⟩
  | 126 => ⟨S16x2048x16, .f32⟩
  | 127 => ⟨S1x2048x16, .f32⟩
  | _ => ⟨S32768x1024, .f32⟩

abbrev hbmTy0_1 (i : Nat) : BufTy := match i % 128 with
  | 0 => ⟨S16x2048x16, .f32⟩
  | 1 => ⟨S16x2048x16, .f32⟩
  | 2 => ⟨S16x2048x16, .f32⟩
  | 3 => ⟨S1x2048x16, .f32⟩
  | 4 => ⟨S16x2048x16, .f32⟩
  | 5 => ⟨S16x2048x16, .f32⟩
  | 6 => ⟨S1x2048x16, .f32⟩
  | 7 => ⟨S16x2048x16, .f32⟩
  | 8 => ⟨S16x2048x16, .f32⟩
  | 9 => ⟨S16x2048x16, .f32⟩
  | 10 => ⟨S16x2048x32, .f32⟩
  | 11 => ⟨S16x2048x8x64, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2048, .f32⟩
  | 21 => ⟨S2048x1, .f32⟩
  | 22 => ⟨S1x32, .f32⟩
  | 23 => ⟨S2048x32, .f32⟩
  | 24 => ⟨S2048x32, .f32⟩
  | 25 => ⟨S2048x32, .f32⟩
  | 26 => ⟨S2048x1x32, .f32⟩
  | 27 => ⟨S2048x1x32, .f32⟩
  | 28 => ⟨S2048x1x32, .f32⟩
  | 29 => ⟨S16x2048x8x32, .f32⟩
  | 30 => ⟨S16x2048x8x32, .f32⟩
  | 31 => ⟨S1x2048x1x32, .f32⟩
  | 32 => ⟨S16x2048x8x32, .f32⟩
  | 33 => ⟨S16x2048x8x32, .f32⟩
  | 34 => ⟨S1x2048x1x32, .f32⟩
  | 35 => ⟨S16x2048x8x32, .f32⟩
  | 36 => ⟨S16x2048x8x32, .f32⟩
  | 37 => ⟨S16x2048x8x32, .f32⟩
  | 38 => ⟨S1x2048x1x32, .f32⟩
  | 39 => ⟨S16x2048x8x32, .f32⟩
  | 40 => ⟨S16x2048x8x32, .f32⟩
  | 41 => ⟨S1x2048x1x32, .f32⟩
  | 42 => ⟨S16x2048x8x32, .f32⟩
  | 43 => ⟨S16x2048x8x32, .f32⟩
  | 44 => ⟨S16x2048x8x32, .f32⟩
  | 45 => ⟨S16x2048x8x64, .f32⟩
  | 46 => ⟨S16x2048x2x64, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S2048, .f32⟩
  | 56 => ⟨S2048x1, .f32⟩
  | 57 => ⟨S1x32, .f32⟩
  | 58 => ⟨S2048x32, .f32⟩
  | 59 => ⟨S2048x32, .f32⟩
  | 60 => ⟨S2048x32, .f32⟩
  | 61 => ⟨S2048x1x32, .f32⟩
  | 62 => ⟨S2048x1x32, .f32⟩
  | 63 => ⟨S2048x1x32, .f32⟩
  | 64 => ⟨S16x2048x2x32, .f32⟩
  | 65 => ⟨S16x2048x2x32, .f32⟩
  | 66 => ⟨S1x2048x1x32, .f32⟩
  | 67 => ⟨S16x2048x2x32, .f32⟩
  | 68 => ⟨S16x2048x2x32, .f32⟩
  | 69 => ⟨S1x2048x1x32, .f32⟩
  | 70 => ⟨S16x2048x2x32, .f32⟩
  | 71 => ⟨S16x2048x2x32, .f32⟩
  | 72 => ⟨S16x2048x2x32, .f32⟩
  | 73 => ⟨S1x2048x1x32, .f32⟩
  | 74 => ⟨S16x2048x2x32, .f32⟩
  | 75 => ⟨S16x2048x2x32, .f32⟩
  | 76 => ⟨S1x2048x1x32, .f32⟩
  | 77 => ⟨S16x2048x2x32, .f32⟩
  | 78 => ⟨S16x2048x2x32, .f32⟩
  | 79 => ⟨S16x2048x2x32, .f32⟩
  | 80 => ⟨S16x2048x2x64, .f32⟩
  | 81 => ⟨S16x2048x2x64, .f32⟩
  | 82 => ⟨S16x2048x1x2x64, .f32⟩
  | 83 => ⟨S16x2048x1x2x64, .f32⟩
  | 84 => ⟨S16x2048x2x2x64, .f32⟩
  | 85 => ⟨S16x2048x8x64, .f32⟩
  | 86 => ⟨S32, .f32⟩
  | 87 => ⟨S32, .f32⟩
  | 88 => ⟨S_, .f32⟩
  | 89 => ⟨S32, .f32⟩
  | 90 => ⟨S32, .f32⟩
  | 91 => ⟨S_, .f32⟩
  | 92 => ⟨S32, .f32⟩
  | 93 => ⟨S32, .f32⟩
  | 94 => ⟨S2048, .f32⟩
  | 95 => ⟨S2048x1, .f32⟩
  | 96 => ⟨S1x32, .f32⟩
  | 97 => ⟨S2048x32, .f32⟩
  | 98 => ⟨S2048x32, .f32⟩
  | 99 => ⟨S2048x32, .f32⟩
  | 100 => ⟨S2048x1x32, .f32⟩
  | 101 => ⟨S2048x1x32, .f32⟩
  | 102 => ⟨S2048x1x32, .f32⟩
  | 103 => ⟨S16x2048x8x32, .f32⟩
  | 104 => ⟨S16x2048x8x32, .f32⟩
  | 105 => ⟨S1x2048x1x32, .f32⟩
  | 106 => ⟨S16x2048x8x32, .f32⟩
  | 107 => ⟨S16x2048x8x32, .f32⟩
  | 108 => ⟨S1x2048x1x32, .f32⟩
  | 109 => ⟨S16x2048x8x32, .f32⟩
  | 110 => ⟨S16x2048x8x32, .f32⟩
  | 111 => ⟨S16x2048x8x32, .f32⟩
  | 112 => ⟨S1x2048x1x32, .f32⟩
  | 113 => ⟨S16x2048x8x32, .f32⟩
  | 114 => ⟨S16x2048x8x32, .f32⟩
  | 115 => ⟨S1x2048x1x32, .f32⟩
  | 116 => ⟨S16x2048x8x32, .f32⟩
  | 117 => ⟨S16x2048x8x32, .f32⟩
  | 118 => ⟨S16x2048x8x32, .f32⟩
  | 119 => ⟨S16x2048x8x64, .f32⟩
  | 120 => ⟨S32, .f32⟩
  | 121 => ⟨S32, .f32⟩
  | 122 => ⟨S_, .f32⟩
  | 123 => ⟨S32, .f32⟩
  | 124 => ⟨S32, .f32⟩
  | 125 => ⟨S_, .f32⟩
  | 126 => ⟨S32, .f32⟩
  | 127 => ⟨S32, .f32⟩
  | _ => ⟨S32768x1024, .f32⟩

abbrev hbmTy0_2 (i : Nat) : BufTy := match i % 128 with
  | 0 => ⟨S2048, .f32⟩
  | 1 => ⟨S2048x1, .f32⟩
  | 2 => ⟨S1x32, .f32⟩
  | 3 => ⟨S2048x32, .f32⟩
  | 4 => ⟨S2048x32, .f32⟩
  | 5 => ⟨S2048x32, .f32⟩
  | 6 => ⟨S2048x32, .f32⟩
  | 7 => ⟨S2048x32, .f32⟩
  | 8 => ⟨S16x2048x32, .f32⟩
  | 9 => ⟨S16x2048x32, .f32⟩
  | 10 => ⟨S1x2048x32, .f32⟩
  | 11 => ⟨S16x2048x32, .f32⟩
  | 12 => ⟨S16x2048x32, .f32⟩
  | 13 => ⟨S1x2048x32, .f32⟩
  | 14 => ⟨S16x2048x32, .f32⟩
  | 15 => ⟨S16x2048x32, .f32⟩
  | 16 => ⟨S16x2048x32, .f32⟩
  | 17 => ⟨S1x2048x32, .f32⟩
  | 18 => ⟨S16x2048x32, .f32⟩
  | 19 => ⟨S16x2048x32, .f32⟩
  | 20 => ⟨S1x2048x32, .f32⟩
  | 21 => ⟨S16x2048x32, .f32⟩
  | 22 => ⟨S16x2048x32, .f32⟩
  | 23 => ⟨S16x2048x32, .f32⟩
  | 24 => ⟨S16x2048x64, .f32⟩
  | 25 => ⟨S32768x128, .f32⟩
  | 26 => ⟨S32768x32, .f32⟩
  | 27 => ⟨S32768x256, .f32⟩
  | 28 => ⟨S32768x64, .f32⟩
  | 29 => ⟨S8x32768x128, .f32⟩
  | 30 => ⟨S32768x256, .f32⟩
  | 31 => ⟨S32768x512, .f32⟩
  | 32 => ⟨S32768x512, .f32⟩
  | 33 => ⟨S32768x8, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_7 : Ref sig .tc := ⟨.hbm, 91, rfl⟩
abbrev main_v76 : Ref sig .tc := ⟨.hbm, 92, rfl⟩
abbrev main_v77 : Ref sig .tc := ⟨.hbm, 93, rfl⟩
abbrev main_cst_8 : Ref sig .tc := ⟨.hbm, 94, rfl⟩
abbrev main_v78 : Ref sig .tc := ⟨.hbm, 95, rfl⟩
abbrev main_v79 : Ref sig .tc := ⟨.hbm, 96, rfl⟩
abbrev main_cst_9 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_10 : Ref sig .tc := ⟨.hbm, 108, rfl⟩
abbrev main_v90 : Ref sig .tc := ⟨.hbm, 109, rfl⟩
abbrev main_v91 : Ref sig .tc := ⟨.hbm, 110, rfl⟩
abbrev main_cst_11 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_cst_12 : Ref sig .tc := ⟨.hbm, 142, rfl⟩
abbrev main_v122 : Ref sig .tc := ⟨.hbm, 143, rfl⟩
abbrev main_v123 : Ref sig .tc := ⟨.hbm, 144, rfl⟩
abbrev main_cst_13 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_cst_14 : Ref sig .tc := ⟨.hbm, 177, rfl⟩
abbrev main_v155 : Ref sig .tc := ⟨.hbm, 178, rfl⟩
abbrev main_v156 : Ref sig .tc := ⟨.hbm, 179, rfl⟩
abbrev main_cst_15 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_cst_16 : Ref sig .tc := ⟨.hbm, 216, rfl⟩
abbrev main_v192 : Ref sig .tc := ⟨.hbm, 217, rfl⟩
abbrev main_v193 : Ref sig .tc := ⟨.hbm, 218, rfl⟩
abbrev main_cst_17 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_cst_18 : Ref sig .tc := ⟨.hbm, 250, rfl⟩
abbrev main_v224 : Ref sig .tc := ⟨.hbm, 251, rfl⟩
abbrev main_v225 : Ref sig .tc := ⟨.hbm, 252, rfl⟩
abbrev main_cst_19 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_v248 : Ref sig .tc := ⟨.hbm, 276, rfl⟩
abbrev main_v249 : Ref sig .tc := ⟨.hbm, 277, rfl⟩
abbrev main_v250 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_v254 : Ref sig .tc := ⟨.hbm, 282, rfl⟩
abbrev main_v255 : Ref sig .tc := ⟨.hbm, 283, rfl⟩
abbrev main_v256 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩

abbrev nD : Nat := 1
abbrev τ : Topo := Topo.v7x

variable {F : FTy → Type} [FloatOps F]
-- ==== Out.lean ====
abbrev S8x32768x128 : Shape := ⟨3, ![8, 32768, 128]⟩
abbrev S32768x512 : Shape := ⟨2, ![32768, 512]⟩
abbrev S32768x1024 : Shape := ⟨2, ![32768, 1024]⟩
abbrev S128x8x64 : Shape := ⟨3, ![128, 8, 64]⟩
abbrev S1024x1024 : Shape := ⟨2, ![1024, 1024]⟩
abbrev S8x128x64 : Shape := ⟨3, ![8, 128, 64]⟩
abbrev S8x512x128 : Shape := ⟨3, ![8, 512, 128]⟩
abbrev S512x512 : Shape := ⟨2, ![512, 512]⟩
abbrev S512x1024 : Shape := ⟨2, ![512, 1024]⟩
abbrev S1x512x128 : Shape := ⟨3, ![1, 512, 128]⟩
abbrev S512x128 : Shape := ⟨2, ![512, 128]⟩
abbrev S1x128x64 : Shape := ⟨3, ![1, 128, 64]⟩
abbrev S128x64 : Shape := ⟨2, ![128, 64]⟩
abbrev S512x64 : Shape := ⟨2, ![512, 64]⟩

abbrev nBuf : Space → Nat
  | .hbm => 9
  | .vmem => 10
  | .smem => 0
  | _ => 0

abbrev bufTy : (tb : Table) → Fin (tcTables nBuf tb) → BufTy
  | .hbm, ⟨0, _⟩ => ⟨S8x32768x128, .f32⟩
  | .hbm, ⟨1, _⟩ => ⟨S32768x512, .f32⟩
  | .hbm, ⟨2, _⟩ => ⟨S32768x1024, .f32⟩
  | .hbm, ⟨3, _⟩ => ⟨S128x8x64, .f32⟩
  | .hbm, ⟨4, _⟩ => ⟨S1024x1024, .f32⟩
  | .hbm, ⟨5, _⟩ => ⟨S8x128x64, .f32⟩
  | .hbm, ⟨6, _⟩ => ⟨S8x128x64, .bf16⟩
  | .hbm, ⟨7, _⟩ => ⟨S1024x1024, .bf16⟩
  | .hbm, ⟨8, _⟩ => ⟨S32768x1024, .f32⟩
  | .local _ .vmem, ⟨0, _⟩ => ⟨S8x512x128, .f32⟩
  | .local _ .vmem, ⟨1, _⟩ => ⟨S8x512x128, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S8x128x64, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S8x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S8x32768x128 : Shape := ⟨3, ![8, 32768, 128]⟩
abbrev S32768x512 : Shape := ⟨2, ![32768, 512]⟩
abbrev S32768x1024 : Shape := ⟨2, ![32768, 1024]⟩
abbrev S128x8x64 : Shape := ⟨3, ![128, 8, 64]⟩
abbrev S1024x1024 : Shape := ⟨2, ![1024, 1024]⟩
abbrev S8x64x32768 : Shape := ⟨3, ![8, 64, 32768]⟩
abbrev S32768x8x64 : Shape := ⟨3, ![32768, 8, 64]⟩

abbrev nBuf : Space → Nat
  | .hbm => 11
  | .vmem => 0
  | .smem => 0
  | _ => 0

abbrev bufTy : (tb : Table) → Fin (tcTables nBuf tb) → BufTy
  | .hbm, ⟨0, _⟩ => ⟨S8x32768x128, .f32⟩
  | .hbm, ⟨1, _⟩ => ⟨S32768x512, .f32⟩
  | .hbm, ⟨2, _⟩ => ⟨S32768x1024, .f32⟩
  | .hbm, ⟨3, _⟩ => ⟨S128x8x64, .f32⟩
  | .hbm, ⟨4, _⟩ => ⟨S1024x1024, .f32⟩
  | .hbm, ⟨5, _⟩ => ⟨S8x64x32768, .f32⟩
  | .hbm, ⟨6, _⟩ => ⟨S32768x8x64, .f32⟩
  | .hbm, ⟨7, _⟩ => ⟨S32768x512, .f32⟩
  | .hbm, ⟨8, _⟩ => ⟨S32768x1024, .f32⟩
  | .hbm, ⟨9, _⟩ => ⟨S32768x1024, .f32⟩
  | .hbm, ⟨10, _⟩ => ⟨S32768x1024, .f32⟩
  | _, _ => ⟨S8x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Memory.lean ====
abbrev S4096x1024 : Shape := ⟨2, ![4096, 1024]⟩
abbrev S1024 : Shape := ⟨1, ![1024]⟩
abbrev S1024x256 : Shape := ⟨2, ![1024, 256]⟩
abbrev S1x1024 : Shape := ⟨2, ![1, 1024]⟩
abbrev S1024x512 : Shape := ⟨2, ![1024, 512]⟩
abbrev S4096x256 : Shape := ⟨2, ![4096, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x256, .f32⟩
  | .hbm, ⟨3, _⟩ => ⟨S1024x256, .f32⟩
  | .hbm, ⟨4, _⟩ => ⟨S1x1024, .f32⟩
  | .hbm, ⟨5, _⟩ => ⟨S1024x512, .f32⟩
  | .hbm, ⟨6, _⟩ => ⟨S1024x512, .bf16⟩
  | .hbm, ⟨7, _⟩ => ⟨S4096x256, .f32⟩
  | .hbm, ⟨8, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemoryRefIdeal.lean ====
abbrev S4096x1024 : Shape := ⟨2, ![4096, 1024]⟩
abbrev S1024 : Shape := ⟨1, ![1024]⟩
abbrev S1024x256 : Shape := ⟨2, ![1024, 256]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x256 : Shape := ⟨2, ![4096, 256]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x256, .f32⟩
  | .hbm, ⟨3, _⟩ => ⟨S1024x256, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x256, .f32⟩
  | .hbm, ⟨21, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Cross.lean ====
abbrev S32768x1024 : Shape := ⟨2, ![32768, 1024]⟩
abbrev S16x256x256 : Shape := ⟨3, ![16, 256, 256]⟩
abbrev S1024 : Shape := ⟨1, ![1024]⟩
abbrev S1024x256 : Shape := ⟨2, ![1024, 256]⟩
abbrev S256x1024 : Shape := ⟨2, ![256, 1024]⟩
abbrev S1x1024 : Shape := ⟨2, ![1, 1024]⟩
abbrev S512x1024 : Shape := ⟨2, ![512, 1024]⟩
abbrev S1x256x256 : Shape := ⟨3, ![1, 256, 256]⟩
abbrev S512 : Shape := ⟨1, ![512]⟩
abbrev S512x1 : Shape := ⟨2, ![512, 1]⟩
abbrev S512x256 : Shape := ⟨2, ![512, 256]⟩
abbrev S256x256 : Shape := ⟨2, ![256, 256]⟩
abbrev S512x64 : Shape := ⟨2, ![512, 64]⟩
abbrev S256x64 : Shape := ⟨2, ![256, 64]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S16x256x256, .f32⟩
  | .hbm, ⟨2, _⟩ => ⟨S16x256x256, .f32⟩
  | .hbm, ⟨3, _⟩ => ⟨S1024, .f32⟩
  | .hbm, ⟨4, _⟩ => ⟨S1024x256, .f32⟩
  | .hbm, ⟨5, _⟩ => ⟨S256x1024, .f32⟩
  | .hbm, ⟨6, _⟩ => ⟨S1x1024, .f32⟩
  | .hbm, ⟨7, _⟩ => ⟨S1024x256, .bf16⟩
  | .hbm, ⟨8, _⟩ => ⟨S256x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x256, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CrossRefIdeal.lean ====
abbrev S32768x1024 : Shape := ⟨2, ![32768, 1024]⟩
abbrev S16x256x256 : Shape := ⟨3, ![16, 256, 256]⟩
abbrev S1024 : Shape := ⟨1, ![1024]⟩
abbrev S1024x256 : Shape := ⟨2, ![1024, 256]⟩
abbrev S256x1024 : Shape := ⟨2, ![256, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x256 : Shape := ⟨3, ![16, 2048, 256]⟩
abbrev S16x2048x4x64 : Shape := ⟨4, ![16, 2048, 4, 64]⟩
abbrev S16x256x4x64 : Shape := ⟨4, ![16, 256, 4, 64]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x64x2048 : Shape := ⟨4, ![16, 4, 64, 2048]⟩

abbrev nBuf : Space → Nat
  | .hbm => 51
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x256x256, .f32⟩
  | .hbm, ⟨2, _⟩ => ⟨S16x256x256, .f32⟩
  | .hbm, ⟨3, _⟩ => ⟨S1024, .f32⟩
  | .hbm, ⟨4, _⟩ => ⟨S1024x256, .f32⟩
  | .hbm, ⟨5, _⟩ => ⟨S256x1024, .f32⟩
  | .hbm, ⟨6, _⟩ => ⟨S16x2048x1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x256, .f32⟩
  | .hbm, ⟨24, _⟩ => ⟨S16x2048x4x64, .f32⟩
  | .hbm, ⟨25, _⟩ => ⟨S16x256x4x64, .f32⟩
  | .hbm, ⟨26, _⟩ => ⟨S16x256x4x64, .f32⟩
  | .hbm, ⟨27, _⟩ => ⟨S16x4x2048x256, .f32⟩
  | .hbm, ⟨28, _⟩ => ⟨S_, .f32⟩
  | .hbm, ⟨29, _⟩ => ⟨S16x4x2048x256, .f32⟩
  | .hbm, ⟨30, _⟩ => ⟨S16x4x2048x256, .f32⟩
  | .hbm, ⟨31, _⟩ => ⟨S_, .f32⟩
  | .hbm, ⟨32, _⟩ => ⟨S16x4x2048, .f32⟩
  | .hbm, ⟨33, _⟩ => ⟨S_, .f32⟩
  | .hbm, ⟨34, _⟩ => ⟨S16x4x2048, .f32⟩
  | .hbm, ⟨35, _⟩ => ⟨S16x4x2048, .f32⟩
  | .hbm, ⟨36, _⟩ => ⟨S16x4x2048x1, .f32⟩
  | .hbm, ⟨37, _⟩ => ⟨S16x4x2048x256, .f32⟩
  | .hbm, ⟨38, _⟩ => ⟨S16x4x2048x256, .f32⟩
  | .hbm, ⟨39, _⟩ => ⟨S16x4x2048x256, .f32⟩
  | .hbm, ⟨40, _⟩ => ⟨S_, .f32⟩
  | .hbm, ⟨41, _⟩ => ⟨S16x4x2048, .f32⟩
  | .hbm, ⟨42, _⟩ => ⟨S16x4x2048x1, .f32⟩
  | .hbm, ⟨43, _⟩ => ⟨S16x4x2048x256, .f32⟩
  | .hbm, ⟨44, _⟩ => ⟨S16x4x2048x256, .f32⟩
  | .hbm, ⟨45, _⟩ => ⟨S16x4x64x2048, .f32⟩
  | .hbm, ⟨46, _⟩ => ⟨S16x2048x4x64, .f32⟩
  | .hbm, ⟨47, _⟩ => ⟨S16x2048x256, .f32⟩
  | .hbm, ⟨48, _⟩ => ⟨S16x2048x1024, .f32⟩
  | .hbm, ⟨49, _⟩ => ⟨S32768x1024, .f32⟩
  | .hbm, ⟨50, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Sample.lean ====
abbrev S1024x1024 : Shape := ⟨2, ![1024, 1024]⟩
abbrev S1024 : Shape := ⟨1, ![1024]⟩
abbrev S1024x1768 : Shape := ⟨2, ![1024, 1768]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x8 : Shape := ⟨2, ![1024, 8]⟩
abbrev S1024x64 : Shape := ⟨2, ![1024, 64]⟩
abbrev S_ : Shape := ⟨0, ![]⟩
abbrev S1024x2048 : Shape := ⟨2, ![1024, 2048]⟩
abbrev S256x8x96 : Shape := ⟨3, ![256, 8, 96]⟩
abbrev S256x8x64 : Shape := ⟨3, ![256, 8, 64]⟩
abbrev S256x512 : Shape := ⟨2, ![256, 512]⟩
abbrev S256x8x32 : Shape := ⟨3, ![256, 8, 32]⟩
abbrev S256x256 : Shape := ⟨2, ![256, 256]⟩
abbrev S1x1024 : Shape := ⟨2, ![1, 1024]⟩
abbrev S1x256 : Shape := ⟨2, ![1, 256]⟩
abbrev S1x128 : Shape := ⟨2, ![1, 128]⟩
abbrev S8x64x128 : Shape := ⟨3, ![8, 64, 128]⟩
abbrev S8 : Shape := ⟨1, ![8]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S8x64 : Shape := ⟨2, ![8, 64]⟩
abbrev S1x8x1x64 : Shape := ⟨4, ![1, 8, 1, 64]⟩
abbrev S1x8x2x64 : Shape := ⟨4, ![1, 8, 2, 64]⟩
abbrev S8x128 : Shape := ⟨2, ![8, 128]⟩
abbrev S1x8x1x128 : Shape := ⟨4, ![1, 8, 1, 128]⟩
abbrev S64x8x1x128 : Shape := ⟨4, ![64, 8, 1, 128]⟩
abbrev S512x128 : Shape := ⟨2, ![512, 128]⟩
abbrev S16 : Shape := ⟨1, ![16]⟩
abbrev S1x16 : Shape := ⟨2, ![1, 16]⟩
abbrev S8x16 : Shape := ⟨2, ![8, 16]⟩
abbrev S1x8x1x32 : Shape := ⟨4, ![1, 8, 1, 32]⟩
abbrev S1x8x4x32 : Shape := ⟨4, ![1, 8, 4, 32]⟩
abbrev S8x1024x128 : Shape := ⟨3, ![8, 1024, 128]⟩
abbrev S512x1024 : Shape := ⟨2, ![512, 1024]⟩
abbrev S512x32 : Shape := ⟨2, ![512, 32]⟩
abbrev S512x256 : Shape := ⟨2, ![512, 256]⟩
abbrev S512x64 : Shape := ⟨2, ![512, 64]⟩
abbrev S8x512x128 : Shape := ⟨3, ![8, 512, 128]⟩
abbrev S512x512 : Shape := ⟨2, ![512, 512]⟩
abbrev S512x8 : Shape := ⟨2, ![512, 8]⟩
abbrev S512 : Shape := ⟨1, ![512]⟩
abbrev S512x1 : Shape := ⟨2, ![512, 1]⟩
abbrev S512x2048 : Shape := ⟨2, ![512, 2048]⟩
abbrev S512x768 : Shape := ⟨2, ![512, 768]⟩
abbrev S1x64x128 : Shape := ⟨3, ![1, 64, 128]⟩
abbrev S64x128 : Shape := ⟨2, ![64, 128]⟩
abbrev S1x512x128 : Shape := ⟨3, ![1, 512, 128]⟩

abbrev nBuf : Space → Nat
  | .hbm => 114
  | .vmem => 30
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x1768, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x8x64, .f32⟩
  | .hbm, ⟨7, _⟩ => ⟨S1024x256, .f32⟩
  | .hbm, ⟨8, _⟩ => ⟨S1024x128, .f32⟩
  | .hbm, ⟨9, _⟩ => ⟨S1024x32, .f32⟩
  | .hbm, ⟨10, _⟩ => ⟨S1024x512, .f32⟩
  | .hbm, ⟨11, _⟩ => ⟨S1024x128, .f32⟩
  | .hbm, ⟨12, _⟩ => ⟨S1024x128, .f32⟩
  | .hbm, ⟨13, _⟩ => ⟨S1024x512, .f32⟩
  | .hbm, ⟨14, _⟩ => ⟨S1024x8, .f32⟩
  | .hbm, ⟨15, _⟩ => ⟨S1024x64, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S1024x2048, .f32⟩
  | .hbm, ⟨26, _⟩ => ⟨S256x8x96, .f32⟩
  | .hbm, ⟨27, _⟩ => ⟨S256x8x64, .f32⟩
  | .hbm, ⟨28, _⟩ => ⟨S256x512, .f32⟩
  | .hbm, ⟨29, _⟩ => ⟨S256x8x32, .f32⟩
  | .hbm, ⟨30, _⟩ => ⟨S256x256, .f32⟩
  | .hbm, ⟨31, _⟩ => ⟨S256x768, .f32⟩
  | .hbm, ⟨32, _⟩ => ⟨S1x1024, .f32⟩
  | .hbm, ⟨33, _⟩ => ⟨S1024x2048, .bf16⟩
  | .hbm, ⟨34, _⟩ => ⟨S1x256, .f32⟩
  | .hbm, ⟨35, _⟩ => ⟨S256x768, .bf16⟩
  | .hbm, ⟨36, _⟩ => ⟨S1x128, .f32⟩
  | .hbm, ⟨37, _⟩ => ⟨S8x64x128, .f32⟩
  | .hbm, ⟨38, _⟩ => ⟨S8x64x128, .bf16⟩
  | .hbm, ⟨39, _⟩ => ⟨S8, .i32⟩
  | .hbm, ⟨40, _⟩ => ⟨S_, .i32⟩
  | .hbm, ⟨41, _⟩ => ⟨S8, .i32⟩
  | .hbm, ⟨42, _⟩ => ⟨S8, .i32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S8, .f32⟩
  | .hbm, ⟨52, _⟩ => ⟨S8x1, .f32⟩
  | .hbm, ⟨53, _⟩ => ⟨S1x32, .f32⟩
  | .hbm, ⟨54, _⟩ => ⟨S8x32, .f32⟩
  | .hbm, ⟨55, _⟩ => ⟨S8x32, .f32⟩
  | .hbm, ⟨56, _⟩ => ⟨S8x32, .f32⟩
  | .hbm, ⟨57, _⟩ => ⟨S8x32, .f32⟩
  | .hbm, ⟨58, _⟩ => ⟨S8x32, .f32⟩
  | .hbm, ⟨59, _⟩ => ⟨S8x64, .f32⟩
  | .hbm, ⟨60, _⟩ => ⟨S1x8x1x64, .f32⟩
  | .hbm, ⟨61, _⟩ => ⟨S1x8x2x64, .f32⟩
  | .hbm, ⟨62, _⟩ => ⟨S8x128, .f32⟩
  | .hbm, ⟨63, _⟩ => ⟨S8x32, .f32⟩
  | .hbm, ⟨64, _⟩ => ⟨S8x64, .f32⟩
  | .hbm, ⟨65, _⟩ => ⟨S1x8x1x64, .f32⟩
  | .hbm, ⟨66, _⟩ => ⟨S1x8x2x64, .f32⟩
  | .hbm, ⟨67, _⟩ => ⟨S8x128, .f32⟩
  | .hbm, ⟨68, _⟩ => ⟨S1x8x1x128, .f32⟩
  | .hbm, ⟨69, _⟩ => ⟨S64x8x1x128, .f32⟩
  | .hbm, ⟨70, _⟩ => ⟨S512x128, .f32⟩
  | .hbm, ⟨71, _⟩ => ⟨S1x8x1x128, .f32⟩
  | .hbm, ⟨72, _⟩ => ⟨S64x8x1x128, .f32⟩
  | .hbm, ⟨73, _⟩ => ⟨S512x128, .f32⟩
  | .hbm, ⟨74, _⟩ => ⟨S16, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S_, .f32⟩
  | .hbm, ⟨80, _⟩ => ⟨S16, .f32⟩
  | .hbm, ⟨81, _⟩ => ⟨S16, .f32⟩
  | .hbm, ⟨82, _⟩ => ⟨S8, .f32⟩
  | .hbm, ⟨83, _⟩ => ⟨S8x1, .f32⟩
  | .hbm, ⟨84, _⟩ => ⟨S1x16, .f32⟩
  | .hbm, ⟨85, _⟩ => ⟨S8x16, .f32⟩
  | .hbm, ⟨86, _⟩ => ⟨S8x16, .f32⟩
  | .hbm, ⟨87, _⟩ => ⟨S8x16, .f32⟩
  | .hbm, ⟨88, _⟩ => ⟨S8x16, .f32⟩
  | .hbm, ⟨89, _⟩ => ⟨S8x16, .f32⟩
  | .hbm, ⟨90, _⟩ => ⟨S8x32, .f32⟩
  | .hbm, ⟨91, _⟩ => ⟨S1x8x1x32, .f32⟩
  | .hbm, ⟨92, _⟩ => ⟨S1x8x4x32, .f32⟩
  | .hbm, ⟨93, _⟩ => ⟨S8x128, .f32⟩
  | .hbm, ⟨94, _⟩ => ⟨S8x16, .f32⟩
  | .hbm, ⟨95, _⟩ => ⟨S8x32, .f32⟩
  | .hbm, ⟨96, _⟩ => ⟨S1x8x1x32, .f32⟩
  | .hbm, ⟨97, _⟩ => ⟨S1x8x4x32, .f32⟩
  | .hbm, ⟨98, _⟩ => ⟨S8x128, .f32⟩
  | .hbm, ⟨99, _⟩ => ⟨S1x8x1x128, .f32⟩
  | .hbm, ⟨100, _⟩ => ⟨S64x8x1x128, .f32⟩
  | .hbm, ⟨101, _⟩ => ⟨S512x128, .f32⟩
  | .hbm, ⟨102, _⟩ => ⟨S1x8x1x128, .f32⟩
  | .hbm, ⟨103, _⟩ => ⟨S64x8x1x128, .f32⟩
  | .hbm, ⟨104, _⟩ => ⟨S512x128, .f32⟩
  | .hbm, ⟨105, _⟩ => ⟨S1024x128, .f32⟩
  | .hbm, ⟨106, _⟩ => ⟨S1024x32, .f32⟩
  | .hbm, ⟨107, _⟩ => ⟨S1024x256, .f32⟩
  | .hbm, ⟨108, _⟩ => ⟨S1024x64, .f32⟩
  | .hbm, ⟨109, _⟩ => ⟨S8x1024x128, .f32⟩
  | .hbm, ⟨110, _⟩ => ⟨S1024x256, .f32⟩
  | .hbm, ⟨111, _⟩ => ⟨S1024x512, .f32⟩
  | .hbm, ⟨112, _⟩ => ⟨S1024x512, .f32⟩
  | .hbm, ⟨113, _⟩ => ⟨S1024x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x256, .f32⟩
  | .local _ .vmem, ⟨5, _⟩ => ⟨S256x768, .bf16⟩
  | .local _ .vmem, ⟨6, _⟩ => ⟨S1x128, .f32⟩
  | .local _ .vmem, ⟨7, _⟩ => ⟨S8x64x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x32, .f32⟩
  | .local _ .vmem, ⟨15, _⟩ => ⟨S512x32, .f32⟩
  | .local _ .vmem, ⟨16, _⟩ => ⟨S512x256, .f32⟩
  | .local _ .vmem, ⟨17, _⟩ => ⟨S512x256, .f32⟩
  | .local _ .vmem, ⟨18, _⟩ => ⟨S512x64, .f32⟩
  | .local _ .vmem, ⟨19, _⟩ => ⟨S512x64, .f32⟩
  | .local _ .vmem, ⟨20, _⟩ => ⟨S8x512x128, .f32⟩
  | .local _ .vmem, ⟨21, _⟩ => ⟨S8x512x128, .f32⟩
  | .local _ .vmem, ⟨22, _⟩ => ⟨S512x256, .f32⟩
  | .local _ .vmem, ⟨23, _⟩ => ⟨S512x256, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x8, .f32⟩
  | .local _ .vmem, ⟨29, _⟩ => ⟨S512x8, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_c_0 : Ref sig .tc := ⟨.hbm, 19, rfl⟩
abbrev main_call1_v0 : Ref sig .tc := ⟨.hbm, 20, rfl⟩
abbrev main_v10 : Ref sig .tc := ⟨.hbm, 21, rfl⟩
abbrev main_c_1 : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_4 : Ref sig .tc := ⟨.hbm, 76, rfl⟩
abbrev main_v60 : Ref sig .tc := ⟨.hbm, 77, rfl⟩
abbrev main_v61 : Ref sig .tc := ⟨.hbm, 78, rfl⟩
abbrev main_cst_5 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87_0 : Ref sig .tc := ⟨.hbm, 105, rfl⟩
abbrev main_v87_1 : Ref sig .tc := ⟨.hbm, 106, rfl⟩
abbrev main_v87_2 : Ref sig .tc := ⟨.hbm, 107, rfl⟩
abbrev main_v87_3 : Ref sig .tc := ⟨.hbm, 108, rfl⟩
abbrev main_v87_4 : Ref sig .tc := ⟨.hbm, 109, rfl⟩
abbrev main_v87_5 : Ref sig .tc := ⟨.hbm, 110, rfl⟩
abbrev main_v87_6 : Ref sig .tc := ⟨.hbm, 111, rfl⟩
abbrev main_v87_7 : Ref sig .tc := ⟨.hbm, 112, rfl⟩
abbrev main_v87_8 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x8 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== SampleRefIdeal.lean ====
abbrev S1024x1024 : Shape := ⟨2, ![1024, 1024]⟩
abbrev S1024 : Shape := ⟨1, ![1024]⟩
abbrev S1024x1768 : Shape := ⟨2, ![1024, 1768]⟩
abbrev S256 : Shape := ⟨1, ![256]⟩
abbrev S256x768 : Shape := ⟨2, ![256, 768]⟩
abbrev S128 : Shape := ⟨1, ![128]⟩
abbrev S128x8x64 : Shape := ⟨3, ![128, 8, 64]⟩
abbrev S8 : Shape := ⟨1, ![8]⟩
abbrev S_ : Shape := ⟨0, ![]⟩
abbrev S128x8x1024 : Shape := ⟨3, ![128, 8, 1024]⟩
abbrev S128x8 : Shape := ⟨2, ![128, 8]⟩
abbrev S128x8x1 : Shape := ⟨3, ![128, 8, 1]⟩
abbrev S1x1x1024 : Shape := ⟨3, ![1, 1, 1024]⟩
abbrev S128x8x1768 : Shape := ⟨3, ![128, 8, 1768]⟩
abbrev S128x8x256 : Shape := ⟨3, ![128, 8, 256]⟩
abbrev S128x8x128 : Shape := ⟨3, ![128, 8, 128]⟩
abbrev S128x8x32 : Shape := ⟨3, ![128, 8, 32]⟩
abbrev S128x8x512 : Shape := ⟨3, ![128, 8, 512]⟩
abbrev S128x8x8 : Shape := ⟨3, ![128, 8, 8]⟩
abbrev S1x1x256 : Shape := ⟨3, ![1, 1, 256]⟩
abbrev S128x8x768 : Shape := ⟨3, ![128, 8, 768]⟩
abbrev S128x8x8x96 : Shape := ⟨4, ![128, 8, 8, 96]⟩
abbrev S128x8x8x64 : Shape := ⟨4, ![128, 8, 8, 64]⟩
abbrev S8x128x8x128 : Shape := ⟨4, ![8, 128, 8, 128]⟩
abbrev S128x8x8x32 : Shape := ⟨4, ![128, 8, 8, 32]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S8x1x16 : Shape := ⟨3, ![8, 1, 16]⟩
abbrev S128x8x8x16 : Shape := ⟨4, ![128, 8, 8, 16]⟩
abbrev S1x8x1x16 : Shape := ⟨4, ![1, 8, 1, 16]⟩
abbrev S1x1x128 : Shape := ⟨3, ![1, 1, 128]⟩
abbrev S128x8x16 : Shape := ⟨3, ![128, 8, 16]⟩
abbrev S1x8x16 : Shape := ⟨3, ![1, 8, 16]⟩
abbrev S32 : Shape := ⟨1, ![32]⟩
abbrev S1x32 : Shape := ⟨2, ![1, 32]⟩
abbrev S8x32 : Shape := ⟨2, ![8, 32]⟩
abbrev S8x1x32 : Shape := ⟨3, ![8, 1, 32]⟩
abbrev S1x8x1x32 : Shape := ⟨4, ![1, 8, 1, 32]⟩
abbrev S128x8x2x64 : Shape := ⟨4, ![128, 8, 2, 64]⟩
abbrev S128x8x2x32 : Shape := ⟨4, ![128, 8, 2, 32]⟩
abbrev S128x8x1x2x64 : Shape := ⟨5, ![128, 8, 1, 2, 64]⟩
abbrev S128x8x2x2x64 : Shape := ⟨5, ![128, 8, 2, 2, 64]⟩
abbrev S1x8x32 : Shape := ⟨3, ![1, 8, 32]⟩
abbrev S1024x128 : Shape := ⟨2, ![1024, 128]⟩
abbrev S1024x32 : Shape := ⟨2, ![1024, 32]⟩
abbrev S1024x256 : Shape := ⟨2, ![1024, 256]⟩
abbrev S1024x64 : Shape := ⟨2, ![1024, 64]⟩
abbrev S8x1024x128 : Shape := ⟨3, ![8, 1024, 128]⟩
abbrev S1024x512 : Shape := ⟨2, ![1024, 512]⟩
abbrev S1024x8 : Shape := ⟨2, ![1024, 8]⟩

abbrev nBuf : Space → Nat
  | .hbm => 293
  | .vmem => 0
  | .smem => 0
  | _ => 0

abbrev hbmTy0_0 (i : Nat) : BufTy := match i % 128 with
  | 0 => ⟨S1024x1024, .f32⟩
  | 1 => ⟨S1024, .f32⟩
  | 2 => ⟨S1024x1768, .f32⟩
  | 3 => ⟨S256, .f32⟩
  | 4 => ⟨S256x768, .f32⟩
  | 5 => ⟨S128, .f32⟩
  | 6 => ⟨S128x8x64, .f32⟩
  | 7 => ⟨S8, .i32⟩
  | 8 => ⟨S_, .i32⟩
  | 9 => ⟨S8, .i32⟩
  | 10 => ⟨S8, .i32⟩
  | 11 => ⟨S128x8x1024, .f32⟩
  | 12 => ⟨S128x8x1024, .f32⟩
  | 13 => ⟨S_, .f32⟩
  | 14 => ⟨S128x8, .f32⟩
  | 15 => ⟨S128x8x1, .f32⟩
  | 16 => ⟨S_, .f32⟩
  | 17 => ⟨S128x8x1, .f32⟩
  | 18 => ⟨S128x8x1, .f32⟩
  | 19 => ⟨S_, .f32⟩
  | 20 => ⟨S128x8x1, .f32⟩
  | 21 => ⟨S128x8x1, .f32⟩
  | 22 => ⟨S128x8x1, .f32⟩
  | 23 => ⟨S128x8x1024, .f32⟩
  | 24 => ⟨S128x8x1024, .f32⟩
  | 25 => ⟨S1x1x1024, .f32⟩
  | 26 => ⟨S128x8x1024, .f32⟩
  | 27 => ⟨S128x8x1024, .f32⟩
  | 28 => ⟨S128x8x1768, .f32⟩
  | 29 => ⟨S128x8x256, .f32⟩
  | 30 => ⟨S128x8x128, .f32⟩
  | 31 => ⟨S128x8x32, .f32⟩
  | 32 => ⟨S128x8x512, .f32⟩
  | 33 => ⟨S128x8x128, .f32⟩
  | 34 => ⟨S128x8x128, .f32⟩
  | 35 => ⟨S128x8x512, .f32⟩
  | 36 => ⟨S128x8x8, .f32⟩
  | 37 => ⟨S128x8x64, .f32⟩
  | 38 => ⟨S128x8x256, .f32⟩
  | 39 => ⟨S_, .f32⟩
  | 40 => ⟨S128x8, .f32⟩
  | 41 => ⟨S128x8x1, .f32⟩
  | 42 => ⟨S_, .f32⟩
  | 43 => ⟨S128x8x1, .f32⟩
  | 44 => ⟨S128x8x1, .f32⟩
  | 45 => ⟨S_, .f32⟩
  | 46 => ⟨S128x8x1, .f32⟩
  | 47 => ⟨S128x8x1, .f32⟩
  | 48 => ⟨S128x8x1, .f32⟩
  | 49 => ⟨S128x8x256, .f32⟩
  | 50 => ⟨S128x8x256, .f32⟩
  | 51 => ⟨S1x1x256, .f32⟩
  | 52 => ⟨S128x8x256, .f32⟩
  | 53 => ⟨S128x8x256, .f32⟩
  | 54 => ⟨S128x8x768, .f32⟩
  | 55 => ⟨S128x8x8x96, .f32⟩
  | 56 => ⟨S128x8x8x64, .f32⟩
  | 57 => ⟨S8x128x8x128, .f32⟩
  | 58 => ⟨S128x8x8x32, .f32⟩
  | 59 => ⟨S16, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S8, .f32⟩
  | 68 => ⟨S8x1, .f32⟩
  | 69 => ⟨S1x16, .f32⟩
  | 70 => ⟨S8x16, .f32⟩
  | 71 => ⟨S8x16, .f32⟩
  | 72 => ⟨S8x16, .f32⟩
  | 73 => ⟨S8x1x16, .f32⟩
  | 74 => ⟨S8x1x16, .f32⟩
  | 75 => ⟨S8x1x16, .f32⟩
  | 76 => ⟨S128x8x8x16, .f32⟩
  | 77 => ⟨S128x8x8x16, .f32⟩
  | 78 => ⟨S1x8x1x16, .f32⟩
  | 79 => ⟨S128x8x8x16, .f32⟩
  | 80 => ⟨S128x8x8x16, .f32⟩
  | 81 => ⟨S1x8x1x16, .f32⟩
  | 82 => ⟨S128x8x8x16, .f32⟩
  | 83 => ⟨S128x8x8x16, .f32⟩
  | 84 => ⟨S128x8x8x16, .f32⟩
  | 85 => ⟨S1x8x1x16, .f32⟩
  | 86 => ⟨S128x8x8x16, .f32⟩
  | 87 => ⟨S128x8x8x16, .f32⟩
  | 88 => ⟨S1x8x1x16, .f32⟩
  | 89 => ⟨S128x8x8x16, .f32⟩
  | 90 => ⟨S128x8x8x16, .f32⟩
  | 91 => ⟨S128x8x8x16, .f32⟩
  | 92 => ⟨S128x8x8x32, .f32⟩
  | 93 => ⟨S128x8x128, .f32⟩
  | 94 => ⟨S_, .f32⟩
  | 95 => ⟨S128x8, .f32⟩
  | 96 => ⟨S128x8x1, .f32⟩
  | 97 => ⟨S_, .f32⟩
  | 98 => ⟨S128x8x1, .f32⟩
  | 99 => ⟨S128x8x1, .f32⟩
  | 100 => ⟨S_, .f32⟩
  | 101 => ⟨S128x8x1, .f32⟩
  | 102 => ⟨S128x8x1, .f32⟩
  | 103 => ⟨S128x8x1, .f32⟩
  | 104 => ⟨S128x8x128, .f32⟩
  | 105 => ⟨S128x8x128, .f32⟩
  | 106 => ⟨S1x1x128, .f32⟩
  | 107 => ⟨S128x8x128, .f32⟩
  | 108 => ⟨S128x8x128, .f32⟩
  | 109 => ⟨S16, .f32⟩
  | 110 => ⟨S16, .f32⟩
  | 111 => ⟨S_, .f32⟩
  | 112 => ⟨S16, .f32⟩
  | 113 => ⟨S16, .f32⟩
  | 114 => ⟨S_, .f32⟩
  | 115 => ⟨S16, .f32⟩
  | 116 => ⟨S16, .f32⟩
  | 117 => ⟨S8, .f32⟩
  | 118 => ⟨S8x1, .f32⟩
  | 119 => ⟨S1x16, .f32⟩
  | 120 => ⟨S8x16, .f32⟩
  | 121 => ⟨S8x16, .f32⟩
  | 122 => ⟨S8x16, .f32⟩
  | 123 => ⟨S8x16, .f32⟩
  | 124 => ⟨S8x16, .f32⟩
  | 125 => ⟨S128x8x16, .f32⟩
  | 126 => ⟨S128x8x16, .f32⟩
  | 127 => ⟨S1x8x16, .f32⟩
  | _ => ⟨S1024x1024, .f32⟩

abbrev hbmTy0_1 (i : Nat) : BufTy := match i % 128 with
  | 0 => ⟨S128x8x16, .f32⟩
  | 1 => ⟨S128x8x16, .f32⟩
  | 2 => ⟨S1x8x16, .f32⟩
  | 3 => ⟨S128x8x16, .f32⟩
  | 4 => ⟨S128x8x16, .f32⟩
  | 5 => ⟨S128x8x16, .f32⟩
  | 6 => ⟨S1x8x16, .f32⟩
  | 7 => ⟨S128x8x16, .f32⟩
  | 8 => ⟨S128x8x16, .f32⟩
  | 9 => ⟨S1x8x16, .f32⟩
  | 10 => ⟨S128x8x16, .f32⟩
  | 11 => ⟨S128x8x16, .f32⟩
  | 12 => ⟨S128x8x16, .f32⟩
  | 13 => ⟨S128x8x32, .f32⟩
  | 14 => ⟨S128x8x8x64, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S8, .f32⟩
  | 24 => ⟨S8x1, .f32⟩
  | 25 => ⟨S1x32, .f32⟩
  | 26 => ⟨S8x32, .f32⟩
  | 27 => ⟨S8x32, .f32⟩
  | 28 => ⟨S8x32, .f32⟩
  | 29 => ⟨S8x1x32, .f32⟩
  | 30 => ⟨S8x1x32, .f32⟩
  | 31 => ⟨S8x1x32, .f32⟩
  | 32 => ⟨S128x8x8x32, .f32⟩
  | 33 => ⟨S128x8x8x32, .f32⟩
  | 34 => ⟨S1x8x1x32, .f32⟩
  | 35 => ⟨S128x8x8x32, .f32⟩
  | 36 => ⟨S128x8x8x32, .f32⟩
  | 37 => ⟨S1x8x1x32, .f32⟩
  | 38 => ⟨S128x8x8x32, .f32⟩
  | 39 => ⟨S128x8x8x32, .f32⟩
  | 40 => ⟨S128x8x8x32, .f32⟩
  | 41 => ⟨S1x8x1x32, .f32⟩
  | 42 => ⟨S128x8x8x32, .f32⟩
  | 43 => ⟨S128x8x8x32, .f32⟩
  | 44 => ⟨S1x8x1x32, .f32⟩
  | 45 => ⟨S128x8x8x32, .f32⟩
  | 46 => ⟨S128x8x8x32, .f32⟩
  | 47 => ⟨S128x8x8x32, .f32⟩
  | 48 => ⟨S128x8x8x64, .f32⟩
  | 49 => ⟨S128x8x2x64, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S8, .f32⟩
  | 59 => ⟨S8x1, .f32⟩
  | 60 => ⟨S1x32, .f32⟩
  | 61 => ⟨S8x32, .f32⟩
  | 62 => ⟨S8x32, .f32⟩
  | 63 => ⟨S8x32, .f32⟩
  | 64 => ⟨S8x1x32, .f32⟩
  | 65 => ⟨S8x1x32, .f32⟩
  | 66 => ⟨S8x1x32, .f32⟩
  | 67 => ⟨S128x8x2x32, .f32⟩
  | 68 => ⟨S128x8x2x32, .f32⟩
  | 69 => ⟨S1x8x1x32, .f32⟩
  | 70 => ⟨S128x8x2x32, .f32⟩
  | 71 => ⟨S128x8x2x32, .f32⟩
  | 72 => ⟨S1x8x1x32, .f32⟩
  | 73 => ⟨S128x8x2x32, .f32⟩
  | 74 => ⟨S128x8x2x32, .f32⟩
  | 75 => ⟨S128x8x2x32, .f32⟩
  | 76 => ⟨S1x8x1x32, .f32⟩
  | 77 => ⟨S128x8x2x32, .f32⟩
  | 78 => ⟨S128x8x2x32, .f32⟩
  | 79 => ⟨S1x8x1x32, .f32⟩
  | 80 => ⟨S128x8x2x32, .f32⟩
  | 81 => ⟨S128x8x2x32, .f32⟩
  | 82 => ⟨S128x8x2x32, .f32⟩
  | 83 => ⟨S128x8x2x64, .f32⟩
  | 84 => ⟨S128x8x2x64, .f32⟩
  | 85 => ⟨S128x8x1x2x64, .f32⟩
  | 86 => ⟨S128x8x1x2x64, .f32⟩
  | 87 => ⟨S128x8x2x2x64, .f32⟩
  | 88 => ⟨S128x8x8x64, .f32⟩
  | 89 => ⟨S32, .f32⟩
  | 90 => ⟨S32, .f32⟩
  | 91 => ⟨S_, .f32⟩
  | 92 => ⟨S32, .f32⟩
  | 93 => ⟨S32, .f32⟩
  | 94 => ⟨S_, .f32⟩
  | 95 => ⟨S32, .f32⟩
  | 96 => ⟨S32, .f32⟩
  | 97 => ⟨S8, .f32⟩
  | 98 => ⟨S8x1, .f32⟩
  | 99 => ⟨S1x32, .f32⟩
  | 100 => ⟨S8x32, .f32⟩
  | 101 => ⟨S8x32, .f32⟩
  | 102 => ⟨S8x32, .f32⟩
  | 103 => ⟨S8x1x32, .f32⟩
  | 104 => ⟨S8x1x32, .f32⟩
  | 105 => ⟨S8x1x32, .f32⟩
  | 106 => ⟨S128x8x8x32, .f32⟩
  | 107 => ⟨S128x8x8x32, .f32⟩
  | 108 => ⟨S1x8x1x32, .f32⟩
  | 109 => ⟨S128x8x8x32, .f32⟩
  | 110 => ⟨S128x8x8x32, .f32⟩
  | 111 => ⟨S1x8x1x32, .f32⟩
  | 112 => ⟨S128x8x8x32, .f32⟩
  | 113 => ⟨S128x8x8x32, .f32⟩
  | 114 => ⟨S128x8x8x32, .f32⟩
  | 115 => ⟨S1x8x1x32, .f32⟩
  | 116 => ⟨S128x8x8x32, .f32⟩
  | 117 => ⟨S128x8x8x32, .f32⟩
  | 118 => ⟨S1x8x1x32, .f32⟩
  | 119 => ⟨S128x8x8x32, .f32⟩
  | 120 => ⟨S128x8x8x32, .f32⟩
  | 121 => ⟨S128x8x8x32, .f32⟩
  | 122 => ⟨S128x8x8x64, .f32⟩
  | 123 => ⟨S32, .f32⟩
  | 124 => ⟨S32, .f32⟩
  | 125 => ⟨S_, .f32⟩
  | 126 => ⟨S32, .f32⟩
  | 127 => ⟨S32, .f32⟩
  | _ => ⟨S1024x1024, .f32⟩

abbrev hbmTy0_2 (i : Nat) : BufTy := match i % 128 with
  | 0 => ⟨S_, .f32⟩
  | 1 => ⟨S32, .f32⟩
  | 2 => ⟨S32, .f32⟩
  | 3 => ⟨S8, .f32⟩
  | 4 => ⟨S8x1, .f32⟩
  | 5 => ⟨S1x32, .f32⟩
  | 6 => ⟨S8x32, .f32⟩
  | 7 => ⟨S8x32, .f32⟩
  | 8 => ⟨S8x32, .f32⟩
  | 9 => ⟨S8x32, .f32⟩
  | 10 => ⟨S8x32, .f32⟩
  | 11 => ⟨S128x8x32, .f32⟩
  | 12 => ⟨S128x8x32, .f32⟩
  | 13 => ⟨S1x8x32, .f32⟩
  | 14 => ⟨S128x8x32, .f32⟩
  | 15 => ⟨S128x8x32, .f32⟩
  | 16 => ⟨S1x8x32, .f32⟩
  | 17 => ⟨S128x8x32, .f32⟩
  | 18 => ⟨S128x8x32, .f32⟩
  | 19 => ⟨S128x8x32, .f32⟩
  | 20 => ⟨S1x8x32, .f32⟩
  | 21 => ⟨S128x8x32, .f32⟩
  | 22 => ⟨S128x8x32, .f32⟩
  | 23 => ⟨S1x8x32, .f32⟩
  | 24 => ⟨S128x8x32, .f32⟩
  | 25 => ⟨S128x8x32, .f32⟩
  | 26 => ⟨S128x8x32, .f32⟩
  | 27 => ⟨S128x8x64, .f32⟩
  | 28 => ⟨S1024x128, .f32⟩
  | 29 => ⟨S1024x32, .f32⟩
  | 30 => ⟨S1024x256, .f32⟩
  | 31 => ⟨S1024x64, .f32⟩
  | 32 => ⟨S8x1024x128, .f32⟩
  | 33 => ⟨S1024x256, .f32⟩
  | 34 => ⟨S1024x512, .f32⟩
  | 35 => ⟨S1024x512, .f32⟩
  | 36 => ⟨S1024x8, .f32⟩
  | _ => ⟨S1024x1024, .f32⟩

abbrev hbmTy (i : Nat) : BufTy := match i / 128 with
  | 0 => hbmTy0_0 i
  | 1 => hbmTy0_1 i
  | 2 => hbmTy0_2 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_7 : Ref sig .tc := ⟨.hbm, 94, rfl⟩
abbrev main_v78 : Ref sig .tc := ⟨.hbm, 95, rfl⟩
abbrev main_v79 : Ref sig .tc := ⟨.hbm, 96, rfl⟩
abbrev main_cst_8 : Ref sig .tc := ⟨.hbm, 97, rfl⟩
abbrev main_v80 : Ref sig .tc := ⟨.hbm, 98, rfl⟩
abbrev main_v81 : Ref sig .tc := ⟨.hbm, 99, rfl⟩
abbrev main_cst_9 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_10 : Ref sig .tc := ⟨.hbm, 111, rfl⟩
abbrev main_v92 : Ref sig .tc := ⟨.hbm, 112, rfl⟩
abbrev main_v93 : Ref sig .tc := ⟨.hbm, 113, rfl⟩
abbrev main_cst_11 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_cst_12 : Ref sig .tc := ⟨.hbm, 145, rfl⟩
abbrev main_v124 : Ref sig .tc := ⟨.hbm, 146, rfl⟩
abbrev main_v125 : Ref sig .tc := ⟨.hbm, 147, rfl⟩
abbrev main_cst_13 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_cst_14 : Ref sig .tc := ⟨.hbm, 180, rfl⟩
abbrev main_v157 : Ref sig .tc := ⟨.hbm, 181, rfl⟩
abbrev main_v158 : Ref sig .tc := ⟨.hbm, 182, rfl⟩
abbrev main_cst_15 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_cst_16 : Ref sig .tc := ⟨.hbm, 219, rfl⟩
abbrev main_v194 : Ref sig .tc := ⟨.hbm, 220, rfl⟩
abbrev main_v195 : Ref sig .tc := ⟨.hbm, 221, rfl⟩
abbrev main_cst_17 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_cst_18 : Ref sig .tc := ⟨.hbm, 253, rfl⟩
abbrev main_v226 : Ref sig .tc := ⟨.hbm, 254, rfl⟩
abbrev main_v227 : Ref sig .tc := ⟨.hbm, 255, rfl⟩
abbrev main_cst_19 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩

abbrev nD : Nat := 1
abbrev τ : Topo := Topo.v7x

variable {F : FTy → Type} [FloatOps F]
-- ==== OutSample.lean ====
abbrev S8x1024x128 : Shape := ⟨3, ![8, 1024, 128]⟩
abbrev S1024x512 : Shape := ⟨2, ![1024, 512]⟩
abbrev S1024x1024 : Shape := ⟨2, ![1024, 1024]⟩
abbrev S128x8x64 : Shape := ⟨3, ![128, 8, 64]⟩
abbrev S8x128x64 : Shape := ⟨3, ![8, 128, 64]⟩
abbrev S8x512x128 : Shape := ⟨3, ![8, 512, 128]⟩
abbrev S512x512 : Shape := ⟨2, ![512, 512]⟩
abbrev S512x1024 : Shape := ⟨2, ![512, 1024]⟩
abbrev S1x512x128 : Shape := ⟨3, ![1, 512, 128]⟩
abbrev S512x128 : Shape := ⟨2, ![512, 128]⟩
abbrev S1x128x64 : Shape := ⟨3, ![1, 128, 64]⟩
abbrev S128x64 : Shape := ⟨2, ![128, 64]⟩
abbrev S512x64 : Shape := ⟨2, ![512, 64]⟩

abbrev nBuf : Space → Nat
  | .hbm => 9
  | .vmem => 10
  | .smem => 0
  | _ => 0

abbrev bufTy : (tb : Table) → Fin (tcTables nBuf tb) → BufTy
  | .hbm, ⟨0, _⟩ => ⟨S8x1024x128, .f32⟩
  | .hbm, ⟨1, _⟩ => ⟨S1024x512, .f32⟩
  | .hbm, ⟨2, _⟩ => ⟨S1024x1024, .f32⟩
  | .hbm, ⟨3, _⟩ => ⟨S128x8x64, .f32⟩
  | .hbm, ⟨4, _⟩ => ⟨S1024x1024, .f32⟩
  | .hbm, ⟨5, _⟩ => ⟨S8x128x64, .f32⟩
  | .hbm, ⟨6, _⟩ => ⟨S8x128x64, .bf16⟩
  | .hbm, ⟨7, _⟩ => ⟨S1024x1024, .bf16⟩
  | .hbm, ⟨8, _⟩ => ⟨S1024x1024, .f32⟩
  | .local _ .vmem, ⟨0, _⟩ => ⟨S8x512x128, .f32⟩
  | .local _ .vmem, ⟨1, _⟩ => ⟨S8x512x128, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S8x128x64, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutSampleRefIdeal.lean ====
abbrev S8x1024x128 : Shape := ⟨3, ![8, 1024, 128]⟩
abbrev S1024x512 : Shape := ⟨2, ![1024, 512]⟩
abbrev S1024x1024 : Shape := ⟨2, ![1024, 1024]⟩
abbrev S128x8x64 : Shape := ⟨3, ![128, 8, 64]⟩
abbrev S8x64x1024 : Shape := ⟨3, ![8, 64, 1024]⟩
abbrev S1024x8x64 : Shape := ⟨3, ![1024, 8, 64]⟩

abbrev nBuf : Space → Nat
  | .hbm => 11
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S1024x512, .f32⟩
  | .hbm, ⟨2, _⟩ => ⟨S1024x1024, .f32⟩
  | .hbm, ⟨3, _⟩ => ⟨S128x8x64, .f32⟩
  | .hbm, ⟨4, _⟩ => ⟨S1024x1024, .f32⟩
  | .hbm, ⟨5, _⟩ => ⟨S8x64x1024, .f32⟩
  | .hbm, ⟨6, _⟩ => ⟨S1024x8x64, .f32⟩
  | .hbm, ⟨7, _⟩ => ⟨S1024x512, .f32⟩
  | .hbm, ⟨8, _⟩ => ⟨S1024x1024, .f32⟩
  | .hbm, ⟨9, _⟩ => ⟨S1024x1024, .f32⟩
  | .hbm, ⟨10, _⟩ => ⟨S1024x1024, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== CrossSample.lean ====
abbrev S1024x1024 : Shape := ⟨2, ![1024, 1024]⟩
abbrev S128x256x256 : Shape := ⟨3, ![128, 256, 256]⟩
abbrev S1024 : Shape := ⟨1, ![1024]⟩
abbrev S1024x256 : Shape := ⟨2, ![1024, 256]⟩
abbrev S256x1024 : Shape := ⟨2, ![256, 1024]⟩
abbrev S1x1024 : Shape := ⟨2, ![1, 1024]⟩
abbrev S8x1024 : Shape := ⟨2, ![8, 1024]⟩
abbrev S1x256x256 : Shape := ⟨3, ![1, 256, 256]⟩
abbrev S8 : Shape := ⟨1, ![8]⟩
abbrev S8x1 : Shape := ⟨2, ![8, 1]⟩
abbrev S8x256 : Shape := ⟨2, ![8, 256]⟩
abbrev S256x256 : Shape := ⟨2, ![256, 256]⟩
abbrev S8x64 : Shape := ⟨2, ![8, 64]⟩
abbrev S256x64 : Shape := ⟨2, ![256, 64]⟩

abbrev nBuf : Space → Nat
  | .hbm => 10
  | .vmem => 11
  | .smem => 0
  | _ => 0

abbrev bufTy : (tb : Table) → Fin (tcTables nBuf tb) → BufTy
  | .hbm, ⟨0, _⟩ => ⟨S1024x1024, .f32⟩
  | .hbm, ⟨1, _⟩ => ⟨S128x256x256, .f32⟩
  | .hbm, ⟨2, _⟩ => ⟨S128x256x256, .f32⟩
  | .hbm, ⟨3, _⟩ => ⟨S1024, .f32⟩
  | .hbm, ⟨4, _⟩ => ⟨S1024x256, .f32⟩
  | .hbm, ⟨5, _⟩ => ⟨S256x1024, .f32⟩
  | .hbm, ⟨6, _⟩ => ⟨S1x1024, .f32⟩
  | .hbm, ⟨7, _⟩ => ⟨S1024x256, .bf16⟩
  | .hbm, ⟨8, _⟩ => ⟨S256x1024, .bf16⟩
  | .hbm, ⟨9, _⟩ => ⟨S1024x1024, .f32⟩
  | .local _ .vmem, ⟨0, _⟩ => ⟨S8x1024, .f32⟩
  | .local _ .vmem, ⟨1, _⟩ => ⟨S8x1024, .f32⟩
  | .local _ .vmem, ⟨2, _⟩ => ⟨S1x1024, .f32⟩
  | .local _ .vmem, ⟨3, _⟩ => ⟨S1024x256, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S256x1024, .bf16⟩
  | .local _ .vmem, ⟨9, _⟩ => ⟨S8x1024, .f32⟩
  | .local _ .vmem, ⟨10, _⟩ => ⟨S8x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CrossSampleRefIdeal.lean ====
abbrev S1024x1024 : Shape := ⟨2, ![1024, 1024]⟩
abbrev S128x256x256 : Shape := ⟨3, ![128, 256, 256]⟩
abbrev S1024 : Shape := ⟨1, ![1024]⟩
abbrev S1024x256 : Shape := ⟨2, ![1024, 256]⟩
abbrev S256x1024 : Shape := ⟨2, ![256, 1024]⟩
abbrev S128x8x1024 : Shape := ⟨3, ![128, 8, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x256 : Shape := ⟨3, ![128, 8, 256]⟩
abbrev S128x8x4x64 : Shape := ⟨4, ![128, 8, 4, 64]⟩
abbrev S128x256x4x64 : Shape := ⟨4, ![128, 256, 4, 64]⟩
abbrev S128x4x8x256 : Shape := ⟨4, ![128, 4, 8, 256]⟩
abbrev S128x4x8 : Shape := ⟨3, ![128, 4, 8]⟩
abbrev S128x4x8x1 : Shape := ⟨4, ![128, 4, 8, 1]⟩
abbrev S128x4x64x8 : Shape := ⟨4, ![128, 4, 64, 8]⟩

abbrev nBuf : Space → Nat
  | .hbm => 51
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S128x256x256, .f32⟩
  | .hbm, ⟨2, _⟩ => ⟨S128x256x256, .f32⟩
  | .hbm, ⟨3, _⟩ => ⟨S1024, .f32⟩
  | .hbm, ⟨4, _⟩ => ⟨S1024x256, .f32⟩
  | .hbm, ⟨5, _⟩ => ⟨S256x1024, .f32⟩
  | .hbm, ⟨6, _⟩ => ⟨S128x8x1024, .f32⟩
  | .hbm, ⟨7, _⟩ => ⟨S128x8x1024, .f32⟩
  | .hbm, ⟨8, _⟩ => ⟨S_, .f32⟩
  | .hbm, ⟨9, _⟩ => ⟨S128x8, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S_, .f32⟩
  | .hbm, ⟨15, _⟩ => ⟨S128x8x1, .f32⟩
  | .hbm, ⟨16, _⟩ => ⟨S128x8x1, .f32⟩
  | .hbm, ⟨17, _⟩ => ⟨S128x8x1, .f32⟩
  | .hbm, ⟨18, _⟩ => ⟨S128x8x1024, .f32⟩
  | .hbm, ⟨19, _⟩ => ⟨S128x8x1024, .f32⟩
  | .hbm, ⟨20, _⟩ => ⟨S1x1x1024, .f32⟩
  | .hbm, ⟨21, _⟩ => ⟨S128x8x1024, .f32⟩
  | .hbm, ⟨22, _⟩ => ⟨S128x8x1024, .f32⟩
  | .hbm, ⟨23, _⟩ => ⟨S128x8x256, .f32⟩
  | .hbm, ⟨24, _⟩ => ⟨S128x8x4x64, .f32⟩
  | .hbm, ⟨25, _⟩ => ⟨S128x256x4x64, .f32⟩
  | .hbm, ⟨26, _⟩ => ⟨S128x256x4x64, .f32⟩
  | .hbm, ⟨27, _⟩ => ⟨S128x4x8x256, .f32⟩
  | .hbm, ⟨28, _⟩ => ⟨S_, .f32⟩
  | .hbm, ⟨29, _⟩ => ⟨S128x4x8x256, .f32⟩
  | .hbm, ⟨30, _⟩ => ⟨S128x4x8x256, .f32⟩
  | .hbm, ⟨31, _⟩ => ⟨S_, .f32⟩
  | .hbm, ⟨32, _⟩ => ⟨S128x4x8, .f32⟩
  | .hbm, ⟨33, _⟩ => ⟨S_, .f32⟩
  | .hbm, ⟨34, _⟩ => ⟨S128x4x8, .f32⟩
  | .hbm, ⟨35, _⟩ => ⟨S128x4x8, .f32⟩
  | .hbm, ⟨36, _⟩ => ⟨S128x4x8x1, .f32⟩
  | .hbm, ⟨37, _⟩ => ⟨S128x4x8x256, .f32⟩
  | .hbm, ⟨38, _⟩ => ⟨S128x4x8x256, .f32⟩
  | .hbm, ⟨39, _⟩ => ⟨S128x4x8x256, .f32⟩
  | .hbm, ⟨40, _⟩ => ⟨S_, .f32⟩
  | .hbm, ⟨41, _⟩ => ⟨S128x4x8, .f32⟩
  | .hbm, ⟨42, _⟩ => ⟨S128x4x8x1, .f32⟩
  | .hbm, ⟨43, _⟩ => ⟨S128x4x8x256, .f32⟩
  | .hbm, ⟨44, _⟩ => ⟨S128x4x8x256, .f32⟩
  | .hbm, ⟨45, _⟩ => ⟨S128x4x64x8, .f32⟩
  | .hbm, ⟨46, _⟩ => ⟨S128x8x4x64, .f32⟩
  | .hbm, ⟨47, _⟩ => ⟨S128x8x256, .f32⟩
  | .hbm, ⟨48, _⟩ => ⟨S128x8x1024, .f32⟩
  | .hbm, ⟨49, _⟩ => ⟨S1024x1024, .f32⟩
  | .hbm, ⟨50, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Proof.Online.lean ====
/- Softmax taken one block of scores at a time. A row carries a running maximum, a running sum of weights and a running
   weighted sum; each block rescales the two sums to the new maximum. `Carries` says what the three hold. -/
module

public import Idealize.ShloMosaic.Lib.Pointwise
public import Mathlib.Analysis.SpecialFunctions.Exp
public import Mathlib.Tactic.Ring
public import Mathlib.Tactic.FieldSimp
public import Mathlib.Tactic.LinearCombination

@[expose] public section

noncomputable section

namespace Cert.Online

open Idealize.ShloMosaic

/-- The running maximum after a block of scores `s`. -/
def stepM {n : ℕ} (M : EReal) (s : Fin n → EReal) : EReal :=
  max M (Finset.univ.fold max ⊥ s)

/-- The running sum of weights after a block of scores `s`. -/
def stepL {n : ℕ} (M L : EReal) (s : Fin n → EReal) : EReal :=
  Ideal.exp (M - stepM M s) * L + ∑ k, Ideal.exp (s k - stepM M s)

/-- The running weighted sum after a block of scores `s` with values `v`. -/
def stepA {n : ℕ} (M A : EReal) (s v : Fin n → EReal) : EReal :=
  Ideal.exp (M - stepM M s) * A + ∑ k, Ideal.exp (s k - stepM M s) * v k

/-- The weight of a score: its exponential, 0 for a masked score. -/
def wt (x : EReal) : ℝ := (Ideal.exp x).toReal

theorem wt_bot : wt ⊥ = 0 := by simp [wt]

theorem wt_coe (r : ℝ) : wt (r : EReal) = Real.exp r := by simp [wt]

theorem wt_nonneg (x : EReal) : 0 ≤ wt x := by
  induction x using EReal.rec with
  | bot => rw [wt_bot]
  | coe r => rw [wt_coe]; exact (Real.exp_pos r).le
  | top => simp [wt]

theorem exp_sub_coe (x : EReal) (hx : x ≠ ⊤) (μ : ℝ) : Ideal.exp (x - (μ : EReal)) = ((Real.exp (-μ) * wt x : ℝ) : EReal) := by
  induction x using EReal.rec with
  | bot => rw [EReal.bot_sub, Ideal.exp_bot, wt_bot]; simp
  | coe r => rw [← EReal.coe_sub, Ideal.exp_coe, wt_coe, ← Real.exp_add]; congr 2; ring
  | top => exact absurd rfl hx

theorem coe_sum {ι : Type*} (S : Finset ι) (f : ι → ℝ) : ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

/-- A maximum over a block none of whose scores is `⊤` and one of which is real is real. -/
theorem fold_max_real {n : ℕ} (s : Fin n → EReal) (hs : ∀ k, s k ≠ ⊤) (k₀ : Fin n) (hk₀ : s k₀ ≠ ⊥) :
    ∃ μ : ℝ, Finset.univ.fold max ⊥ s = (μ : EReal) := by
  have hb : Finset.univ.fold max ⊥ s ≠ ⊥ := by
    intro h
    have : s k₀ ≤ Finset.univ.fold max ⊥ s := (Finset.le_fold_max (s k₀)).mpr (Or.inr ⟨k₀, Finset.mem_univ _, le_refl _⟩)
    rw [h] at this
    exact hk₀ (le_bot_iff.mp this)
  have ht : Finset.univ.fold max ⊥ s ≠ ⊤ := by
    have : Finset.univ.fold max ⊥ s < ⊤ :=
      (Finset.fold_max_lt ⊤).mpr ⟨bot_lt_top, fun k _ => lt_top_iff_ne_top.mpr (hs k)⟩
    exact this.ne
  exact ⟨_, (EReal.coe_toReal ht hb).symm⟩

/-- What a row carries when the scores seen so far have total weight `W` and weighted total `V`: nothing yet, or both
    totals scaled by the exponential of minus some real maximum. -/
def Carries (W V : ℝ) (M L A : EReal) : Prop :=
  (M = ⊥ ∧ L = 0 ∧ A = 0 ∧ W = 0 ∧ V = 0) ∨
    ∃ μ : ℝ, M = (μ : EReal) ∧ L = ((Real.exp (-μ) * W : ℝ) : EReal) ∧ A = ((Real.exp (-μ) * V : ℝ) : EReal)

theorem Carries.zero : Carries 0 0 ⊥ 0 0 := Or.inl ⟨rfl, rfl, rfl, rfl, rfl⟩

theorem Carries.step {n : ℕ} {W V : ℝ} {M L A : EReal} (h : Carries W V M L A) (s v : Fin n → EReal) (vr : Fin n → ℝ)
    (hs : ∀ k, s k ≠ ⊤) (k₀ : Fin n) (hk₀ : s k₀ ≠ ⊥) (hv : ∀ k, v k = (vr k : EReal)) :
    Carries (W + ∑ k, wt (s k)) (V + ∑ k, wt (s k) * vr k) (stepM M s) (stepL M L s) (stepA M A s v) := by
  obtain ⟨ν, hν⟩ := fold_max_real s hs k₀ hk₀
  have key : ∃ μ : ℝ, stepM M s = (μ : EReal) ∧ Ideal.exp (M - (μ : EReal)) * L = ((Real.exp (-μ) * W : ℝ) : EReal)
      ∧ Ideal.exp (M - (μ : EReal)) * A = ((Real.exp (-μ) * V : ℝ) : EReal) := by
    rcases h with ⟨hM, hL, hA, hW, hV⟩ | ⟨μ, hM, hL, hA⟩
    · refine ⟨ν, ?_, ?_, ?_⟩
      · rw [stepM, hν, hM]; exact max_eq_right bot_le
      · rw [hL, hW]; simp
      · rw [hA, hV]; simp
    · refine ⟨max μ ν, ?_, ?_, ?_⟩
      · rw [stepM, hν, hM]; exact (EReal.coe_strictMono.monotone.map_max).symm
      · rw [hM, exp_sub_coe _ (EReal.coe_ne_top _), wt_coe, hL, ← EReal.coe_mul]
        congr 1
        have : Real.exp μ * Real.exp (-μ) = 1 := by rw [← Real.exp_add]; simp
        linear_combination (Real.exp (-max μ ν) * W) * this
      · rw [hM, exp_sub_coe _ (EReal.coe_ne_top _), wt_coe, hA, ← EReal.coe_mul]
        congr 1
        have : Real.exp μ * Real.exp (-μ) = 1 := by rw [← Real.exp_add]; simp
        linear_combination (Real.exp (-max μ ν) * V) * this
  obtain ⟨μ, h1, h2, h3⟩ := key
  refine Or.inr ⟨μ, h1, ?_, ?_⟩
  · rw [stepL, h1, h2, Finset.sum_congr rfl (fun k _ => exp_sub_coe (s k) (hs k) μ), coe_sum, ← EReal.coe_add]
    congr 1
    rw [← Finset.mul_sum]; ring
  · rw [stepA, h1, h3, Finset.sum_congr rfl (fun k _ => by rw [exp_sub_coe (s k) (hs k) μ, hv k, ← EReal.coe_mul]), coe_sum,
      ← EReal.coe_add]
    congr 1
    rw [mul_add, Finset.mul_sum]
    congr 1
    exact Finset.sum_congr rfl fun k _ => by ring

/-- The quotient of the two sums a row carries. -/
theorem Carries.quot {W V : ℝ} {M L A : EReal} (h : Carries W V M L A) (hW : 0 < W) :
    Ideal.div A L = ((V / W : ℝ) : EReal) := by
  rcases h with ⟨_, _, _, h0, _⟩ | ⟨μ, _, hL, hA⟩
  · exact absurd h0 hW.ne'
  · have hne : Real.exp (-μ) * W ≠ 0 := (mul_pos (Real.exp_pos _) hW).ne'
    rw [hL, hA, Ideal.div, if_neg (by exact_mod_cast hne), ← EReal.coe_inv, ← EReal.coe_mul]
    congr 1
    have := Real.exp_pos (-μ)
    field_simp

end Cert.Online

end
-- ==== Proof.Block.lean ====
/- One block of 512 keys against 256 of the 1024 query rows: what the kernel stores in the running maximum, the running sum
   of weights and the running weighted sum, entry by entry. -/
module

public import proofs.«01_k».proof.Proof.Gen.KernelIdeal.Value
public import proofs.«01_k».proof.Proof.Online
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.ShloMosaic.Tactic Idealize.SL.Sem
open Cert.Online

theorem neg_inf : Ideal.ofBits .f32 0xFF800000#32 = ⊥ := by simp [Ideal.ofBits, Ideal.ieee]

theorem mask_bot : (Named.named κ "mask" (φ := .f32) 0xF149F2CA#32 : Ideal .f32) = (⊥ : EReal) := by
  show (κ "mask").getD _ = _
  simp [κ]

/-- The running maximum stored for the scores `s`. -/
def newM (s : FVec Ideal S256x512 .f32) (m : Vec Ideal S256x1 .f32) : FVec Ideal S256x1 .f32 :=
  maximumf m (shapeCast S256x1 (multiReduction .maximumf [1] S256 s 0xFF800000#32 reduces_S256x512_S256 (.inl rfl) rfl) shapeCasts_S256_S256x1)

/-- The weights of the scores `s`. -/
def newP (s : FVec Ideal S256x512 .f32) (m : Vec Ideal S256x1 .f32) : FVec Ideal S256x512 .f32 :=
  exp (subf s (broadcastTo S256x512 (newM s m) broadcasts_S256x1_S256x512))

/-- The factor that carries the earlier sums to the new maximum. -/
def newF (s : FVec Ideal S256x512 .f32) (m : Vec Ideal S256x1 .f32) : FVec Ideal S256x1 .f32 :=
  exp (subf m (newM s m))

/-- The running sum of weights stored for the scores `s`. -/
def newL (s : FVec Ideal S256x512 .f32) (m l : Vec Ideal S256x1 .f32) : FVec Ideal S256x1 .f32 :=
  addf (mulf (newF s m) l)
    (shapeCast S256x1 (multiReduction .add [1] S256 (newP s m) 0x00000000#32 reduces_S256x512_S256 (.inl rfl) rfl) shapeCasts_S256_S256x1)

/-- The running weighted sum stored for the scores `s` and the values `v`. -/
def newA (s : FVec Ideal S256x512 .f32) (m : Vec Ideal S256x1 .f32) (a : Vec Ideal S256x128 .f32) (v : FVec Ideal S512x128 .bf16) :
    FVec Ideal S256x128 .f32 :=
  addf (mulf (broadcastTo S256x128 (newF s m) broadcasts_S256x1_S256x128) a)
    (matmul dot_S256x512_S512x128_S256x128_1_0_0_1_n_n none (truncf .bf16 (newP s m) bitsLt_bf16_f32) v (constant S256x128 .f32 0x00000000#32))

theorem newM_at (s : FVec Ideal S256x512 .f32) (m : Vec Ideal S256x1 .f32) (r : Fin 256) :
    newM s m (ix2 r 0) = stepM (m (ix2 r 0)) fun k => s (ix2 r k) := by
  pointwise [newM]
  rw [neg_inf]; rfl

theorem newF_at (s : FVec Ideal S256x512 .f32) (m : Vec Ideal S256x1 .f32) (r : Fin 256) :
    newF s m (ix2 r 0) = Ideal.exp (m (ix2 r 0) - stepM (m (ix2 r 0)) fun k => s (ix2 r k)) := by
  rw [← newM_at]
  pointwise [newF]

theorem newP_at (s : FVec Ideal S256x512 .f32) (m : Vec Ideal S256x1 .f32) (r : Fin 256) (k : Fin 512) :
    newP s m (ix2 r k) = Ideal.exp (s (ix2 r k) - stepM (m (ix2 r 0)) fun k => s (ix2 r k)) := by
  rw [← newM_at]
  pointwise [newP]

theorem newL_at (s : FVec Ideal S256x512 .f32) (m l : Vec Ideal S256x1 .f32) (r : Fin 256) :
    newL s m l (ix2 r 0) = stepL (m (ix2 r 0)) (l (ix2 r 0)) fun k => s (ix2 r k) := by
  rw [stepL, ← newF_at, Finset.sum_congr rfl fun k _ => (newP_at s m r k).symm]
  pointwise [newL]

theorem newA_at (s : FVec Ideal S256x512 .f32) (m : Vec Ideal S256x1 .f32) (a : Vec Ideal S256x128 .f32) (v : FVec Ideal S512x128 .bf16)
    (r : Fin 256) (c : Fin 128) :
    newA s m a v (ix2 r c) = stepA (m (ix2 r 0)) (a (ix2 r c)) (fun k => s (ix2 r k)) fun k => v (ix2 k c) := by
  rw [stepA, ← newF_at, Finset.sum_congr rfl fun k _ => by rw [← newP_at s m r k]]
  pointwise [newA]

/-- The score of query row `r` against key `k` of a block. -/
def score (v4 : FVec Ideal S1024x128 .bf16) (v17 : FVec Ideal S1024x32 .bf16) (kc : Fin 128 → EReal) (kr : Fin 32 → EReal) (r : Fin 1024) : EReal :=
  (∑ c : Fin 128, v4 (ix2 r c) * kc c) + ∑ c : Fin 32, v17 (ix2 r c) * kr c

theorem score0 (v4 : FVec Ideal S1024x128 .bf16) (v17 : FVec Ideal S1024x32 .bf16) (kc : Vec Ideal S512x128 .f32) (kr : Vec Ideal S512x32 .f32)
    (r : Fin 256) (k : Fin 512) :
    k0_pay7 v4 v17 kc kr (ix2 r k) = score v4 v17 (fun c => kc (ix2 k c)) (fun c => kr (ix2 k c)) ⟨r.val, by omega⟩ := by
  pointwise [k0_pay7, k0_pay5, k0_pay6]
  rfl

theorem score1 (v4 : FVec Ideal S1024x128 .bf16) (v17 : FVec Ideal S1024x32 .bf16) (kc : FVec Ideal S512x128 .bf16) (kr : FVec Ideal S512x32 .bf16)
    (r : Fin 256) (k : Fin 512) :
    k0_pay14 v4 v17 kc kr (ix2 r k) = score v4 v17 (fun c => kc (ix2 k c)) (fun c => kr (ix2 k c)) ⟨256 + r.val, by omega⟩ := by
  pointwise [k0_pay14]
  rfl

theorem score2 (v4 : FVec Ideal S1024x128 .bf16) (v17 : FVec Ideal S1024x32 .bf16) (kc : FVec Ideal S512x128 .bf16) (kr : FVec Ideal S512x32 .bf16)
    (r : Fin 256) (k : Fin 512) :
    k0_pay21 v4 v17 kc kr (ix2 r k) = score v4 v17 (fun c => kc (ix2 k c)) (fun c => kr (ix2 k c)) ⟨512 + r.val, by omega⟩ := by
  pointwise [k0_pay21]
  rfl

theorem score3 (v4 : FVec Ideal S1024x128 .bf16) (v17 : FVec Ideal S1024x32 .bf16) (kc : FVec Ideal S512x128 .bf16) (kr : FVec Ideal S512x32 .bf16)
    (r : Fin 256) (k : Fin 512) :
    k0_pay60 (k0_pay28 v4 kc) (k0_pay29 v17 kr) (ix2 r k) = score v4 v17 (fun c => kc (ix2 k c)) (fun c => kr (ix2 k c)) ⟨768 + r.val, by omega⟩ := by
  pointwise [k0_pay60, k0_pay28, k0_pay29]
  rfl

/-- The row's position in the sequence is at least the key's. -/
def seen (i : Fin 16) (k0 : ℕ) (r : Fin 1024) (k : Fin 512) : Prop := k0 + k.val ≤ 128 * i.val + r.val % 128

instance (i : Fin 16) (k0 : ℕ) (r : Fin 1024) (k : Fin 512) : Decidable (seen i k0 r k) := by unfold seen; infer_instance

theorem row_word (i : Fin 16) (r : Fin 1024) :
    (IntOp.addi (Scalar.muli (BitVec.ofNat 32 i.val) 128#32) (IntOp.andi (BitVec.ofNat 32 r.val) 127#32)).toNat = 128 * i.val + r.val % 128 := by
  revert i r
  decide +kernel

theorem sle_word (a b : BitVec 32) (ha : a.toNat < 2 ^ 31) (hb : b.toNat < 2 ^ 31) (x y : EReal) :
    Scalar.select (IntOp.cmpi .sle a b) x y = if a.toNat ≤ b.toNat then x else y := by
  have : a.sle b = decide (a.toNat ≤ b.toNat) := by
    rw [BitVec.sle_eq_decide, BitVec.toInt_eq_toNat_of_lt (by omega), BitVec.toInt_eq_toNat_of_lt (by omega)]
    simp
  simp only [Scalar.select, IntOp.cmpi, this]
  by_cases h : a.toNat ≤ b.toNat <;> simp [h]

theorem mask_word (i : Fin 16) (k0 : ℕ) (hk0 : k0 < 4096) (o : ℕ) (r : Fin 256) (ho : o + r.val < 1024) (k : Fin 512) (x y : EReal) :
    Scalar.select (IntOp.cmpi .sle (IntOp.addi (BitVec.ofNat 32 k0) (BitVec.ofNat 32 k.val))
      (IntOp.addi (Scalar.muli (BitVec.ofNat 32 i.val) 128#32) (IntOp.andi (IntOp.addi (BitVec.ofNat 32 o) (BitVec.ofNat 32 r.val)) 127#32))) x y
      = if seen i k0 ⟨o + r.val, ho⟩ k then x else y := by
  have e : IntOp.addi (BitVec.ofNat 32 o) (BitVec.ofNat 32 r.val) = BitVec.ofNat 32 (⟨o + r.val, ho⟩ : Fin 1024).val := by
    simp [IntOp.addi, BitVec.ofNat_add]
  have hr := row_word i ⟨o + r.val, ho⟩
  have hk : (IntOp.addi (BitVec.ofNat 32 k0) (BitVec.ofNat 32 k.val)).toNat = k0 + k.val := by
    have := k.isLt
    simp only [IntOp.addi, BitVec.toNat_add, BitVec.toNat_ofNat]
    omega
  rw [e, sle_word _ _ (by rw [hk]; have := k.isLt; omega) (by rw [hr]; have := i.isLt; omega), hr, hk]
  rfl

variable (i : Fin 16) (k0 : ℕ) (hk0 : k0 < 4096) (v4 : FVec Ideal S1024x128 .bf16) (v17 : FVec Ideal S1024x32 .bf16)
include hk0

theorem masked0 (kc : Vec Ideal S512x128 .f32) (kr : Vec Ideal S512x32 .f32) (r : Fin 256) (k : Fin 512) :
    k0_pay78 (BitVec.ofNat 32 k0) (k0_pay76 v4 v17 kc kr) (k0_pay77 (BitVec.ofNat 32 i.val)) (ix2 r k)
      = if seen i k0 ⟨r.val, by omega⟩ k then score v4 v17 (fun c => kc (ix2 k c)) (fun c => kr (ix2 k c)) ⟨r.val, by omega⟩ else ⊥ := by
  have h := mask_word i k0 hk0 0 r (by omega) k (score v4 v17 (fun c => kc (ix2 k c)) (fun c => kr (ix2 k c)) ⟨r.val, by omega⟩) ⊥
  simp only [Nat.zero_add] at h
  rw [← h]
  pointwise [k0_pay78, k0_pay76, k0_pay77, k0_pay74, k0_pay75]
  rw [mask_bot]
  rfl

theorem masked1 (kc : FVec Ideal S512x128 .bf16) (kr : FVec Ideal S512x32 .bf16) (r : Fin 256) (k : Fin 512) :
    k0_pay87 (BitVec.ofNat 32 i.val) (BitVec.ofNat 32 k0) kr (k0_pay85 v4 kc) (k0_pay86 v17) (constant S256x512 .f32 0x00000000#32) (ix2 r k)
      = if seen i k0 ⟨256 + r.val, by omega⟩ k then score v4 v17 (fun c => kc (ix2 k c)) (fun c => kr (ix2 k c)) ⟨256 + r.val, by omega⟩ else ⊥ := by
  rw [← mask_word i k0 hk0 256 r (by omega) k]
  pointwise [k0_pay87, k0_pay85, k0_pay86]
  rw [mask_bot]
  rfl

theorem masked2 (kc : FVec Ideal S512x128 .bf16) (kr : FVec Ideal S512x32 .bf16) (r : Fin 256) (k : Fin 512) :
    k0_pay95 (BitVec.ofNat 32 i.val) v4 v17 (BitVec.ofNat 32 k0) kc kr (ix2 r k)
      = if seen i k0 ⟨512 + r.val, by omega⟩ k then score v4 v17 (fun c => kc (ix2 k c)) (fun c => kr (ix2 k c)) ⟨512 + r.val, by omega⟩ else ⊥ := by
  rw [← mask_word i k0 hk0 512 r (by omega) k]
  pointwise [k0_pay95]
  rw [mask_bot]
  rfl

theorem masked3 (kc : FVec Ideal S512x128 .bf16) (kr : FVec Ideal S512x32 .bf16) (r : Fin 256) (k : Fin 512) :
    k0_pay102 (BitVec.ofNat 32 i.val) v4 v17 (BitVec.ofNat 32 k0) kc kr (ix2 r k)
      = if seen i k0 ⟨768 + r.val, by omega⟩ k then score v4 v17 (fun c => kc (ix2 k c)) (fun c => kr (ix2 k c)) ⟨768 + r.val, by omega⟩ else ⊥ := by
  rw [← mask_word i k0 hk0 768 r (by omega) k]
  pointwise [k0_pay102]
  rw [mask_bot]
  rfl

end Cert.KernelIdeal.Block

end
-- ==== Proof.Trip.lean ====
/- The kernel's loop over the blocks of keys that need no mask: what one trip leaves in each row of the three running
   quantities. -/
module

public import proofs.«01_k».proof.Proof.Block
public import Idealize.ShloMosaic.Lib.WritesUnit

@[expose] public section
set_option maxRecDepth 16384

noncomputable section

namespace Cert.KernelIdeal.Block

open Cert.KernelIdeal Cert.KernelIdeal.Gen Idealize.ShloMosaic Idealize.ShloMosaic.TcCoe Idealize.ShloMosaic.Tactic Idealize.SL.Sem
open Cert.Online

section Read
variable {D : ℕ} {κ' : Kind} {sp : Space} (v : View sig κ' sp (⟨2, ![1024, D]⟩ : Shape) (.f32)) (f : v.ty.Contents (Elt Ideal))

/-- A row of a buffer of 1024 rows after four stores of 256 rows each. -/
theorem read4 (i3 i2 i1 i0) (w3 : (Rect.unit (s := ⟨2, ![1024, D]⟩) ![768, 0] ![256, D] i3).shape.Idx → Elt Ideal .f32)
    (w2 : (Rect.unit (s := ⟨2, ![1024, D]⟩) ![512, 0] ![256, D] i2).shape.Idx → Elt Ideal .f32)
    (w1 : (Rect.unit (s := ⟨2, ![1024, D]⟩) ![256, 0] ![256, D] i1).shape.Idx → Elt Ideal .f32)
    (w0 : (Rect.unit (s := ⟨2, ![1024, D]⟩) ![0, 0] ![256, D] i0).shape.Idx → Elt Ideal .f32)
    (L : List (View.Piece (Elt Ideal) (⟨2, ![1024, D]⟩ : Shape) .f32)) (G : Fin 1024 → Fin D → EReal)
    (h0 : ∀ (r : Fin 256) (c : Fin D), w0 (ix2 r c) = G ⟨r.val, by omega⟩ c)
    (h1 : ∀ (r : Fin 256) (c : Fin D), w1 (ix2 r c) = G ⟨256 + r.val, by omega⟩ c)
    (h2 : ∀ (r : Fin 256) (c : Fin D), w2 (ix2 r c) = G ⟨512 + r.val, by omega⟩ c)
    (h3 : ∀ (r : Fin 256) (c : Fin D), w3 (ix2 r c) = G ⟨768 + r.val, by omega⟩ c)
    (r : Fin 1024) (c : Fin D) :
    v.read (Elt Ideal) (v.writes (Elt Ideal) f
      (⟨Rect.unit ![768, 0] ![256, D] i3, w3⟩ :: ⟨Rect.unit ![512, 0] ![256, D] i2, w2⟩ ::
        ⟨Rect.unit ![256, 0] ![256, D] i1, w1⟩ :: ⟨Rect.unit ![0, 0] ![256, D] i0, w0⟩ :: L)) (ix2 r c) = G r c := by
  have hr := r.isLt
  by_cases c3 : 768 ≤ r.val
  · rw [View.read_writes_cons_rows_of_mem v f i3 w3 _ (ix2 r c) (ix2 (⟨r.val - 768, by omega⟩ : Fin 256) c) rfl
      (by show r.val = 768 + (r.val - 768); omega) rfl, h3]
    congr 1; apply Fin.ext; show 768 + (r.val - 768) = r.val; omega
  rw [View.read_writes_cons_rows_of_not_mem v f i3 w3 _ (ix2 r c) rfl rfl (Or.inl (by show r.val < 768; omega))]
  by_cases c2 : 512 ≤ r.val
  · rw [View.read_writes_cons_rows_of_mem v f i2 w2 _ (ix2 r c) (ix2 (⟨r.val - 512, by omega⟩ : Fin 256) c) rfl
      (by show r.val = 512 + (r.val - 512); omega) rfl, h2]
    congr 1; apply Fin.ext; show 512 + (r.val - 512) = r.val; omega
  rw [View.read_writes_cons_rows_of_not_mem v f i2 w2 _ (ix2 r c) rfl rfl (Or.inl (by show r.val < 512; omega))]
  by_cases c1 : 256 ≤ r.val
  · rw [View.read_writes_cons_rows_of_mem v f i1 w1 _ (ix2 r c) (ix2 (⟨r.val - 256, by omega⟩ : Fin 256) c) rfl
      (by show r.val = 256 + (r.val - 256); omega) rfl, h1]
    congr 1; apply Fin.ext; show 256 + (r.val - 256) = r.val; omega
  rw [View.read_writes_cons_rows_of_not_mem v f i1 w1 _ (ix2 r c) rfl rfl (Or.inl (by show r.val < 256; omega))]
  rw [View.read_writes_cons_rows_of_mem v f i0 w0 _ (ix2 r c) (ix2 (⟨r.val, by omega⟩ : Fin 256) c) rfl
      (by show r.val = 0 + r.val; omega) rfl, h0]

/-- A load of 256 rows from row `o`. -/
theorem readAt_rows (o n : ℕ) (inb) (r : Fin n) (c : Fin D) (ho : o + r.val < 1024) :
    View.readAt (Elt Ideal) v (Rect.unit (s := ⟨2, ![1024, D]⟩) ![o, 0] ![n, D] inb).toLoadRect f (ix2 r c)
      = v.read (Elt Ideal) f (ix2 ⟨o + r.val, ho⟩ c) := by
  rw [View.readAt_eq_ld]
  show v.read (Elt Ideal) f _ = _
  congr 1
  funext a
  apply Fin.ext
  match a with
  | ⟨0, _⟩ => show o + 1 * r.val = o + r.val; omega
  | ⟨1, _⟩ => show 0 + 1 * c.val = c.val; omega

/-- 256 rows of a buffer of 1024 rows, from row `o`. -/
def rd (o : ℕ) (inb : ∀ a : Fin 2, (![o, 0] : Fin 2 → ℕ) a + (![256, D] : Fin 2 → ℕ) a ≤ (![1024, D] : Fin 2 → ℕ) a) : Vec Ideal ⟨2, ![256, D]⟩ .f32 :=
  View.readAt (Elt Ideal) v (Rect.unit (s := ⟨2, ![1024, D]⟩) ![o, 0] ![256, D] inb).toLoadRect f

theorem rd_at (o : ℕ) (inb : ∀ a : Fin 2, (![o, 0] : Fin 2 → ℕ) a + (![256, D] : Fin 2 → ℕ) a ≤ (![1024, D] : Fin 2 → ℕ) a) (r : Fin 256) (c : Fin D) (ho : o + r.val < 1024) :
    rd v f o inb (ix2 r c) = v.read (Elt Ideal) f (ix2 ⟨o + r.val, ho⟩ c) := readAt_rows v f o 256 inb r c ho

theorem rd0_at (inb : ∀ a : Fin 2, (![0, 0] : Fin 2 → ℕ) a + (![256, D] : Fin 2 → ℕ) a ≤ (![1024, D] : Fin 2 → ℕ) a) (r : Fin 256) (c : Fin D) :
    rd v f 0 inb (ix2 r c) = v.read (Elt Ideal) f (ix2 ⟨r.val, by omega⟩ c) := by
  rw [rd_at v f 0 inb r c (by omega)]; congr 2; apply Fin.ext; exact Nat.zero_add _

end Read

theorem cast_self {s : Shape} (h) (x : FVec Ideal s .f32) : shapeCast s x h = x := shapeCast_self _ _

variable (i : grid0.Coords) (arg4 : Memref sig .tc .vmem S2048x128 .f32) (arg5 : Memref sig .tc .vmem S2048x32 .f32) (arg7 : Memref sig .tc .vmem S1024x1 .f32) (arg8 : Memref sig .tc .vmem S1024x1 .f32) (arg9 : Memref sig .tc .vmem S1024x128 .f32)
  (v4 : FVec Ideal S1024x128 .bf16) (v17 : FVec Ideal S1024x32 .bf16) (x4 : BufTy.Contents (Elt Ideal) arg4.view.ty) (x5 : BufTy.Contents (Elt Ideal) arg5.view.ty) (k : Fin (k0_t1_loop i).trips)
  (f7 : BufTy.Contents (Elt Ideal) arg7.view.ty) (f8 : BufTy.Contents (Elt Ideal) arg8.view.ty) (f9 : BufTy.Contents (Elt Ideal) arg9.view.ty)

/-- The latent part of the keys of trip `k`. -/
def keyC : FVec Ideal S512x128 .bf16 := trip_k0_t1.sl.v268 i arg4 x4 k

/-- The rotary part of the keys of trip `k`. -/
def keyR : FVec Ideal S512x32 .bf16 := trip_k0_t1.sl.v271 i arg5 x5 k

/-- The scores of row `r` in trip `k`. -/
def tripS (r : Fin 1024) (kk : Fin 512) : EReal :=
  score v4 v17 (fun c => keyC i arg4 x4 k (ix2 kk c)) (fun c => keyR i arg5 x5 k (ix2 kk c)) r

theorem trip_M (𝒱 : Variants) (dv : Dev nD) (bd : Option 𝒱.V) (arg2 : Memref sig .tc .vmem S8x128x128 .f32) (harg2 : arg2.IsWhole) (arg3 : Memref sig .tc .vmem S128x256 .f32) (harg3 : arg3.IsWhole) (harg4 : arg4.IsWhole) (harg5 : arg5.IsWhole) (arg6 : Memref sig .tc .vmem S8x128x128 .f32) (harg6 : arg6.IsWhole) (harg7 : arg7.IsWhole) (harg8 : arg8.IsWhole) (harg9 : arg9.IsWhole) (a1 v31 c512 v32 v34 : BitVec 32) (r : Fin 1024) :
    arg7.view.read (Elt Ideal) (arg7.view.writes (Elt Ideal) f7 (tripL_k0_t1 𝒱 dv bd i arg2 harg2 arg3 harg3 arg4 harg4 arg5 harg5 arg6 harg6 arg7 harg7 arg8 harg8 arg9 harg9 a1 v4 v17 v31 c512 v32 v34 x4 x5 k f7 f8 f9).1) (ix2 r 0)
      = stepM (arg7.view.read (Elt Ideal) f7 (ix2 r 0)) (tripS i arg4 arg5 v4 v17 x4 x5 k r) := by
  unfold tripL_k0_t1 trip_k0_t1
  dsimp only
  refine read4 (D := 1) arg7.view f7 _ _ _ _ _ _ _ _ [] (fun r _ => stepM (arg7.view.read (Elt Ideal) f7 (ix2 r 0)) (tripS i arg4 arg5 v4 v17 x4 x5 k r)) ?_ ?_ ?_ ?_ r 0
  · intro r c
    obtain rfl : c = 0 := Subsingleton.elim _ _
    refine Eq.trans (b := newM (k0_pay7 v4 v17 (keyC i arg4 x4 k) (keyR i arg5 x5 k)) (rd (D := 1) arg7.view f7 0 inb_S1024x1_S256x1_0_0) (ix2 r 0)) (congrFun ?_ _) ?_
    · sl_unfold_words
      rw [cast_self]
      rfl
    · rw [newM_at, rd0_at]
      simp only [score0]
      rfl
  · intro r c
    obtain rfl : c = 0 := Subsingleton.elim _ _
    refine Eq.trans (b := newM (k0_pay14 v4 v17 (keyC i arg4 x4 k) (keyR i arg5 x5 k)) (rd (D := 1) arg7.view f7 256 inb_S1024x1_S256x1_256_0) (ix2 r 0)) (congrFun ?_ _) ?_
    · sl_unfold_words
      rw [cast_self]
      rfl
    · rw [newM_at, rd_at (D := 1) arg7.view f7 256 _ r 0 (by omega)]
      simp only [score1]
      rfl
  · intro r c
    obtain rfl : c = 0 := Subsingleton.elim _ _
    refine Eq.trans (b := newM (k0_pay21 v4 v17 (keyC i arg4 x4 k) (keyR i arg5 x5 k)) (rd (D := 1) arg7.view f7 512 inb_S1024x1_S256x1_512_0) (ix2 r 0)) (congrFun ?_ _) ?_
    · sl_unfold_words
      rw [cast_self]
      rfl
    · rw [newM_at, rd_at (D := 1) arg7.view f7 512 _ r 0 (by omega)]
      simp only [score2]
      rfl
  · intro r c
    obtain rfl : c = 0 := Subsingleton.elim _ _
    refine Eq.trans (b := newM (k0_pay60 (k0_pay28 v4 (keyC i arg4 x4 k)) (k0_pay29 v17 (keyR i arg5 x5 k))) (rd (D := 1) arg7.view f7 768 inb_S1024x1_S256x1_768_0) (ix2 r 0)) (congrFun ?_ _) ?_
    · sl_unfold_words
      unfold k0_pay66 k0_pay61
      dsimp only
      rw [cast_self]
      rfl
    · rw [newM_at, rd_at (D := 1) arg7.view f7 768 _ r 0 (by omega)]
      simp only [score3]
      rfl

theorem trip_L (𝒱 : Variants) (dv : Dev nD) (bd : Option 𝒱.V) (arg2 : Memref sig .tc .vmem S8x128x128 .f32) (harg2 : arg2.IsWhole) (arg3 : Memref sig .tc .vmem S128x256 .f32) (harg3 : arg3.IsWhole) (harg4 : arg4.IsWhole) (harg5 : arg5.IsWhole) (arg6 : Memref sig .tc .vmem S8x128x128 .f32) (harg6 : arg6.IsWhole) (harg7 : arg7.IsWhole) (harg8 : arg8.IsWhole) (harg9 : arg9.IsWhole) (a1 v31 c512 v32 v34 : BitVec 32) (r : Fin 1024) :
    arg8.view.read (Elt Ideal) (arg8.view.writes (Elt Ideal) f8 (tripL_k0_t1 𝒱 dv bd i arg2 harg2 arg3 harg3 arg4 harg4 arg5 harg5 arg6 harg6 arg7 harg7 arg8 harg8 arg9 harg9 a1 v4 v17 v31 c512 v32 v34 x4 x5 k f7 f8 f9).2.1) (ix2 r 0)
      = stepL (arg7.view.read (Elt Ideal) f7 (ix2 r 0)) (arg8.view.read (Elt Ideal) f8 (ix2 r 0)) (tripS i arg4 arg5 v4 v17 x4 x5 k r) := by
  unfold tripL_k0_t1 trip_k0_t1
  dsimp only
  refine read4 (D := 1) arg8.view f8 _ _ _ _ _ _ _ _ [] (fun r _ => stepL (arg7.view.read (Elt Ideal) f7 (ix2 r 0)) (arg8.view.read (Elt Ideal) f8 (ix2 r 0)) (tripS i arg4 arg5 v4 v17 x4 x5 k r)) ?_ ?_ ?_ ?_ r 0
  · intro r c
    obtain rfl : c = 0 := Subsingleton.elim _ _
    refine Eq.trans (b := newL (k0_pay7 v4 v17 (keyC i arg4 x4 k) (keyR i arg5 x5 k)) (rd (D := 1) arg7.view f7 0 inb_S1024x1_S256x1_0_0) (rd (D := 1) arg8.view f8 0 inb_S1024x1_S256x1_0_0) (ix2 r 0)) (congrFun ?_ _) ?_
    · sl_unfold_words
      rw [cast_self]
      rfl
    · rw [newL_at, rd0_at (D := 1) arg7.view, rd0_at (D := 1) arg8.view]
      simp only [score0]
      rfl
  · intro r c
    obtain rfl : c = 0 := Subsingleton.elim _ _
    refine Eq.trans (b := newL (k0_pay14 v4 v17 (keyC i arg4 x4 k) (keyR i arg5 x5 k)) (rd (D := 1) arg7.view f7 256 inb_S1024x1_S256x1_256_0) (rd (D := 1) arg8.view f8 256 inb_S1024x1_S256x1_256_0) (ix2 r 0)) (congrFun ?_ _) ?_
    · sl_unfold_words
      rw [cast_self]
      rfl
    · rw [newL_at, rd_at (D := 1) arg7.view f7 256 _ r 0 (by omega), rd_at (D := 1) arg8.view f8 256 _ r 0 (by omega)]
      simp only [score1]
      rfl
  · intro r c
    obtain rfl : c = 0 := Subsingleton.elim _ _
    refine Eq.trans (b := newL (k0_pay21 v4 v17 (keyC i arg4 x4 k) (keyR i arg5 x5 k)) (rd (D := 1) arg7.view f7 512 inb_S1024x1_S256x1_512_0) (rd (D := 1) arg8.view f8 512 inb_S1024x1_S256x1_512_0) (ix2 r 0)) (congrFun ?_ _) ?_
    · sl_unfold_words
      rw [cast_self]
      rfl
    · rw [newL_at, rd_at (D := 1) arg7.view f7 512 _ r 0 (by omega), rd_at (D := 1) arg8.view f8 512 _ r 0 (by omega)]
      simp only [score2]
      rfl
  · intro r c
    obtain rfl : c = 0 := Subsingleton.elim _ _
    refine Eq.trans (b := newL (k0_pay60 (k0_pay28 v4 (keyC i arg4 x4 k)) (k0_pay29 v17 (keyR i arg5 x5 k))) (rd (D := 1) arg7.view f7 768 inb_S1024x1_S256x1_768_0) (rd (D := 1) arg8.view f8 768 inb_S1024x1_S256x1_768_0) (ix2 r 0)) (congrFun ?_ _) ?_
    · sl_unfold_words
      unfold k0_pay64
      dsimp only
      rw [cast_self]
      rfl
    · rw [newL_at, rd_at (D := 1) arg7.view f7 768 _ r 0 (by omega), rd_at (D := 1) arg8.view f8 768 _ r 0 (by omega)]
      simp only [score3]
      rfl

theorem trip_A (𝒱 : Variants) (dv : Dev nD) (bd : Option 𝒱.V) (arg2 : Memref sig .tc .vmem S8x128x128 .f32) (harg2 : arg2.IsWhole) (arg3 : Memref sig .tc .vmem S128x256 .f32) (harg3 : arg3.IsWhole) (harg4 : arg4.IsWhole) (harg5 : arg5.IsWhole) (arg6 : Memref sig .tc .vmem S8x128x128 .f32) (harg6 : arg6.IsWhole) (harg7 : arg7.IsWhole) (harg8 : arg8.IsWhole) (harg9 : arg9.IsWhole) (a1 v31 c512 v32 v34 : BitVec 32) (r : Fin 1024) (c : Fin 128) :
    arg9.view.read (Elt Ideal) (arg9.view.writes (Elt Ideal) f9 (tripL_k0_t1 𝒱 dv bd i arg2 harg2 arg3 harg3 arg4 harg4 arg5 harg5 arg6 harg6 arg7 harg7 arg8 harg8 arg9 harg9 a1 v4 v17 v31 c512 v32 v34 x4 x5 k f7 f8 f9).2.2) (ix2 r c)
      = stepA (arg7.view.read (Elt Ideal) f7 (ix2 r 0)) (arg9.view.read (Elt Ideal) f9 (ix2 r c)) (tripS i arg4 arg5 v4 v17 x4 x5 k r) fun kk => keyC i arg4 x4 k (ix2 kk c) := by
  unfold tripL_k0_t1 trip_k0_t1
  dsimp only
  refine read4 (D := 128) arg9.view f9 _ _ _ _ _ _ _ _ [] (fun r c => stepA (arg7.view.read (Elt Ideal) f7 (ix2 r 0)) (arg9.view.read (Elt Ideal) f9 (ix2 r c)) (tripS i arg4 arg5 v4 v17 x4 x5 k r) fun kk => keyC i arg4 x4 k (ix2 kk c)) ?_ ?_ ?_ ?_ r c
  · intro r c
    refine Eq.trans (b := newA (k0_pay7 v4 v17 (keyC i arg4 x4 k) (keyR i arg5 x5 k)) (rd (D := 1) arg7.view f7 0 inb_S1024x1_S256x1_0_0) (rd (D := 128) arg9.view f9 0 inb_S1024x128_S256x128_0_0) (keyC i arg4 x4 k) (ix2 r c)) (congrFun ?_ _) ?_
    · sl_unfold_words
      rw [cast_self]
      rfl
    · rw [newA_at, rd0_at (D := 1) arg7.view, rd0_at (D := 128) arg9.view]
      simp only [score0]
      rfl
  · intro r c
    refine Eq.trans (b := newA (k0_pay14 v4 v17 (keyC i arg4 x4 k) (keyR i arg5 x5 k)) (rd (D := 1) arg7.view f7 256 inb_S1024x1_S256x1_256_0) (rd (D := 128) arg9.view f9 256 inb_S1024x128_S256x128_256_0) (keyC i arg4 x4 k) (ix2 r c)) (congrFun ?_ _) ?_
    · sl_unfold_words
      rw [cast_self]
      rfl
    · rw [newA_at, rd_at (D := 1) arg7.view f7 256 _ r 0 (by omega), rd_at (D := 128) arg9.view f9 256 _ r c (by omega)]
      simp only [score1]
      rfl
  · intro r c
    refine Eq.trans (b := newA (k0_pay21 v4 v17 (keyC i arg4 x4 k) (keyR i arg5 x5 k)) (rd (D := 1) arg7.view f7 512 inb_S1024x1_S256x1_512_0) (rd (D := 128) arg9.view f9 512 inb_S1024x128_S256x128_512_0) (keyC i arg4 x4 k) (ix2 r c)) (congrFun ?_ _) ?_
    · sl_unfold_words
      rw [cast_self]
      rfl
    · rw [newA_at, rd_at (D := 1) arg7.view f7 512 _ r 0 (by omega), rd_at (D := 128) arg9.view f9 512 _ r c (by omega)]
      simp only [score2]
      rfl
  · intro r c
    refine Eq.trans (b := newA (k0_pay60 (k0_pay28 v4 (keyC i arg4 x4 k)) (k0_pay29 v17 (keyR i arg5 x5 k))) (rd (D := 1) arg7.view f7 768 inb_S1024x1_S256x1_768_0) (rd (D := 128) arg9.view f9 768 inb_S1024x128_S256x128_768_0) (keyC i arg4 x4 k) (ix2 r c)) (congrFun ?_ _) ?_
    · sl_unfold_words
      unfold k0_pay65
      dsimp only
      rw [cast_self]
      rfl
    · rw [newA_at, rd_at (D := 1) arg7.view f7 768 _ r 0 (by omega), rd_at (D := 128) arg9.view f9 768 _ r c (by omega)]
      simp only [score3]
      rfl

end Cert.KernelIdeal.Block

end
-- ==== Proof.Last.lean ====
/- The kernel at one grid point: the loop over the blocks of keys that need no mask, then the one block that does. -/
module

public import proofs.«01_k».proof.Proof.Trip
public import Idealize.ShloMosaic.Lib.LoopRemainder

@[expose] public section

set_option maxRecDepth 16384

noncomputable section

namespace Cert.KernelIdeal.Block

open Cert.KernelIdeal Cert.KernelIdeal.Gen Idealize.ShloMosaic Idealize.ShloMosaic.TcCoe Idealize.ShloMosaic.Tactic Idealize.SL.Sem
open Cert.Online

/-- The number of blocks of keys every one of which the point's rows all see. -/
def nFull (i : grid0.Coords) : ℕ := (128 * (i 1).val + 1) / 512

theorem t1_trips (i : grid0.Coords) : (k0_t1_loop i).trips = nFull i := by
  show Scf.trips _ _ _ = _
  unfold nFull
  dsimp only
  generalize i 1 = j
  revert j
  decide +kernel

theorem t2_trips (i : grid0.Coords) : (k0_t2_loop i).trips = 0 := by
  show Scf.trips _ _ _ = _
  dsimp only
  generalize i 1 = j
  revert j
  decide +kernel

theorem v54_eq (i : grid0.Coords) : kernelRun0_A.sl.v54 i = BitVec.ofNat 32 (512 * nFull i) := by
  sl_unfold_words
  unfold nFull
  dsimp only
  generalize i 1 = j
  revert j
  decide +kernel

theorem nFull_lt (i : grid0.Coords) : nFull i < 4 := by
  unfold nFull
  have : (i 1).val < 16 := (i 1).isLt
  omega

variable (dv : Dev nD) (i : grid0.Coords) (arg2 : Memref sig .tc .vmem S8x128x128 .f32) (harg2 : arg2.IsWhole) (arg3 : Memref sig .tc .vmem S128x256 .f32) (harg3 : arg3.IsWhole) (arg4 : Memref sig .tc .vmem S2048x128 .f32) (harg4 : arg4.IsWhole) (arg5 : Memref sig .tc .vmem S2048x32 .f32) (harg5 : arg5.IsWhole) (arg6 : Memref sig .tc .vmem S8x128x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
  (x0 : Vec Ideal S8x128x128 .f32) (x1 : Vec Ideal S128x256 .f32) (x2 : Vec Ideal S2048x128 .f32) (x3 : Vec Ideal S2048x32 .f32)

/-- The running maxima after `N` trips. -/
def s7 (N : ℕ) : BufTy.Contents (Elt Ideal) arg7.view.ty :=
  arg7.view.writes (Elt Ideal) (arg7.view.writes (Elt Ideal) arg7.view.junk kernelRun0_A.sl.HS0_1) (pb_k0_t1 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (harg4.unread x2) (harg5.unread x3) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) N).1

/-- The running sums of weights after `N` trips. -/
def s8 (N : ℕ) : BufTy.Contents (Elt Ideal) arg8.view.ty :=
  arg8.view.writes (Elt Ideal) (arg8.view.writes (Elt Ideal) arg8.view.junk kernelRun0_A.sl.HS1_1) (pb_k0_t1 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (harg4.unread x2) (harg5.unread x3) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) N).2.1

/-- The running weighted sums after `N` trips. -/
def s9 (N : ℕ) : BufTy.Contents (Elt Ideal) arg9.view.ty :=
  arg9.view.writes (Elt Ideal) (arg9.view.writes (Elt Ideal) arg9.view.junk kernelRun0_A.sl.HS2_1) (pb_k0_t1 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (harg4.unread x2) (harg5.unread x3) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) N).2.2

theorem s7_zero (r : Fin 1024) : arg7.view.read (Elt Ideal) (s7 dv i arg2 harg2 arg3 harg3 arg4 harg4 arg5 harg5 arg6 harg6 arg7 harg7 arg8 harg8 arg9 harg9 x0 x1 x2 x3 0) (ix2 r 0) = ⊥ := by
  unfold s7
  rw [pb_k0_t1.eq_1]
  show arg7.view.read (Elt Ideal) (arg7.view.writes (Elt Ideal) arg7.view.junk kernelRun0_A.sl.HS0_1) (ix2 r 0) = ⊥
  unfold kernelRun0_A.sl.HS0_1
  refine (View.read_writes_cons_rows_of_mem (d := ![1024, 1]) arg7.view _ _ _ _ (ix2 r 0) (ix2 r 0) rfl (by show r.val = 0 + r.val; omega) rfl).trans ?_
  refine Eq.trans ?_ mask_bot
  pointwise [k0_pay57]

theorem s8_zero (r : Fin 1024) : arg8.view.read (Elt Ideal) (s8 dv i arg2 harg2 arg3 harg3 arg4 harg4 arg5 harg5 arg6 harg6 arg7 harg7 arg8 harg8 arg9 harg9 x0 x1 x2 x3 0) (ix2 r 0) = 0 := by
  unfold s8
  rw [pb_k0_t1.eq_1]
  show arg8.view.read (Elt Ideal) (arg8.view.writes (Elt Ideal) arg8.view.junk kernelRun0_A.sl.HS1_1) (ix2 r 0) = 0
  unfold kernelRun0_A.sl.HS1_1
  refine (View.read_writes_cons_rows_of_mem (d := ![1024, 1]) arg8.view _ _ _ _ (ix2 r 0) (ix2 r 0) rfl (by show r.val = 0 + r.val; omega) rfl).trans ?_
  pointwise [k0_pay58]

theorem s9_zero (r : Fin 1024) (c : Fin 128) : arg9.view.read (Elt Ideal) (s9 dv i arg2 harg2 arg3 harg3 arg4 harg4 arg5 harg5 arg6 harg6 arg7 harg7 arg8 harg8 arg9 harg9 x0 x1 x2 x3 0) (ix2 r c) = 0 := by
  unfold s9
  rw [pb_k0_t1.eq_1]
  show arg9.view.read (Elt Ideal) (arg9.view.writes (Elt Ideal) arg9.view.junk kernelRun0_A.sl.HS2_1) (ix2 r c) = 0
  unfold kernelRun0_A.sl.HS2_1
  refine (View.read_writes_cons_rows_of_mem (d := ![1024, 128]) arg9.view _ _ _ _ (ix2 r c) (ix2 r c) rfl (by show r.val = 0 + r.val; omega) rfl).trans ?_
  pointwise [k0_pay59]

theorem s7_succ (N : ℕ) (hN : N < (k0_t1_loop i).trips) (r : Fin 1024) :
    arg7.view.read (Elt Ideal) (s7 dv i arg2 harg2 arg3 harg3 arg4 harg4 arg5 harg5 arg6 harg6 arg7 harg7 arg8 harg8 arg9 harg9 x0 x1 x2 x3 (N + 1)) (ix2 r 0)
      = stepM (arg7.view.read (Elt Ideal) (s7 dv i arg2 harg2 arg3 harg3 arg4 harg4 arg5 harg5 arg6 harg6 arg7 harg7 arg8 harg8 arg9 harg9 x0 x1 x2 x3 N) (ix2 r 0)) (tripS i arg4 arg5 (kernelRun0_A.sl.r dv arg2 harg2 x0) (kernelRun0_A.sl.r_1 dv arg3 harg3 x1) (harg4.unread x2) (harg5.unread x3) ⟨N, hN⟩ r) := by
  rw [← trip_M i arg4 arg5 arg7 arg8 arg9 (kernelRun0_A.sl.r dv arg2 harg2 x0) (kernelRun0_A.sl.r_1 dv arg3 harg3 x1) (harg4.unread x2) (harg5.unread x3) ⟨N, hN⟩ (s7 dv i arg2 harg2 arg3 harg3 arg4 harg4 arg5 harg5 arg6 harg6 arg7 harg7 arg8 harg8 arg9 harg9 x0 x1 x2 x3 N) (s8 dv i arg2 harg2 arg3 harg3 arg4 harg4 arg5 harg5 arg6 harg6 arg7 harg7 arg8 harg8 arg9 harg9 x0 x1 x2 x3 N) (s9 dv i arg2 harg2 arg3 harg3 arg4 harg4 arg5 harg5 arg6 harg6 arg7 harg7 arg8 harg8 arg9 harg9 x0 x1 x2 x3 N) Variants.none dv none arg2 harg2 arg3 harg3 harg4 harg5 arg6 harg6 harg7 harg8 harg9 (BitVec.ofNat 32 ↑(i 1)) (kernelRun0_A.sl.v31 i) (512#32) (kernelRun0_A.sl.v32 i) (kernelRun0_A.sl.v34 i) r]
  congr 1
  conv_lhs => unfold s7
  rw [pb_k0_t1_succ (k := ⟨N, hN⟩)]
  exact View.writes_append ..

theorem s8_succ (N : ℕ) (hN : N < (k0_t1_loop i).trips) (r : Fin 1024) :
    arg8.view.read (Elt Ideal) (s8 dv i arg2 harg2 arg3 harg3 arg4 harg4 arg5 harg5 arg6 harg6 arg7 harg7 arg8 harg8 arg9 harg9 x0 x1 x2 x3 (N + 1)) (ix2 r 0)
      = stepL (arg7.view.read (Elt Ideal) (s7 dv i arg2 harg2 arg3 harg3 arg4 harg4 arg5 harg5 arg6 harg6 arg7 harg7 arg8 harg8 arg9 harg9 x0 x1 x2 x3 N) (ix2 r 0)) (arg8.view.read (Elt Ideal) (s8 dv i arg2 harg2 arg3 harg3 arg4 harg4 arg5 harg5 arg6 harg6 arg7 harg7 arg8 harg8 arg9 harg9 x0 x1 x2 x3 N) (ix2 r 0)) (tripS i arg4 arg5 (kernelRun0_A.sl.r dv arg2 harg2 x0) (kernelRun0_A.sl.r_1 dv arg3 harg3 x1) (harg4.unread x2) (harg5.unread x3) ⟨N, hN⟩ r) := by
  rw [← trip_L i arg4 arg5 arg7 arg8 arg9 (kernelRun0_A.sl.r dv arg2 harg2 x0) (kernelRun0_A.sl.r_1 dv arg3 harg3 x1) (harg4.unread x2) (harg5.unread x3) ⟨N, hN⟩ (s7 dv i arg2 harg2 arg3 harg3 arg4 harg4 arg5 harg5 arg6 harg6 arg7 harg7 arg8 harg8 arg9 harg9 x0 x1 x2 x3 N) (s8 dv i arg2 harg2 arg3 harg3 arg4 harg4 arg5 harg5 arg6 harg6 arg7 harg7 arg8 harg8 arg9 harg9 x0 x1 x2 x3 N) (s9 dv i arg2 harg2 arg3 harg3 arg4 harg4 arg5 harg5 arg6 harg6 arg7 harg7 arg8 harg8 arg9 harg9 x0 x1 x2 x3 N) Variants.none dv none arg2 harg2 arg3 harg3 harg4 harg5 arg6 harg6 harg7 harg8 harg9 (BitVec.ofNat 32 ↑(i 1)) (kernelRun0_A.sl.v31 i) (512#32) (kernelRun0_A.sl.v32 i) (kernelRun0_A.sl.v34 i) r]
  congr 1
  conv_lhs => unfold s8
  rw [pb_k0_t1_succ (k := ⟨N, hN⟩)]
  exact View.writes_append ..

theorem s9_succ (N : ℕ) (hN : N < (k0_t1_loop i).trips) (r : Fin 1024) (c : Fin 128) :
    arg9.view.read (Elt Ideal) (s9 dv i arg2 harg2 arg3 harg3 arg4 harg4 arg5 harg5 arg6 harg6 arg7 harg7 arg8 harg8 arg9 harg9 x0 x1 x2 x3 (N + 1)) (ix2 r c)
      = stepA (arg7.view.read (Elt Ideal) (s7 dv i arg2 harg2 arg3 harg3 arg4 harg4 arg5 harg5 arg6 harg6 arg7 harg7 arg8 harg8 arg9 harg9 x0 x1 x2 x3 N) (ix2 r 0)) (arg9.view.read (Elt Ideal) (s9 dv i arg2 harg2 arg3 harg3 arg4 harg4 arg5 harg5 arg6 harg6 arg7 harg7 arg8 harg8 arg9 harg9 x0 x1 x2 x3 N) (ix2 r c)) (tripS i arg4 arg5 (kernelRun0_A.sl.r dv arg2 harg2 x0) (kernelRun0_A.sl.r_1 dv arg3 harg3 x1) (harg4.unread x2) (harg5.unread x3) ⟨N, hN⟩ r)
        fun kk => keyC i arg4 (harg4.unread x2) ⟨N, hN⟩ (ix2 kk c) := by
  rw [← trip_A i arg4 arg5 arg7 arg8 arg9 (kernelRun0_A.sl.r dv arg2 harg2 x0) (kernelRun0_A.sl.r_1 dv arg3 harg3 x1) (harg4.unread x2) (harg5.unread x3) ⟨N, hN⟩ (s7 dv i arg2 harg2 arg3 harg3 arg4 harg4 arg5 harg5 arg6 harg6 arg7 harg7 arg8 harg8 arg9 harg9 x0 x1 x2 x3 N) (s8 dv i arg2 harg2 arg3 harg3 arg4 harg4 arg5 harg5 arg6 harg6 arg7 harg7 arg8 harg8 arg9 harg9 x0 x1 x2 x3 N) (s9 dv i arg2 harg2 arg3 harg3 arg4 harg4 arg5 harg5 arg6 harg6 arg7 harg7 arg8 harg8 arg9 harg9 x0 x1 x2 x3 N) Variants.none dv none arg2 harg2 arg3 harg3 harg4 harg5 arg6 harg6 harg7 harg8 harg9 (BitVec.ofNat 32 ↑(i 1)) (kernelRun0_A.sl.v31 i) (512#32) (kernelRun0_A.sl.v32 i) (kernelRun0_A.sl.v34 i) r c]
  congr 1
  conv_lhs => unfold s9
  rw [pb_k0_t1_succ (k := ⟨N, hN⟩)]
  exact View.writes_append ..

theorem tail7 : arg7.view.writes (Elt Ideal) arg7.view.junk ((pb_k0_t2 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (kernelRun0_A.sl.v53 i) (harg4.unread x2) (harg5.unread x3) (arg7.view.writes (Elt Ideal) arg7.view.junk ((pb_k0_t1 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (harg4.unread x2) (harg5.unread x3) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (Scf.trips (k0_t1_loop i).lb (k0_t1_loop i).ub (k0_t1_loop i).st)).1 ++ kernelRun0_A.sl.HS0_1)) (arg8.view.writes (Elt Ideal) arg8.view.junk ((pb_k0_t1 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (harg4.unread x2) (harg5.unread x3) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (Scf.trips (k0_t1_loop i).lb (k0_t1_loop i).ub (k0_t1_loop i).st)).2.1 ++ kernelRun0_A.sl.HS1_1)) (arg9.view.writes (Elt Ideal) arg9.view.junk ((pb_k0_t1 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (harg4.unread x2) (harg5.unread x3) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (Scf.trips (k0_t1_loop i).lb (k0_t1_loop i).ub (k0_t1_loop i).st)).2.2 ++ kernelRun0_A.sl.HS2_1)) (Scf.trips (k0_t2_loop i).lb (k0_t2_loop i).ub (k0_t2_loop i).st)).1 ++ ((pb_k0_t1 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (harg4.unread x2) (harg5.unread x3) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (Scf.trips (k0_t1_loop i).lb (k0_t1_loop i).ub (k0_t1_loop i).st)).1 ++ kernelRun0_A.sl.HS0_1))
      = s7 dv i arg2 harg2 arg3 harg3 arg4 harg4 arg5 harg5 arg6 harg6 arg7 harg7 arg8 harg8 arg9 harg9 x0 x1 x2 x3 (nFull i) := by
  have h : Scf.trips (k0_t2_loop i).lb (k0_t2_loop i).ub (k0_t2_loop i).st = 0 := t2_trips i
  have h1 : Scf.trips (k0_t1_loop i).lb (k0_t1_loop i).ub (k0_t1_loop i).st = nFull i := t1_trips i
  rw [h, h1, pb_k0_t2.eq_1]
  exact (congrArg _ (List.nil_append _)).trans (View.writes_append ..)

theorem tail8 : arg8.view.writes (Elt Ideal) arg8.view.junk ((pb_k0_t2 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (kernelRun0_A.sl.v53 i) (harg4.unread x2) (harg5.unread x3) (arg7.view.writes (Elt Ideal) arg7.view.junk ((pb_k0_t1 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (harg4.unread x2) (harg5.unread x3) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (Scf.trips (k0_t1_loop i).lb (k0_t1_loop i).ub (k0_t1_loop i).st)).1 ++ kernelRun0_A.sl.HS0_1)) (arg8.view.writes (Elt Ideal) arg8.view.junk ((pb_k0_t1 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (harg4.unread x2) (harg5.unread x3) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (Scf.trips (k0_t1_loop i).lb (k0_t1_loop i).ub (k0_t1_loop i).st)).2.1 ++ kernelRun0_A.sl.HS1_1)) (arg9.view.writes (Elt Ideal) arg9.view.junk ((pb_k0_t1 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (harg4.unread x2) (harg5.unread x3) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (Scf.trips (k0_t1_loop i).lb (k0_t1_loop i).ub (k0_t1_loop i).st)).2.2 ++ kernelRun0_A.sl.HS2_1)) (Scf.trips (k0_t2_loop i).lb (k0_t2_loop i).ub (k0_t2_loop i).st)).2.1 ++ ((pb_k0_t1 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (harg4.unread x2) (harg5.unread x3) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (Scf.trips (k0_t1_loop i).lb (k0_t1_loop i).ub (k0_t1_loop i).st)).2.1 ++ kernelRun0_A.sl.HS1_1))
      = s8 dv i arg2 harg2 arg3 harg3 arg4 harg4 arg5 harg5 arg6 harg6 arg7 harg7 arg8 harg8 arg9 harg9 x0 x1 x2 x3 (nFull i) := by
  have h : Scf.trips (k0_t2_loop i).lb (k0_t2_loop i).ub (k0_t2_loop i).st = 0 := t2_trips i
  have h1 : Scf.trips (k0_t1_loop i).lb (k0_t1_loop i).ub (k0_t1_loop i).st = nFull i := t1_trips i
  rw [h, h1, pb_k0_t2.eq_1]
  exact (congrArg _ (List.nil_append _)).trans (View.writes_append ..)

theorem tail9 : arg9.view.writes (Elt Ideal) arg9.view.junk ((pb_k0_t2 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (kernelRun0_A.sl.v53 i) (harg4.unread x2) (harg5.unread x3) (arg7.view.writes (Elt Ideal) arg7.view.junk ((pb_k0_t1 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (harg4.unread x2) (harg5.unread x3) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (Scf.trips (k0_t1_loop i).lb (k0_t1_loop i).ub (k0_t1_loop i).st)).1 ++ kernelRun0_A.sl.HS0_1)) (arg8.view.writes (Elt Ideal) arg8.view.junk ((pb_k0_t1 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (harg4.unread x2) (harg5.unread x3) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (Scf.trips (k0_t1_loop i).lb (k0_t1_loop i).ub (k0_t1_loop i).st)).2.1 ++ kernelRun0_A.sl.HS1_1)) (arg9.view.writes (Elt Ideal) arg9.view.junk ((pb_k0_t1 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (harg4.unread x2) (harg5.unread x3) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (Scf.trips (k0_t1_loop i).lb (k0_t1_loop i).ub (k0_t1_loop i).st)).2.2 ++ kernelRun0_A.sl.HS2_1)) (Scf.trips (k0_t2_loop i).lb (k0_t2_loop i).ub (k0_t2_loop i).st)).2.2 ++ ((pb_k0_t1 Variants.none dv none i arg2 harg2 arg3 harg3 arg4 harg4 arg5 harg5 arg6 harg6 arg7 harg7 arg8 harg8 arg9 harg9 (BitVec.ofNat 32 ↑(i 1)) (kernelRun0_A.sl.r dv arg2 harg2 x0) (kernelRun0_A.sl.r_1 dv arg3 harg3 x1) (kernelRun0_A.sl.v31 i) (512#32) (kernelRun0_A.sl.v32 i) (kernelRun0_A.sl.v34 i) (harg4.unread x2) (harg5.unread x3) (arg7.view.writes (Elt Ideal) arg7.view.junk kernelRun0_A.sl.HS0_1) (arg8.view.writes (Elt Ideal) arg8.view.junk kernelRun0_A.sl.HS1_1) (arg9.view.writes (Elt Ideal) arg9.view.junk kernelRun0_A.sl.HS2_1) (Scf.trips (k0_t1_loop i).lb (k0_t1_loop i).ub (k0_t1_loop i).st)).2.2 ++ kernelRun0_A.sl.HS2_1))
      = s9 dv i arg2 harg2 arg3 harg3 arg4 harg4 arg5 harg5 arg6 harg6 arg7 harg7 arg8 harg8 arg9 harg9 x0 x1 x2 x3 (nFull i) := by
  have h : Scf.trips (k0_t2_loop i).lb (k0_t2_loop i).ub (k0_t2_loop i).st = 0 := t2_trips i
  have h1 : Scf.trips (k0_t1_loop i).lb (k0_t1_loop i).ub (k0_t1_loop i).st = nFull i := t1_trips i
  rw [h, h1, pb_k0_t2.eq_1]
  exact (congrArg _ (List.nil_append _)).trans (View.writes_append ..)

/-- The point's block of 128 queries. -/
def qi (i : grid0.Coords) : Fin 16 := i 1

/-- The scores of row `r` in the masked block. -/
def lastS (r : Fin 1024) (kk : Fin 512) : EReal :=
  if seen (qi i) (512 * nFull i) r kk then
    score (kernelRun0_A.sl.r dv arg2 harg2 x0) (kernelRun0_A.sl.r_1 dv arg3 harg3 x1) (fun c => kernelRun0_A.sl.r_2 i arg4 harg4 x2 (ix2 kk c)) (fun c => kernelRun0_A.sl.r_3 i arg5 harg5 x3 (ix2 kk c)) r
  else ⊥

theorem read_v82 (r : Fin 256) : kernelRun0_A.sl.v82 dv i arg2 harg2 arg3 harg3 arg4 harg4 arg5 harg5 arg6 harg6 arg7 harg7 arg8 harg8 arg9 harg9 x0 x1 x2 x3 (ix2 r 0) = arg7.view.read (Elt Ideal) (s7 dv i arg2 harg2 arg3 harg3 arg4 harg4 arg5 harg5 arg6 harg6 arg7 harg7 arg8 harg8 arg9 harg9 x0 x1 x2 x3 (nFull i)) (ix2 ⟨r.val, by omega⟩ 0) := by
  unfold kernelRun0_A.sl.v82
  refine (rd0_at (D := 1) arg7.view _ _ r 0).trans ?_
  rw [← tail7 dv i arg2 harg2 arg3 harg3 arg4 harg4 arg5 harg5 arg6 harg6 arg7 harg7 arg8 harg8 arg9 harg9 x0 x1 x2 x3]

theorem read_v131 (r : Fin 256) : kernelRun0_A.sl.v131 dv i arg2 harg2 arg3 harg3 arg4 harg4 arg5 harg5 arg6 harg6 arg7 harg7 arg8 harg8 arg9 harg9 x0 x1 x2 x3 (ix2 r 0) = arg7.view.read (Elt Ideal) (s7 dv i arg2 harg2 arg3 harg3 arg4 harg4 arg5 harg5 arg6 harg6 arg7 harg7 arg8 harg8 arg9 harg9 x0 x1 x2 x3 (nFull i)) (ix2 ⟨256 + r.val, by omega⟩ 0) := by
  unfold kernelRun0_A.sl.v131
  refine (rd_at (D := 1) arg7.view _ 256 _ r 0 (by omega)).trans ?_
  rw [← tail7 dv i arg2 harg2 arg3 harg3 arg4 harg4 arg5 harg5 arg6 harg6 arg7 harg7 arg8 harg8 arg9 harg9 x0 x1 x2 x3]
  unfold kernelRun0_A.sl.HS0_1_1
  refine (View.read_writes_cons_rows_of_not_mem (d := ![1024, 1]) arg7.view _ _  _ _ _ rfl rfl (Or.inr (by show 0 + 256 ≤ 256 + r.val; omega))).trans ?_
  rfl

theorem read_v180 (r : Fin 256) : kernelRun0_A.sl.v180 dv i arg2 harg2 arg3 harg3 arg4 harg4 arg5 harg5 arg6 harg6 arg7 harg7 arg8 harg8 arg9 harg9 x0 x1 x2 x3 (ix2 r 0) = arg7.view.read (Elt Ideal) (s7 dv i arg2 harg2 arg3 harg3 arg4 harg4 arg5 harg5 arg6 harg6 arg7 harg7 arg8 harg8 arg9 harg9 x0 x1 x2 x3 (nFull i)) (ix2 ⟨512 + r.val, by omega⟩ 0) := by
  unfold kernelRun0_A.sl.v180
  refine (rd_at (D := 1) arg7.view _ 512 _ r 0 (by omega)).trans ?_
  rw [← tail7 dv i arg2 harg2 arg3 harg3 arg4 harg4 arg5 harg5 arg6 harg6 arg7 harg7 arg8 harg8 arg9 harg9 x0 x1 x2 x3]
  unfold kernelRun0_A.sl.HS0_2 kernelRun0_A.sl.HS0_1_1
  refine (View.read_writes_cons_rows_of_not_mem (d := ![1024, 1]) arg7.view _ _  _ _ _ rfl rfl (Or.inr (by show 256 + 256 ≤ 512 + r.val; omega))).trans ?_
  refine (View.read_writes_cons_rows_of_not_mem (d := ![1024, 1]) arg7.view _ _  _ _ _ rfl rfl (Or.inr (by show 0 + 256 ≤ 512 + r.val; omega))).trans ?_
  rfl

theorem read_v229 (r : Fin 256) : kernelRun0_A.sl.v229 dv i arg2 harg2 arg3 harg3 arg4 harg4 arg5 harg5 arg6 harg6 arg7 harg7 arg8 harg8 arg9 harg9 x0 x1 x2 x3 (ix2 r 0) = arg7.view.read (Elt Ideal) (s7 dv i arg2 harg2 arg3 harg3 arg4 harg4 arg5 harg5 arg6 harg6 arg7 harg7 arg8 harg8 arg9 harg9 x0 x1 x2 x3 (nFull i)) (ix2 ⟨768 + r.val, by omega⟩ 0) := by
  unfold kernelRun0_A.sl.v229
  refine (rd_at (D := 1) arg7.view _ 768 _ r 0 (by omega)).trans ?_
  rw [← tail7 dv i arg2 harg2 arg3 harg3 arg4 harg4 arg5 harg5 arg6 harg6 arg7 harg7 arg8 harg8 arg9 harg9 x0 x1 x2 x3]
  unfold kernelRun0_A.sl.HS0_3 kernelRun0_A.sl.HS0_2 kernelRun0_A.sl.HS0_1_1
  refine (View.read_writes_cons_rows_of_not_mem (d := ![1024, 1]) arg7.view _ _  _ _ _ rfl rfl (Or.inr (by show 512 + 256 ≤ 768 + r.val; omega))).trans ?_
  refine (View.read_writes_cons_rows_of_not_mem (d := ![1024, 1]) arg7.view _ _  _ _ _ rfl rfl (Or.inr (by show 256 + 256 ≤ 768 + r.val; omega))).trans ?_
  refine (View.read_writes_cons_rows_of_not_mem (d := ![1024, 1]) arg7.view _ _  _ _ _ rfl rfl (Or.inr (by show 0 + 256 ≤ 768 + r.val; omega))).trans ?_
  rfl

theorem read_v91 (r : Fin 256) : kernelRun0_A.sl.v91 dv i arg2 harg2 arg3 harg3 arg4 harg4 arg5 harg5 arg6 harg6 arg7 harg7 arg8 harg8 arg9 harg9 x0 x1 x2 x3 (ix2 r 0) = arg8.view.read (Elt Ideal) (s8 dv i arg2 harg2 arg3 harg3 arg4 harg4 arg5 harg5 arg6 harg6 arg7 harg7 arg8 harg8 arg9 harg9 x0 x1 x2 x3 (nFull i)) (ix2 ⟨r.val, by omega⟩ 0) := by
  unfold kernelRun0_A.sl.v91
  refine (rd0_at (D := 1) arg8.view _ _ r 0).trans ?_
  rw [← tail8 dv i arg2 harg2 arg3 harg3 arg4 harg4 arg5 harg5 arg6 harg6 arg7 harg7 arg8 harg8 arg9 harg9 x0 x1 x2 x3]

theorem read_v140 (r : Fin 256) : kernelRun0_A.sl.v140 dv i arg2 harg2 arg3 harg3 arg4 harg4 arg5 harg5 arg6 harg6 arg7 harg7 arg8 harg8 arg9 harg9 x0 x1 x2 x3 (ix2 r 0) = arg8.view.read (Elt Ideal) (s8 dv i arg2 harg2 arg3 harg3 arg4 harg4 arg5 harg5 arg6 harg6 arg7 harg7 arg8 harg8 arg9 harg9 x0 x1 x2 x3 (nFull i)) (ix2 ⟨256 + r.val, by omega⟩ 0) := by
  unfold kernelRun0_A.sl.v140
  refine (rd_at (D := 1) arg8.view _ 256 _ r 0 (by omega)).trans ?_
  rw [← tail8 dv i arg2 harg2 arg3 harg3 arg4 harg4 arg5 harg5 arg6 harg6 arg7 harg7 arg8 harg8 arg9 harg9 x0 x1 x2 x3]
  unfold kernelRun0_A.sl.HS1_1_1
  refine (View.read_writes_cons_rows_of_not_mem (d := ![1024, 1]) arg8.view _ _  _ _ _ rfl rfl (Or.inr (by show 0 + 256 ≤ 256 + r.val; omega))).trans ?_
  rfl

theorem read_v189 (r : Fin 256) : kernelRun0_A.sl.v189 dv i arg2 harg2 arg3 harg3 arg4 harg4 arg5 harg5 arg6 harg6 arg7 harg7 arg8 harg8 arg9 harg9 x0 x1 x2 x3 (ix2 r 0) = arg8.view.read (Elt Ideal) (s8 dv i arg2 harg2 arg3 harg3 arg4 harg4 arg5 harg5 arg6 harg6 arg7 harg7 arg8 harg8 arg9 harg9 x0 x1 x2 x3 (nFull i)) (ix2 ⟨512 + r.val, by omega⟩ 0) := by
  unfold kernelRun0_A.sl.v189
  refine (rd_at (D := 1) arg8.view _ 512 _ r 0 (by omega)).trans ?_
  rw [← tail8 dv i arg2 harg2 arg3 harg3 arg4 harg4 arg5 harg5 arg6 harg6 arg7 harg7 arg8 harg8 arg9 harg9 x0 x1 x2 x3]
  unfold kernelRun0_A.sl.HS1_2 kernelRun0_A.sl.HS1_1_1
  refine (View.read_writes_cons_rows_of_not_mem (d := ![1024, 1]) arg8.view _ _  _ _ _ rfl rfl (Or.inr (by show 256 + 256 ≤ 512 + r.val; omega))).trans ?_
  refine (View.read_writes_cons_rows_of_not_mem (d := ![1024, 1]) arg8.view _ _  _ _ _ rfl rfl (Or.inr (by show 0 + 256 ≤ 512 + r.val; omega))).trans ?_
  rfl

theorem read_v238 (r : Fin 256) : kernelRun0_A.sl.v238 dv i arg2 harg2 arg3 harg3 arg4 harg4 arg5 harg5 arg6 harg6 arg7 harg7 arg8 harg8 arg9 harg9 x0 x1 x2 x3 (ix2 r 0) = arg8.view.read (Elt Ideal) (s8 dv i arg2 harg2 arg3 harg3 arg4 harg4 arg5 harg5 arg6 harg6 arg7 harg7 arg8 harg8 arg9 harg9 x0 x1 x2 x3 (nFull i)) (ix2 ⟨768 + r.val, by omega⟩ 0) := by
  unfold kernelRun0_A.sl.v238
  refine (rd_at (D := 1) arg8.view _ 768 _ r 0 (by omega)).trans ?_
  rw [← tail8 dv i arg2 harg2 arg3 harg3 arg4 harg4 arg5 harg5 arg6 harg6 arg7 harg7 arg8 harg8 arg9 harg9 x0 x1 x2 x3]
  unfold kernelRun0_A.sl.HS1_3 kernelRun0_A.sl.HS1_2 kernelRun0_A.sl.HS1_1_1
  refine (View.read_writes_cons_rows_of_not_mem (d := ![1024, 1]) arg8.view _ _  _ _ _ rfl rfl (Or.inr (by show 512 + 256 ≤ 768 + r.val; omega))).trans ?_
  refine (View.read_writes_cons_rows_of_not_mem (d := ![1024, 1]) arg8.view _ _  _ _ _ rfl rfl (Or.inr (by show 256 + 256 ≤ 768 + r.val; omega))).trans ?_
  refine (View.read_writes_cons_rows_of_not_mem (d := ![1024, 1]) arg8.view _ _  _ _ _ rfl rfl (Or.inr (by show 0 + 256 ≤ 768 + r.val; omega))).trans ?_
  rfl

theorem read_v99 (r : Fin 256) (c : Fin 128) : kernelRun0_A.sl.v99 dv i arg2 harg2 arg3 harg3 arg4 harg4 arg5 harg5 arg6 harg6 arg7 harg7 arg8 harg8 arg9 harg9 x0 x1 x2 x3 (ix2 r c) = arg9.view.read (Elt Ideal) (s9 dv i arg2 harg2 arg3 harg3 arg4 harg4 arg5 harg5 arg6 harg6 arg7 harg7 arg8 harg8 arg9 harg9 x0 x1 x2 x3 (nFull i)) (ix2 ⟨r.val, by omega⟩ c) := by
  unfold kernelRun0_A.sl.v99
  refine (rd0_at (D := 128) arg9.view _ _ r c).trans ?_
  rw [← tail9 dv i arg2 harg2 arg3 harg3 arg4 harg4 arg5 harg5 arg6 harg6 arg7 harg7 arg8 harg8 arg9 harg9 x0 x1 x2 x3]

theorem read_v148 (r : Fin 256) (c : Fin 128) : kernelRun0_A.sl.v148 dv i arg2 harg2 arg3 harg3 arg4 harg4 arg5 harg5 arg6 harg6 arg7 harg7 arg8 harg8 arg9 harg9 x0 x1 x2 x3 (ix2 r c) = arg9.view.read (Elt Ideal) (s9 dv i arg2 harg2 arg3 harg3 arg4 harg4 arg5 harg5 arg6 harg6 arg7 harg7 arg8 harg8 arg9 harg9 x0 x1 x2 x3 (nFull i)) (ix2 ⟨256 + r.val, by omega⟩ c) := by
  unfold kernelRun0_A.sl.v148
  refine (rd_at (D := 128) arg9.view _ 256 _ r c (by omega)).trans ?_
  rw [← tail9 dv i arg2 harg2 arg3 harg3 arg4 harg4 arg5 harg5 arg6 harg6 arg7 harg7 arg8 harg8 arg9 harg9 x0 x1 x2 x3]
  unfold kernelRun0_A.sl.HS2_1_1
  refine (View.read_writes_cons_rows_of_not_mem (d := ![1024, 128]) arg9.view _ _  _ _ _ rfl rfl (Or.inr (by show 0 + 256 ≤ 256 + r.val; omega))).trans ?_
  rfl

theorem read_v197 (r : Fin 256) (c : Fin 128) : kernelRun0_A.sl.v197 dv i arg2 harg2 arg3 harg3 arg4 harg4 arg5 harg5 arg6 harg6 arg7 harg7 arg8 harg8 arg9 harg9 x0 x1 x2 x3 (ix2 r c) = arg9.view.read (Elt Ideal) (s9 dv i arg2 harg2 arg3 harg3 arg4 harg4 arg5 harg5 arg6 harg6 arg7 harg7 arg8 harg8 arg9 harg9 x0 x1 x2 x3 (nFull i)) (ix2 ⟨512 + r.val, by omega⟩ c) := by
  unfold kernelRun0_A.sl.v197
  refine (rd_at (D := 128) arg9.view _ 512 _ r c (by omega)).trans ?_
  rw [← tail9 dv i arg2 harg2 arg3 harg3 arg4 harg4 arg5 harg5 arg6 harg6 arg7 harg7 arg8 harg8 arg9 harg9 x0 x1 x2 x3]
  unfold kernelRun0_A.sl.HS2_2 kernelRun0_A.sl.HS2_1_1
  refine (View.read_writes_cons_rows_of_not_mem (d := ![1024, 128]) arg9.view _ _  _ _ _ rfl rfl (Or.inr (by show 256 + 256 ≤ 512 + r.val; omega))).trans ?_
  refine (View.read_writes_cons_rows_of_not_mem (d := ![1024, 128]) arg9.view _ _  _ _ _ rfl rfl (Or.inr (by show 0 + 256 ≤ 512 + r.val; omega))).trans ?_
  rfl

theorem read_v246 (r : Fin 256) (c : Fin 128) : kernelRun0_A.sl.v246 dv i arg2 harg2 arg3 harg3 arg4 harg4 arg5 harg5 arg6 harg6 arg7 harg7 arg8 harg8 arg9 harg9 x0 x1 x2 x3 (ix2 r c) = arg9.view.read (Elt Ideal) (s9 dv i arg2 harg2 arg3 harg3 arg4 harg4 arg5 harg5 arg6 harg6 arg7 harg7 arg8 harg8 arg9 harg9 x0 x1 x2 x3 (nFull i)) (ix2 ⟨768 + r.val, by omega⟩ c) := by
  unfold kernelRun0_A.sl.v246
  refine (rd_at (D := 128) arg9.view _ 768 _ r c (by omega)).trans ?_
  rw [← tail9 dv i arg2 harg2 arg3 harg3 arg4 harg4 arg5 harg5 arg6 harg6 arg7 harg7 arg8 harg8 arg9 harg9 x0 x1 x2 x3]
  unfold kernelRun0_A.sl.HS2_3 kernelRun0_A.sl.HS2_2 kernelRun0_A.sl.HS2_1_1
  refine (View.read_writes_cons_rows_of_not_mem (d := ![1024, 128]) arg9.view _ _  _ _ _ rfl rfl (Or.inr (by show 512 + 256 ≤ 768 + r.val; omega))).trans ?_
  refine (View.read_writes_cons_rows_of_not_mem (d := ![1024, 128]) arg9.view _ _  _ _ _ rfl rfl (Or.inr (by show 256 + 256 ≤ 768 + r.val; omega))).trans ?_
  refine (View.read_writes_cons_rows_of_not_mem (d := ![1024, 128]) arg9.view _ _  _ _ _ rfl rfl (Or.inr (by show 0 + 256 ≤ 768 + r.val; omega))).trans ?_
  rfl

theorem last_L (r : Fin 1024) :
    arg8.view.read (Elt Ideal) (arg8.view.writes (Elt Ideal) arg8.view.junk (kernelRun0_A.sl.HS1_4 dv i arg2 harg2 arg3 harg3 arg4 harg4 arg5 harg5 arg6 harg6 arg7 harg7 arg8 harg8 arg9 harg9 x0 x1 x2 x3)) (ix2 r 0)
      = stepL (arg7.view.read (Elt Ideal) (s7 dv i arg2 harg2 arg3 harg3 arg4 harg4 arg5 harg5 arg6 harg6 arg7 harg7 arg8 harg8 arg9 harg9 x0 x1 x2 x3 (nFull i)) (ix2 r 0)) (arg8.view.read (Elt Ideal) (s8 dv i arg2 harg2 arg3 harg3 arg4 harg4 arg5 harg5 arg6 harg6 arg7 harg7 arg8 harg8 arg9 harg9 x0 x1 x2 x3 (nFull i)) (ix2 r 0)) (lastS dv i arg2 harg2 arg3 harg3 arg4 harg4 arg5 harg5 x0 x1 x2 x3 r) := by
  unfold kernelRun0_A.sl.HS1_4 kernelRun0_A.sl.HS1_3 kernelRun0_A.sl.HS1_2 kernelRun0_A.sl.HS1_1_1
  refine read4 (D := 1) arg8.view _ _ _ _ _ _ _ _ _ _ (fun r _ => stepL (arg7.view.read (Elt Ideal) (s7 dv i arg2 harg2 arg3 harg3 arg4 harg4 arg5 harg5 arg6 harg6 arg7 harg7 arg8 harg8 arg9 harg9 x0 x1 x2 x3 (nFull i)) (ix2 r 0)) (arg8.view.read (Elt Ideal) (s8 dv i arg2 harg2 arg3 harg3 arg4 harg4 arg5 harg5 arg6 harg6 arg7 harg7 arg8 harg8 arg9 harg9 x0 x1 x2 x3 (nFull i)) (ix2 r 0)) (lastS dv i arg2 harg2 arg3 harg3 arg4 harg4 arg5 harg5 x0 x1 x2 x3 r)) ?_ ?_ ?_ ?_ r 0
  · intro r c
    obtain rfl : c = 0 := Subsingleton.elim _ _
    refine Eq.trans (b := newL (k0_pay78 (BitVec.ofNat 32 (512 * nFull i)) (k0_pay76 (kernelRun0_A.sl.r dv arg2 harg2 x0) (kernelRun0_A.sl.r_1 dv arg3 harg3 x1) (kernelRun0_A.sl.r_2 i arg4 harg4 x2) (kernelRun0_A.sl.r_3 i arg5 harg5 x3)) (k0_pay77 (BitVec.ofNat 32 (qi i).val))) (kernelRun0_A.sl.v82 dv i arg2 harg2 arg3 harg3 arg4 harg4 arg5 harg5 arg6 harg6 arg7 harg7 arg8 harg8 arg9 harg9 x0 x1 x2 x3) (kernelRun0_A.sl.v91 dv i arg2 harg2 arg3 harg3 arg4 harg4 arg5 harg5 arg6 harg6 arg7 harg7 arg8 harg8 arg9 harg9 x0 x1 x2 x3) (ix2 r 0)) (congrFun ?_ _) ?_
    · unfold k0_pay82
      dsimp only
      rw [cast_self]
      rw [← v54_eq]
      rfl
    · rw [newL_at, read_v82, read_v91]
      simp only [masked0 (qi i) (512 * nFull i) (by have := nFull_lt i; omega)]
      rfl
  · intro r c
    obtain rfl : c = 0 := Subsingleton.elim _ _
    refine Eq.trans (b := newL (k0_pay87 (BitVec.ofNat 32 (qi i).val) (BitVec.ofNat 32 (512 * nFull i)) (kernelRun0_A.sl.r_3 i arg5 harg5 x3) (k0_pay85 (kernelRun0_A.sl.r dv arg2 harg2 x0) (kernelRun0_A.sl.r_2 i arg4 harg4 x2)) (k0_pay86 (kernelRun0_A.sl.r_1 dv arg3 harg3 x1)) (constant S256x512 .f32 0x00000000#32)) (kernelRun0_A.sl.v131 dv i arg2 harg2 arg3 harg3 arg4 harg4 arg5 harg5 arg6 harg6 arg7 harg7 arg8 harg8 arg9 harg9 x0 x1 x2 x3) (kernelRun0_A.sl.v140 dv i arg2 harg2 arg3 harg3 arg4 harg4 arg5 harg5 arg6 harg6 arg7 harg7 arg8 harg8 arg9 harg9 x0 x1 x2 x3) (ix2 r 0)) (congrFun ?_ _) ?_
    · unfold k0_pay91
      dsimp only
      rw [cast_self]
      rw [← v54_eq]
      rfl
    · rw [newL_at, read_v131, read_v140]
      simp only [masked1 (qi i) (512 * nFull i) (by have := nFull_lt i; omega)]
      rfl
  · intro r c
    obtain rfl : c = 0 := Subsingleton.elim _ _
    refine Eq.trans (b := newL (k0_pay95 (BitVec.ofNat 32 (qi i).val) (kernelRun0_A.sl.r dv arg2 harg2 x0) (kernelRun0_A.sl.r_1 dv arg3 harg3 x1) (BitVec.ofNat 32 (512 * nFull i)) (kernelRun0_A.sl.r_2 i arg4 harg4 x2) (kernelRun0_A.sl.r_3 i arg5 harg5 x3)) (kernelRun0_A.sl.v180 dv i arg2 harg2 arg3 harg3 arg4 harg4 arg5 harg5 arg6 harg6 arg7 harg7 arg8 harg8 arg9 harg9 x0 x1 x2 x3) (kernelRun0_A.sl.v189 dv i arg2 harg2 arg3 harg3 arg4 harg4 arg5 harg5 arg6 harg6 arg7 harg7 arg8 harg8 arg9 harg9 x0 x1 x2 x3) (ix2 r 0)) (congrFun ?_ _) ?_
    · unfold k0_pay99
      dsimp only
      rw [cast_self]
      rw [← v54_eq]
      rfl
    · rw [newL_at, read_v180, read_v189]
      simp only [masked2 (qi i) (512 * nFull i) (by have := nFull_lt i; omega)]
      rfl
  · intro r c
    obtain rfl : c = 0 := Subsingleton.elim _ _
    refine Eq.trans (b := newL (k0_pay102 (BitVec.ofNat 32 (qi i).val) (kernelRun0_A.sl.r dv arg2 harg2 x0) (kernelRun0_A.sl.r_1 dv arg3 harg3 x1) (BitVec.ofNat 32 (512 * nFull i)) (kernelRun0_A.sl.r_2 i arg4 harg4 x2) (kernelRun0_A.sl.r_3 i arg5 harg5 x3)) (kernelRun0_A.sl.v229 dv i arg2 harg2 arg3 harg3 arg4 harg4 arg5 harg5 arg6 harg6 arg7 harg7 arg8 harg8 arg9 harg9 x0 x1 x2 x3) (kernelRun0_A.sl.v238 dv i arg2 harg2 arg3 harg3 arg4 harg4 arg5 harg5 arg6 harg6 arg7 harg7 arg8 harg8 arg9 harg9 x0 x1 x2 x3) (ix2 r 0)) (congrFun ?_ _) ?_
    · unfold k0_pay1
      dsimp only
      rw [cast_self]
      rw [← v54_eq]
      rfl
    · rw [newL_at, read_v229, read_v238]
      simp only [masked3 (qi i) (512 * nFull i) (by have := nFull_lt i; omega)]
      rfl

theorem last_A (r : Fin 1024) (c : Fin 128) :
    arg9.view.read (Elt Ideal) (arg9.view.writes (Elt Ideal) arg9.view.junk (kernelRun0_A.sl.HS2_4 dv i arg2 harg2 arg3 harg3 arg4 harg4 arg5 harg5 arg6 harg6 arg7 harg7 arg8 harg8 arg9 harg9 x0 x1 x2 x3)) (ix2 r c)
      = stepA (arg7.view.read (Elt Ideal) (s7 dv i arg2 harg2 arg3 harg3 arg4 harg4 arg5 harg5 arg6 harg6 arg7 harg7 arg8 harg8 arg9 harg9 x0 x1 x2 x3 (nFull i)) (ix2 r 0)) (arg9.view.read (Elt Ideal) (s9 dv i arg2 harg2 arg3 harg3 arg4 harg4 arg5 harg5 arg6 harg6 arg7 harg7 arg8 harg8 arg9 harg9 x0 x1 x2 x3 (nFull i)) (ix2 r c)) (lastS dv i arg2 harg2 arg3 harg3 arg4 harg4 arg5 harg5 x0 x1 x2 x3 r) fun kk => kernelRun0_A.sl.r_2 i arg4 harg4 x2 (ix2 kk c) := by
  unfold kernelRun0_A.sl.HS2_4 kernelRun0_A.sl.HS2_3 kernelRun0_A.sl.HS2_2 kernelRun0_A.sl.HS2_1_1
  refine read4 (D := 128) arg9.view _ _ _ _ _ _ _ _ _ _ (fun r c => stepA (arg7.view.read (Elt Ideal) (s7 dv i arg2 harg2 arg3 harg3 arg4 harg4 arg5 harg5 arg6 harg6 arg7 harg7 arg8 harg8 arg9 harg9 x0 x1 x2 x3 (nFull i)) (ix2 r 0)) (arg9.view.read (Elt Ideal) (s9 dv i arg2 harg2 arg3 harg3 arg4 harg4 arg5 harg5 arg6 harg6 arg7 harg7 arg8 harg8 arg9 harg9 x0 x1 x2 x3 (nFull i)) (ix2 r c)) (lastS dv i arg2 harg2 arg3 harg3 arg4 harg4 arg5 harg5 x0 x1 x2 x3 r) fun kk => kernelRun0_A.sl.r_2 i arg4 harg4 x2 (ix2 kk c)) ?_ ?_ ?_ ?_ r c
  · intro r c
    refine Eq.trans (b := newA (k0_pay78 (BitVec.ofNat 32 (512 * nFull i)) (k0_pay76 (kernelRun0_A.sl.r dv arg2 harg2 x0) (kernelRun0_A.sl.r_1 dv arg3 harg3 x1) (kernelRun0_A.sl.r_2 i arg4 harg4 x2) (kernelRun0_A.sl.r_3 i arg5 harg5 x3)) (k0_pay77 (BitVec.ofNat 32 (qi i).val))) (kernelRun0_A.sl.v82 dv i arg2 harg2 arg3 harg3 arg4 harg4 arg5 harg5 arg6 harg6 arg7 harg7 arg8 harg8 arg9 harg9 x0 x1 x2 x3) (kernelRun0_A.sl.v99 dv i arg2 harg2 arg3 harg3 arg4 harg4 arg5 harg5 arg6 harg6 arg7 harg7 arg8 harg8 arg9 harg9 x0 x1 x2 x3) (kernelRun0_A.sl.r_2 i arg4 harg4 x2) (ix2 r c)) (congrFun ?_ _) ?_
    · unfold k0_pay83
      dsimp only
      rw [cast_self]
      rw [← v54_eq]
      rfl
    · rw [newA_at, read_v82, read_v99]
      simp only [masked0 (qi i) (512 * nFull i) (by have := nFull_lt i; omega)]
      rfl
  · intro r c
    refine Eq.trans (b := newA (k0_pay87 (BitVec.ofNat 32 (qi i).val) (BitVec.ofNat 32 (512 * nFull i)) (kernelRun0_A.sl.r_3 i arg5 harg5 x3) (k0_pay85 (kernelRun0_A.sl.r dv arg2 harg2 x0) (kernelRun0_A.sl.r_2 i arg4 harg4 x2)) (k0_pay86 (kernelRun0_A.sl.r_1 dv arg3 harg3 x1)) (constant S256x512 .f32 0x00000000#32)) (kernelRun0_A.sl.v131 dv i arg2 harg2 arg3 harg3 arg4 harg4 arg5 harg5 arg6 harg6 arg7 harg7 arg8 harg8 arg9 harg9 x0 x1 x2 x3) (kernelRun0_A.sl.v148 dv i arg2 harg2 arg3 harg3 arg4 harg4 arg5 harg5 arg6 harg6 arg7 harg7 arg8 harg8 arg9 harg9 x0 x1 x2 x3) (kernelRun0_A.sl.r_2 i arg4 harg4 x2) (ix2 r c)) (congrFun ?_ _) ?_
    · unfold k0_pay93 kernelRun0_A.sl.r_9
      dsimp only
      rw [cast_self]
      rw [← v54_eq]
      rfl
    · rw [newA_at, read_v131, read_v148]
      simp only [masked1 (qi i) (512 * nFull i) (by have := nFull_lt i; omega)]
      rfl
  · intro r c
    refine Eq.trans (b := newA (k0_pay95 (BitVec.ofNat 32 (qi i).val) (kernelRun0_A.sl.r dv arg2 harg2 x0) (kernelRun0_A.sl.r_1 dv arg3 harg3 x1) (BitVec.ofNat 32 (512 * nFull i)) (kernelRun0_A.sl.r_2 i arg4 harg4 x2) (kernelRun0_A.sl.r_3 i arg5 harg5 x3)) (kernelRun0_A.sl.v180 dv i arg2 harg2 arg3 harg3 arg4 harg4 arg5 harg5 arg6 harg6 arg7 harg7 arg8 harg8 arg9 harg9 x0 x1 x2 x3) (kernelRun0_A.sl.v197 dv i arg2 harg2 arg3 harg3 arg4 harg4 arg5 harg5 arg6 harg6 arg7 harg7 arg8 harg8 arg9 harg9 x0 x1 x2 x3) (kernelRun0_A.sl.r_2 i arg4 harg4 x2) (ix2 r c)) (congrFun ?_ _) ?_
    · unfold k0_pay100
      dsimp only
      rw [cast_self]
      rw [← v54_eq]
      rfl
    · rw [newA_at, read_v180, read_v197]
      simp only [masked2 (qi i) (512 * nFull i) (by have := nFull_lt i; omega)]
      rfl
  · intro r c
    refine Eq.trans (b := newA (k0_pay102 (BitVec.ofNat 32 (qi i).val) (kernelRun0_A.sl.r dv arg2 harg2 x0) (kernelRun0_A.sl.r_1 dv arg3 harg3 x1) (BitVec.ofNat 32 (512 * nFull i)) (kernelRun0_A.sl.r_2 i arg4 harg4 x2) (kernelRun0_A.sl.r_3 i arg5 harg5 x3)) (kernelRun0_A.sl.v229 dv i arg2 harg2 arg3 harg3 arg4 harg4 arg5 harg5 arg6 harg6 arg7 harg7 arg8 harg8 arg9 harg9 x0 x1 x2 x3) (kernelRun0_A.sl.v246 dv i arg2 harg2 arg3 harg3 arg4 harg4 arg5 harg5 arg6 harg6 arg7 harg7 arg8 harg8 arg9 harg9 x0 x1 x2 x3) (kernelRun0_A.sl.r_2 i arg4 harg4 x2) (ix2 r c)) (congrFun ?_ _) ?_
    · unfold k0_pay2
      dsimp only
      rw [cast_self]
      rw [← v54_eq]
      rfl
    · rw [newA_at, read_v229, read_v246]
      simp only [masked3 (qi i) (512 * nFull i) (by have := nFull_lt i; omega)]
      rfl

end Cert.KernelIdeal.Block

end
-- ==== Proof.Read.lean ====
/- What the kernel reads at one grid point: the queries, scaled and with the heads stacked, and the keys of one block. -/
module

public import proofs.«01_k».proof.Proof.Last

@[expose] public section

set_option maxRecDepth 16384

noncomputable section

namespace Cert.KernelIdeal.Block

open Cert.KernelIdeal Cert.KernelIdeal.Gen Idealize.ShloMosaic Idealize.ShloMosaic.TcCoe Idealize.ShloMosaic.Tactic Idealize.SL.Sem
open Cert.Online

/-- The scale of the scores. -/
def scl : EReal := Ideal.ofBits .f32 0x3DD105EC#32

/-- The head and the query of a row. -/
def hd (r : Fin 1024) : Fin 8 := ⟨r.val / 128, by omega⟩
def qy (r : Fin 1024) : Fin 128 := ⟨r.val % 128, by omega⟩

theorem pay55_at (x : Vec Ideal S8x128x128 .f32) (r : Fin 1024) (c : Fin 128) :
    k0_pay55 x (ix2 r c) = x (ix3 (hd r) (qy r) c) * scl := by
  pointwise [k0_pay55]
  rfl

/-- Column `32 h + c` of the rotary queries. -/
def col (h : Fin 8) (c : Fin 32) : Fin 256 := ⟨32 * h.val + c.val, by omega⟩

theorem slice_at (o : ℕ) (x : Vec Ideal S128x256 .f32) (hs) (h : Fin 8) (ho : o = 32 * h.val) :
    extractStridedSlice S128x32 ![0, o] x hs = fun j : S128x32.Idx => x (ix2 (j 0) (col h (j 1))) := by
  subst ho
  funext j
  obtain ⟨a, b, rfl⟩ : ∃ a b, j = ix2 a b := ⟨j 0, j 1, by funext k; match k with | ⟨0, _⟩ => rfl | ⟨1, _⟩ => rfl⟩
  unfold extractStridedSlice
  congr 1
  funext k
  apply Fin.ext
  match k with
  | ⟨0, _⟩ => show 0 + a.val = a.val; omega
  | ⟨1, _⟩ => rfl

theorem pay56_at (x : Vec Ideal S128x256 .f32) (r : Fin 1024) (c : Fin 32) :
    k0_pay56 x (ix2 r c) = x (ix2 (qy r) (col (hd r) c)) * scl := by
  unfold k0_pay56
  rw [slice_at 0 x _ 0 rfl, slice_at 32 x _ 1 rfl, slice_at 64 x _ 2 rfl, slice_at 96 x _ 3 rfl, slice_at 128 x _ 4 rfl,
    slice_at 160 x _ 5 rfl, slice_at 192 x _ 6 rfl, slice_at 224 x _ 7 rfl]
  show concatenate S1024x32 0 _ _ (ix2 r c) * scl = _
  congr 1
  exact concatenate_ofFn_apply (t := S1024x32) (s₁ := S128x32) (0 : Fin 2) (fun h : Fin 8 => fun j : S128x32.Idx => x (ix2 (j 0) (col h (j 1)))) _ rfl 128 rfl (ix2 r c)
    (hd r) rfl (ix2 (qy r) c) rfl (by intro b hb; match b with | ⟨0, _⟩ => exact absurd rfl hb | ⟨1, _⟩ => rfl)

/-- A load of a whole memref's contents through a rectangle. -/
theorem load_at {S : Shape} {e : EltTy} (arg : Memref sig .tc .vmem S e) (h : arg.IsWhole) (x : S.Idx → Elt Ideal e) (off size : Fin S.rank → ℕ) (inb)
    (j : (Rect.unit off size inb).shape.Idx) (i : S.Idx) (hi : ∀ a, (i a : ℕ) = off a + j a) :
    View.readAt (Elt Ideal) arg.view (Rect.unit off size inb).toLoadRect (h.unread x) j = x i := by
  rw [View.readAt_eq_ld, h.read_unread]
  exact congrArg x (funext fun a => Fin.ext (Eq.trans (by show off a + 1 * (j a : ℕ) = _; rw [Nat.one_mul]) (hi a).symm))

theorem r_at (dv : Dev nD) (arg2 : Memref sig .tc .vmem S8x128x128 .f32) (harg2 : arg2.IsWhole) (x0 : Vec Ideal S8x128x128 .f32) (r : Fin 1024) (c : Fin 128) :
    kernelRun0_A.sl.r dv arg2 harg2 x0 (ix2 r c) = x0 (ix3 (hd r) (qy r) c) * scl := by
  unfold kernelRun0_A.sl.r
  rw [pay55_at]
  congr 1
  refine load_at arg2 harg2 x0 _ _ _ (ix3 (hd r) (qy r) c) _ ?_
  intro a
  match a with
  | ⟨0, _⟩ => exact (Nat.zero_add _).symm
  | ⟨1, _⟩ => exact (Nat.zero_add _).symm
  | ⟨2, _⟩ => exact (Nat.zero_add _).symm

theorem r_1_at (dv : Dev nD) (arg3 : Memref sig .tc .vmem S128x256 .f32) (harg3 : arg3.IsWhole) (x1 : Vec Ideal S128x256 .f32) (r : Fin 1024) (c : Fin 32) :
    kernelRun0_A.sl.r_1 dv arg3 harg3 x1 (ix2 r c) = x1 (ix2 (qy r) (col (hd r) c)) * scl := by
  unfold kernelRun0_A.sl.r_1
  rw [pay56_at]
  congr 1
  refine load_at arg3 harg3 x1 _ _ _ (ix2 (qy r) (col (hd r) c)) _ ?_
  intro a
  match a with
  | ⟨0, _⟩ => exact (Nat.zero_add _).symm
  | ⟨1, _⟩ => exact (Nat.zero_add _).symm

theorem off1_eq (i : grid0.Coords) (k : Fin (k0_t1_loop i).trips) : k0_off1 i k 0 = 512 * k.val := by
  have h : k.val < 4 := lt_of_lt_of_eq k.isLt (t1_trips i) |>.trans (nFull_lt i)
  have : ∀ n : Fin 4, (Scalar.indexCast (Scalar.muli (Scf.iv 0#32 1#32 n.val) 512#32)).toNat = 512 * n.val := by decide
  exact this ⟨k.val, h⟩

theorem off2_eq (i : grid0.Coords) (k : Fin (k0_t1_loop i).trips) : k0_off2 i k 0 = 512 * k.val := off1_eq i k

theorem off5_eq (i : grid0.Coords) : k0_off5 i 0 = 512 * nFull i := by
  unfold k0_off5 nFull
  dsimp only
  generalize i 1 = j
  revert j
  decide +kernel

theorem off6_eq (i : grid0.Coords) : k0_off6 i 0 = 512 * nFull i := off5_eq i

/-- Key `n`. -/
def key (n : ℕ) : Fin 2048 := ⟨n % 2048, Nat.mod_lt _ (by decide)⟩

theorem keyC_at (i : grid0.Coords) (arg4 : Memref sig .tc .vmem S2048x128 .f32) (harg4 : arg4.IsWhole) (x2 : Vec Ideal S2048x128 .f32)
    (k : Fin (k0_t1_loop i).trips) (kk : Fin 512) (c : Fin 128) :
    keyC i arg4 (harg4.unread x2) k (ix2 kk c) = x2 (ix2 (key (512 * k.val + kk.val)) c) := by
  have h : k.val < 4 := lt_of_lt_of_eq k.isLt (t1_trips i) |>.trans (nFull_lt i)
  refine load_at arg4 harg4 x2 _ _ _ (ix2 kk c) _ ?_
  intro a
  match a with
  | ⟨0, _⟩ => exact (Nat.mod_eq_of_lt (by omega)).trans (congrArg (· + kk.val) (off1_eq i k).symm)
  | ⟨1, _⟩ => exact (Nat.zero_add _).symm

theorem keyR_at (i : grid0.Coords) (arg5 : Memref sig .tc .vmem S2048x32 .f32) (harg5 : arg5.IsWhole) (x3 : Vec Ideal S2048x32 .f32)
    (k : Fin (k0_t1_loop i).trips) (kk : Fin 512) (c : Fin 32) :
    keyR i arg5 (harg5.unread x3) k (ix2 kk c) = x3 (ix2 (key (512 * k.val + kk.val)) c) := by
  have h : k.val < 4 := lt_of_lt_of_eq k.isLt (t1_trips i) |>.trans (nFull_lt i)
  refine load_at arg5 harg5 x3 _ _ _ (ix2 kk c) _ ?_
  intro a
  match a with
  | ⟨0, _⟩ => exact (Nat.mod_eq_of_lt (by omega)).trans (congrArg (· + kk.val) (off2_eq i k).symm)
  | ⟨1, _⟩ => exact (Nat.zero_add _).symm

theorem r_2_at (i : grid0.Coords) (arg4 : Memref sig .tc .vmem S2048x128 .f32) (harg4 : arg4.IsWhole) (x2 : Vec Ideal S2048x128 .f32)
    (kk : Fin 512) (c : Fin 128) :
    kernelRun0_A.sl.r_2 i arg4 harg4 x2 (ix2 kk c) = x2 (ix2 (key (512 * nFull i + kk.val)) c) := by
  have h := nFull_lt i
  refine load_at arg4 harg4 x2 _ _ _ (ix2 kk c) _ ?_
  intro a
  match a with
  | ⟨0, _⟩ => exact (Nat.mod_eq_of_lt (by omega)).trans (congrArg (· + kk.val) (off5_eq i).symm)
  | ⟨1, _⟩ => exact (Nat.zero_add _).symm

theorem r_3_at (i : grid0.Coords) (arg5 : Memref sig .tc .vmem S2048x32 .f32) (harg5 : arg5.IsWhole) (x3 : Vec Ideal S2048x32 .f32)
    (kk : Fin 512) (c : Fin 32) :
    kernelRun0_A.sl.r_3 i arg5 harg5 x3 (ix2 kk c) = x3 (ix2 (key (512 * nFull i + kk.val)) c) := by
  have h := nFull_lt i
  refine load_at arg5 harg5 x3 _ _ _ (ix2 kk c) _ ?_
  intro a
  match a with
  | ⟨0, _⟩ => exact (Nat.mod_eq_of_lt (by omega)).trans (congrArg (· + kk.val) (off6_eq i).symm)
  | ⟨1, _⟩ => exact (Nat.zero_add _).symm

end Cert.KernelIdeal.Block

end
-- ==== Proof.Softmax.lean ====
/- Causal softmax attention of one query over real keys, and the two ways of computing it: whole rows, and blocks of keys
   with a running maximum. -/
module

public import proofs.«01_k».proof.Proof.Online
public import Mathlib.Algebra.BigOperators.Fin
public import Mathlib.Algebra.Order.BigOperators.Group.Finset

@[expose] public section

noncomputable section

namespace Cert.Online

open Idealize.ShloMosaic

theorem coe_div (a b : ℝ) (hb : b ≠ 0) : Ideal.div (a : EReal) (b : EReal) = ((a / b : ℝ) : EReal) := by
  unfold Ideal.div
  rw [if_neg (by exact_mod_cast hb), ← EReal.coe_inv, ← EReal.coe_mul]
  rfl

/-- A row of scores one of which is real has a positive sum of weights. -/
theorem sum_wt_pos {ι : Type*} (S : Finset ι) (x : ι → EReal) (hx : ∀ k, x k ≠ ⊤) (k₀ : ι) (h₀ : k₀ ∈ S) (hk₀ : x k₀ ≠ ⊥) :
    0 < ∑ k ∈ S, wt (x k) := by
  refine Finset.sum_pos' (fun k _ => wt_nonneg _) ⟨k₀, h₀, ?_⟩
  generalize hy : x k₀ = y at *
  induction y using EReal.rec with
  | bot => exact absurd rfl hk₀
  | coe r => rw [wt_coe]; exact Real.exp_pos r
  | top => exact absurd hy (hx k₀)

/-- Softmax over a whole row, then the weighted sum. -/
theorem softmax_row {n : ℕ} (x : Fin n → EReal) (hx : ∀ k, x k ≠ ⊤) (k₀ : Fin n) (hk₀ : x k₀ ≠ ⊥) (v : Fin n → EReal) (vr : Fin n → ℝ)
    (hv : ∀ k, v k = (vr k : EReal)) (M : EReal) (hM : M = Finset.univ.fold max ⊥ x) :
    ∑ k, v k * Ideal.div (Ideal.exp (x k - M)) (∑ j, Ideal.exp (x j - M))
      = (((∑ k, wt (x k) * vr k) / ∑ k, wt (x k) : ℝ) : EReal) := by
  obtain ⟨μ, hμ⟩ := fold_max_real x hx k₀ hk₀
  have hW : 0 < ∑ k, wt (x k) := sum_wt_pos _ x hx k₀ (Finset.mem_univ _) hk₀
  have he : ∀ k, Ideal.exp (x k - M) = ((Real.exp (-μ) * wt (x k) : ℝ) : EReal) := fun k => by rw [hM, hμ]; exact exp_sub_coe _ (hx k) μ
  have hp := Real.exp_pos (-μ)
  simp only [he, hv, coe_sum, ← Finset.mul_sum]
  have : ∀ k, ((vr k : ℝ) : EReal) * Ideal.div ((Real.exp (-μ) * wt (x k) : ℝ) : EReal) ((Real.exp (-μ) * ∑ j, wt (x j) : ℝ) : EReal)
      = ((wt (x k) * vr k / ∑ j, wt (x j) : ℝ) : EReal) := fun k => by
    rw [coe_div _ _ (by positivity), ← EReal.coe_mul]
    congr 1
    field_simp
  simp only [this, coe_sum, Finset.sum_div]

/-- The running quantities after `K` blocks of 512 scores. -/
theorem carries_blocks (x : ℕ → EReal) (v : ℕ → EReal) (vr : ℕ → ℝ) (hx : ∀ j, x j ≠ ⊤) (hv : ∀ j, v j = (vr j : EReal)) (M L A : ℕ → EReal)
    (hM0 : M 0 = ⊥) (hL0 : L 0 = 0) (hA0 : A 0 = 0) (K : ℕ) (h0 : ∀ N < K, x (512 * N) ≠ ⊥)
    (hM : ∀ N < K, M (N + 1) = stepM (M N) fun k : Fin 512 => x (512 * N + k.val))
    (hL : ∀ N < K, L (N + 1) = stepL (M N) (L N) fun k : Fin 512 => x (512 * N + k.val))
    (hA : ∀ N < K, A (N + 1) = stepA (M N) (A N) (fun k : Fin 512 => x (512 * N + k.val)) fun k : Fin 512 => v (512 * N + k.val)) :
    Carries (∑ j ∈ Finset.range (512 * K), wt (x j)) (∑ j ∈ Finset.range (512 * K), wt (x j) * vr j) (M K) (L K) (A K) := by
  induction K with
  | zero => rw [hM0, hL0, hA0]; exact Carries.zero
  | succ K ih =>
    have ih := ih (fun N h => h0 N (by omega)) (fun N h => hM N (by omega)) (fun N h => hL N (by omega)) (fun N h => hA N (by omega))
    rw [hM K (by omega), hL K (by omega), hA K (by omega), Nat.mul_succ, Finset.sum_range_add, Finset.sum_range_add,
      Finset.sum_range (n := 512), Finset.sum_range (n := 512)]
    exact ih.step _ _ (fun k => vr (512 * K + k.val)) (fun k => hx _) ⟨0, by decide⟩ (h0 K (by omega)) (fun k => hv _)

/-- The quotient after the last block: softmax attention over the first `T` scores, if the others are masked. -/
theorem quot_blocks (x : ℕ → EReal) (v : ℕ → EReal) (vr : ℕ → ℝ) (hx : ∀ j, x j ≠ ⊤) (hv : ∀ j, v j = (vr j : EReal)) (M L A : ℕ → EReal)
    (hM0 : M 0 = ⊥) (hL0 : L 0 = 0) (hA0 : A 0 = 0) (K : ℕ) (h0 : ∀ N ≤ K, x (512 * N) ≠ ⊥)
    (hM : ∀ N < K, M (N + 1) = stepM (M N) fun k : Fin 512 => x (512 * N + k.val))
    (hL : ∀ N < K, L (N + 1) = stepL (M N) (L N) fun k : Fin 512 => x (512 * N + k.val))
    (hA : ∀ N < K, A (N + 1) = stepA (M N) (A N) (fun k : Fin 512 => x (512 * N + k.val)) fun k : Fin 512 => v (512 * N + k.val))
    (T : ℕ) (hT : 512 * (K + 1) ≤ T) (hbot : ∀ j, 512 * (K + 1) ≤ j → x j = ⊥) :
    Ideal.div (stepA (M K) (A K) (fun k : Fin 512 => x (512 * K + k.val)) fun k : Fin 512 => v (512 * K + k.val))
        (stepL (M K) (L K) fun k : Fin 512 => x (512 * K + k.val))
      = (((∑ j : Fin T, wt (x j.val) * vr j.val) / ∑ j : Fin T, wt (x j.val) : ℝ) : EReal) := by
  have h := (carries_blocks x v vr hx hv M L A hM0 hL0 hA0 K (fun N hN => h0 N (by omega)) hM hL hA).step
    (fun k : Fin 512 => x (512 * K + k.val)) (fun k : Fin 512 => v (512 * K + k.val)) (fun k => vr (512 * K + k.val)) (fun k => hx _)
    ⟨0, by decide⟩ (h0 K le_rfl) (fun k => hv _)
  have e1 : ∀ f : ℕ → ℝ, (∑ j ∈ Finset.range (512 * K), wt (x j) * f j) + ∑ k : Fin 512, wt (x (512 * K + k.val)) * f (512 * K + k.val)
      = ∑ j : Fin T, wt (x j.val) * f j.val := fun f => by
    rw [← Finset.sum_range (n := T) (f := fun j => wt (x j) * f j), show T = 512 * (K + 1) + (T - 512 * (K + 1)) by omega, Finset.sum_range_add,
      Finset.sum_eq_zero (s := Finset.range (T - 512 * (K + 1))) (fun j _ => by rw [hbot _ (by omega), wt_bot, zero_mul]), add_zero, Nat.mul_succ,
      Finset.sum_range_add, Finset.sum_range (n := 512)]
  have e2 : (∑ j ∈ Finset.range (512 * K), wt (x j)) + ∑ k : Fin 512, wt (x (512 * K + k.val)) = ∑ j : Fin T, wt (x j.val) := by
    simpa using e1 fun _ => 1
  rw [e1 vr, e2] at h
  refine h.quot ?_
  exact sum_wt_pos _ (fun j : Fin T => x j.val) (fun _ => hx _) ⟨0, by omega⟩ (Finset.mem_univ _) (h0 0 (by omega))

/-- The score of a key at the scale `s`. -/
def sc (s : ℝ) (q : Fin 128 → ℝ) (qr : Fin 32 → ℝ) (kc : Fin 128 → ℝ) (kr : Fin 32 → ℝ) : ℝ :=
  (∑ c, q c * kc c + ∑ c, qr c * kr c) * s

/-- The score of key `n` for the query at position `t`: masked behind it. -/
def causal (t : ℕ) (n : ℕ) (x : ℝ) : EReal := if n ≤ t then (x : EReal) else ⊥

theorem causal_ne_top (t n : ℕ) (x : ℝ) : causal t n x ≠ ⊤ := by
  unfold causal; split
  · exact EReal.coe_ne_top _
  · exact bot_ne_top

/-- Causal attention of the query at position `t` over 2048 keys. -/
def attn (s : ℝ) (q : Fin 128 → ℝ) (qr : Fin 32 → ℝ) (kc : Fin 2048 → Fin 128 → ℝ) (kr : Fin 2048 → Fin 32 → ℝ) (t : ℕ) (c : Fin 128) : ℝ :=
  (∑ n : Fin 2048, wt (causal t n.val (sc s q qr (kc n) (kr n))) * kc n c) / ∑ n : Fin 2048, wt (causal t n.val (sc s q qr (kc n) (kr n)))

end Cert.Online

end
-- ==== Proof.Row.lean ====
/- The kernel at one grid point: each row of what it writes is causal softmax attention of one query of one head. -/
module

public import proofs.«01_k».proof.Proof.Read
public import proofs.«01_k».proof.Proof.Softmax
public import Idealize.ShloMosaic.Lib.VecWindow
public import proofs.«01_k».proof.Proof.Gen.KernelIdeal.Value

@[expose] public section

set_option maxRecDepth 16384

noncomputable section

namespace Cert.KernelIdeal.Block

open Cert.KernelIdeal Cert.KernelIdeal.Gen Idealize.ShloMosaic Idealize.ShloMosaic.TcCoe Idealize.ShloMosaic.Tactic Idealize.SL.Sem
open Cert.Online

/-- The scale as a real. -/
def sclR : ℝ := scl.toReal

theorem scl_eq : scl = (sclR : EReal) := by
  have : scl ≠ ⊤ ∧ scl ≠ ⊥ := by
    unfold scl
    constructor <;> simp [Ideal.ofBits, Ideal.ieee]
    all_goals rw [← EReal.coe_mul]
    · exact EReal.coe_ne_top _
    · exact EReal.coe_ne_bot _
  exact (EReal.coe_toReal this.1 this.2).symm

/-- A score over reals, at the kernel's order of the products. -/
theorem score_real (q : Fin 128 → ℝ) (qr : Fin 32 → ℝ) (kc : Fin 128 → ℝ) (kr : Fin 32 → ℝ) :
    (∑ c : Fin 128, (q c : EReal) * scl * (kc c : EReal)) + ∑ c : Fin 32, (qr c : EReal) * scl * (kr c : EReal)
      = ((sc sclR q qr kc kr : ℝ) : EReal) := by
  rw [scl_eq]
  simp only [← EReal.coe_mul, coe_sum, ← EReal.coe_add]
  congr 1
  rw [sc, add_mul, Finset.sum_mul, Finset.sum_mul]
  congr 1 <;> exact Finset.sum_congr rfl fun c _ => by ring

theorem pay4_at (a : Vec Ideal S1024x128 .f32) (l : Vec Ideal S1024x1 .f32) (h : Fin 8) (t c : Fin 128) :
    k0_pay4 a l (ix3 h t c) = Ideal.div (a (ix2 ⟨128 * h.val + t.val, by omega⟩ c)) (l (ix2 ⟨128 * h.val + t.val, by omega⟩ 0)) := by
  pointwise [k0_pay4]
  simp only [Nat.mul_comm h.val 128]

theorem pay4_read (arg8 : Memref sig .tc .vmem S1024x1 .f32) (arg9 : Memref sig .tc .vmem S1024x128 .f32)
    (f8 : BufTy.Contents (Elt Ideal) arg8.view.ty) (f9 : BufTy.Contents (Elt Ideal) arg9.view.ty) (i9 i8) (h : Fin 8) (t c : Fin 128) :
    k0_pay4 (View.readAt (Elt Ideal) arg9.view (Rect.unit (s := S1024x128) ![0, 0] ![1024, 128] i9).toLoadRect f9)
        (View.readAt (Elt Ideal) arg8.view (Rect.unit (s := S1024x1) ![0, 0] ![1024, 1] i8).toLoadRect f8) (ix3 h t c)
      = Ideal.div (arg9.view.read (Elt Ideal) f9 (ix2 ⟨128 * h.val + t.val, by omega⟩ c))
          (arg8.view.read (Elt Ideal) f8 (ix2 ⟨128 * h.val + t.val, by omega⟩ 0)) := by
  rw [pay4_at]
  congr 1
  · refine (readAt_rows arg9.view f9 0 1024 i9 _ c (by simp; omega)).trans ?_
    congr 2
    exact Fin.ext (Nat.zero_add _)
  · refine (readAt_rows arg8.view f8 0 1024 i8 _ 0 (by simp; omega)).trans ?_
    congr 2
    exact Fin.ext (Nat.zero_add _)

section Point
variable (dv : Dev nD) (i : grid0.Coords) (arg2 : Memref sig .tc .vmem S8x128x128 .f32) (harg2 : arg2.IsWhole) (arg3 : Memref sig .tc .vmem S128x256 .f32) (harg3 : arg3.IsWhole) (arg4 : Memref sig .tc .vmem S2048x128 .f32) (harg4 : arg4.IsWhole) (arg5 : Memref sig .tc .vmem S2048x32 .f32) (harg5 : arg5.IsWhole) (arg6 : Memref sig .tc .vmem S8x128x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole)
  (x0 : Vec Ideal S8x128x128 .f32) (x1 : Vec Ideal S128x256 .f32) (x2 : Vec Ideal S2048x128 .f32) (x3 : Vec Ideal S2048x32 .f32)
  (a0 : Fin 8 → Fin 128 → Fin 128 → ℝ) (h0 : ∀ h t c, x0 (ix3 h t c) = (a0 h t c : EReal))
  (a1 : Fin 128 → Fin 256 → ℝ) (h1 : ∀ t c, x1 (ix2 t c) = (a1 t c : EReal))
  (a2 : Fin 2048 → Fin 128 → ℝ) (h2 : ∀ n c, x2 (ix2 n c) = (a2 n c : EReal))
  (a3 : Fin 2048 → Fin 32 → ℝ) (h3 : ∀ n c, x3 (ix2 n c) = (a3 n c : EReal))

/-- The position of a row's query in its sequence. -/
def pos (i : grid0.Coords) (r : Fin 1024) : ℕ := 128 * (qi i).val + r.val % 128

/-- The score of key `n` for row `r`. -/
def keyScore (a0 : Fin 8 → Fin 128 → Fin 128 → ℝ) (a1 : Fin 128 → Fin 256 → ℝ) (a2 : Fin 2048 → Fin 128 → ℝ) (a3 : Fin 2048 → Fin 32 → ℝ)
    (r : Fin 1024) (n : Fin 2048) : ℝ :=
  sc sclR (a0 (hd r) (qy r)) (fun c => a1 (qy r) (col (hd r) c)) (a2 n) (a3 n)

include h0 h1 h2 h3

theorem trip_real (k : Fin (k0_t1_loop i).trips) (r : Fin 1024) (kk : Fin 512) :
    tripS i arg4 arg5 (kernelRun0_A.sl.r dv arg2 harg2 x0) (kernelRun0_A.sl.r_1 dv arg3 harg3 x1) (harg4.unread x2) (harg5.unread x3) k r kk
      = (keyScore a0 a1 a2 a3 r (key (512 * k.val + kk.val)) : EReal) := by
  unfold tripS score
  simp only [r_at, r_1_at, keyC_at, keyR_at, h0, h1, h2, h3]
  exact score_real _ _ _ _

theorem last_real (r : Fin 1024) (kk : Fin 512) :
    lastS dv i arg2 harg2 arg3 harg3 arg4 harg4 arg5 harg5 x0 x1 x2 x3 r kk
      = causal (pos i r) (512 * nFull i + kk.val) (keyScore a0 a1 a2 a3 r (key (512 * nFull i + kk.val))) := by
  unfold lastS score
  simp only [r_at, r_1_at, r_2_at, r_3_at, h0, h1, h2, h3]
  rw [score_real]
  rfl

theorem row_value (r : Fin 1024) (c : Fin 128) :
    Ideal.div
      (arg9.view.read (Elt Ideal) (arg9.view.writes (Elt Ideal) arg9.view.junk (kernelRun0_A.sl.HS2_4 dv i arg2 harg2 arg3 harg3 arg4 harg4 arg5 harg5 arg6 harg6 arg7 harg7 arg8 harg8 arg9 harg9 x0 x1 x2 x3)) (ix2 r c))
      (arg8.view.read (Elt Ideal) (arg8.view.writes (Elt Ideal) arg8.view.junk (kernelRun0_A.sl.HS1_4 dv i arg2 harg2 arg3 harg3 arg4 harg4 arg5 harg5 arg6 harg6 arg7 harg7 arg8 harg8 arg9 harg9 x0 x1 x2 x3)) (ix2 r 0))
      = (attn sclR (a0 (hd r) (qy r)) (fun c => a1 (qy r) (col (hd r) c)) a2 a3 (pos i r) c : EReal) := by
  have hn := nFull_lt i
  have hq : (qi i).val < 16 := (qi i).isLt
  have hnp : 512 * nFull i ≤ 128 * (qi i).val := by show 512 * ((128 * (qi i).val + 1) / 512) ≤ _; omega
  have hnq : 128 * (qi i).val + 128 ≤ 512 * (nFull i + 1) := by show _ ≤ 512 * ((128 * (qi i).val + 1) / 512 + 1); omega
  rw [last_L, last_A]
  set x : ℕ → EReal := fun n => causal (pos i r) n (keyScore a0 a1 a2 a3 r (key n)) with hx
  set v : ℕ → EReal := fun n => x2 (ix2 (key n) c) with hv
  have hfull : ∀ n < 512 * nFull i, x n = (keyScore a0 a1 a2 a3 r (key n) : EReal) := fun n h => by
    show causal _ _ _ = _
    rw [causal, if_pos]
    unfold pos; omega
  have e1 : lastS dv i arg2 harg2 arg3 harg3 arg4 harg4 arg5 harg5 x0 x1 x2 x3 r = fun k : Fin 512 => x (512 * nFull i + k.val) :=
    funext fun kk => last_real dv i arg2 harg2 arg3 harg3 arg4 harg4 arg5 harg5 x0 x1 x2 x3 a0 h0 a1 h1 a2 h2 a3 h3 r kk
  have e2 : (fun kk : Fin 512 => kernelRun0_A.sl.r_2 i arg4 harg4 x2 (ix2 kk c)) = fun k : Fin 512 => v (512 * nFull i + k.val) :=
    funext fun kk => r_2_at i arg4 harg4 x2 kk c
  have e3 : ∀ (N : ℕ) (hN : N < (k0_t1_loop i).trips),
      tripS i arg4 arg5 (kernelRun0_A.sl.r dv arg2 harg2 x0) (kernelRun0_A.sl.r_1 dv arg3 harg3 x1) (harg4.unread x2) (harg5.unread x3) ⟨N, hN⟩ r
        = fun k : Fin 512 => x (512 * N + k.val) := fun N hN => funext fun kk => by
    have : N < nFull i := lt_of_lt_of_eq hN (t1_trips i)
    rw [hfull _ (by omega)]
    exact trip_real dv i arg2 harg2 arg3 harg3 arg4 harg4 arg5 harg5 x0 x1 x2 x3 a0 h0 a1 h1 a2 h2 a3 h3 ⟨N, hN⟩ r kk
  have e4 : ∀ (N : ℕ) (hN : N < (k0_t1_loop i).trips),
      (fun kk : Fin 512 => keyC i arg4 (harg4.unread x2) ⟨N, hN⟩ (ix2 kk c)) = fun k : Fin 512 => v (512 * N + k.val) := fun N hN =>
    funext fun kk => keyC_at i arg4 harg4 x2 ⟨N, hN⟩ kk c
  rw [e1, e2]
  refine (quot_blocks x v (fun n => a2 (key n) c) (fun n => causal_ne_top _ _ _) (fun n => h2 _ _)
    (fun N => arg7.view.read (Elt Ideal) (s7 dv i arg2 harg2 arg3 harg3 arg4 harg4 arg5 harg5 arg6 harg6 arg7 harg7 arg8 harg8 arg9 harg9 x0 x1 x2 x3 N) (ix2 r 0))
    (fun N => arg8.view.read (Elt Ideal) (s8 dv i arg2 harg2 arg3 harg3 arg4 harg4 arg5 harg5 arg6 harg6 arg7 harg7 arg8 harg8 arg9 harg9 x0 x1 x2 x3 N) (ix2 r 0))
    (fun N => arg9.view.read (Elt Ideal) (s9 dv i arg2 harg2 arg3 harg3 arg4 harg4 arg5 harg5 arg6 harg6 arg7 harg7 arg8 harg8 arg9 harg9 x0 x1 x2 x3 N) (ix2 r c))
    (s7_zero ..) (s8_zero ..) (s9_zero ..) (nFull i) ?_ ?_ ?_ ?_ 2048 (by omega) ?_).trans ?_
  · intro N hN
    show causal _ _ _ ≠ ⊥
    rw [causal, if_pos (by unfold pos; omega)]
    exact EReal.coe_ne_bot _
  · intro N hN
    have hN' : N < (k0_t1_loop i).trips := lt_of_lt_of_eq hN (t1_trips i).symm
    rw [← e3 N hN']
    exact s7_succ dv i arg2 harg2 arg3 harg3 arg4 harg4 arg5 harg5 arg6 harg6 arg7 harg7 arg8 harg8 arg9 harg9 x0 x1 x2 x3 N hN' r
  · intro N hN
    have hN' : N < (k0_t1_loop i).trips := lt_of_lt_of_eq hN (t1_trips i).symm
    rw [← e3 N hN']
    exact s8_succ dv i arg2 harg2 arg3 harg3 arg4 harg4 arg5 harg5 arg6 harg6 arg7 harg7 arg8 harg8 arg9 harg9 x0 x1 x2 x3 N hN' r
  · intro N hN
    have hN' : N < (k0_t1_loop i).trips := lt_of_lt_of_eq hN (t1_trips i).symm
    rw [← e3 N hN', ← e4 N hN']
    exact s9_succ dv i arg2 harg2 arg3 harg3 arg4 harg4 arg5 harg5 arg6 harg6 arg7 harg7 arg8 harg8 arg9 harg9 x0 x1 x2 x3 N hN' r c
  · intro n hn'
    show causal _ _ _ = ⊥
    rw [causal, if_neg (by unfold pos; omega)]
  · have hk : ∀ n : Fin 2048, key n.val = n := fun n => Fin.ext (Nat.mod_eq_of_lt n.isLt)
    simp only [hx, hk]
    rfl

theorem out_value (h : Fin 8) (t : Fin 128) (c : Fin 128) :
    out0_A_4 dv i arg2 harg2 arg3 harg3 arg4 harg4 arg5 harg5 arg6 harg6 arg7 harg7 arg8 harg8 arg9 harg9 x0 x1 x2 x3 (ix3 h t c)
      = (attn sclR (a0 h t) (fun c => a1 t (col h c)) a2 a3 (128 * (qi i).val + t.val) c : EReal) := by
  have hr : 128 * h.val + t.val < 1024 := by omega
  have eh : hd ⟨128 * h.val + t.val, hr⟩ = h := Fin.ext (by show (128 * h.val + t.val) / 128 = h.val; omega)
  have et : qy ⟨128 * h.val + t.val, hr⟩ = t := Fin.ext (by show (128 * h.val + t.val) % 128 = t.val; omega)
  have hv := row_value dv i arg2 harg2 arg3 harg3 arg4 harg4 arg5 harg5 arg6 harg6 arg7 harg7 arg8 harg8 arg9 harg9 x0 x1 x2 x3 a0 h0 a1 h1 a2 h2 a3 h3 ⟨128 * h.val + t.val, hr⟩ c
  rw [eh, et] at hv
  have ep : pos i ⟨128 * h.val + t.val, hr⟩ = 128 * (qi i).val + t.val := by show 128 * (qi i).val + (128 * h.val + t.val) % 128 = _; omega
  rw [ep] at hv
  refine Eq.trans ?_ hv
  unfold out0_A_4
  unfold kernelRun0_A
  dsimp only
  unfold kernelRun0_A.sl.v258 kernelRun0_A.sl.v259
  refine (congrFun (View.read_writes_full (s := S8x128x128) VO0_4 VO0_4.junk inb_S8x128x128_S8x128x128_0_0_0 _ []) (ix3 h t c)).trans ?_
  exact pay4_read arg8 arg9 _ _ _ _ h t c

end Point

end Cert.KernelIdeal.Block

end
-- ==== Proof.Ref.lean ====
/- The reference at an index of its result: causal softmax attention of that query over its own sequence. -/
module

public import proofs.«01_k».proof.Proof.Gen.ReferenceIdeal.Run
public import proofs.«01_k».proof.Proof.Softmax
public import Idealize.ShloMosaic.Lib.WordCmp

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Online

/-- Which keys a query sees. -/
def seenMask : IVec S16x8x2048x2048 1 :=
  broadcastInDim S16x8x2048x2048 ![0, 1, 2, 3] bcast_S1x1x2048x2048_S16x8x2048x2048_0_1_2_3 (broadcastInDim S1x1x2048x2048 ![2, 3] bcast_S2048x2048_S1x1x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))

/-- The scores before the mask. -/
def raw (q : FVec Ideal S8x32768x128 .f32) (qr : FVec Ideal S32768x256 .f32) (ck : FVec Ideal S32768x128 .f32) (kr : FVec Ideal S32768x32 .f32) :
    FVec Ideal S16x8x2048x2048 .f32 :=
  mulf (addf (Host.dotGeneral dot_S8x16x2048x128_S16x2048x128_S16x8x2048x2048_3_2_02_1_1_0 none (shapeCast _ q shapeCasts_S8x32768x128_S8x16x2048x128) (shapeCast _ ck shapeCasts_S32768x128_S16x2048x128)) (transpose S16x8x2048x2048 [0, 3, 2, 1] (Host.dotGeneral dot_S16x2048x32_S16x2048x8x32_S16x2048x2048x8_2_3_1_12_0_0 none (shapeCast _ kr shapeCasts_S32768x32_S16x2048x32) (shapeCast _ qr shapeCasts_S32768x256_S16x2048x8x32)) transposes_S16x2048x2048x8_S16x8x2048x2048_0_3_2_1)) (broadcastInDim S16x8x2048x2048 ![] bcast_S_S16x8x2048x2048 (constant S_ .f32 0x3DD105EC#32))

/-- The masked scores. -/
def masked (X : FVec Ideal S16x8x2048x2048 .f32) : FVec Ideal S16x8x2048x2048 .f32 :=
  select seenMask X (broadcastInDim S16x8x2048x2048 ![] bcast_S_S16x8x2048x2048 (id (constant S_ .f32 0xFF800000#32)))

/-- The largest score of each row. -/
def rowMax (X : FVec Ideal S16x8x2048x2048 .f32) : FVec Ideal S16x8x2048 .f32 :=
  maximumf (broadcastInDim S16x8x2048 ![] bcast_S_S16x8x2048 (constant S_ .f32 0xFF800000#32)) (Host.reduce FloatOps.maximumf X (constant S_ .f32 0xFF800000#32) reducesTo_S16x8x2048x2048_S16x8x2048_d3 h_S_)

/-- The exponentials of the scores less the row's largest. -/
def expo (X : FVec Ideal S16x8x2048x2048 .f32) : FVec Ideal S16x8x2048x2048 .f32 :=
  Host.exp (subf X (broadcastInDim S16x8x2048x2048 ![0, 1, 2, 3] bcast_S16x8x2048x1_S16x8x2048x2048_0_1_2_3 (broadcastInDim S16x8x2048x1 ![0, 1, 2] bcast_S16x8x2048_S16x8x2048x1_0_1_2 (rowMax X))))

/-- The exponentials over their row's sum. -/
def prob (E : FVec Ideal S16x8x2048x2048 .f32) : FVec Ideal S16x8x2048x2048 .f32 :=
  Host.divf E (broadcastInDim S16x8x2048x2048 ![0, 1, 2, 3] bcast_S16x8x2048x1_S16x8x2048x2048_0_1_2_3 (broadcastInDim S16x8x2048x1 ![0, 1, 2] bcast_S16x8x2048_S16x8x2048x1_0_1_2 (Host.reduceAdd E (constant S_ .f32 0x00000000#32) reducesTo_S16x8x2048x2048_S16x8x2048_d3 h_S_)))

/-- The weighted sum, with the heads in front. -/
def outOf (ck : FVec Ideal S32768x128 .f32) (P : FVec Ideal S16x8x2048x2048 .f32) : FVec Ideal S8x32768x128 .f32 :=
  shapeCast _ (transpose S8x16x2048x128 [2, 0, 3, 1] (Host.dotGeneral dot_S16x2048x128_S16x8x2048x2048_S16x128x8x2048_1_3_2_12_0_0 none (shapeCast _ ck shapeCasts_S32768x128_S16x2048x128) P) transposes_S16x128x8x2048_S8x16x2048x128_2_0_3_1) shapeCasts_S8x16x2048x128_S8x32768x128

theorem out_eq (m : (ℓ : Loc nD τ sig) → Buf (Elt Ideal) ℓ) (c : Dev nD) :
    res_out0 m c = outOf (m ((c.tc : Thread nD τ).loc main_arg2)) (prob (expo (masked (raw (m ((c.tc : Thread nD τ).loc main_arg0)) (m ((c.tc : Thread nD τ).loc main_arg1)) (m ((c.tc : Thread nD τ).loc main_arg2)) (m ((c.tc : Thread nD τ).loc main_arg3)))))) := rfl

/-- The batch and the position of a row. -/
def bt (n : Fin 32768) : Fin 16 := ⟨n.val / 2048, by omega⟩
def ps (n : Fin 32768) : Fin 2048 := ⟨n.val % 2048, by omega⟩

/-- Row `s` of batch `b`. -/
def row (b : Fin 16) (s : Fin 2048) : Fin 32768 := ⟨2048 * b.val + s.val, by omega⟩

theorem neg_inf : Ideal.ofBits .f32 0xFF800000#32 = ⊥ := by simp [Ideal.ofBits, Ideal.ieee]

theorem mask_word (a b : Fin 2048) (x y : EReal) :
    Scalar.select (IntOp.cmpi .sle (BitVec.ofNat 32 a.val) (BitVec.ofNat 32 b.val)) x y = if a.val ≤ b.val then x else y := by
  rw [WordCmp.cmpi_sle_ofNat (by have := a.isLt; omega) (by have := b.isLt; omega)]
  unfold Scalar.select
  by_cases h : a.val ≤ b.val <;> simp [h]

/-- The largest element along the last of four axes. -/
theorem reduceMax_at {n0 n1 n2 n3 : ℕ} (X : FVec Ideal (⟨4, ![n0, n1, n2, n3]⟩ : Shape) .f32) (init : FVec Ideal (⟨0, ![]⟩ : Shape) .f32)
    (h : (⟨4, ![n0, n1, n2, n3]⟩ : Shape).ReducesTo [3] ⟨3, ![n0, n1, n2]⟩) (hu : 0 < (⟨0, ![]⟩ : Shape).numel) (a : Fin n0) (b : Fin n1) (c : Fin n2) :
    Host.reduce FloatOps.maximumf X init h hu (ix3 a b c) = Finset.univ.fold max (init ix0) fun s : Fin n3 => X (ix4 a b c s) := by
  pointwise
  rw [show Shape.Idx.first hu = ix0 from funext fun a => a.elim0]

theorem max_at {s : Shape} (A B : FVec Ideal s .f32) (j : s.Idx) : maximumf A B j = max (A j) (B j) := rfl

theorem splat_at (w : BitVec 32) (j : S16x8x2048.Idx) :
    broadcastInDim S16x8x2048 ![] bcast_S_S16x8x2048 (constant (F := Ideal) S_ .f32 w) j = Ideal.ofBits .f32 w := rfl

theorem const_at (w : BitVec 32) (j : S_.Idx) : constant (F := Ideal) S_ .f32 w j = Ideal.ofBits .f32 w := rfl

theorem masked_at (X : FVec Ideal S16x8x2048x2048 .f32) (b : Fin 16) (h : Fin 8) (t s : Fin 2048) :
    masked X (ix4 b h t s) = if s.val ≤ t.val then X (ix4 b h t s) else ⊥ := by
  pointwise [masked, seenMask]
  rw [mask_word, ← neg_inf]
  rfl

theorem rowMax_at (X : FVec Ideal S16x8x2048x2048 .f32) (b : Fin 16) (h : Fin 8) (t : Fin 2048) :
    rowMax X (ix3 b h t) = Finset.univ.fold max ⊥ fun s : Fin 2048 => X (ix4 b h t s) := by
  unfold rowMax
  rw [max_at, splat_at, reduceMax_at, const_at, neg_inf]
  exact max_eq_right bot_le

theorem expo_at (X : FVec Ideal S16x8x2048x2048 .f32) (b : Fin 16) (h : Fin 8) (t s : Fin 2048) :
    expo X (ix4 b h t s) = Ideal.exp (X (ix4 b h t s) - rowMax X (ix3 b h t)) := by
  pointwise [expo]

theorem prob_at (E : FVec Ideal S16x8x2048x2048 .f32) (b : Fin 16) (h : Fin 8) (t s : Fin 2048) :
    prob E (ix4 b h t s) = Ideal.div (E (ix4 b h t s)) (∑ j : Fin 2048, E (ix4 b h t j)) := by
  pointwise [prob]

theorem outOf_at (ck : FVec Ideal S32768x128 .f32) (P : FVec Ideal S16x8x2048x2048 .f32) (h : Fin 8) (n : Fin 32768) (d : Fin 128) :
    outOf ck P (ix3 h n d) = ∑ s : Fin 2048, ck (ix2 (row (bt n) s) d) * P (ix4 (bt n) h (ps n) s) := by
  pointwise [outOf]
  refine Finset.sum_congr rfl fun s _ => ?_
  congr 2
  exact congrArg (fun a => ix2 a d) (Fin.ext (by show n.val / 2048 * 2048 + s.val = 2048 * (n.val / 2048) + s.val; omega))

theorem raw_at (q : FVec Ideal S8x32768x128 .f32) (qr : FVec Ideal S32768x256 .f32) (ck : FVec Ideal S32768x128 .f32) (kr : FVec Ideal S32768x32 .f32)
    (b : Fin 16) (h : Fin 8) (t s : Fin 2048) :
    raw q qr ck kr (ix4 b h t s)
      = ((∑ c : Fin 128, q (ix3 h (row b t) c) * ck (ix2 (row b s) c)) + ∑ c : Fin 32, kr (ix2 (row b s) c) * qr (ix2 (row b t) ⟨32 * h.val + c.val, by omega⟩))
        * Ideal.ofBits .f32 0x3DD105EC#32 := by
  pointwise [raw]
  simp only [row, Nat.mul_comm b.val 2048, Nat.mul_comm h.val 32]

end Cert.ReferenceIdeal.Value

end
-- ==== Proof.Whole.lean ====
/- The kernel's whole result, and that the reference's is the same. -/
module

public import proofs.«01_k».proof.Proof.Row
public import proofs.«01_k».proof.Proof.Ref
public import proofs.«01_k».proof.Proof.Gen.KernelIdeal.Value
public import Idealize.ShloMosaic.Lib.Pipeline.ValueKit

@[expose] public section

set_option maxRecDepth 16384

noncomputable section

namespace Cert.Whole

open Cert.KernelIdeal Cert.KernelIdeal.Gen Cert.KernelIdeal.Block Idealize.ShloMosaic Idealize.ShloMosaic.TcCoe Idealize.SL.Sem
open Cert.Online
open Cert.ReferenceIdeal.Value (bt ps row)

/-- Causal attention of every query of every head over its own sequence, on the arrays' real values. -/
def G (q : Vec Ideal S8x32768x128 .f32) (qr : Vec Ideal S32768x256 .f32) (ck : Vec Ideal S32768x128 .f32) (kr : Vec Ideal S32768x32 .f32) :
    Vec Ideal S8x32768x128 .f32 := fun i =>
  ((attn sclR (fun c => (q (ix3 (i 0) (i 1) c)).toReal) (fun c => (qr (ix2 (i 1) (col (i 0) c))).toReal)
    (fun s c => (ck (ix2 (row (bt (i 1)) s) c)).toReal) (fun s c => (kr (ix2 (row (bt (i 1)) s) c)).toReal) ((i 1 : Fin 32768).val % 2048) (i 2) : ℝ) : EReal)

/-- Every entry is a real number. -/
def Real' {s : Shape} (x : s.Idx → EReal) : Prop := ∀ i, x i = ((x i).toReal : EReal)

/-- Row `y` of point `t`'s block of 128 rows. -/
def brow (t : Fin cfg0.N) (y : Fin 128) : Fin 32768 := ⟨128 * t.val + y.val, by have : t.val < 256 := t.isLt; omega⟩

/-- Row `s` of the sequence that point `t` works on. -/
def srow (t : Fin cfg0.N) (s : Fin 2048) : Fin 32768 := ⟨2048 * (t.val / 16) + s.val, by have : t.val < 256 := t.isLt; omega⟩

theorem idx0 : ∀ t : Fin cfg0.N, win0_0.index t = ![0, t.val, 0] := (by decide +kernel : ∀ t : Fin grid0.N, win0_0.index t = ![0, t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val / 16, 0] := (by decide +kernel : ∀ t : Fin grid0.N, win0_2.index t = ![t.val / 16, 0])
theorem idx3 : ∀ t : Fin cfg0.N, win0_3.index t = ![t.val / 16, 0] := (by decide +kernel : ∀ t : Fin grid0.N, win0_3.index t = ![t.val / 16, 0])
theorem idx4 : ∀ t : Fin cfg0.N, win0_4.index t = ![0, t.val, 0] := (by decide +kernel : ∀ t : Fin grid0.N, win0_4.index t = ![0, t.val, 0])
theorem qi_eq : ∀ t : Fin cfg0.N, (qi (grid0.coords t)).val = t.val % 16 := (by decide +kernel : ∀ t : Fin grid0.N, (qi (grid0.coords t)).val = t.val % 16)

variable (m : (ℓ : Loc nD τ sig) → Buf (Elt Ideal) ℓ) (c : Dev nD)

theorem blk0 (t : Fin cfg0.N) (h : Fin 8) (y d : Fin 128) :
    iblk m c 0 t (ix3 h y d) = m ((c : Thread nD τ).loc main_arg0) (ix3 h (brow t y) d) := by
  unfold brow
  blk_ext [iblk, V, idx0 t]

theorem blk1 (t : Fin cfg0.N) (y : Fin 128) (d : Fin 256) :
    iblk m c 1 t (ix2 y d) = m ((c : Thread nD τ).loc main_arg1) (ix2 (brow t y) d) := by
  unfold brow
  blk_ext [iblk, V, idx1 t]

theorem blk2 (t : Fin cfg0.N) (s : Fin 2048) (d : Fin 128) :
    iblk m c 2 t (ix2 s d) = m ((c : Thread nD τ).loc main_arg2) (ix2 (srow t s) d) := by
  unfold srow
  blk_ext [iblk, V, idx2 t]

theorem blk3 (t : Fin cfg0.N) (s : Fin 2048) (d : Fin 32) :
    iblk m c 3 t (ix2 s d) = m ((c : Thread nD τ).loc main_arg3) (ix2 (srow t s) d) := by
  unfold srow
  blk_ext [iblk, V, idx3 t]

theorem final (h0 : Real' (s := S8x32768x128) (m ((c : Thread nD τ).loc main_arg0))) (h1 : Real' (s := S32768x256) (m ((c : Thread nD τ).loc main_arg1)))
    (h2 : Real' (s := S32768x128) (m ((c : Thread nD τ).loc main_arg2))) (h3 : Real' (s := S32768x32) (m ((c : Thread nD τ).loc main_arg3))) :
    (dats m 0 c).arrAt 4 cfg0.N
      = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have ht : t.val < 256 := t.isLt
  obtain ⟨h, n, d, rfl⟩ : ∃ (h : Fin 8) (n d : Fin 128), y = ix3 h n d :=
    ⟨y 0, y 1, y 2, by funext k; match k with | ⟨0, _⟩ => rfl | ⟨1, _⟩ => rfl | ⟨2, _⟩ => rfl⟩
  have he : ((cfg0.win 4).blk t).view.emb (ix3 h n d) = ix3 h (brow t n) d := by
    unfold brow
    blk_ext [idx4 t]
  refine Eq.trans ?_ (congrArg (G _ _ _ _) he.symm)
  refine (out_value c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t)
    (fun h y d => (m ((c : Thread nD τ).loc main_arg0) (ix3 h (brow t y) d) : EReal).toReal) (fun h y d => (blk0 m c t h y d).trans (h0 _))
    (fun y d => (m ((c : Thread nD τ).loc main_arg1) (ix2 (brow t y) d) : EReal).toReal) (fun y d => (blk1 m c t y d).trans (h1 _))
    (fun s d => (m ((c : Thread nD τ).loc main_arg2) (ix2 (srow t s) d) : EReal).toReal) (fun s d => (blk2 m c t s d).trans (h2 _))
    (fun s d => (m ((c : Thread nD τ).loc main_arg3) (ix2 (srow t s) d) : EReal).toReal) (fun s d => (blk3 m c t s d).trans (h3 _)) h n d).trans ?_
  have er : ∀ s, row (bt (brow t n)) s = srow t s := fun s => Fin.ext (by
    show 2048 * ((128 * t.val + n.val) / 2048) + s.val = 2048 * (t.val / 16) + s.val; omega)
  have ep : 128 * (qi (grid0.coords t)).val + n.val = (brow t n).val % 2048 := by
    rw [qi_eq t]; show _ = (128 * t.val + n.val) % 2048; omega
  rw [ep]
  show _ = ((attn sclR (fun d => (m ((c : Thread nD τ).loc main_arg0) (ix3 h (brow t n) d) : EReal).toReal)
    (fun d => (m ((c : Thread nD τ).loc main_arg1) (ix2 (brow t n) (col h d)) : EReal).toReal)
    (fun s d => (m ((c : Thread nD τ).loc main_arg2) (ix2 (row (bt (brow t n)) s) d) : EReal).toReal)
    (fun s d => (m ((c : Thread nD τ).loc main_arg3) (ix2 (row (bt (brow t n)) s) d) : EReal).toReal) ((brow t n).val % 2048) d : ℝ) : EReal)
  simp only [er]

open Cert.ReferenceIdeal.Value in
theorem ref_final (q : Vec Ideal S8x32768x128 .f32) (qr : Vec Ideal S32768x256 .f32) (ck : Vec Ideal S32768x128 .f32) (kr : Vec Ideal S32768x32 .f32)
    (h0 : Real' q) (h1 : Real' qr) (h2 : Real' ck) (h3 : Real' kr) :
    outOf ck (prob (expo (masked (raw q qr ck kr)))) = G q qr ck kr := by
  funext i
  obtain ⟨h, n, d, rfl⟩ : ∃ (h : Fin 8) (n : Fin 32768) (d : Fin 128), i = ix3 h n d :=
    ⟨i 0, i 1, i 2, by funext k; match k with | ⟨0, _⟩ => rfl | ⟨1, _⟩ => rfl | ⟨2, _⟩ => rfl⟩
  rw [outOf_at]
  simp only [prob_at, expo_at, rowMax_at]
  have ex : ∀ s : Fin 2048, masked (raw q qr ck kr) (ix4 (bt n) h (ps n) s)
      = causal (ps n).val s.val (sc sclR (fun c => (q (ix3 h n c)).toReal) (fun c => (qr (ix2 n (col h c))).toReal)
          (fun c => (ck (ix2 (row (bt n) s) c)).toReal) (fun c => (kr (ix2 (row (bt n) s) c)).toReal)) := fun s => by
    have en : row (bt n) (ps n) = n := Fin.ext (by show 2048 * (n.val / 2048) + n.val % 2048 = n.val; omega)
    rw [masked_at, raw_at, en]
    unfold causal
    congr 1
    rw [show Ideal.ofBits .f32 0x3DD105EC#32 = (sclR : EReal) from scl_eq]
    unfold sc
    rw [EReal.coe_mul, EReal.coe_add, ← coe_sum, ← coe_sum]
    congr 2
    · exact Finset.sum_congr rfl fun c _ => by rw [EReal.coe_mul, ← h0, ← h2]
    · exact Finset.sum_congr rfl fun c _ => by rw [EReal.coe_mul, ← h1, ← h3, mul_comm]; rfl
  simp only [ex]
  refine (softmax_row _ (fun s => causal_ne_top _ _ _) ⟨0, by decide⟩ ?_ _ (fun s => (ck (ix2 (row (bt n) s) d)).toReal) (fun s => h2 _) _ rfl).trans rfl
  rw [causal, if_pos (Nat.zero_le _)]
  exact EReal.coe_ne_bot _

/-- A number whose magnitude is below infinity is real. -/
theorem real_of_lt {x : EReal} (h : Ideal.cmp .olt (max x (-x)) (Ideal.ofBits .f32 0x7F800000#32) = 1#1) : x = (x.toReal : EReal) := by
  have ht : Ideal.ofBits .f32 0x7F800000#32 = ⊤ := by simp [Ideal.ofBits, Ideal.ieee]
  rw [ht] at h
  refine (EReal.coe_toReal ?_ ?_).symm
  · rintro rfl; simp [Ideal.cmp] at h
  · rintro rfl; simp [Ideal.cmp] at h

/-- An array whose entries all have magnitude below infinity is real. -/
theorem real_of_fn {s : Shape} (x : FVec Ideal s .f32) {h : (⟨0, ![]⟩ : Shape).BroadcastsInDim s ![]}
    (hx : cmpf .olt (Host.absf x) (broadcastInDim s ![] h (constant (F := Ideal) ⟨0, ![]⟩ .f32 0x7F800000#32)) = fun _ => 1#1) : Real' x :=
  fun i => real_of_lt (congrFun hx i)

end Cert.Whole

end
-- ==== Proof.Norm.lean ====
/- Root-mean-square normalisation of a row, as one formula. -/
module

public import Idealize.ShloMosaic.PureOps.Ideal

@[expose] public section

noncomputable section

namespace Cert.Norm

open Idealize.ShloMosaic

/-- Entry `k` of the row `x`, divided by the root of its mean square (`w` is the word of the row's length), times the gain `g`. -/
def nrm (w : BitVec 32) {n : ℕ} (x g : Fin n → EReal) (k : Fin n) : EReal :=
  x k * Ideal.rsqrt (Ideal.div (∑ j, x j * x j) (Ideal.ofBits .f32 w) + Ideal.ofBits .f32 0x358637BD#32) * g k

end Cert.Norm

end
-- ==== Proof.MixerRef.lean ====
/- The mixer's projections: what the reference computes, as formulas. -/
module

public import proofs.«01_k».proof.Proof.Norm
public import proofs.«01_k».proof.Proof.Gen.MixerRefIdeal.Run
public import Idealize.ShloMosaic.Lib.Pipeline.ValueKit
public import Idealize.ShloMosaic.Lib.WordCmp

@[expose] public section

set_option maxRecDepth 16384

noncomputable section

namespace Cert.MixerRefIdeal.Value

open Cert.MixerRefIdeal Cert.MixerRefIdeal.Gen Idealize.ShloMosaic Idealize.ShloMosaic.TcCoe Idealize.SL.Sem Idealize.ShloMosaic.StableHlo
open Cert.Norm

/-- The rotation angle of position `s` for the pair `j` of `n`, `w` the word of `n`. -/
def ang (w : BitVec 32) {n : ℕ} (s : Fin 2048) (j : Fin n) : EReal :=
  FloatOps.sitofp (F := Ideal) FTy.f32 (BitVec.ofNat 32 s.val) *
    Ideal.pow (Ideal.ofBits FTy.f32 0x461C4000#32) (Ideal.div (-FloatOps.sitofp (F := Ideal) FTy.f32 (BitVec.ofNat 32 j.val)) (Ideal.ofBits FTy.f32 w))

/-- A row of 32 numbers turned: entry `j` of the first half pairs with entry `j` of the second. -/
def rot16 (x : Fin 32 → EReal) (a : Fin 16 → EReal) (d : Fin 32) : EReal :=
  if h : d.val < 16 then x d * Ideal.cos (a ⟨d.val, h⟩) - x ⟨16 + d.val, by omega⟩ * Ideal.sin (a ⟨d.val, h⟩)
  else x ⟨16 + (d.val - 16), by omega⟩ * Ideal.cos (a ⟨d.val - 16, by omega⟩) + x ⟨d.val - 16, by omega⟩ * Ideal.sin (a ⟨d.val - 16, by omega⟩)

/-- The same of a row of 64 numbers. -/
def rot32 (x : Fin 64 → EReal) (a : Fin 32 → EReal) (d : Fin 64) : EReal :=
  if h : d.val < 32 then x d * Ideal.cos (a ⟨d.val, h⟩) - x ⟨32 + d.val, by omega⟩ * Ideal.sin (a ⟨d.val, h⟩)
  else x ⟨32 + (d.val - 32), by omega⟩ * Ideal.cos (a ⟨d.val - 32, by omega⟩) + x ⟨d.val - 32, by omega⟩ * Ideal.sin (a ⟨d.val - 32, by omega⟩)

/-- The position of row `n` in its prompt. -/
def pos (n : Fin 32768) : Fin 2048 := ⟨n.val % 2048, by omega⟩

/-- A function of a row and a column as an array. -/
def arr2 {n k : ℕ} (f : Fin n → Fin k → EReal) : FVec Ideal (⟨2, ![n, k]⟩ : Shape) .f32 := fun i => f (i 0) (i 1)

/-- A function of three places as an array. -/
def arr3 {n k l : ℕ} (f : Fin n → Fin k → Fin l → EReal) : FVec Ideal (⟨3, ![n, k, l]⟩ : Shape) .f32 := fun i => f (i 0) (i 1) (i 2)

theorem arr2_ext {n k : ℕ} (X : FVec Ideal (⟨2, ![n, k]⟩ : Shape) .f32) (f : Fin n → Fin k → EReal) (h : ∀ a b, X (ix2 a b) = f a b) : X = arr2 f := by
  funext i
  obtain ⟨a, b, rfl⟩ : ∃ (a : Fin n) (b : Fin k), i = ix2 a b :=
    ⟨i 0, i 1, by funext k; match k with | ⟨0, _⟩ => rfl | ⟨1, _⟩ => rfl⟩
  exact h a b

theorem arr3_ext {n k l : ℕ} (X : FVec Ideal (⟨3, ![n, k, l]⟩ : Shape) .f32) (f : Fin n → Fin k → Fin l → EReal) (h : ∀ a b c, X (ix3 a b c) = f a b c) : X = arr3 f := by
  funext i
  obtain ⟨a, b, c, rfl⟩ : ∃ (a : Fin n) (b : Fin k) (c : Fin l), i = ix3 a b c :=
    ⟨i 0, i 1, i 2, by funext k; match k with | ⟨0, _⟩ => rfl | ⟨1, _⟩ => rfl | ⟨2, _⟩ => rfl⟩
  exact h a b c

section
variable (x : FVec Ideal S32768x1024 .f32) (g : FVec Ideal S1024 .f32) (w : FVec Ideal S1024x1768 .f32)

/-- The normalised row against the weights. -/
def proj (n : Fin 32768) (j : Fin 1768) : EReal :=
  ∑ k : Fin 1024, nrm 0x44800000#32 (fun k => x (ix2 n k)) (fun k => g (ix1 k)) k * w (ix2 k j)

/-- The queries. -/
def query (gq : FVec Ideal S256 .f32) (wu : FVec Ideal S256x768 .f32) (n : Fin 32768) (j : Fin 768) : EReal :=
  ∑ k : Fin 256, nrm 0x43800000#32 (fun k : Fin 256 => proj x g w n ⟨k.val, by omega⟩) (fun k => gq (ix1 k)) k * wu (ix2 k j)

def gckv (gk : FVec Ideal S128 .f32) (n : Fin 32768) (d : Fin 128) : EReal :=
  nrm 0x43000000#32 (fun k : Fin 128 => proj x g w n ⟨256 + k.val, by omega⟩) (fun k => gk (ix1 k)) d

def gkr (n : Fin 32768) (d : Fin 32) : EReal :=
  rot16 (fun j => proj x g w n ⟨384 + j.val, by omega⟩) (ang 0x41800000#32 (pos n)) d

def gkv (n : Fin 32768) (d : Fin 256) : EReal :=
  if d.val / 128 < 1 then
    rot32 (fun j => proj x g w n ⟨928 + (d.val / 64 % 2 * 64 + j.val), by omega⟩) (ang 0x42000000#32 (pos n)) ⟨d.val % 64, by omega⟩
  else proj x g w n ⟨1056 + (d.val / 64 % 2 * 64 + d.val % 64), by omega⟩

def gik (n : Fin 32768) (d : Fin 64) : EReal :=
  rot32 (fun j => proj x g w n ⟨1704 + j.val, by omega⟩) (ang 0x42000000#32 (pos n)) d

def gql (gq : FVec Ideal S256 .f32) (wu : FVec Ideal S256x768 .f32) (wk : FVec Ideal S128x8x64 .f32) (h : Fin 8) (n : Fin 32768) (d : Fin 128) : EReal :=
  ∑ v : Fin 64, query x g w gq wu n ⟨h.val * 96 + v.val, by omega⟩ * wk (ix3 d h v)

def gqr (gq : FVec Ideal S256 .f32) (wu : FVec Ideal S256x768 .f32) (n : Fin 32768) (d : Fin 256) : EReal :=
  rot16 (fun j => query x g w gq wu n ⟨d.val / 32 * 96 + (64 + j.val), by omega⟩) (ang 0x41800000#32 (pos n)) ⟨d.val % 32, by omega⟩

def gdq (n : Fin 32768) (d : Fin 512) : EReal :=
  rot32 (fun j => proj x g w n ⟨416 + (d.val / 64 * 64 + j.val), by omega⟩) (ang 0x42000000#32 (pos n)) ⟨d.val % 64, by omega⟩

def giq (n : Fin 32768) (d : Fin 512) : EReal :=
  rot32 (fun j => proj x g w n ⟨1184 + (d.val / 64 * 64 + j.val), by omega⟩) (ang 0x42000000#32 (pos n)) ⟨d.val % 64, by omega⟩

def giw (n : Fin 32768) (d : Fin 8) : EReal := proj x g w n ⟨1696 + d.val, by omega⟩

end

variable (V0 : Valuation τ sig (Elt Ideal))

theorem row_eq (n : Fin 32768) (p) : (⟨n.val / 2048 * 2048 + n.val % 2048, p⟩ : Fin 32768) = n := Fin.ext (by show n.val / 2048 * 2048 + n.val % 2048 = n.val; omega)

theorem v15_at (b : Fin 16) (s : Fin 2048) (j : Fin 1768) :
    (res_main_v15 V0 : FVec Ideal S16x2048x1768 .f32) (ix3 b s j)
      = proj (V0 (Proc.devRef .tc main_arg0)) (V0 (Proc.devRef .tc main_arg1)) (V0 (Proc.devRef .tc main_arg2)) ⟨b.val * 2048 + s.val, by omega⟩ j := by
  pointwise [res_main_v15, res_main_v1]
  rfl

theorem v39_at (b : Fin 16) (s : Fin 2048) (h : Fin 8) (j : Fin 96) :
    (res_main_v39 V0 : FVec Ideal S16x2048x8x96 .f32) (ix4 b s h j)
      = query (V0 (Proc.devRef .tc main_arg0)) (V0 (Proc.devRef .tc main_arg1)) (V0 (Proc.devRef .tc main_arg2)) (V0 (Proc.devRef .tc main_arg3)) (V0 (Proc.devRef .tc main_arg4))
          ⟨b.val * 2048 + s.val, by omega⟩ ⟨h.val * 96 + j.val, by omega⟩ := by
  unfold query nrm
  pointwise [res_main_v39, res_main_v16]
  simp only [v15_at]

theorem v99_at (s : Fin 2048) (j : Fin 16) : (res_main_v99 V0 : FVec Ideal S2048x16 .f32) (ix2 s j) = ang 0x41800000#32 s j := by
  pointwise [res_main_v99, res_main_v0]
  rfl

theorem v233_at (s : Fin 2048) (j : Fin 32) : (res_main_v233 V0 : FVec Ideal S2048x32 .f32) (ix2 s j) = ang 0x42000000#32 s j := by
  pointwise [res_main_v233, res_main_v0]
  rfl

theorem v55_at (s : Fin 2048) (j : Fin 16) : (res_main_v55 V0 : FVec Ideal S2048x1x16 .f32) (ix3 s 0 j) = ang 0x41800000#32 s j := by
  pointwise [res_main_v55, res_main_v0]
  rfl

theorem v132_at (s : Fin 2048) (j : Fin 32) : (res_main_v132 V0 : FVec Ideal S2048x1x32 .f32) (ix3 s 0 j) = ang 0x42000000#32 s j := by
  pointwise [res_main_v132, res_main_v0]
  rfl

theorem v165_at (s : Fin 2048) (j : Fin 32) : (res_main_v165 V0 : FVec Ideal S2048x1x32 .f32) (ix3 s 0 j) = ang 0x42000000#32 s j := by
  pointwise [res_main_v165, res_main_v0]
  rfl

theorem v202_at (s : Fin 2048) (j : Fin 32) : (res_main_v202 V0 : FVec Ideal S2048x1x32 .f32) (ix3 s 0 j) = ang 0x42000000#32 s j := by
  pointwise [res_main_v202, res_main_v0]
  rfl

theorem gckv_at (n : Fin 32768) (d : Fin 128) :
    (shapeCast _ (mulf (mulf (res_main_v17 V0) (broadcastInDim S16x2048x128 ![0, 1, 2] bcast_S16x2048x1_S16x2048x128_0_1_2 (Host.rsqrt (addf (Host.divf (broadcastInDim S16x2048x1 ![0, 1] bcast_S16x2048_S16x2048x1_0_1 (Host.reduceAdd (mulf (res_main_v17 V0) (res_main_v17 V0)) (constant S_ .f32 0x00000000#32) reducesTo_S16x2048x128_S16x2048_d2 h_S_)) (broadcastInDim S16x2048x1 ![] bcast_S_S16x2048x1 (constant S_ .f32 0x43000000#32))) (broadcastInDim S16x2048x1 ![] bcast_S_S16x2048x1 (constant S_ .f32 0x358637BD#32)))))) (broadcastInDim S16x2048x128 ![0, 1, 2] bcast_S1x1x128_S16x2048x128_0_1_2 (broadcastInDim S1x1x128 ![2] bcast_S128_S1x1x128_2 (V0 (Proc.devRef .tc main_arg5))))) shapeCasts_S16x2048x128_S32768x128 : FVec Ideal S32768x128 .f32) (ix2 n d) = gckv (V0 (Proc.devRef .tc main_arg0)) (V0 (Proc.devRef .tc main_arg1)) (V0 (Proc.devRef .tc main_arg2)) (V0 (Proc.devRef .tc main_arg5)) n d := by
  unfold gckv nrm
  pointwise [res_main_v17]
  simp only [v15_at, row_eq]

theorem gkr_at (n : Fin 32768) (d : Fin 32) :
    (shapeCast _ (concatenate S16x2048x32 2 [⟨S16x2048x16, (subf (mulf (res_main_v102 V0) (broadcastInDim S16x2048x16 ![0, 1, 2] bcast_S1x2048x16_S16x2048x16_0_1_2 (broadcastInDim S1x2048x16 ![1, 2] bcast_S2048x16_S1x2048x16_1_2 (res_main_v100 V0)))) (mulf (res_main_v103 V0) (broadcastInDim S16x2048x16 ![0, 1, 2] bcast_S1x2048x16_S16x2048x16_0_1_2 (broadcastInDim S1x2048x16 ![1, 2] bcast_S2048x16_S1x2048x16_1_2 (res_main_v101 V0)))))⟩, ⟨S16x2048x16, (addf (mulf (res_main_v103 V0) (broadcastInDim S16x2048x16 ![0, 1, 2] bcast_S1x2048x16_S16x2048x16_0_1_2 (broadcastInDim S1x2048x16 ![1, 2] bcast_S2048x16_S1x2048x16_1_2 (res_main_v100 V0)))) (mulf (res_main_v102 V0) (broadcastInDim S16x2048x16 ![0, 1, 2] bcast_S1x2048x16_S16x2048x16_0_1_2 (broadcastInDim S1x2048x16 ![1, 2] bcast_S2048x16_S1x2048x16_1_2 (res_main_v101 V0)))))⟩] concatenates_S16x2048x16_S16x2048x16_S16x2048x32_d2) shapeCasts_S16x2048x32_S32768x32 : FVec Ideal S32768x32 .f32) (ix2 n d) = gkr (V0 (Proc.devRef .tc main_arg0)) (V0 (Proc.devRef .tc main_arg1)) (V0 (Proc.devRef .tc main_arg2)) n d := by
  unfold gkr
  pointwise [res_main_v102, res_main_v103, res_main_v18, res_main_v100, res_main_v101]
  simp only [v15_at, v99_at, row_eq]
  rfl

theorem gkv_at (n : Fin 32768) (d : Fin 256) :
    (shapeCast _ (concatenate S16x2048x2x2x64 2 [⟨S16x2048x1x2x64, (broadcastInDim S16x2048x1x2x64 ![0, 1, 3, 4] bcast_S16x2048x2x64_S16x2048x1x2x64_0_1_3_4 (concatenate S16x2048x2x64 3 [⟨S16x2048x2x32, (subf (mulf (res_main_v168 V0) (broadcastInDim S16x2048x2x32 ![0, 1, 2, 3] bcast_S1x2048x1x32_S16x2048x2x32_0_1_2_3 (broadcastInDim S1x2048x1x32 ![1, 2, 3] bcast_S2048x1x32_S1x2048x1x32_1_2_3 (res_main_v166 V0)))) (mulf (res_main_v169 V0) (broadcastInDim S16x2048x2x32 ![0, 1, 2, 3] bcast_S1x2048x1x32_S16x2048x2x32_0_1_2_3 (broadcastInDim S1x2048x1x32 ![1, 2, 3] bcast_S2048x1x32_S1x2048x1x32_1_2_3 (res_main_v167 V0)))))⟩, ⟨S16x2048x2x32, (addf (mulf (res_main_v169 V0) (broadcastInDim S16x2048x2x32 ![0, 1, 2, 3] bcast_S1x2048x1x32_S16x2048x2x32_0_1_2_3 (broadcastInDim S1x2048x1x32 ![1, 2, 3] bcast_S2048x1x32_S1x2048x1x32_1_2_3 (res_main_v166 V0)))) (mulf (res_main_v168 V0) (broadcastInDim S16x2048x2x32 ![0, 1, 2, 3] bcast_S1x2048x1x32_S16x2048x2x32_0_1_2_3 (broadcastInDim S1x2048x1x32 ![1, 2, 3] bcast_S2048x1x32_S1x2048x1x32_1_2_3 (res_main_v167 V0)))))⟩] concatenates_S16x2048x2x32_S16x2048x2x32_S16x2048x2x64_d3))⟩, ⟨S16x2048x1x2x64, (broadcastInDim S16x2048x1x2x64 ![0, 1, 3, 4] bcast_S16x2048x2x64_S16x2048x1x2x64_0_1_3_4 (shapeCast _ (extractStridedSlice S16x2048x128 ![0, 0, 1056] (res_main_v15 V0) slices_S16x2048x1768_S16x2048x128_0_0_1056) shapeCasts_S16x2048x128_S16x2048x2x64))⟩] concatenates_S16x2048x1x2x64_S16x2048x1x2x64_S16x2048x2x2x64_d2) shapeCasts_S16x2048x2x2x64_S32768x256 : FVec Ideal S32768x256 .f32) (ix2 n d) = gkv (V0 (Proc.devRef .tc main_arg0)) (V0 (Proc.devRef .tc main_arg1)) (V0 (Proc.devRef .tc main_arg2)) n d := by
  unfold gkv
  pointwise [res_main_v168, res_main_v169, res_main_v152, res_main_v166, res_main_v167]
  simp only [v15_at, v165_at, row_eq]
  rfl

theorem gik_at (n : Fin 32768) (d : Fin 64) :
    (shapeCast _ (concatenate S16x2048x64 2 [⟨S16x2048x32, (subf (mulf (res_main_v236 V0) (broadcastInDim S16x2048x32 ![0, 1, 2] bcast_S1x2048x32_S16x2048x32_0_1_2 (broadcastInDim S1x2048x32 ![1, 2] bcast_S2048x32_S1x2048x32_1_2 (res_main_v234 V0)))) (mulf (res_main_v237 V0) (broadcastInDim S16x2048x32 ![0, 1, 2] bcast_S1x2048x32_S16x2048x32_0_1_2 (broadcastInDim S1x2048x32 ![1, 2] bcast_S2048x32_S1x2048x32_1_2 (res_main_v235 V0)))))⟩, ⟨S16x2048x32, (addf (mulf (res_main_v237 V0) (broadcastInDim S16x2048x32 ![0, 1, 2] bcast_S1x2048x32_S16x2048x32_0_1_2 (broadcastInDim S1x2048x32 ![1, 2] bcast_S2048x32_S1x2048x32_1_2 (res_main_v234 V0)))) (mulf (res_main_v236 V0) (broadcastInDim S16x2048x32 ![0, 1, 2] bcast_S1x2048x32_S16x2048x32_0_1_2 (broadcastInDim S1x2048x32 ![1, 2] bcast_S2048x32_S1x2048x32_1_2 (res_main_v235 V0)))))⟩] concatenates_S16x2048x32_S16x2048x32_S16x2048x64_d2) shapeCasts_S16x2048x64_S32768x64 : FVec Ideal S32768x64 .f32) (ix2 n d) = gik (V0 (Proc.devRef .tc main_arg0)) (V0 (Proc.devRef .tc main_arg1)) (V0 (Proc.devRef .tc main_arg2)) n d := by
  unfold gik
  pointwise [res_main_v236, res_main_v237, res_main_v24, res_main_v234, res_main_v235]
  simp only [v15_at, v233_at, row_eq]
  rfl

theorem gqr_at (n : Fin 32768) (d : Fin 256) :
    (shapeCast _ (concatenate S16x2048x8x32 3 [⟨S16x2048x8x16, (subf (mulf (res_main_v58 V0) (broadcastInDim S16x2048x8x16 ![0, 1, 2, 3] bcast_S1x2048x1x16_S16x2048x8x16_0_1_2_3 (broadcastInDim S1x2048x1x16 ![1, 2, 3] bcast_S2048x1x16_S1x2048x1x16_1_2_3 (res_main_v56 V0)))) (mulf (res_main_v59 V0) (broadcastInDim S16x2048x8x16 ![0, 1, 2, 3] bcast_S1x2048x1x16_S16x2048x8x16_0_1_2_3 (broadcastInDim S1x2048x1x16 ![1, 2, 3] bcast_S2048x1x16_S1x2048x1x16_1_2_3 (res_main_v57 V0)))))⟩, ⟨S16x2048x8x16, (addf (mulf (res_main_v59 V0) (broadcastInDim S16x2048x8x16 ![0, 1, 2, 3] bcast_S1x2048x1x16_S16x2048x8x16_0_1_2_3 (broadcastInDim S1x2048x1x16 ![1, 2, 3] bcast_S2048x1x16_S1x2048x1x16_1_2_3 (res_main_v56 V0)))) (mulf (res_main_v58 V0) (broadcastInDim S16x2048x8x16 ![0, 1, 2, 3] bcast_S1x2048x1x16_S16x2048x8x16_0_1_2_3 (broadcastInDim S1x2048x1x16 ![1, 2, 3] bcast_S2048x1x16_S1x2048x1x16_1_2_3 (res_main_v57 V0)))))⟩] concatenates_S16x2048x8x16_S16x2048x8x16_S16x2048x8x32_d3) shapeCasts_S16x2048x8x32_S32768x256 : FVec Ideal S32768x256 .f32) (ix2 n d) = gqr (V0 (Proc.devRef .tc main_arg0)) (V0 (Proc.devRef .tc main_arg1)) (V0 (Proc.devRef .tc main_arg2)) (V0 (Proc.devRef .tc main_arg3)) (V0 (Proc.devRef .tc main_arg4)) n d := by
  unfold gqr
  pointwise [res_main_v58, res_main_v59, res_main_v42, res_main_v56, res_main_v57]
  simp only [v39_at, v55_at, row_eq]
  rfl

theorem gdq_at (n : Fin 32768) (d : Fin 512) :
    (shapeCast _ (concatenate S16x2048x8x64 3 [⟨S16x2048x8x32, (subf (mulf (res_main_v135 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v133 V0)))) (mulf (res_main_v136 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v134 V0)))))⟩, ⟨S16x2048x8x32, (addf (mulf (res_main_v136 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v133 V0)))) (mulf (res_main_v135 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v134 V0)))))⟩] concatenates_S16x2048x8x32_S16x2048x8x32_S16x2048x8x64_d3) shapeCasts_S16x2048x8x64_S32768x512 : FVec Ideal S32768x512 .f32) (ix2 n d) = gdq (V0 (Proc.devRef .tc main_arg0)) (V0 (Proc.devRef .tc main_arg1)) (V0 (Proc.devRef .tc main_arg2)) n d := by
  unfold gdq
  pointwise [res_main_v135, res_main_v136, res_main_v119, res_main_v133, res_main_v134]
  have e : ∀ p, (⟨416 + d.val, p⟩ : Fin 1768) = ⟨416 + (d.val / 64 * 64 + d.val % 64), by omega⟩ := fun p => Fin.ext (by show 416 + d.val = 416 + (d.val / 64 * 64 + d.val % 64); omega)
  simp only [e, v15_at, v132_at, row_eq]
  rfl

theorem giq_at (n : Fin 32768) (d : Fin 512) :
    (shapeCast _ (concatenate S16x2048x8x64 3 [⟨S16x2048x8x32, (subf (mulf (res_main_v205 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v203 V0)))) (mulf (res_main_v206 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v204 V0)))))⟩, ⟨S16x2048x8x32, (addf (mulf (res_main_v206 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v203 V0)))) (mulf (res_main_v205 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v204 V0)))))⟩] concatenates_S16x2048x8x32_S16x2048x8x32_S16x2048x8x64_d3) shapeCasts_S16x2048x8x64_S32768x512 : FVec Ideal S32768x512 .f32) (ix2 n d) = giq (V0 (Proc.devRef .tc main_arg0)) (V0 (Proc.devRef .tc main_arg1)) (V0 (Proc.devRef .tc main_arg2)) n d := by
  unfold giq
  pointwise [res_main_v205, res_main_v206, res_main_v189, res_main_v203, res_main_v204]
  have e : ∀ p, (⟨1184 + d.val, p⟩ : Fin 1768) = ⟨1184 + (d.val / 64 * 64 + d.val % 64), by omega⟩ := fun p => Fin.ext (by show 1184 + d.val = 1184 + (d.val / 64 * 64 + d.val % 64); omega)
  simp only [e, v15_at, v202_at, row_eq]
  rfl

theorem giw_at (n : Fin 32768) (d : Fin 8) :
    (shapeCast _ (extractStridedSlice S16x2048x8 ![0, 0, 1696] (res_main_v15 V0) slices_S16x2048x1768_S16x2048x8_0_0_1696) shapeCasts_S16x2048x8_S32768x8 : FVec Ideal S32768x8 .f32) (ix2 n d) = giw (V0 (Proc.devRef .tc main_arg0)) (V0 (Proc.devRef .tc main_arg1)) (V0 (Proc.devRef .tc main_arg2)) n d := by
  unfold giw
  pointwise
  simp only [v15_at, row_eq]

theorem gql_at (h : Fin 8) (n : Fin 32768) (d : Fin 128) :
    (shapeCast _ (Host.dotGeneral (φ₁ := .f32) (φ₂ := .f32) dot_S16x2048x8x64_S128x8x64_S8x16x2048x128_3_2_01_0_2_1 none (extractStridedSlice S16x2048x8x64 ![0, 0, 0, 0] (res_main_v39 V0) slices_S16x2048x8x96_S16x2048x8x64_0_0_0_0) (V0 (Proc.devRef .tc main_arg6))) shapeCasts_S8x16x2048x128_S8x32768x128 : FVec Ideal S8x32768x128 .f32) (ix3 h n d) = gql (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg6)) h n d := by
  unfold gql
  pointwise
  simp only [v39_at, row_eq]

theorem gckv_eq : (shapeCast _ (mulf (mulf (res_main_v17 V0) (broadcastInDim S16x2048x128 ![0, 1, 2] bcast_S16x2048x1_S16x2048x128_0_1_2 (Host.rsqrt (addf (Host.divf (broadcastInDim S16x2048x1 ![0, 1] bcast_S16x2048_S16x2048x1_0_1 (Host.reduceAdd (mulf (res_main_v17 V0) (res_main_v17 V0)) (constant S_ .f32 0x00000000#32) reducesTo_S16x2048x128_S16x2048_d2 h_S_)) (broadcastInDim S16x2048x1 ![] bcast_S_S16x2048x1 (constant S_ .f32 0x43000000#32))) (broadcastInDim S16x2048x1 ![] bcast_S_S16x2048x1 (constant S_ .f32 0x358637BD#32)))))) (broadcastInDim S16x2048x128 ![0, 1, 2] bcast_S1x1x128_S16x2048x128_0_1_2 (broadcastInDim S1x1x128 ![2] bcast_S128_S1x1x128_2 (V0 (Proc.devRef .tc main_arg5))))) shapeCasts_S16x2048x128_S32768x128 : FVec Ideal S32768x128 .f32) = arr2 (gckv (V0 (Proc.devRef .tc main_arg0)) (V0 (Proc.devRef .tc main_arg1)) (V0 (Proc.devRef .tc main_arg2)) (V0 (Proc.devRef .tc main_arg5))) :=
  arr2_ext _ _ fun n d => gckv_at V0 n d

theorem gkr_eq : (shapeCast _ (concatenate S16x2048x32 2 [⟨S16x2048x16, (subf (mulf (res_main_v102 V0) (broadcastInDim S16x2048x16 ![0, 1, 2] bcast_S1x2048x16_S16x2048x16_0_1_2 (broadcastInDim S1x2048x16 ![1, 2] bcast_S2048x16_S1x2048x16_1_2 (res_main_v100 V0)))) (mulf (res_main_v103 V0) (broadcastInDim S16x2048x16 ![0, 1, 2] bcast_S1x2048x16_S16x2048x16_0_1_2 (broadcastInDim S1x2048x16 ![1, 2] bcast_S2048x16_S1x2048x16_1_2 (res_main_v101 V0)))))⟩, ⟨S16x2048x16, (addf (mulf (res_main_v103 V0) (broadcastInDim S16x2048x16 ![0, 1, 2] bcast_S1x2048x16_S16x2048x16_0_1_2 (broadcastInDim S1x2048x16 ![1, 2] bcast_S2048x16_S1x2048x16_1_2 (res_main_v100 V0)))) (mulf (res_main_v102 V0) (broadcastInDim S16x2048x16 ![0, 1, 2] bcast_S1x2048x16_S16x2048x16_0_1_2 (broadcastInDim S1x2048x16 ![1, 2] bcast_S2048x16_S1x2048x16_1_2 (res_main_v101 V0)))))⟩] concatenates_S16x2048x16_S16x2048x16_S16x2048x32_d2) shapeCasts_S16x2048x32_S32768x32 : FVec Ideal S32768x32 .f32) = arr2 (gkr (V0 (Proc.devRef .tc main_arg0)) (V0 (Proc.devRef .tc main_arg1)) (V0 (Proc.devRef .tc main_arg2))) :=
  arr2_ext _ _ fun n d => gkr_at V0 n d

theorem gkv_eq : (shapeCast _ (concatenate S16x2048x2x2x64 2 [⟨S16x2048x1x2x64, (broadcastInDim S16x2048x1x2x64 ![0, 1, 3, 4] bcast_S16x2048x2x64_S16x2048x1x2x64_0_1_3_4 (concatenate S16x2048x2x64 3 [⟨S16x2048x2x32, (subf (mulf (res_main_v168 V0) (broadcastInDim S16x2048x2x32 ![0, 1, 2, 3] bcast_S1x2048x1x32_S16x2048x2x32_0_1_2_3 (broadcastInDim S1x2048x1x32 ![1, 2, 3] bcast_S2048x1x32_S1x2048x1x32_1_2_3 (res_main_v166 V0)))) (mulf (res_main_v169 V0) (broadcastInDim S16x2048x2x32 ![0, 1, 2, 3] bcast_S1x2048x1x32_S16x2048x2x32_0_1_2_3 (broadcastInDim S1x2048x1x32 ![1, 2, 3] bcast_S2048x1x32_S1x2048x1x32_1_2_3 (res_main_v167 V0)))))⟩, ⟨S16x2048x2x32, (addf (mulf (res_main_v169 V0) (broadcastInDim S16x2048x2x32 ![0, 1, 2, 3] bcast_S1x2048x1x32_S16x2048x2x32_0_1_2_3 (broadcastInDim S1x2048x1x32 ![1, 2, 3] bcast_S2048x1x32_S1x2048x1x32_1_2_3 (res_main_v166 V0)))) (mulf (res_main_v168 V0) (broadcastInDim S16x2048x2x32 ![0, 1, 2, 3] bcast_S1x2048x1x32_S16x2048x2x32_0_1_2_3 (broadcastInDim S1x2048x1x32 ![1, 2, 3] bcast_S2048x1x32_S1x2048x1x32_1_2_3 (res_main_v167 V0)))))⟩] concatenates_S16x2048x2x32_S16x2048x2x32_S16x2048x2x64_d3))⟩, ⟨S16x2048x1x2x64, (broadcastInDim S16x2048x1x2x64 ![0, 1, 3, 4] bcast_S16x2048x2x64_S16x2048x1x2x64_0_1_3_4 (shapeCast _ (extractStridedSlice S16x2048x128 ![0, 0, 1056] (res_main_v15 V0) slices_S16x2048x1768_S16x2048x128_0_0_1056) shapeCasts_S16x2048x128_S16x2048x2x64))⟩] concatenates_S16x2048x1x2x64_S16x2048x1x2x64_S16x2048x2x2x64_d2) shapeCasts_S16x2048x2x2x64_S32768x256 : FVec Ideal S32768x256 .f32) = arr2 (gkv (V0 (Proc.devRef .tc main_arg0)) (V0 (Proc.devRef .tc main_arg1)) (V0 (Proc.devRef .tc main_arg2))) :=
  arr2_ext _ _ fun n d => gkv_at V0 n d

theorem gik_eq : (shapeCast _ (concatenate S16x2048x64 2 [⟨S16x2048x32, (subf (mulf (res_main_v236 V0) (broadcastInDim S16x2048x32 ![0, 1, 2] bcast_S1x2048x32_S16x2048x32_0_1_2 (broadcastInDim S1x2048x32 ![1, 2] bcast_S2048x32_S1x2048x32_1_2 (res_main_v234 V0)))) (mulf (res_main_v237 V0) (broadcastInDim S16x2048x32 ![0, 1, 2] bcast_S1x2048x32_S16x2048x32_0_1_2 (broadcastInDim S1x2048x32 ![1, 2] bcast_S2048x32_S1x2048x32_1_2 (res_main_v235 V0)))))⟩, ⟨S16x2048x32, (addf (mulf (res_main_v237 V0) (broadcastInDim S16x2048x32 ![0, 1, 2] bcast_S1x2048x32_S16x2048x32_0_1_2 (broadcastInDim S1x2048x32 ![1, 2] bcast_S2048x32_S1x2048x32_1_2 (res_main_v234 V0)))) (mulf (res_main_v236 V0) (broadcastInDim S16x2048x32 ![0, 1, 2] bcast_S1x2048x32_S16x2048x32_0_1_2 (broadcastInDim S1x2048x32 ![1, 2] bcast_S2048x32_S1x2048x32_1_2 (res_main_v235 V0)))))⟩] concatenates_S16x2048x32_S16x2048x32_S16x2048x64_d2) shapeCasts_S16x2048x64_S32768x64 : FVec Ideal S32768x64 .f32) = arr2 (gik (V0 (Proc.devRef .tc main_arg0)) (V0 (Proc.devRef .tc main_arg1)) (V0 (Proc.devRef .tc main_arg2))) :=
  arr2_ext _ _ fun n d => gik_at V0 n d

theorem gql_eq : (shapeCast _ (Host.dotGeneral (φ₁ := .f32) (φ₂ := .f32) dot_S16x2048x8x64_S128x8x64_S8x16x2048x128_3_2_01_0_2_1 none (extractStridedSlice S16x2048x8x64 ![0, 0, 0, 0] (res_main_v39 V0) slices_S16x2048x8x96_S16x2048x8x64_0_0_0_0) (V0 (Proc.devRef .tc main_arg6))) shapeCasts_S8x16x2048x128_S8x32768x128 : FVec Ideal S8x32768x128 .f32) = arr3 (gql (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg6))) :=
  arr3_ext _ _ fun h n d => gql_at V0 h n d

theorem gqr_eq : (shapeCast _ (concatenate S16x2048x8x32 3 [⟨S16x2048x8x16, (subf (mulf (res_main_v58 V0) (broadcastInDim S16x2048x8x16 ![0, 1, 2, 3] bcast_S1x2048x1x16_S16x2048x8x16_0_1_2_3 (broadcastInDim S1x2048x1x16 ![1, 2, 3] bcast_S2048x1x16_S1x2048x1x16_1_2_3 (res_main_v56 V0)))) (mulf (res_main_v59 V0) (broadcastInDim S16x2048x8x16 ![0, 1, 2, 3] bcast_S1x2048x1x16_S16x2048x8x16_0_1_2_3 (broadcastInDim S1x2048x1x16 ![1, 2, 3] bcast_S2048x1x16_S1x2048x1x16_1_2_3 (res_main_v57 V0)))))⟩, ⟨S16x2048x8x16, (addf (mulf (res_main_v59 V0) (broadcastInDim S16x2048x8x16 ![0, 1, 2, 3] bcast_S1x2048x1x16_S16x2048x8x16_0_1_2_3 (broadcastInDim S1x2048x1x16 ![1, 2, 3] bcast_S2048x1x16_S1x2048x1x16_1_2_3 (res_main_v56 V0)))) (mulf (res_main_v58 V0) (broadcastInDim S16x2048x8x16 ![0, 1, 2, 3] bcast_S1x2048x1x16_S16x2048x8x16_0_1_2_3 (broadcastInDim S1x2048x1x16 ![1, 2, 3] bcast_S2048x1x16_S1x2048x1x16_1_2_3 (res_main_v57 V0)))))⟩] concatenates_S16x2048x8x16_S16x2048x8x16_S16x2048x8x32_d3) shapeCasts_S16x2048x8x32_S32768x256 : FVec Ideal S32768x256 .f32) = arr2 (gqr (V0 (Proc.devRef .tc main_arg0)) (V0 (Proc.devRef .tc main_arg1)) (V0 (Proc.devRef .tc main_arg2)) (V0 (Proc.devRef .tc main_arg3)) (V0 (Proc.devRef .tc main_arg4))) :=
  arr2_ext _ _ fun n d => gqr_at V0 n d

theorem gdq_eq : (shapeCast _ (concatenate S16x2048x8x64 3 [⟨S16x2048x8x32, (subf (mulf (res_main_v135 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v133 V0)))) (mulf (res_main_v136 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v134 V0)))))⟩, ⟨S16x2048x8x32, (addf (mulf (res_main_v136 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v133 V0)))) (mulf (res_main_v135 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v134 V0)))))⟩] concatenates_S16x2048x8x32_S16x2048x8x32_S16x2048x8x64_d3) shapeCasts_S16x2048x8x64_S32768x512 : FVec Ideal S32768x512 .f32) = arr2 (gdq (V0 (Proc.devRef .tc main_arg0)) (V0 (Proc.devRef .tc main_arg1)) (V0 (Proc.devRef .tc main_arg2))) :=
  arr2_ext _ _ fun n d => gdq_at V0 n d

theorem giq_eq : (shapeCast _ (concatenate S16x2048x8x64 3 [⟨S16x2048x8x32, (subf (mulf (res_main_v205 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v203 V0)))) (mulf (res_main_v206 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v204 V0)))))⟩, ⟨S16x2048x8x32, (addf (mulf (res_main_v206 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v203 V0)))) (mulf (res_main_v205 V0) (broadcastInDim S16x2048x8x32 ![0, 1, 2, 3] bcast_S1x2048x1x32_S16x2048x8x32_0_1_2_3 (broadcastInDim S1x2048x1x32 ![1, 2, 3] bcast_S2048x1x32_S1x2048x1x32_1_2_3 (res_main_v204 V0)))))⟩] concatenates_S16x2048x8x32_S16x2048x8x32_S16x2048x8x64_d3) shapeCasts_S16x2048x8x64_S32768x512 : FVec Ideal S32768x512 .f32) = arr2 (giq (V0 (Proc.devRef .tc main_arg0)) (V0 (Proc.devRef .tc main_arg1)) (V0 (Proc.devRef .tc main_arg2))) :=
  arr2_ext _ _ fun n d => giq_at V0 n d

theorem giw_eq : (shapeCast _ (extractStridedSlice S16x2048x8 ![0, 0, 1696] (res_main_v15 V0) slices_S16x2048x1768_S16x2048x8_0_0_1696) shapeCasts_S16x2048x8_S32768x8 : FVec Ideal S32768x8 .f32) = arr2 (giw (V0 (Proc.devRef .tc main_arg0)) (V0 (Proc.devRef .tc main_arg1)) (V0 (Proc.devRef .tc main_arg2))) :=
  arr2_ext _ _ fun n d => giw_at V0 n d

end Cert.MixerRefIdeal.Value

end
-- ==== Proof.MixerHost.lean ====
/- The mixer's projections: the weights and tables the kernel's blocks are cut from. -/
module

public import proofs.«01_k».proof.Proof.Norm
public import proofs.«01_k».proof.Proof.Gen.MixerIdeal.Value
public import proofs.«01_k».proof.Proof.MixerRef
public import Idealize.ShloMosaic.Lib.StableHlo.ReadAt
public import Idealize.ShloMosaic.Lib.Pipeline.ValueKit
public import Idealize.ShloMosaic.Lib.WordCmp

@[expose] public section

set_option maxRecDepth 16384

noncomputable section

namespace Cert.Mixer

open Cert.MixerIdeal Cert.MixerIdeal.Gen Idealize.ShloMosaic Idealize.ShloMosaic.TcCoe Idealize.SL.Sem
open Cert.Norm
open Cert.MixerRefIdeal.Value (ang rot16 rot32 pos)

/-- The cosine table's row over the angles `a`, at column `d`. -/
def cos32 (a : Fin 32 → EReal) (d : ℕ) : EReal :=
  if h : d % 64 < 32 then Ideal.cos (a ⟨d % 64, h⟩) else Ideal.cos (a ⟨d % 64 - 32, by omega⟩)
/-- The sine table's row, its first half negated. -/
def sin32 (a : Fin 32 → EReal) (d : ℕ) : EReal :=
  if h : d % 64 < 32 then -Ideal.sin (a ⟨d % 64, h⟩) else Ideal.sin (a ⟨d % 64 - 32, by omega⟩)
def cos16 (a : Fin 16 → EReal) (d : ℕ) : EReal :=
  if h : d % 32 < 16 then Ideal.cos (a ⟨d % 32, h⟩) else Ideal.cos (a ⟨d % 32 - 16, by omega⟩)
def sin16 (a : Fin 16 → EReal) (d : ℕ) : EReal :=
  if h : d % 32 < 16 then -Ideal.sin (a ⟨d % 32, h⟩) else Ideal.sin (a ⟨d % 32 - 16, by omega⟩)

variable (m : (ℓ : Loc nD τ sig) → Buf (Elt Ideal) ℓ) (c : Dev nD)

theorem V52 (s : Fin 2048) (d : Fin 128) : (V m c main_v52 : FVec Ideal S2048x128 .f32) (ix2 s d) = cos32 (ang 0x42000000#32 s) d.val := by
  unfold V
  after_reads_at
  by_cases h : d.val % 64 < 32
  · rw [dif_pos h]
    after_reads_at
    unfold cos32
    rw [dif_pos h]
    rfl
  · rw [dif_neg h]
    after_reads_at
    unfold cos32
    rw [dif_neg h]
    rfl

theorem V55 (s : Fin 2048) (d : Fin 128) : (V m c main_v55 : FVec Ideal S2048x128 .f32) (ix2 s d) = sin32 (ang 0x42000000#32 s) d.val := by
  unfold V
  after_reads_at
  by_cases h : d.val % 64 < 32
  · rw [dif_pos h]
    after_reads_at
    unfold sin32
    rw [dif_pos h]
    rfl
  · rw [dif_neg h]
    after_reads_at
    unfold sin32
    rw [dif_neg h]
    rfl

theorem V81 (s : Fin 2048) (d : Fin 128) : (V m c main_v81 : FVec Ideal S2048x128 .f32) (ix2 s d) = cos16 (ang 0x41800000#32 s) d.val := by
  unfold V
  after_reads_at
  by_cases h : d.val % 32 < 16
  · rw [dif_pos h]
    after_reads_at
    unfold cos16
    rw [dif_pos h]
    rfl
  · rw [dif_neg h]
    after_reads_at
    unfold cos16
    rw [dif_neg h]
    rfl

theorem V84 (s : Fin 2048) (d : Fin 128) : (V m c main_v84 : FVec Ideal S2048x128 .f32) (ix2 s d) = sin16 (ang 0x41800000#32 s) d.val := by
  unfold V
  after_reads_at
  by_cases h : d.val % 32 < 16
  · rw [dif_pos h]
    after_reads_at
    unfold sin16
    rw [dif_pos h]
    rfl
  · rw [dif_neg h]
    after_reads_at
    unfold sin16
    rw [dif_neg h]
    rfl

theorem V25 (h : Fin 8) (v : Fin 64) (d : Fin 128) : (V m c main_v25 : FVec Ideal S8x64x128 .bf16) (ix3 h v d) = m ((c : Thread nD τ).loc main_arg6) (ix3 d h v) := by
  unfold V
  after_reads_at

theorem V22_nope (k : Fin 256) (d : Fin 512) : (V m c main_v22 : FVec Ideal S256x768 .bf16) (ix2 k ⟨d.val, by omega⟩)
    = m ((c : Thread nD τ).loc main_arg4) (ix2 k ⟨d.val / 64 * 96 + d.val % 64, by omega⟩) := by
  unfold V
  after_reads_at
  after_reads_at

theorem V22_rope (k : Fin 256) (d : Fin 256) : (V m c main_v22 : FVec Ideal S256x768 .bf16) (ix2 k ⟨512 + d.val, by omega⟩)
    = m ((c : Thread nD τ).loc main_arg4) (ix2 k ⟨d.val / 32 * 96 + (64 + d.val % 32), by omega⟩) := by
  unfold V
  after_reads_at
  after_reads_at

theorem V20_cq (k : Fin 1024) (d : Fin 256) : (V m c main_v20 : FVec Ideal S1024x2048 .bf16) (ix2 k ⟨d.val, by omega⟩)
    = m ((c : Thread nD τ).loc main_arg2) (ix2 k ⟨d.val, by omega⟩) := by
  unfold V
  after_reads_at
  after_reads_at

theorem V20_ckv (k : Fin 1024) (d : Fin 128) : (V m c main_v20 : FVec Ideal S1024x2048 .bf16) (ix2 k ⟨256 + d.val, by omega⟩)
    = m ((c : Thread nD τ).loc main_arg2) (ix2 k ⟨256 + d.val, by omega⟩) := by
  unfold V
  after_reads_at
  after_reads_at

theorem V20_kr (k : Fin 1024) (d : Fin 32) : (V m c main_v20 : FVec Ideal S1024x2048 .bf16) (ix2 k ⟨384 + d.val, by omega⟩)
    = m ((c : Thread nD τ).loc main_arg2) (ix2 k ⟨384 + d.val, by omega⟩) := by
  unfold V
  after_reads_at
  rw [dif_neg (show ¬ 384 + d.val < 256 by omega), dif_neg (show ¬ 384 + d.val - 256 < 128 by omega), dif_pos (show 384 + d.val - 256 - 128 < 128 by omega)]
  after_reads_at
  rw [dif_pos (show 384 + d.val - 256 - 128 < 32 by omega)]
  exact congrArg (fun j => m ((c : Thread nD τ).loc main_arg2) (ix2 k j)) (Fin.ext (by show 384 + (384 + d.val - 256 - 128) = 384 + d.val; omega))

theorem V20_dq (k : Fin 1024) (d : Fin 512) : (V m c main_v20 : FVec Ideal S1024x2048 .bf16) (ix2 k ⟨512 + d.val, by omega⟩)
    = m ((c : Thread nD τ).loc main_arg2) (ix2 k ⟨416 + d.val, by omega⟩) := by
  unfold V
  after_reads_at
  rw [dif_neg (show ¬ 512 + d.val < 256 by omega), dif_neg (show ¬ 512 + d.val - 256 < 128 by omega), dif_neg (show ¬ 512 + d.val - 256 - 128 < 128 by omega), dif_pos (show 512 + d.val - 256 - 128 - 128 < 512 by omega)]
  after_reads_at
  exact congrArg (fun j => m ((c : Thread nD τ).loc main_arg2) (ix2 k j)) (Fin.ext (by show 416 + (512 + d.val - 256 - 128 - 128) = 416 + d.val; omega))

theorem V20_dk (k : Fin 1024) (d : Fin 128) : (V m c main_v20 : FVec Ideal S1024x2048 .bf16) (ix2 k ⟨1024 + d.val, by omega⟩)
    = m ((c : Thread nD τ).loc main_arg2) (ix2 k ⟨928 + d.val, by omega⟩) := by
  unfold V
  after_reads_at
  rw [dif_neg (show ¬ 1024 + d.val < 256 by omega), dif_neg (show ¬ 1024 + d.val - 256 < 128 by omega), dif_neg (show ¬ 1024 + d.val - 256 - 128 < 128 by omega), dif_neg (show ¬ 1024 + d.val - 256 - 128 - 128 < 512 by omega), dif_pos (show 1024 + d.val - 256 - 128 - 128 - 512 < 128 by omega)]
  after_reads_at
  exact congrArg (fun j => m ((c : Thread nD τ).loc main_arg2) (ix2 k j)) (Fin.ext (by show 928 + (1024 + d.val - 256 - 128 - 128 - 512) = 928 + d.val; omega))

theorem V20_dv (k : Fin 1024) (d : Fin 128) : (V m c main_v20 : FVec Ideal S1024x2048 .bf16) (ix2 k ⟨1152 + d.val, by omega⟩)
    = m ((c : Thread nD τ).loc main_arg2) (ix2 k ⟨1056 + d.val, by omega⟩) := by
  unfold V
  after_reads_at
  rw [dif_neg (show ¬ 1152 + d.val < 256 by omega), dif_neg (show ¬ 1152 + d.val - 256 < 128 by omega), dif_neg (show ¬ 1152 + d.val - 256 - 128 < 128 by omega), dif_neg (show ¬ 1152 + d.val - 256 - 128 - 128 < 512 by omega), dif_neg (show ¬ 1152 + d.val - 256 - 128 - 128 - 512 < 128 by omega), dif_pos (show 1152 + d.val - 256 - 128 - 128 - 512 - 128 < 128 by omega)]
  after_reads_at
  exact congrArg (fun j => m ((c : Thread nD τ).loc main_arg2) (ix2 k j)) (Fin.ext (by show 1056 + (1152 + d.val - 256 - 128 - 128 - 512 - 128) = 1056 + d.val; omega))

theorem V20_iq (k : Fin 1024) (d : Fin 512) : (V m c main_v20 : FVec Ideal S1024x2048 .bf16) (ix2 k ⟨1280 + d.val, by omega⟩)
    = m ((c : Thread nD τ).loc main_arg2) (ix2 k ⟨1184 + d.val, by omega⟩) := by
  unfold V
  after_reads_at
  rw [dif_neg (show ¬ 1280 + d.val < 256 by omega), dif_neg (show ¬ 1280 + d.val - 256 < 128 by omega), dif_neg (show ¬ 1280 + d.val - 256 - 128 < 128 by omega), dif_neg (show ¬ 1280 + d.val - 256 - 128 - 128 < 512 by omega), dif_neg (show ¬ 1280 + d.val - 256 - 128 - 128 - 512 < 128 by omega), dif_neg (show ¬ 1280 + d.val - 256 - 128 - 128 - 512 - 128 < 128 by omega), dif_pos (show 1280 + d.val - 256 - 128 - 128 - 512 - 128 - 128 < 512 by omega)]
  after_reads_at
  exact congrArg (fun j => m ((c : Thread nD τ).loc main_arg2) (ix2 k j)) (Fin.ext (by show 1184 + (1280 + d.val - 256 - 128 - 128 - 512 - 128 - 128) = 1184 + d.val; omega))

theorem V20_ik (k : Fin 1024) (d : Fin 64) : (V m c main_v20 : FVec Ideal S1024x2048 .bf16) (ix2 k ⟨1792 + d.val, by omega⟩)
    = m ((c : Thread nD τ).loc main_arg2) (ix2 k ⟨1704 + d.val, by omega⟩) := by
  unfold V
  after_reads_at
  rw [dif_neg (show ¬ 1792 + d.val < 256 by omega), dif_neg (show ¬ 1792 + d.val - 256 < 128 by omega), dif_neg (show ¬ 1792 + d.val - 256 - 128 < 128 by omega), dif_neg (show ¬ 1792 + d.val - 256 - 128 - 128 < 512 by omega), dif_neg (show ¬ 1792 + d.val - 256 - 128 - 128 - 512 < 128 by omega), dif_neg (show ¬ 1792 + d.val - 256 - 128 - 128 - 512 - 128 < 128 by omega), dif_neg (show ¬ 1792 + d.val - 256 - 128 - 128 - 512 - 128 - 128 < 512 by omega), dif_pos (show 1792 + d.val - 256 - 128 - 128 - 512 - 128 - 128 - 512 < 128 by omega)]
  after_reads_at
  rw [dif_pos (show 1792 + d.val - 256 - 128 - 128 - 512 - 128 - 128 - 512 < 64 by omega)]
  exact congrArg (fun j => m ((c : Thread nD τ).loc main_arg2) (ix2 k j)) (Fin.ext (by show 1704 + (1792 + d.val - 256 - 128 - 128 - 512 - 128 - 128 - 512) = 1704 + d.val; omega))

theorem V20_iw (k : Fin 1024) (d : Fin 8) : (V m c main_v20 : FVec Ideal S1024x2048 .bf16) (ix2 k ⟨1920 + d.val, by omega⟩)
    = m ((c : Thread nD τ).loc main_arg2) (ix2 k ⟨1696 + d.val, by omega⟩) := by
  unfold V
  after_reads_at
  rw [dif_neg (show ¬ 1920 + d.val < 256 by omega), dif_neg (show ¬ 1920 + d.val - 256 < 128 by omega), dif_neg (show ¬ 1920 + d.val - 256 - 128 < 128 by omega), dif_neg (show ¬ 1920 + d.val - 256 - 128 - 128 < 512 by omega), dif_neg (show ¬ 1920 + d.val - 256 - 128 - 128 - 512 < 128 by omega), dif_neg (show ¬ 1920 + d.val - 256 - 128 - 128 - 512 - 128 < 128 by omega), dif_neg (show ¬ 1920 + d.val - 256 - 128 - 128 - 512 - 128 - 128 < 512 by omega), dif_neg (show ¬ 1920 + d.val - 256 - 128 - 128 - 512 - 128 - 128 - 512 < 128 by omega)]
  after_reads_at
  rw [dif_pos (show 1920 + d.val - 256 - 128 - 128 - 512 - 128 - 128 - 512 - 128 < 8 by omega)]
  exact congrArg (fun j => m ((c : Thread nD τ).loc main_arg2) (ix2 k j)) (Fin.ext (by show 1696 + (1920 + d.val - 256 - 128 - 128 - 512 - 128 - 128 - 512 - 128) = 1696 + d.val; omega))

/-- Row `y` of point `t`'s block of 512 rows. -/
def brow (t : Fin cfg0.N) (y : Fin 512) : Fin 32768 := ⟨512 * t.val + y.val, by have : t.val < 64 := t.isLt; omega⟩

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0, 0] := (by decide +kernel : ∀ t : Fin grid0.N, win0_6.index t = ![0, 0, 0])
theorem idx7 : ∀ t : Fin cfg0.N, win0_7.index t = ![t.val % 4, 0] := (by decide +kernel : ∀ t : Fin grid0.N, win0_7.index t = ![t.val % 4, 0])
theorem idx8 : ∀ t : Fin cfg0.N, win0_8.index t = ![t.val % 4, 0] := (by decide +kernel : ∀ t : Fin grid0.N, win0_8.index t = ![t.val % 4, 0])
theorem idx9 : ∀ t : Fin cfg0.N, win0_9.index t = ![t.val % 4, 0] := (by decide +kernel : ∀ t : Fin grid0.N, win0_9.index t = ![t.val % 4, 0])
theorem idx10 : ∀ t : Fin cfg0.N, win0_10.index t = ![t.val % 4, 0] := (by decide +kernel : ∀ t : Fin grid0.N, win0_10.index t = ![t.val % 4, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])
theorem idx13 : ∀ t : Fin cfg0.N, win0_13.index t = ![t.val, 0] := (by decide +kernel : ∀ t : Fin grid0.N, win0_13.index t = ![t.val, 0])
theorem idx14 : ∀ t : Fin cfg0.N, win0_14.index t = ![t.val, 0] := (by decide +kernel : ∀ t : Fin grid0.N, win0_14.index t = ![t.val, 0])
theorem idx15 : ∀ t : Fin cfg0.N, win0_15.index t = ![0, t.val, 0] := (by decide +kernel : ∀ t : Fin grid0.N, win0_15.index t = ![0, t.val, 0])
theorem idx16 : ∀ t : Fin cfg0.N, win0_16.index t = ![t.val, 0] := (by decide +kernel : ∀ t : Fin grid0.N, win0_16.index t = ![t.val, 0])
theorem idx17 : ∀ t : Fin cfg0.N, win0_17.index t = ![t.val, 0] := (by decide +kernel : ∀ t : Fin grid0.N, win0_17.index t = ![t.val, 0])
theorem idx18 : ∀ t : Fin cfg0.N, win0_18.index t = ![t.val, 0] := (by decide +kernel : ∀ t : Fin grid0.N, win0_18.index t = ![t.val, 0])
theorem idx19 : ∀ t : Fin cfg0.N, win0_19.index t = ![t.val, 0] := (by decide +kernel : ∀ t : Fin grid0.N, win0_19.index t = ![t.val, 0])

theorem blk0 (t : Fin cfg0.N) (y : Fin 512) (k : Fin 1024) :
    iblk m c 0 t (ix2 y k) = m ((c : Thread nD τ).loc main_arg0) (ix2 (brow t y) k) := by
  unfold brow
  rw [← V_main_arg0 m c]
  blk_ext [iblk, idx0 t]

theorem V19 (k : Fin 1024) : (V m c main_v19 : FVec Ideal S1x1024 .f32) (ix2 0 k) = m ((c : Thread nD τ).loc main_arg1) (ix1 k) := by
  unfold V
  after_reads_at

theorem blk1 (t : Fin cfg0.N) (k : Fin 1024) :
    iblk m c 1 t (ix2 0 k) = m ((c : Thread nD τ).loc main_arg1) (ix1 k) := by
  have e : iblk m c 1 t (ix2 0 k) = V m c main_v19 (ix2 0 k) := by blk_ext [iblk, idx1 t]
  rw [e]
  exact V19 m c k

theorem V21 (k : Fin 256) : (V m c main_v21 : FVec Ideal S1x256 .f32) (ix2 0 k) = m ((c : Thread nD τ).loc main_arg3) (ix1 k) := by
  unfold V
  after_reads_at

theorem blk3 (t : Fin cfg0.N) (k : Fin 256) :
    iblk m c 3 t (ix2 0 k) = m ((c : Thread nD τ).loc main_arg3) (ix1 k) := by
  have e : iblk m c 3 t (ix2 0 k) = V m c main_v21 (ix2 0 k) := by blk_ext [iblk, idx3 t]
  rw [e]
  exact V21 m c k

theorem V23 (k : Fin 128) : (V m c main_v23 : FVec Ideal S1x128 .f32) (ix2 0 k) = m ((c : Thread nD τ).loc main_arg5) (ix1 k) := by
  unfold V
  after_reads_at

theorem blk5 (t : Fin cfg0.N) (k : Fin 128) :
    iblk m c 5 t (ix2 0 k) = m ((c : Thread nD τ).loc main_arg5) (ix1 k) := by
  have e : iblk m c 5 t (ix2 0 k) = V m c main_v23 (ix2 0 k) := by blk_ext [iblk, idx5 t]
  rw [e]
  exact V23 m c k

theorem blk2 (t : Fin cfg0.N) (k : Fin 1024) (j : Fin 2048) :
    iblk m c 2 t (ix2 k j) = V m c main_v20 (ix2 k j) := by
  blk_ext [iblk, idx2 t]

theorem blk4 (t : Fin cfg0.N) (k : Fin 256) (j : Fin 768) :
    iblk m c 4 t (ix2 k j) = V m c main_v22 (ix2 k j) := by
  blk_ext [iblk, idx4 t]

theorem blk6 (t : Fin cfg0.N) (h : Fin 8) (v : Fin 64) (d : Fin 128) :
    iblk m c 6 t (ix3 h v d) = m ((c : Thread nD τ).loc main_arg6) (ix3 d h v) := by
  have e : iblk m c 6 t (ix3 h v d) = V m c main_v25 (ix3 h v d) := by blk_ext [iblk, idx6 t]
  rw [e]
  exact V25 m c h v d

theorem pos_brow (t : Fin cfg0.N) (y : Fin 512) : (⟨512 * (t.val % 4) + y.val, by omega⟩ : Fin 2048) = pos (brow t y) :=
  Fin.ext (by show 512 * (t.val % 4) + y.val = (512 * t.val + y.val) % 2048; omega)

theorem blk7 (t : Fin cfg0.N) (y : Fin 512) (d : Fin 128) :
    iblk m c 7 t (ix2 y d) = cos32 (ang 0x42000000#32 (pos (brow t y))) d.val := by
  have e : iblk m c 7 t (ix2 y d) = V m c main_v52 (ix2 ⟨512 * (t.val % 4) + y.val, by omega⟩ d) := by blk_ext [iblk, idx7 t]
  rw [e, ← pos_brow]
  exact V52 m c _ d

theorem blk8 (t : Fin cfg0.N) (y : Fin 512) (d : Fin 128) :
    iblk m c 8 t (ix2 y d) = sin32 (ang 0x42000000#32 (pos (brow t y))) d.val := by
  have e : iblk m c 8 t (ix2 y d) = V m c main_v55 (ix2 ⟨512 * (t.val % 4) + y.val, by omega⟩ d) := by blk_ext [iblk, idx8 t]
  rw [e, ← pos_brow]
  exact V55 m c _ d

theorem blk9 (t : Fin cfg0.N) (y : Fin 512) (d : Fin 128) :
    iblk m c 9 t (ix2 y d) = cos16 (ang 0x41800000#32 (pos (brow t y))) d.val := by
  have e : iblk m c 9 t (ix2 y d) = V m c main_v81 (ix2 ⟨512 * (t.val % 4) + y.val, by omega⟩ d) := by blk_ext [iblk, idx9 t]
  rw [e, ← pos_brow]
  exact V81 m c _ d

theorem blk10 (t : Fin cfg0.N) (y : Fin 512) (d : Fin 128) :
    iblk m c 10 t (ix2 y d) = sin16 (ang 0x41800000#32 (pos (brow t y))) d.val := by
  have e : iblk m c 10 t (ix2 y d) = V m c main_v84 (ix2 ⟨512 * (t.val % 4) + y.val, by omega⟩ d) := by blk_ext [iblk, idx10 t]
  rw [e, ← pos_brow]
  exact V84 m c _ d

end Cert.Mixer

end
-- ==== Proof.MixerBody.lean ====
/- The mixer's projections: what one point of the kernel computes, from the blocks it reads. -/
module

public import proofs.«01_k».proof.Proof.Norm
public import proofs.«01_k».proof.Proof.Gen.MixerIdeal.Value
public import proofs.«01_k».proof.Proof.MixerHost
public import Idealize.ShloMosaic.Lib.Pipeline.ValueKit
public import Idealize.ShloMosaic.Lib.WordCmp

@[expose] public section

set_option maxRecDepth 16384

noncomputable section

namespace Cert.Mixer

open Cert.MixerIdeal Cert.MixerIdeal.Gen Idealize.ShloMosaic Idealize.ShloMosaic.TcCoe Idealize.SL.Sem
open Cert.Norm
open Cert.MixerRefIdeal.Value (rot16 rot32)

theorem bit64 : ∀ D : Fin 512, IntOp.cmpi .slt (IntOp.andi (BitVec.ofNat 32 D.val) 63#32) 32#32 = if D.val % 64 < 32 then 1#1 else 0#1 := by decide +kernel
theorem bit32 : ∀ D : Fin 512, IntOp.cmpi .slt (IntOp.andi (BitVec.ofNat 32 D.val) 31#32) 16#32 = if D.val % 32 < 16 then 1#1 else 0#1 := by decide +kernel

theorem sel64 (D : ℕ) (hD : D < 512) (u l : EReal) :
    Scalar.select (IntOp.cmpi .slt (IntOp.andi (BitVec.ofNat 32 D) 63#32) 32#32) u l = if D % 64 < 32 then u else l := by
  rw [bit64 ⟨D, hD⟩]
  unfold Scalar.select
  by_cases h : D % 64 < 32
  · rw [if_pos h, if_pos h, if_pos (by decide)]
  · rw [if_neg h, if_neg h, if_neg (by decide)]

theorem sel32 (D : ℕ) (hD : D < 512) (u l : EReal) :
    Scalar.select (IntOp.cmpi .slt (IntOp.andi (BitVec.ofNat 32 D) 31#32) 16#32) u l = if D % 32 < 16 then u else l := by
  rw [bit32 ⟨D, hD⟩]
  unfold Scalar.select
  by_cases h : D % 32 < 16
  · rw [if_pos h, if_pos h, if_pos (by decide)]
  · rw [if_neg h, if_neg h, if_neg (by decide)]

theorem cos16_mod (a : Fin 16 → EReal) (D E : ℕ) (h : D % 32 = E % 32) : cos16 a D = cos16 a E := by
  unfold cos16
  simp only [h]

theorem sin16_mod (a : Fin 16 → EReal) (D E : ℕ) (h : D % 32 = E % 32) : sin16 a D = sin16 a E := by
  unfold sin16
  simp only [h]

/-- The kernel's turn — the entry times the cosine, plus its partner times the signed sine — is the rotation. -/
theorem turn16 (x : Fin 32 → EReal) (a : Fin 16 → EReal) (d : Fin 32) (D : ℕ) (hD : D < 512) (hd : D % 32 = d.val) (X u l : EReal) (hX : X = x d)
    (hu : ∀ h : d.val < 16, u = x ⟨16 + d.val, by omega⟩) (hl : ∀ _ : ¬ d.val < 16, l = x ⟨d.val - 16, by omega⟩) :
    X * cos16 a D + Scalar.select (IntOp.cmpi .slt (IntOp.andi (BitVec.ofNat 32 D) 31#32) 16#32) u l * sin16 a D = rot16 x a d := by
  rw [sel32 D hD]
  unfold cos16 sin16 rot16
  simp only [hd]
  by_cases h : d.val < 16
  · rw [dif_pos h, if_pos h, dif_pos h, dif_pos h, hX, hu h, mul_neg, ← sub_eq_add_neg]
  · rw [dif_neg h, if_neg h, dif_neg h, dif_neg h, hX, hl h, show (⟨16 + (d.val - 16), by omega⟩ : Fin 32) = d from Fin.ext (by show 16 + (d.val - 16) = d.val; omega)]

theorem cos32_mod (a : Fin 32 → EReal) (D E : ℕ) (h : D % 64 = E % 64) : cos32 a D = cos32 a E := by
  unfold cos32
  simp only [h]

theorem sin32_mod (a : Fin 32 → EReal) (D E : ℕ) (h : D % 64 = E % 64) : sin32 a D = sin32 a E := by
  unfold sin32
  simp only [h]

/-- The kernel's turn — the entry times the cosine, plus its partner times the signed sine — is the rotation. -/
theorem turn32 (x : Fin 64 → EReal) (a : Fin 32 → EReal) (d : Fin 64) (D : ℕ) (hD : D < 512) (hd : D % 64 = d.val) (X u l : EReal) (hX : X = x d)
    (hu : ∀ h : d.val < 32, u = x ⟨32 + d.val, by omega⟩) (hl : ∀ _ : ¬ d.val < 32, l = x ⟨d.val - 32, by omega⟩) :
    X * cos32 a D + Scalar.select (IntOp.cmpi .slt (IntOp.andi (BitVec.ofNat 32 D) 63#32) 32#32) u l * sin32 a D = rot32 x a d := by
  rw [sel64 D hD]
  unfold cos32 sin32 rot32
  simp only [hd]
  by_cases h : d.val < 32
  · rw [dif_pos h, if_pos h, dif_pos h, dif_pos h, hX, hu h, mul_neg, ← sub_eq_add_neg]
  · rw [dif_neg h, if_neg h, dif_neg h, dif_neg h, hX, hl h, show (⟨32 + (d.val - 32), by omega⟩ : Fin 64) = d from Fin.ext (by show 32 + (d.val - 32) = d.val; omega)]

theorem pay1_at (x : Vec Ideal S512x1024 .f32) (g : Vec Ideal S1x1024 .f32) (w : Vec Ideal S1024x2048 .bf16) (r : Fin 512) (d : Fin 2048) :
    k0_pay1 x g w (ix2 r d) = ∑ k : Fin 1024, nrm 0x44800000#32 (fun k => x (ix2 r k)) (fun k => g (ix2 0 k)) k * w (ix2 k d) := by
  unfold nrm
  pointwise [k0_pay1]

theorem pay11_at (x : Vec Ideal S512x1024 .f32) (g : Vec Ideal S1x1024 .f32) (w : Vec Ideal S1024x2048 .bf16) (gq : Vec Ideal S1x256 .f32) (wq : Vec Ideal S256x768 .bf16) (r : Fin 512) (d : Fin 768) :
    k0_pay11 (k0_pay8 x g w) (k0_pay9 gq) (k0_pay10 x g w) wq (ix2 r d)
      = ∑ k : Fin 256, nrm 0x43800000#32 (fun k : Fin 256 => k0_pay1 x g w (ix2 r ⟨k.val, by omega⟩)) (fun k => gq (ix2 0 k)) k * wq (ix2 k d) := by
  unfold nrm
  pointwise [k0_pay11, k0_pay8, k0_pay9, k0_pay10]

theorem pay26_at (P : FVec Ideal S512x2048 .f32) (gk : Vec Ideal S1x128 .f32) (r : Fin 512) (d : Fin 128) :
    k0_pay26 (k0_pay23 P) (k0_pay24 gk) (k0_pay25 P) (ix2 r d)
      = nrm 0x43000000#32 (fun k : Fin 128 => P (ix2 r ⟨256 + k.val, by omega⟩)) (fun k => gk (ix2 0 k)) d := by
  unfold nrm
  pointwise [k0_pay26, k0_pay23, k0_pay24, k0_pay25]

theorem pay27_at (P : FVec Ideal S512x2048 .f32) (C S : FVec Ideal S512x128 .f32) (a : Fin 16 → EReal) (r : Fin 512) (d : Fin 32)
    (hC : ∀ d : Fin 128, C (ix2 r d) = cos16 a d.val) (hS : ∀ d : Fin 128, S (ix2 r d) = sin16 a d.val) :
    k0_pay27 P C S (ix2 r d) = rot16 (fun j => P (ix2 r ⟨384 + j.val, by omega⟩)) a d := by
  pointwise [k0_pay27]
  rw [hC, hS]
  exact turn16 _ a d d.val (by omega) (by omega) _ _ _ rfl
    (fun h => congrArg (fun j => P (ix2 r j)) (Fin.ext (by show 384 + (d.val + 128 - 112) % 128 = 384 + (16 + d.val); omega)))
    (fun h => congrArg (fun j => P (ix2 r j)) (Fin.ext (by show 384 + (d.val + 128 - 16) % 128 = 384 + (d.val - 16); omega)))

theorem pay34_at (P : FVec Ideal S512x2048 .f32) (C S : FVec Ideal S512x128 .f32) (a : Fin 32 → EReal) (r : Fin 512) (d : Fin 64)
    (hC : ∀ d : Fin 128, C (ix2 r d) = cos32 a d.val) (hS : ∀ d : Fin 128, S (ix2 r d) = sin32 a d.val) :
    k0_pay34 P C S (ix2 r d) = rot32 (fun j => P (ix2 r ⟨1792 + j.val, by omega⟩)) a d := by
  pointwise [k0_pay34]
  rw [hC, hS]
  exact turn32 _ a d d.val (by omega) (by omega) _ _ _ rfl
    (fun h => congrArg (fun j => P (ix2 r j)) (Fin.ext (by show 1792 + (d.val + 128 - 96) % 128 = 1792 + (32 + d.val); omega)))
    (fun h => congrArg (fun j => P (ix2 r j)) (Fin.ext (by show 1792 + (d.val + 128 - 32) % 128 = 1792 + (d.val - 32); omega)))

theorem pay6_at (C : Vec Ideal S512x128 .f32) (a : Fin 32 → EReal) (r d : Fin 512) (hC : ∀ d : Fin 128, C (ix2 r d) = cos32 a d.val) :
    k0_pay6 C (ix2 r d) = cos32 a d.val := by
  pointwise [k0_pay6, k0_pay2]
  simp only [hC]
  split
  · rfl
  split
  · exact cos32_mod a _ _ (by omega)
  split
  · exact cos32_mod a _ _ (by omega)
  · exact cos32_mod a _ _ (by omega)

theorem pay7_at (C : Vec Ideal S512x128 .f32) (a : Fin 32 → EReal) (r d : Fin 512) (hC : ∀ d : Fin 128, C (ix2 r d) = sin32 a d.val) :
    k0_pay7 C (ix2 r d) = sin32 a d.val := by
  pointwise [k0_pay7, k0_pay3]
  simp only [hC]
  split
  · rfl
  split
  · exact sin32_mod a _ _ (by omega)
  split
  · exact sin32_mod a _ _ (by omega)
  · exact sin32_mod a _ _ (by omega)

theorem pay28_at (P : FVec Ideal S512x2048 .f32) (C S : FVec Ideal S512x512 .f32) (a : Fin 32 → EReal) (r d : Fin 512)
    (hC : ∀ d : Fin 512, C (ix2 r d) = cos32 a d.val) (hS : ∀ d : Fin 512, S (ix2 r d) = sin32 a d.val) :
    k0_pay28 P C S (ix2 r d) = rot32 (fun j => P (ix2 r ⟨512 + (d.val / 64 * 64 + j.val), by omega⟩)) a ⟨d.val % 64, by omega⟩ := by
  pointwise [k0_pay28]
  rw [hC, hS]
  exact turn32 _ a ⟨d.val % 64, by omega⟩ d.val (by omega) rfl _ _ _
    (congrArg (fun j => P (ix2 r j)) (Fin.ext (by show 512 + d.val = 512 + (d.val / 64 * 64 + d.val % 64); omega)))
    (fun h => congrArg (fun j => P (ix2 r j)) (Fin.ext (by have h : d.val % 64 < 32 := h; show 512 + (d.val + 512 - 480) % 512 = 512 + (d.val / 64 * 64 + (32 + d.val % 64)); omega)))
    (fun h => congrArg (fun j => P (ix2 r j)) (Fin.ext (by have h : ¬ d.val % 64 < 32 := h; show 512 + (d.val + 512 - 32) % 512 = 512 + (d.val / 64 * 64 + (d.val % 64 - 32)); omega)))

theorem pay33_at (P : FVec Ideal S512x2048 .f32) (C S : FVec Ideal S512x512 .f32) (a : Fin 32 → EReal) (r d : Fin 512)
    (hC : ∀ d : Fin 512, C (ix2 r d) = cos32 a d.val) (hS : ∀ d : Fin 512, S (ix2 r d) = sin32 a d.val) :
    k0_pay33 P C S (ix2 r d) = rot32 (fun j => P (ix2 r ⟨1280 + (d.val / 64 * 64 + j.val), by omega⟩)) a ⟨d.val % 64, by omega⟩ := by
  pointwise [k0_pay33]
  rw [hC, hS]
  exact turn32 _ a ⟨d.val % 64, by omega⟩ d.val (by omega) rfl _ _ _
    (congrArg (fun j => P (ix2 r j)) (Fin.ext (by show 1280 + d.val = 1280 + (d.val / 64 * 64 + d.val % 64); omega)))
    (fun h => congrArg (fun j => P (ix2 r j)) (Fin.ext (by have h : d.val % 64 < 32 := h; show 1280 + (d.val + 512 - 480) % 512 = 1280 + (d.val / 64 * 64 + (32 + d.val % 64)); omega)))
    (fun h => congrArg (fun j => P (ix2 r j)) (Fin.ext (by have h : ¬ d.val % 64 < 32 := h; show 1280 + (d.val + 512 - 32) % 512 = 1280 + (d.val / 64 * 64 + (d.val % 64 - 32)); omega)))

theorem pay22_at (Q : FVec Ideal S512x768 .f32) (C S : FVec Ideal S512x128 .f32) (a : Fin 16 → EReal) (r : Fin 512) (d : Fin 256)
    (hC : ∀ d : Fin 128, C (ix2 r d) = cos16 a d.val) (hS : ∀ d : Fin 128, S (ix2 r d) = sin16 a d.val) :
    k0_pay22 C S Q (ix2 r d) = rot16 (fun j => Q (ix2 r ⟨512 + (d.val / 32 * 32 + j.val), by omega⟩)) a ⟨d.val % 32, by omega⟩ := by
  pointwise [k0_pay22]
  simp only [hC, hS]
  have ec : (if h : d.val < 128 then cos16 a d.val else cos16 a (d.val - 128)) = cos16 a d.val := by
    split
    · rfl
    · exact cos16_mod a _ _ (by omega)
  have es : (if h : d.val < 128 then sin16 a d.val else sin16 a (d.val - 128)) = sin16 a d.val := by
    split
    · rfl
    · exact sin16_mod a _ _ (by omega)
  rw [ec, es]
  exact turn16 _ a ⟨d.val % 32, by omega⟩ d.val (by omega) rfl _ _ _
    (congrArg (fun j => Q (ix2 r j)) (Fin.ext (by show 512 + d.val = 512 + (d.val / 32 * 32 + d.val % 32); omega)))
    (fun h => congrArg (fun j => Q (ix2 r j)) (Fin.ext (by have h : d.val % 32 < 16 := h; show 512 + (d.val + 256 - 240) % 256 = 512 + (d.val / 32 * 32 + (16 + d.val % 32)); omega)))
    (fun h => congrArg (fun j => Q (ix2 r j)) (Fin.ext (by have h : ¬ d.val % 32 < 16 := h; show 512 + (d.val + 256 - 16) % 256 = 512 + (d.val / 32 * 32 + (d.val % 32 - 16)); omega)))

theorem pay32_at (P : FVec Ideal S512x2048 .f32) (C S : FVec Ideal S512x128 .f32) (a : Fin 32 → EReal) (r : Fin 512) (d : Fin 256)
    (hC : ∀ d : Fin 128, C (ix2 r d) = cos32 a d.val) (hS : ∀ d : Fin 128, S (ix2 r d) = sin32 a d.val) :
    k0_pay32 P C S (k0_pay29 P) k0_pay30 (k0_pay31 P) (ix2 r d)
      = if d.val / 128 < 1 then rot32 (fun j => P (ix2 r ⟨1024 + (d.val / 64 % 2 * 64 + j.val), by omega⟩)) a ⟨d.val % 64, by omega⟩
        else P (ix2 r ⟨1152 + (d.val / 64 % 2 * 64 + d.val % 64), by omega⟩) := by
  pointwise [k0_pay32, k0_pay31, k0_pay30, k0_pay29]
  simp only [hC, hS]
  by_cases h0 : d.val < 128
  · rw [dif_pos h0, if_pos (show d.val / 128 < 1 by omega)]
    exact turn32 _ a ⟨d.val % 64, by omega⟩ d.val (by omega) rfl _ _ _
      (congrArg (fun j => P (ix2 r j)) (Fin.ext (by show 1024 + d.val = 1024 + (d.val / 64 % 2 * 64 + d.val % 64); omega)))
      (fun h => congrArg (fun j => P (ix2 r j)) (Fin.ext (by have h : d.val % 64 < 32 := h; show 1024 + (d.val + 128 - 96) % 128 = 1024 + (d.val / 64 % 2 * 64 + (32 + d.val % 64)); omega)))
      (fun h => congrArg (fun j => P (ix2 r j)) (Fin.ext (by have h : ¬ d.val % 64 < 32 := h; show 1024 + (d.val + 128 - 32) % 128 = 1024 + (d.val / 64 % 2 * 64 + (d.val % 64 - 32)); omega)))
  · rw [dif_neg h0, if_neg (show ¬ d.val / 128 < 1 by omega)]
    exact congrArg (fun j => P (ix2 r j)) (Fin.ext (by show 1152 + (d.val - 128) = 1152 + (d.val / 64 % 2 * 64 + d.val % 64); omega))

theorem pay35_at (P : FVec Ideal S512x2048 .f32) (r : Fin 512) (d : Fin 8) : k0_pay35 P (ix2 r d) = P (ix2 r ⟨1920 + d.val, by omega⟩) := by
  pointwise [k0_pay35]

theorem pay2_at (C : Vec Ideal S512x128 .f32) (r : Fin 512) (d : Fin 128) : k0_pay2 C (ix2 r d) = C (ix2 r d) := by
  pointwise [k0_pay2]
theorem pay3_at (C : Vec Ideal S512x128 .f32) (r : Fin 512) (d : Fin 128) : k0_pay3 C (ix2 r d) = C (ix2 r d) := by
  pointwise [k0_pay3]
theorem pay4_at (C : Vec Ideal S512x128 .f32) (r : Fin 512) (d : Fin 128) : k0_pay4 C (ix2 r d) = C (ix2 r d) := by
  pointwise [k0_pay4]
theorem pay5_at (C : Vec Ideal S512x128 .f32) (r : Fin 512) (d : Fin 128) : k0_pay5 C (ix2 r d) = C (ix2 r d) := by
  pointwise [k0_pay5]

theorem pay12_at (A : FVec Ideal S512x256 .f32) (B : FVec Ideal S1x256 .f32) (D : FVec Ideal S512x1 .f32) (wq : Vec Ideal S256x768 .bf16) (w : Vec Ideal S1x64x128 .bf16) (r : Fin 512) (d : Fin 128) :
    k0_pay12 A B D wq w (ix3 0 r d) = ∑ v : Fin 64, k0_pay11 A B D wq (ix2 r ⟨v.val, by omega⟩) * w (ix3 0 v d) := by
  pointwise [k0_pay12]

theorem pay13_at (A : FVec Ideal S512x256 .f32) (B : FVec Ideal S1x256 .f32) (D : FVec Ideal S512x1 .f32) (wq : Vec Ideal S256x768 .bf16) (w : Vec Ideal S1x64x128 .bf16) (r : Fin 512) (d : Fin 128) :
    k0_pay13 A B D wq w (ix3 0 r d) = ∑ v : Fin 64, k0_pay11 A B D wq (ix2 r ⟨64 + v.val, by omega⟩) * w (ix3 0 v d) := by
  pointwise [k0_pay13]

theorem pay15_at (A : FVec Ideal S512x256 .f32) (B : FVec Ideal S1x256 .f32) (D : FVec Ideal S512x1 .f32) (wq : Vec Ideal S256x768 .bf16) (w : Vec Ideal S1x64x128 .bf16) (r : Fin 512) (d : Fin 128) :
    k0_pay15 (k0_pay14 A B D wq w) (ix3 0 r d) = ∑ v : Fin 64, k0_pay11 A B D wq (ix2 r ⟨128 + v.val, by omega⟩) * w (ix3 0 v d) := by
  pointwise [k0_pay15, k0_pay14]

theorem pay16_at (Q : FVec Ideal S512x768 .f32) (w : Vec Ideal S1x64x128 .bf16) (r : Fin 512) (d : Fin 128) :
    k0_pay16 Q w (ix3 0 r d) = ∑ v : Fin 64, Q (ix2 r ⟨192 + v.val, by omega⟩) * w (ix3 0 v d) := by
  pointwise [k0_pay16]

theorem pay17_at (Q : FVec Ideal S512x768 .f32) (w : Vec Ideal S1x64x128 .bf16) (r : Fin 512) (d : Fin 128) :
    k0_pay17 Q w (ix3 0 r d) = ∑ v : Fin 64, Q (ix2 r ⟨256 + v.val, by omega⟩) * w (ix3 0 v d) := by
  pointwise [k0_pay17]

theorem pay18_at (Q : FVec Ideal S512x768 .f32) (w : Vec Ideal S1x64x128 .bf16) (r : Fin 512) (d : Fin 128) :
    k0_pay18 Q w (ix3 0 r d) = ∑ v : Fin 64, Q (ix2 r ⟨320 + v.val, by omega⟩) * w (ix3 0 v d) := by
  pointwise [k0_pay18]

theorem pay20_at (Q : FVec Ideal S512x768 .f32) (w : Vec Ideal S1x64x128 .bf16) (r : Fin 512) (d : Fin 128) :
    k0_pay20 (k0_pay19 Q w) (ix3 0 r d) = ∑ v : Fin 64, Q (ix2 r ⟨384 + v.val, by omega⟩) * w (ix3 0 v d) := by
  pointwise [k0_pay20, k0_pay19]

theorem pay21_at (Q : FVec Ideal S512x768 .f32) (w : Vec Ideal S1x64x128 .bf16) (r : Fin 512) (d : Fin 128) :
    k0_pay21 Q w (ix3 0 r d) = ∑ v : Fin 64, Q (ix2 r ⟨448 + v.val, by omega⟩) * w (ix3 0 v d) := by
  pointwise [k0_pay21]

variable (x0 : Vec Ideal S512x1024 .f32) (x1 : Vec Ideal S1x1024 .f32) (x2 : Vec Ideal S1024x2048 .bf16) (x3 : Vec Ideal S1x256 .f32) (x4 : Vec Ideal S256x768 .bf16) (x5 : Vec Ideal S1x128 .f32) (x6 : Vec Ideal S8x64x128 .bf16) (x7 x8 x9 x10 : Vec Ideal S512x128 .f32)

/-- The queries of a point's rows. -/
def qry : FVec Ideal S512x768 .f32 := k0_pay11 (k0_pay8 x0 x1 x2) (k0_pay9 x3) (k0_pay10 x0 x1 x2) x4

theorem out11_at (r : Fin 512) (d : Fin 128) :
    out0_11 x0 x1 x2 x3 x4 x5 x6 x7 x8 x9 x10 (ix2 r d) = nrm 0x43000000#32 (fun k : Fin 128 => k0_pay1 x0 x1 x2 (ix2 r ⟨256 + k.val, by omega⟩)) (fun k => x5 (ix2 0 k)) d := by
  unfold_out out0_11
  refine (congrFun (View.canon_cons_unit_lit _ _ [] (by decide)) _).trans ?_
  have l0 : View.ld x0 r0_0 = x0 := View.ld_unit_lit _ _ (by decide)
  have l1 : View.ld x1 r0_1 = x1 := View.ld_unit_lit _ _ (by decide)
  have l2 : View.ld x2 r0_2 = x2 := View.ld_unit_lit _ _ (by decide)
  have l5 : View.ld x5 r0_23 = x5 := View.ld_unit_lit _ _ (by decide)
  rw [l0, l1, l2, l5]
  exact pay26_at (k0_pay1 x0 x1 x2) x5 r d

theorem out12_at (r : Fin 512) (d : Fin 32) (a : Fin 16 → EReal) (hC : ∀ d : Fin 128, x9 (ix2 r d) = cos16 a d.val) (hS : ∀ d : Fin 128, x10 (ix2 r d) = sin16 a d.val) :
    out0_12 x0 x1 x2 x3 x4 x5 x6 x7 x8 x9 x10 (ix2 r d) = rot16 (fun j => k0_pay1 x0 x1 x2 (ix2 r ⟨384 + j.val, by omega⟩)) a d := by
  unfold_out out0_12
  refine (congrFun (View.canon_cons_unit_lit _ _ [] (by decide)) _).trans ?_
  have l0 : View.ld x0 r0_0 = x0 := View.ld_unit_lit _ _ (by decide)
  have l1 : View.ld x1 r0_1 = x1 := View.ld_unit_lit _ _ (by decide)
  have l2 : View.ld x2 r0_2 = x2 := View.ld_unit_lit _ _ (by decide)
  have l9 : View.ld x9 r0_3 = x9 := View.ld_unit_lit _ _ (by decide)
  have l10 : View.ld x10 r0_3 = x10 := View.ld_unit_lit _ _ (by decide)
  rw [l0, l1, l2, l9, l10]
  exact pay27_at (k0_pay1 x0 x1 x2) (k0_pay4 x9) (k0_pay5 x10) a r d (fun d => (pay4_at x9 r d).trans (hC d)) (fun d => (pay5_at x10 r d).trans (hS d))

theorem out13_at (r : Fin 512) (d : Fin 256) (a : Fin 32 → EReal) (hC : ∀ d : Fin 128, x7 (ix2 r d) = cos32 a d.val) (hS : ∀ d : Fin 128, x8 (ix2 r d) = sin32 a d.val) :
    out0_13 x0 x1 x2 x3 x4 x5 x6 x7 x8 x9 x10 (ix2 r d) = (if d.val / 128 < 1 then rot32 (fun j => k0_pay1 x0 x1 x2 (ix2 r ⟨1024 + (d.val / 64 % 2 * 64 + j.val), by omega⟩)) a ⟨d.val % 64, by omega⟩
        else k0_pay1 x0 x1 x2 (ix2 r ⟨1152 + (d.val / 64 % 2 * 64 + d.val % 64), by omega⟩)) := by
  unfold_out out0_13
  refine (congrFun (View.canon_cons_unit_lit _ _ [] (by decide)) _).trans ?_
  have l0 : View.ld x0 r0_0 = x0 := View.ld_unit_lit _ _ (by decide)
  have l1 : View.ld x1 r0_1 = x1 := View.ld_unit_lit _ _ (by decide)
  have l2 : View.ld x2 r0_2 = x2 := View.ld_unit_lit _ _ (by decide)
  have l7 : View.ld x7 r0_3 = x7 := View.ld_unit_lit _ _ (by decide)
  have l8 : View.ld x8 r0_3 = x8 := View.ld_unit_lit _ _ (by decide)
  rw [l0, l1, l2, l7, l8]
  exact pay32_at (k0_pay1 x0 x1 x2) (k0_pay2 x7) (k0_pay3 x8) a r d (fun d => (pay2_at x7 r d).trans (hC d)) (fun d => (pay3_at x8 r d).trans (hS d))

theorem out14_at (r : Fin 512) (d : Fin 64) (a : Fin 32 → EReal) (hC : ∀ d : Fin 128, x7 (ix2 r d) = cos32 a d.val) (hS : ∀ d : Fin 128, x8 (ix2 r d) = sin32 a d.val) :
    out0_14 x0 x1 x2 x3 x4 x5 x6 x7 x8 x9 x10 (ix2 r d) = rot32 (fun j => k0_pay1 x0 x1 x2 (ix2 r ⟨1792 + j.val, by omega⟩)) a d := by
  unfold_out out0_14
  refine (congrFun (View.canon_cons_unit_lit _ _ [] (by decide)) _).trans ?_
  have l0 : View.ld x0 r0_0 = x0 := View.ld_unit_lit _ _ (by decide)
  have l1 : View.ld x1 r0_1 = x1 := View.ld_unit_lit _ _ (by decide)
  have l2 : View.ld x2 r0_2 = x2 := View.ld_unit_lit _ _ (by decide)
  have l7 : View.ld x7 r0_3 = x7 := View.ld_unit_lit _ _ (by decide)
  have l8 : View.ld x8 r0_3 = x8 := View.ld_unit_lit _ _ (by decide)
  rw [l0, l1, l2, l7, l8]
  exact pay34_at (k0_pay1 x0 x1 x2) (k0_pay2 x7) (k0_pay3 x8) a r d (fun d => (pay2_at x7 r d).trans (hC d)) (fun d => (pay3_at x8 r d).trans (hS d))

theorem out16_at (r : Fin 512) (d : Fin 256) (a : Fin 16 → EReal) (hC : ∀ d : Fin 128, x9 (ix2 r d) = cos16 a d.val) (hS : ∀ d : Fin 128, x10 (ix2 r d) = sin16 a d.val) :
    out0_16 x0 x1 x2 x3 x4 x5 x6 x7 x8 x9 x10 (ix2 r d) = rot16 (fun j => qry x0 x1 x2 x3 x4 (ix2 r ⟨512 + (d.val / 32 * 32 + j.val), by omega⟩)) a ⟨d.val % 32, by omega⟩ := by
  unfold_out out0_16
  refine (congrFun (View.canon_cons_unit_lit _ _ [] (by decide)) _).trans ?_
  have l0 : View.ld x0 r0_0 = x0 := View.ld_unit_lit _ _ (by decide)
  have l1 : View.ld x1 r0_1 = x1 := View.ld_unit_lit _ _ (by decide)
  have l2 : View.ld x2 r0_2 = x2 := View.ld_unit_lit _ _ (by decide)
  have l3 : View.ld x3 r0_4 = x3 := View.ld_unit_lit _ _ (by decide)
  have l4 : View.ld x4 r0_5 = x4 := View.ld_unit_lit _ _ (by decide)
  have l9 : View.ld x9 r0_3 = x9 := View.ld_unit_lit _ _ (by decide)
  have l10 : View.ld x10 r0_3 = x10 := View.ld_unit_lit _ _ (by decide)
  rw [l0, l1, l2, l3, l4, l9, l10]
  exact pay22_at (qry x0 x1 x2 x3 x4) (k0_pay4 x9) (k0_pay5 x10) a r d (fun d => (pay4_at x9 r d).trans (hC d)) (fun d => (pay5_at x10 r d).trans (hS d))

theorem out17_at (r : Fin 512) (d : Fin 512) (a : Fin 32 → EReal) (hC : ∀ d : Fin 128, x7 (ix2 r d) = cos32 a d.val) (hS : ∀ d : Fin 128, x8 (ix2 r d) = sin32 a d.val) :
    out0_17 x0 x1 x2 x3 x4 x5 x6 x7 x8 x9 x10 (ix2 r d) = rot32 (fun j => k0_pay1 x0 x1 x2 (ix2 r ⟨512 + (d.val / 64 * 64 + j.val), by omega⟩)) a ⟨d.val % 64, by omega⟩ := by
  unfold_out out0_17
  refine (congrFun (View.canon_cons_unit_lit _ _ [] (by decide)) _).trans ?_
  have l0 : View.ld x0 r0_0 = x0 := View.ld_unit_lit _ _ (by decide)
  have l1 : View.ld x1 r0_1 = x1 := View.ld_unit_lit _ _ (by decide)
  have l2 : View.ld x2 r0_2 = x2 := View.ld_unit_lit _ _ (by decide)
  have l7 : View.ld x7 r0_3 = x7 := View.ld_unit_lit _ _ (by decide)
  have l8 : View.ld x8 r0_3 = x8 := View.ld_unit_lit _ _ (by decide)
  rw [l0, l1, l2, l7, l8]
  exact pay28_at (k0_pay1 x0 x1 x2) (k0_pay6 x7) (k0_pay7 x8) a r d (fun d => pay6_at x7 a r d hC) (fun d => pay7_at x8 a r d hS)

theorem out18_at (r : Fin 512) (d : Fin 512) (a : Fin 32 → EReal) (hC : ∀ d : Fin 128, x7 (ix2 r d) = cos32 a d.val) (hS : ∀ d : Fin 128, x8 (ix2 r d) = sin32 a d.val) :
    out0_18 x0 x1 x2 x3 x4 x5 x6 x7 x8 x9 x10 (ix2 r d) = rot32 (fun j => k0_pay1 x0 x1 x2 (ix2 r ⟨1280 + (d.val / 64 * 64 + j.val), by omega⟩)) a ⟨d.val % 64, by omega⟩ := by
  unfold_out out0_18
  refine (congrFun (View.canon_cons_unit_lit _ _ [] (by decide)) _).trans ?_
  have l0 : View.ld x0 r0_0 = x0 := View.ld_unit_lit _ _ (by decide)
  have l1 : View.ld x1 r0_1 = x1 := View.ld_unit_lit _ _ (by decide)
  have l2 : View.ld x2 r0_2 = x2 := View.ld_unit_lit _ _ (by decide)
  have l7 : View.ld x7 r0_3 = x7 := View.ld_unit_lit _ _ (by decide)
  have l8 : View.ld x8 r0_3 = x8 := View.ld_unit_lit _ _ (by decide)
  rw [l0, l1, l2, l7, l8]
  exact pay33_at (k0_pay1 x0 x1 x2) (k0_pay6 x7) (k0_pay7 x8) a r d (fun d => pay6_at x7 a r d hC) (fun d => pay7_at x8 a r d hS)

theorem out19_at (r : Fin 512) (d : Fin 8) :
    out0_19 x0 x1 x2 x3 x4 x5 x6 x7 x8 x9 x10 (ix2 r d) = k0_pay1 x0 x1 x2 (ix2 r ⟨1920 + d.val, by omega⟩) := by
  unfold_out out0_19
  refine (congrFun (View.canon_cons_unit_lit _ _ [] (by decide)) _).trans ?_
  have l0 : View.ld x0 r0_0 = x0 := View.ld_unit_lit _ _ (by decide)
  have l1 : View.ld x1 r0_1 = x1 := View.ld_unit_lit _ _ (by decide)
  have l2 : View.ld x2 r0_2 = x2 := View.ld_unit_lit _ _ (by decide)
  rw [l0, l1, l2]
  exact pay35_at (k0_pay1 x0 x1 x2) r d

theorem qry_eq : k0_pay46 x0 x1 x2 x3 x4 x5 x6 x7 x8 x9 x10 = qry x0 x1 x2 x3 x4 := by
  unfold k0_pay46 k0_pay45 k0_pay44 k0_pay43 qry
  have l0 : View.ld x0 r0_0 = x0 := View.ld_unit_lit _ _ (by decide)
  have l1 : View.ld x1 r0_1 = x1 := View.ld_unit_lit _ _ (by decide)
  have l2 : View.ld x2 r0_2 = x2 := View.ld_unit_lit _ _ (by decide)
  have l3 : View.ld x3 r0_4 = x3 := View.ld_unit_lit _ _ (by decide)
  have l4 : View.ld x4 r0_5 = x4 := View.ld_unit_lit _ _ (by decide)
  rw [l0, l1, l2, l3, l4]

/-- One array of the queries of all heads, carried to the latent space. -/
def latq (Q : FVec Ideal S512x768 .f32) (w : Vec Ideal S8x64x128 .bf16) (y : S8x512x128.Idx) : EReal :=
  ∑ v : Fin 64, Q (ix2 (y 1) ⟨64 * (y 0).val + v.val, by have : (y 0).val < 8 := (y 0).isLt; omega⟩) * w (ix3 (y 0) v (y 2))

theorem ix3_eta (x : S1x512x128.Idx) : ∃ (r : Fin 512) (d : Fin 128), x = ix3 0 r d :=
  ⟨x 1, x 2, by
    funext k
    match k with
    | ⟨0, _⟩ => apply Fin.ext; have : (x 0).val < 1 := (x 0).isLt; show (x 0).val = 0; omega
    | ⟨1, _⟩ => rfl
    | ⟨2, _⟩ => rfl⟩

theorem piece0 (A : FVec Ideal S512x256 .f32) (B : FVec Ideal S1x256 .f32) (D : FVec Ideal S512x1 .f32) (wq : Vec Ideal S256x768 .bf16) (x6 : Vec Ideal S8x64x128 .bf16) (x : S1x512x128.Idx) :
    k0_pay12 A B D wq (View.ld x6 r0_6) x = latq (k0_pay11 A B D wq) x6 (r0_7.emb x) := by
  obtain ⟨r, d, rfl⟩ := ix3_eta x
  refine (pay12_at A B D wq (View.ld x6 r0_6) r d).trans ?_
  have e : r0_7.emb (ix3 0 r d) = ix3 0 r d := by
    funext k
    match k with
    | ⟨0, _⟩ => apply Fin.ext; show 0 + 1 * 0 = 0; omega
    | ⟨1, _⟩ => apply Fin.ext; show 0 + 1 * r.val = r.val; omega
    | ⟨2, _⟩ => apply Fin.ext; show 0 + 1 * d.val = d.val; omega
  rw [e]
  refine Finset.sum_congr rfl fun v _ => ?_
  have f : r0_6.idx (ix3 0 v d) = ix3 0 v d := by
    funext k
    match k with
    | ⟨0, _⟩ => apply Fin.ext; show 0 + 1 * 0 = 0; omega
    | ⟨1, _⟩ => apply Fin.ext; show 0 + 1 * v.val = v.val; omega
    | ⟨2, _⟩ => apply Fin.ext; show 0 + 1 * d.val = d.val; omega
  refine congrArg₂ (· * ·) (congrArg (fun j => (k0_pay11 A B D wq) (ix2 r j)) (Fin.ext ?_)) (congrArg x6 f)
  show v.val = 64 * 0 + v.val
  omega

theorem piece1 (A : FVec Ideal S512x256 .f32) (B : FVec Ideal S1x256 .f32) (D : FVec Ideal S512x1 .f32) (wq : Vec Ideal S256x768 .bf16) (x6 : Vec Ideal S8x64x128 .bf16) (x : S1x512x128.Idx) :
    k0_pay13 A B D wq (View.ld x6 r0_8) x = latq (k0_pay11 A B D wq) x6 (r0_9.emb x) := by
  obtain ⟨r, d, rfl⟩ := ix3_eta x
  refine (pay13_at A B D wq (View.ld x6 r0_8) r d).trans ?_
  have e : r0_9.emb (ix3 0 r d) = ix3 1 r d := by
    funext k
    match k with
    | ⟨0, _⟩ => apply Fin.ext; show 1 + 1 * 0 = 1; omega
    | ⟨1, _⟩ => apply Fin.ext; show 0 + 1 * r.val = r.val; omega
    | ⟨2, _⟩ => apply Fin.ext; show 0 + 1 * d.val = d.val; omega
  rw [e]
  refine Finset.sum_congr rfl fun v _ => ?_
  have f : r0_8.idx (ix3 0 v d) = ix3 1 v d := by
    funext k
    match k with
    | ⟨0, _⟩ => apply Fin.ext; show 1 + 1 * 0 = 1; omega
    | ⟨1, _⟩ => apply Fin.ext; show 0 + 1 * v.val = v.val; omega
    | ⟨2, _⟩ => apply Fin.ext; show 0 + 1 * d.val = d.val; omega
  refine congrArg₂ (· * ·) (congrArg (fun j => (k0_pay11 A B D wq) (ix2 r j)) (Fin.ext ?_)) (congrArg x6 f)
  show 64 + v.val = 64 * 1 + v.val
  omega

theorem piece2 (A : FVec Ideal S512x256 .f32) (B : FVec Ideal S1x256 .f32) (D : FVec Ideal S512x1 .f32) (wq : Vec Ideal S256x768 .bf16) (x6 : Vec Ideal S8x64x128 .bf16) (x : S1x512x128.Idx) :
    k0_pay15 (k0_pay14 A B D wq (View.ld x6 r0_10)) x = latq (k0_pay11 A B D wq) x6 (r0_11.emb x) := by
  obtain ⟨r, d, rfl⟩ := ix3_eta x
  refine (pay15_at A B D wq (View.ld x6 r0_10) r d).trans ?_
  have e : r0_11.emb (ix3 0 r d) = ix3 2 r d := by
    funext k
    match k with
    | ⟨0, _⟩ => apply Fin.ext; show 2 + 1 * 0 = 2; omega
    | ⟨1, _⟩ => apply Fin.ext; show 0 + 1 * r.val = r.val; omega
    | ⟨2, _⟩ => apply Fin.ext; show 0 + 1 * d.val = d.val; omega
  rw [e]
  refine Finset.sum_congr rfl fun v _ => ?_
  have f : r0_10.idx (ix3 0 v d) = ix3 2 v d := by
    funext k
    match k with
    | ⟨0, _⟩ => apply Fin.ext; show 2 + 1 * 0 = 2; omega
    | ⟨1, _⟩ => apply Fin.ext; show 0 + 1 * v.val = v.val; omega
    | ⟨2, _⟩ => apply Fin.ext; show 0 + 1 * d.val = d.val; omega
  refine congrArg₂ (· * ·) (congrArg (fun j => (k0_pay11 A B D wq) (ix2 r j)) (Fin.ext ?_)) (congrArg x6 f)
  show 128 + v.val = 64 * 2 + v.val
  omega

theorem piece3 (Q : FVec Ideal S512x768 .f32) (x6 : Vec Ideal S8x64x128 .bf16) (x : S1x512x128.Idx) :
    k0_pay16 Q (View.ld x6 r0_12) x = latq Q x6 (r0_13.emb x) := by
  obtain ⟨r, d, rfl⟩ := ix3_eta x
  refine (pay16_at Q (View.ld x6 r0_12) r d).trans ?_
  have e : r0_13.emb (ix3 0 r d) = ix3 3 r d := by
    funext k
    match k with
    | ⟨0, _⟩ => apply Fin.ext; show 3 + 1 * 0 = 3; omega
    | ⟨1, _⟩ => apply Fin.ext; show 0 + 1 * r.val = r.val; omega
    | ⟨2, _⟩ => apply Fin.ext; show 0 + 1 * d.val = d.val; omega
  rw [e]
  refine Finset.sum_congr rfl fun v _ => ?_
  have f : r0_12.idx (ix3 0 v d) = ix3 3 v d := by
    funext k
    match k with
    | ⟨0, _⟩ => apply Fin.ext; show 3 + 1 * 0 = 3; omega
    | ⟨1, _⟩ => apply Fin.ext; show 0 + 1 * v.val = v.val; omega
    | ⟨2, _⟩ => apply Fin.ext; show 0 + 1 * d.val = d.val; omega
  refine congrArg₂ (· * ·) (congrArg (fun j => Q (ix2 r j)) (Fin.ext ?_)) (congrArg x6 f)
  show 192 + v.val = 64 * 3 + v.val
  omega

theorem piece4 (Q : FVec Ideal S512x768 .f32) (x6 : Vec Ideal S8x64x128 .bf16) (x : S1x512x128.Idx) :
    k0_pay17 Q (View.ld x6 r0_14) x = latq Q x6 (r0_15.emb x) := by
  obtain ⟨r, d, rfl⟩ := ix3_eta x
  refine (pay17_at Q (View.ld x6 r0_14) r d).trans ?_
  have e : r0_15.emb (ix3 0 r d) = ix3 4 r d := by
    funext k
    match k with
    | ⟨0, _⟩ => apply Fin.ext; show 4 + 1 * 0 = 4; omega
    | ⟨1, _⟩ => apply Fin.ext; show 0 + 1 * r.val = r.val; omega
    | ⟨2, _⟩ => apply Fin.ext; show 0 + 1 * d.val = d.val; omega
  rw [e]
  refine Finset.sum_congr rfl fun v _ => ?_
  have f : r0_14.idx (ix3 0 v d) = ix3 4 v d := by
    funext k
    match k with
    | ⟨0, _⟩ => apply Fin.ext; show 4 + 1 * 0 = 4; omega
    | ⟨1, _⟩ => apply Fin.ext; show 0 + 1 * v.val = v.val; omega
    | ⟨2, _⟩ => apply Fin.ext; show 0 + 1 * d.val = d.val; omega
  refine congrArg₂ (· * ·) (congrArg (fun j => Q (ix2 r j)) (Fin.ext ?_)) (congrArg x6 f)
  show 256 + v.val = 64 * 4 + v.val
  omega

theorem piece5 (Q : FVec Ideal S512x768 .f32) (x6 : Vec Ideal S8x64x128 .bf16) (x : S1x512x128.Idx) :
    k0_pay18 Q (View.ld x6 r0_16) x = latq Q x6 (r0_17.emb x) := by
  obtain ⟨r, d, rfl⟩ := ix3_eta x
  refine (pay18_at Q (View.ld x6 r0_16) r d).trans ?_
  have e : r0_17.emb (ix3 0 r d) = ix3 5 r d := by
    funext k
    match k with
    | ⟨0, _⟩ => apply Fin.ext; show 5 + 1 * 0 = 5; omega
    | ⟨1, _⟩ => apply Fin.ext; show 0 + 1 * r.val = r.val; omega
    | ⟨2, _⟩ => apply Fin.ext; show 0 + 1 * d.val = d.val; omega
  rw [e]
  refine Finset.sum_congr rfl fun v _ => ?_
  have f : r0_16.idx (ix3 0 v d) = ix3 5 v d := by
    funext k
    match k with
    | ⟨0, _⟩ => apply Fin.ext; show 5 + 1 * 0 = 5; omega
    | ⟨1, _⟩ => apply Fin.ext; show 0 + 1 * v.val = v.val; omega
    | ⟨2, _⟩ => apply Fin.ext; show 0 + 1 * d.val = d.val; omega
  refine congrArg₂ (· * ·) (congrArg (fun j => Q (ix2 r j)) (Fin.ext ?_)) (congrArg x6 f)
  show 320 + v.val = 64 * 5 + v.val
  omega

theorem piece6 (Q : FVec Ideal S512x768 .f32) (x6 : Vec Ideal S8x64x128 .bf16) (x : S1x512x128.Idx) :
    k0_pay20 (k0_pay19 Q (View.ld x6 r0_18)) x = latq Q x6 (r0_19.emb x) := by
  obtain ⟨r, d, rfl⟩ := ix3_eta x
  refine (pay20_at Q (View.ld x6 r0_18) r d).trans ?_
  have e : r0_19.emb (ix3 0 r d) = ix3 6 r d := by
    funext k
    match k with
    | ⟨0, _⟩ => apply Fin.ext; show 6 + 1 * 0 = 6; omega
    | ⟨1, _⟩ => apply Fin.ext; show 0 + 1 * r.val = r.val; omega
    | ⟨2, _⟩ => apply Fin.ext; show 0 + 1 * d.val = d.val; omega
  rw [e]
  refine Finset.sum_congr rfl fun v _ => ?_
  have f : r0_18.idx (ix3 0 v d) = ix3 6 v d := by
    funext k
    match k with
    | ⟨0, _⟩ => apply Fin.ext; show 6 + 1 * 0 = 6; omega
    | ⟨1, _⟩ => apply Fin.ext; show 0 + 1 * v.val = v.val; omega
    | ⟨2, _⟩ => apply Fin.ext; show 0 + 1 * d.val = d.val; omega
  refine congrArg₂ (· * ·) (congrArg (fun j => Q (ix2 r j)) (Fin.ext ?_)) (congrArg x6 f)
  show 384 + v.val = 64 * 6 + v.val
  omega

theorem piece7 (Q : FVec Ideal S512x768 .f32) (x6 : Vec Ideal S8x64x128 .bf16) (x : S1x512x128.Idx) :
    k0_pay21 Q (View.ld x6 r0_20) x = latq Q x6 (r0_21.emb x) := by
  obtain ⟨r, d, rfl⟩ := ix3_eta x
  refine (pay21_at Q (View.ld x6 r0_20) r d).trans ?_
  have e : r0_21.emb (ix3 0 r d) = ix3 7 r d := by
    funext k
    match k with
    | ⟨0, _⟩ => apply Fin.ext; show 7 + 1 * 0 = 7; omega
    | ⟨1, _⟩ => apply Fin.ext; show 0 + 1 * r.val = r.val; omega
    | ⟨2, _⟩ => apply Fin.ext; show 0 + 1 * d.val = d.val; omega
  rw [e]
  refine Finset.sum_congr rfl fun v _ => ?_
  have f : r0_20.idx (ix3 0 v d) = ix3 7 v d := by
    funext k
    match k with
    | ⟨0, _⟩ => apply Fin.ext; show 7 + 1 * 0 = 7; omega
    | ⟨1, _⟩ => apply Fin.ext; show 0 + 1 * v.val = v.val; omega
    | ⟨2, _⟩ => apply Fin.ext; show 0 + 1 * d.val = d.val; omega
  refine congrArg₂ (· * ·) (congrArg (fun j => Q (ix2 r j)) (Fin.ext ?_)) (congrArg x6 f)
  show 448 + v.val = 64 * 7 + v.val
  omega

theorem out15_at (h : Fin 8) (r : Fin 512) (d : Fin 128) :
    out0_15 x0 x1 x2 x3 x4 x5 x6 x7 x8 x9 x10 (ix3 h r d) = ∑ v : Fin 64, qry x0 x1 x2 x3 x4 (ix2 r ⟨64 * h.val + v.val, by omega⟩) * x6 (ix3 h v d) := by
  rw [← qry_eq x0 x1 x2 x3 x4 x5 x6 x7 x8 x9 x10]
  unfold out0_15
  refine (View.canon_apply_of_pieces (latq (k0_pay46 x0 x1 x2 x3 x4 x5 x6 x7 x8 x9 x10) x6) _ ?_ (ix3 h r d) (cover0_15 _ _ _ _ _ _ _ _ _)).trans rfl
  intro p hp x
  rcases List.mem_cons.mp hp with rfl | hp
  · exact piece7 (k0_pay46 x0 x1 x2 x3 x4 x5 x6 x7 x8 x9 x10) x6 x
  rcases List.mem_cons.mp hp with rfl | hp
  · exact piece6 (k0_pay46 x0 x1 x2 x3 x4 x5 x6 x7 x8 x9 x10) x6 x
  rcases List.mem_cons.mp hp with rfl | hp
  · exact piece5 (k0_pay46 x0 x1 x2 x3 x4 x5 x6 x7 x8 x9 x10) x6 x
  rcases List.mem_cons.mp hp with rfl | hp
  · exact piece4 (k0_pay46 x0 x1 x2 x3 x4 x5 x6 x7 x8 x9 x10) x6 x
  rcases List.mem_cons.mp hp with rfl | hp
  · exact piece3 (k0_pay46 x0 x1 x2 x3 x4 x5 x6 x7 x8 x9 x10) x6 x
  rcases List.mem_cons.mp hp with rfl | hp
  · exact piece2 (k0_pay43 x0 x1 x2 x3 x4 x5 x6 x7 x8 x9 x10) (k0_pay44 x0 x1 x2 x3 x4 x5 x6 x7 x8 x9 x10) (k0_pay45 x0 x1 x2 x3 x4 x5 x6 x7 x8 x9 x10) (View.ld x4 r0_5) x6 x
  rcases List.mem_cons.mp hp with rfl | hp
  · exact piece1 (k0_pay43 x0 x1 x2 x3 x4 x5 x6 x7 x8 x9 x10) (k0_pay44 x0 x1 x2 x3 x4 x5 x6 x7 x8 x9 x10) (k0_pay45 x0 x1 x2 x3 x4 x5 x6 x7 x8 x9 x10) (View.ld x4 r0_5) x6 x
  · obtain rfl := List.mem_singleton.mp hp
    exact piece0 (k0_pay43 x0 x1 x2 x3 x4 x5 x6 x7 x8 x9 x10) (k0_pay44 x0 x1 x2 x3 x4 x5 x6 x7 x8 x9 x10) (k0_pay45 x0 x1 x2 x3 x4 x5 x6 x7 x8 x9 x10) (View.ld x4 r0_5) x6 x

end Cert.Mixer

end
-- ==== Proof.Mixer.lean ====
/- The mixer's projections: the kernel's arrays are the reference's. -/
module

public import proofs.«01_k».proof.Proof.Norm
public import proofs.«01_k».proof.Proof.Gen.MixerIdeal.Value
public import proofs.«01_k».proof.Proof.MixerBody
public import Idealize.ShloMosaic.Lib.Pipeline.ValueKit
public import Idealize.ShloMosaic.Lib.WordCmp

@[expose] public section

set_option maxRecDepth 16384

noncomputable section

namespace Cert.Mixer

open Cert.MixerIdeal Cert.MixerIdeal.Gen Idealize.ShloMosaic Idealize.ShloMosaic.TcCoe Idealize.SL.Sem
open Cert.Norm
open Cert.MixerRefIdeal.Value (ang rot16 rot32 pos arr2 arr3 proj query gckv gkr gkv gik gql gqr gdq giq giw)

variable (m : (ℓ : Loc nD τ sig) → Buf (Elt Ideal) ℓ) (c : Dev nD)

/-- A column of a point's projection, by the column of the weights it is of. -/
theorem P_at (t : Fin cfg0.N) (y : Fin 512) (k : Fin 2048) (j : Fin 1768)
    (hk : ∀ s : Fin 1024, (V m c main_v20 : FVec Ideal S1024x2048 .bf16) (ix2 s k) = m ((c : Thread nD τ).loc main_arg2) (ix2 s j)) :
    k0_pay1 (iblk m c 0 t) (iblk m c 1 t) (iblk m c 2 t) (ix2 y k) = proj (m ((c : Thread nD τ).loc main_arg0)) (m ((c : Thread nD τ).loc main_arg1)) (m ((c : Thread nD τ).loc main_arg2)) (brow t y) j := by
  refine (pay1_at (iblk m c 0 t) (iblk m c 1 t) (iblk m c 2 t) y k).trans ?_
  simp only [blk0, blk1, blk2, hk]
  rfl

/-- The same of the queries. -/
theorem Q_at (t : Fin cfg0.N) (y : Fin 512) (k j : Fin 768)
    (hk : ∀ s : Fin 256, (V m c main_v22 : FVec Ideal S256x768 .bf16) (ix2 s k) = m ((c : Thread nD τ).loc main_arg4) (ix2 s j)) :
    qry (iblk m c 0 t) (iblk m c 1 t) (iblk m c 2 t) (iblk m c 3 t) (iblk m c 4 t) (ix2 y k) = query (m ((c : Thread nD τ).loc main_arg0)) (m ((c : Thread nD τ).loc main_arg1)) (m ((c : Thread nD τ).loc main_arg2)) (m ((c : Thread nD τ).loc main_arg3)) (m ((c : Thread nD τ).loc main_arg4)) (brow t y) j := by
  refine (pay11_at (iblk m c 0 t) (iblk m c 1 t) (iblk m c 2 t) (iblk m c 3 t) (iblk m c 4 t) y k).trans ?_
  simp only [blk3, blk4, hk]
  have e : (fun k : Fin 256 => k0_pay1 (iblk m c 0 t) (iblk m c 1 t) (iblk m c 2 t) (ix2 y ⟨k.val, by omega⟩)) = fun k : Fin 256 => proj (m ((c : Thread nD τ).loc main_arg0)) (m ((c : Thread nD τ).loc main_arg1)) (m ((c : Thread nD τ).loc main_arg2)) (brow t y) ⟨k.val, by omega⟩ :=
    funext fun k => P_at m c t y _ _ fun s => V20_cq m c s k
  rw [e]
  rfl

theorem final11 : (dats m 0 c).arrAt 11 cfg0.N = arr2 (gckv (m ((c : Thread nD τ).loc main_arg0)) (m ((c : Thread nD τ).loc main_arg1)) (m ((c : Thread nD τ).loc main_arg2)) (m ((c : Thread nD τ).loc main_arg5))) := by
  refine (dats m 0 c).arrAt_eq_of_covers 11 _ (by decide +kernel) fun t hf y => ?_
  blk_simp
  rw [after0_11]
  obtain ⟨n, d, rfl⟩ : ∃ (n : Fin 512) (d : Fin 128), y = ix2 n d :=
    ⟨y 0, y 1, by funext k; match k with | ⟨0, _⟩ => rfl | ⟨1, _⟩ => rfl⟩
  have he : ((cfg0.win 11).blk t).view.emb (ix2 n d) = ix2 (brow t n) d := by
    unfold brow
    blk_ext [idx11 t]
  refine Eq.trans ?_ (congrArg (arr2 (gckv (m ((c : Thread nD τ).loc main_arg0)) (m ((c : Thread nD τ).loc main_arg1)) (m ((c : Thread nD τ).loc main_arg2)) (m ((c : Thread nD τ).loc main_arg5)))) he.symm)
  refine (out11_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d).trans ?_
  simp only [blk5]
  have e : (fun k : Fin 128 => k0_pay1 (iblk m c 0 t) (iblk m c 1 t) (iblk m c 2 t) (ix2 n ⟨256 + k.val, by omega⟩)) = fun k : Fin 128 => proj (m ((c : Thread nD τ).loc main_arg0)) (m ((c : Thread nD τ).loc main_arg1)) (m ((c : Thread nD τ).loc main_arg2)) (brow t n) ⟨256 + k.val, by omega⟩ :=
    funext fun k => P_at m c t n _ _ fun s => V20_ckv m c s k
  rw [e]
  rfl

theorem final12 : (dats m 0 c).arrAt 12 cfg0.N = arr2 (gkr (m ((c : Thread nD τ).loc main_arg0)) (m ((c : Thread nD τ).loc main_arg1)) (m ((c : Thread nD τ).loc main_arg2))) := by
  refine (dats m 0 c).arrAt_eq_of_covers 12 _ (by decide +kernel) fun t hf y => ?_
  blk_simp
  rw [after0_12]
  obtain ⟨n, d, rfl⟩ : ∃ (n : Fin 512) (d : Fin 32), y = ix2 n d :=
    ⟨y 0, y 1, by funext k; match k with | ⟨0, _⟩ => rfl | ⟨1, _⟩ => rfl⟩
  have he : ((cfg0.win 12).blk t).view.emb (ix2 n d) = ix2 (brow t n) d := by
    unfold brow
    blk_ext [idx12 t]
  refine Eq.trans ?_ (congrArg (arr2 (gkr (m ((c : Thread nD τ).loc main_arg0)) (m ((c : Thread nD τ).loc main_arg1)) (m ((c : Thread nD τ).loc main_arg2)))) he.symm)
  refine (out12_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d (ang 0x41800000#32 (pos (brow t n))) (fun d => blk9 m c t n d) (fun d => blk10 m c t n d)).trans ?_
  show _ = gkr (m ((c : Thread nD τ).loc main_arg0)) (m ((c : Thread nD τ).loc main_arg1)) (m ((c : Thread nD τ).loc main_arg2)) (brow t n) d
  unfold gkr
  exact congrArg (fun x => rot16 x (ang 0x41800000#32 (pos (brow t n))) d) (funext fun j => P_at m c t n _ _ fun s => V20_kr m c s j)

theorem final13 : (dats m 0 c).arrAt 13 cfg0.N = arr2 (gkv (m ((c : Thread nD τ).loc main_arg0)) (m ((c : Thread nD τ).loc main_arg1)) (m ((c : Thread nD τ).loc main_arg2))) := by
  refine (dats m 0 c).arrAt_eq_of_covers 13 _ (by decide +kernel) fun t hf y => ?_
  blk_simp
  rw [after0_13]
  obtain ⟨n, d, rfl⟩ : ∃ (n : Fin 512) (d : Fin 256), y = ix2 n d :=
    ⟨y 0, y 1, by funext k; match k with | ⟨0, _⟩ => rfl | ⟨1, _⟩ => rfl⟩
  have he : ((cfg0.win 13).blk t).view.emb (ix2 n d) = ix2 (brow t n) d := by
    unfold brow
    blk_ext [idx13 t]
  refine Eq.trans ?_ (congrArg (arr2 (gkv (m ((c : Thread nD τ).loc main_arg0)) (m ((c : Thread nD τ).loc main_arg1)) (m ((c : Thread nD τ).loc main_arg2)))) he.symm)
  refine (out13_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d (ang 0x42000000#32 (pos (brow t n))) (fun d => blk7 m c t n d) (fun d => blk8 m c t n d)).trans ?_
  show _ = gkv (m ((c : Thread nD τ).loc main_arg0)) (m ((c : Thread nD τ).loc main_arg1)) (m ((c : Thread nD τ).loc main_arg2)) (brow t n) d
  unfold gkv
  by_cases h : d.val / 128 < 1
  · rw [if_pos h, if_pos h]
    exact congrArg (fun x => rot32 x (ang 0x42000000#32 (pos (brow t n))) ⟨d.val % 64, by omega⟩)
      (funext fun j => P_at m c t n _ _ fun s => V20_dk m c s ⟨d.val / 64 % 2 * 64 + j.val, by omega⟩)
  · rw [if_neg h, if_neg h]
    exact P_at m c t n _ _ fun s => V20_dv m c s ⟨d.val / 64 % 2 * 64 + d.val % 64, by omega⟩

theorem final14 : (dats m 0 c).arrAt 14 cfg0.N = arr2 (gik (m ((c : Thread nD τ).loc main_arg0)) (m ((c : Thread nD τ).loc main_arg1)) (m ((c : Thread nD τ).loc main_arg2))) := by
  refine (dats m 0 c).arrAt_eq_of_covers 14 _ (by decide +kernel) fun t hf y => ?_
  blk_simp
  rw [after0_14]
  obtain ⟨n, d, rfl⟩ : ∃ (n : Fin 512) (d : Fin 64), y = ix2 n d :=
    ⟨y 0, y 1, by funext k; match k with | ⟨0, _⟩ => rfl | ⟨1, _⟩ => rfl⟩
  have he : ((cfg0.win 14).blk t).view.emb (ix2 n d) = ix2 (brow t n) d := by
    unfold brow
    blk_ext [idx14 t]
  refine Eq.trans ?_ (congrArg (arr2 (gik (m ((c : Thread nD τ).loc main_arg0)) (m ((c : Thread nD τ).loc main_arg1)) (m ((c : Thread nD τ).loc main_arg2)))) he.symm)
  refine (out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d (ang 0x42000000#32 (pos (brow t n))) (fun d => blk7 m c t n d) (fun d => blk8 m c t n d)).trans ?_
  show _ = gik (m ((c : Thread nD τ).loc main_arg0)) (m ((c : Thread nD τ).loc main_arg1)) (m ((c : Thread nD τ).loc main_arg2)) (brow t n) d
  unfold gik
  exact congrArg (fun x => rot32 x (ang 0x42000000#32 (pos (brow t n))) d) (funext fun j => P_at m c t n _ _ fun s => V20_ik m c s j)

theorem final16 : (dats m 0 c).arrAt 16 cfg0.N = arr2 (gqr (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 16 _ (by decide +kernel) fun t hf y => ?_
  blk_simp
  rw [after0_16]
  obtain ⟨n, d, rfl⟩ : ∃ (n : Fin 512) (d : Fin 256), y = ix2 n d :=
    ⟨y 0, y 1, by funext k; match k with | ⟨0, _⟩ => rfl | ⟨1, _⟩ => rfl⟩
  have he : ((cfg0.win 16).blk t).view.emb (ix2 n d) = ix2 (brow t n) d := by
    unfold brow
    blk_ext [idx16 t]
  refine Eq.trans ?_ (congrArg (arr2 (gqr (m ((c : Thread nD τ).loc main_arg0)) (m ((c : Thread nD τ).loc main_arg1)) (m ((c : Thread nD τ).loc main_arg2)) (m ((c : Thread nD τ).loc main_arg3)) (m ((c : Thread nD τ).loc main_arg4)))) he.symm)
  refine (out16_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d (ang 0x41800000#32 (pos (brow t n))) (fun d => blk9 m c t n d) (fun d => blk10 m c t n d)).trans ?_
  show _ = gqr (m ((c : Thread nD τ).loc main_arg0)) (m ((c : Thread nD τ).loc main_arg1)) (m ((c : Thread nD τ).loc main_arg2)) (m ((c : Thread nD τ).loc main_arg3)) (m ((c : Thread nD τ).loc main_arg4)) (brow t n) d
  unfold gqr
  refine congrArg (fun x => rot16 x (ang 0x41800000#32 (pos (brow t n))) ⟨d.val % 32, by omega⟩) (funext fun j => Q_at m c t n _ _ fun s => ?_)
  refine (V22_rope m c s ⟨d.val / 32 * 32 + j.val, by omega⟩).trans (congrArg (fun k => m ((c : Thread nD τ).loc main_arg4) (ix2 s k)) (Fin.ext ?_))
  show (d.val / 32 * 32 + j.val) / 32 * 96 + (64 + (d.val / 32 * 32 + j.val) % 32) = d.val / 32 * 96 + (64 + j.val)
  omega

theorem final17 : (dats m 0 c).arrAt 17 cfg0.N = arr2 (gdq (m ((c : Thread nD τ).loc main_arg0)) (m ((c : Thread nD τ).loc main_arg1)) (m ((c : Thread nD τ).loc main_arg2))) := by
  refine (dats m 0 c).arrAt_eq_of_covers 17 _ (by decide +kernel) fun t hf y => ?_
  blk_simp
  rw [after0_17]
  obtain ⟨n, d, rfl⟩ : ∃ (n : Fin 512) (d : Fin 512), y = ix2 n d :=
    ⟨y 0, y 1, by funext k; match k with | ⟨0, _⟩ => rfl | ⟨1, _⟩ => rfl⟩
  have he : ((cfg0.win 17).blk t).view.emb (ix2 n d) = ix2 (brow t n) d := by
    unfold brow
    blk_ext [idx17 t]
  refine Eq.trans ?_ (congrArg (arr2 (gdq (m ((c : Thread nD τ).loc main_arg0)) (m ((c : Thread nD τ).loc main_arg1)) (m ((c : Thread nD τ).loc main_arg2)))) he.symm)
  refine (out17_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d (ang 0x42000000#32 (pos (brow t n))) (fun d => blk7 m c t n d) (fun d => blk8 m c t n d)).trans ?_
  show _ = gdq (m ((c : Thread nD τ).loc main_arg0)) (m ((c : Thread nD τ).loc main_arg1)) (m ((c : Thread nD τ).loc main_arg2)) (brow t n) d
  unfold gdq
  exact congrArg (fun x => rot32 x (ang 0x42000000#32 (pos (brow t n))) ⟨d.val % 64, by omega⟩) (funext fun j => P_at m c t n _ _ fun s => V20_dq m c s ⟨d.val / 64 * 64 + j.val, by omega⟩)

theorem final18 : (dats m 0 c).arrAt 18 cfg0.N = arr2 (giq (m ((c : Thread nD τ).loc main_arg0)) (m ((c : Thread nD τ).loc main_arg1)) (m ((c : Thread nD τ).loc main_arg2))) := by
  refine (dats m 0 c).arrAt_eq_of_covers 18 _ (by decide +kernel) fun t hf y => ?_
  blk_simp
  rw [after0_18]
  obtain ⟨n, d, rfl⟩ : ∃ (n : Fin 512) (d : Fin 512), y = ix2 n d :=
    ⟨y 0, y 1, by funext k; match k with | ⟨0, _⟩ => rfl | ⟨1, _⟩ => rfl⟩
  have he : ((cfg0.win 18).blk t).view.emb (ix2 n d) = ix2 (brow t n) d := by
    unfold brow
    blk_ext [idx18 t]
  refine Eq.trans ?_ (congrArg (arr2 (giq (m ((c : Thread nD τ).loc main_arg0)) (m ((c : Thread nD τ).loc main_arg1)) (m ((c : Thread nD τ).loc main_arg2)))) he.symm)
  refine (out18_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d (ang 0x42000000#32 (pos (brow t n))) (fun d => blk7 m c t n d) (fun d => blk8 m c t n d)).trans ?_
  show _ = giq (m ((c : Thread nD τ).loc main_arg0)) (m ((c : Thread nD τ).loc main_arg1)) (m ((c : Thread nD τ).loc main_arg2)) (brow t n) d
  unfold giq
  exact congrArg (fun x => rot32 x (ang 0x42000000#32 (pos (brow t n))) ⟨d.val % 64, by omega⟩) (funext fun j => P_at m c t n _ _ fun s => V20_iq m c s ⟨d.val / 64 * 64 + j.val, by omega⟩)

theorem final19 : (dats m 0 c).arrAt 19 cfg0.N = arr2 (giw (m ((c : Thread nD τ).loc main_arg0)) (m ((c : Thread nD τ).loc main_arg1)) (m ((c : Thread nD τ).loc main_arg2))) := by
  refine (dats m 0 c).arrAt_eq_of_covers 19 _ (by decide +kernel) fun t hf y => ?_
  blk_simp
  rw [after0_19]
  obtain ⟨n, d, rfl⟩ : ∃ (n : Fin 512) (d : Fin 8), y = ix2 n d :=
    ⟨y 0, y 1, by funext k; match k with | ⟨0, _⟩ => rfl | ⟨1, _⟩ => rfl⟩
  have he : ((cfg0.win 19).blk t).view.emb (ix2 n d) = ix2 (brow t n) d := by
    unfold brow
    blk_ext [idx19 t]
  refine Eq.trans ?_ (congrArg (arr2 (giw (m ((c : Thread nD τ).loc main_arg0)) (m ((c : Thread nD τ).loc main_arg1)) (m ((c : Thread nD τ).loc main_arg2)))) he.symm)
  refine (out19_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d).trans ?_
  exact P_at m c t n _ _ fun s => V20_iw m c s d

theorem final15 : (dats m 0 c).arrAt 15 cfg0.N = arr3 (gql (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) := by
  refine (dats m 0 c).arrAt_eq_of_covers 15 _ (by decide +kernel) fun t hf y => ?_
  blk_simp
  rw [after0_15]
  obtain ⟨h, n, d, rfl⟩ : ∃ (h : Fin 8) (n : Fin 512) (d : Fin 128), y = ix3 h n d :=
    ⟨y 0, y 1, y 2, by funext k; match k with | ⟨0, _⟩ => rfl | ⟨1, _⟩ => rfl | ⟨2, _⟩ => rfl⟩
  have he : ((cfg0.win 15).blk t).view.emb (ix3 h n d) = ix3 h (brow t n) d := by
    unfold brow
    blk_ext [idx15 t]
  refine Eq.trans ?_ (congrArg (arr3 (gql (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)))) he.symm)
  refine (out15_at (iblk m c 0 t) (iblk m c 1 t) (iblk m c 2 t) (iblk m c 3 t) (iblk m c 4 t) (iblk m c 5 t) (iblk m c 6 t) (iblk m c 7 t) (iblk m c 8 t) (iblk m c 9 t) (iblk m c 10 t) h n d).trans ?_
  show _ = gql (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) h (brow t n) d
  unfold gql
  refine Finset.sum_congr rfl fun v _ => congrArg₂ (· * ·) (Q_at m c t n _ _ fun s => ?_) (blk6 m c t h v d)
  refine (V22_nope m c s ⟨64 * h.val + v.val, by omega⟩).trans (congrArg (fun k => m ((c : Thread nD τ).loc main_arg4) (ix2 s k)) (Fin.ext ?_))
  show (64 * h.val + v.val) / 64 * 96 + (64 * h.val + v.val) % 64 = h.val * 96 + v.val
  omega

end Cert.Mixer

end
-- ==== Proof.Out.lean ====
/- The mixer's output projection, added to the stream. -/
module

public import proofs.«01_k».proof.Proof.Norm
public import proofs.«01_k».proof.Proof.Gen.OutIdeal.Value
public import proofs.«01_k».proof.Proof.Gen.OutRefIdeal.Run
public import Idealize.ShloMosaic.Lib.Pipeline.ValueKit
public import Idealize.ShloMosaic.Lib.WordCmp

@[expose] public section

set_option maxRecDepth 16384

noncomputable section

namespace Cert.OutRefIdeal.Value

open Cert.OutRefIdeal Cert.OutRefIdeal.Gen Idealize.ShloMosaic Idealize.ShloMosaic.TcCoe Idealize.SL.Sem

/-- A head's value row: the head's mixture of latent rows times the head's value matrix. -/
def headv (o : Fin 8 → Fin 128 → EReal) (u : Fin 128 → Fin 8 → Fin 64 → EReal) (j : Fin 512) : EReal :=
  ∑ k : Fin 128, o ⟨j.val / 64, by omega⟩ k * u k ⟨j.val / 64, by omega⟩ ⟨j.val % 64, by omega⟩

/-- The value row at column `v` of head `q`. -/
theorem headv_of (o : Fin 8 → Fin 128 → EReal) (u : Fin 128 → Fin 8 → Fin 64 → EReal) (j : Fin 512) (q : Fin 8) (v : Fin 64) (hj : j.val = 64 * q.val + v.val) :
    ∑ k : Fin 128, o q k * u k q v = headv o u j := by
  have e1 : (⟨j.val / 64, by omega⟩ : Fin 8) = q := Fin.ext (by show j.val / 64 = q.val; omega)
  have e2 : (⟨j.val % 64, by omega⟩ : Fin 64) = v := Fin.ext (by show j.val % 64 = v.val; omega)
  unfold headv
  rw [e1, e2]

/-- The stream plus the two mixtures times the output matrix. -/
def G (o : FVec Ideal S8x32768x128 .f32) (s : FVec Ideal S32768x512 .f32) (h : FVec Ideal S32768x1024 .f32) (u : FVec Ideal S128x8x64 .f32) (w : FVec Ideal S1024x1024 .f32) :
    FVec Ideal S32768x1024 .f32 := fun i =>
  h (ix2 (i 0) (i 1)) + (∑ j : Fin 512, headv (fun a k => o (ix3 a (i 0) k)) (fun k a v => u (ix3 k a v)) j * w (ix2 ⟨j.val, by omega⟩ (i 1))
    + ∑ j : Fin 512, s (ix2 (i 0) j) * w (ix2 ⟨512 + j.val, by omega⟩ (i 1)))

theorem ref_at (o : FVec Ideal S8x32768x128 .f32) (s : FVec Ideal S32768x512 .f32) (h : FVec Ideal S32768x1024 .f32) (u : FVec Ideal S128x8x64 .f32) (w : FVec Ideal S1024x1024 .f32) :
    addf h (Host.dotGeneral dot_S32768x1024_S1024x1024_S32768x1024_1_0_0_1_n_n none (concatenate S32768x1024 1 [⟨S32768x512, (shapeCast _ (transpose S32768x8x64 [2, 0, 1] (Host.dotGeneral dot_S128x8x64_S8x32768x128_S8x64x32768_0_2_2_1_1_0 none u o) transposes_S8x64x32768_S32768x8x64_2_0_1) shapeCasts_S32768x8x64_S32768x512)⟩, ⟨S32768x512, s⟩] concatenates_S32768x512_S32768x512_S32768x1024_d1) w) = G o s h u w := by
  funext i
  obtain ⟨n, d, rfl⟩ : ∃ (n : Fin 32768) (d : Fin 1024), i = ix2 n d :=
    ⟨i 0, i 1, by funext k; match k with | ⟨0, _⟩ => rfl | ⟨1, _⟩ => rfl⟩
  unfold G headv
  pointwise
  simp only [mul_comm (u _)]

end Cert.OutRefIdeal.Value

namespace Cert.Out

open Cert.OutIdeal Cert.OutIdeal.Gen Idealize.ShloMosaic Idealize.ShloMosaic.TcCoe Idealize.SL.Sem
open Cert.OutRefIdeal.Value (G headv headv_of ref_at)

theorem pay7_at (x0 : Vec Ideal S8x512x128 .f32) (x1 : Vec Ideal S512x512 .f32) (x2 : Vec Ideal S512x1024 .f32) (x3 : Vec Ideal S8x128x64 .bf16) (x4 : Vec Ideal S1024x1024 .bf16) (r : Fin 512) (d : Fin 1024) :
    k0_pay7 (k0_pay2 (View.ld x0 r0_0) (View.ld x3 r0_1)) (k0_pay3 (View.ld x0 r0_2) (View.ld x3 r0_3)) (k0_pay4 (View.ld x0 r0_4) (View.ld x3 r0_5)) (k0_pay5 (View.ld x0 r0_6) (View.ld x3 r0_7)) (k0_pay6 (View.ld x0 r0_8)) (View.ld x3 r0_9) (View.ld x0 r0_10) (View.ld x3 r0_11) (View.ld x0 r0_12) (View.ld x3 r0_13) (View.ld x0 r0_14) (View.ld x3 r0_15) (View.ld x2 r0_16) (View.ld x4 r0_17) (ix2 r d) = x2 (ix2 r d) + ∑ j : Fin 512, headv (fun a k => x0 (ix3 a r k)) (fun k a v => x3 (ix3 a k v)) j * x4 (ix2 ⟨j.val, by omega⟩ d) := by
  pointwise [k0_pay7, k0_pay6, k0_pay5, k0_pay4, k0_pay3, k0_pay2]
  refine congrArg (x2 (ix2 r d) + ·) (Finset.sum_congr rfl fun j _ => congrArg (· * x4 (ix2 ⟨j.val, by omega⟩ d)) ?_)
  have hj : j.val < 512 := j.isLt
  split_ifs <;> first
    | exact headv_of (fun a k => x0 (ix3 a r k)) (fun k a v => x3 (ix3 a k v)) j 0 ⟨j.val, by omega⟩ (by show j.val = 64 * 0 + (j.val); omega)
    | exact headv_of (fun a k => x0 (ix3 a r k)) (fun k a v => x3 (ix3 a k v)) j 1 ⟨j.val - 64, by omega⟩ (by show j.val = 64 * 1 + (j.val - 64); omega)
    | exact headv_of (fun a k => x0 (ix3 a r k)) (fun k a v => x3 (ix3 a k v)) j 2 ⟨j.val - 64 - 64, by omega⟩ (by show j.val = 64 * 2 + (j.val - 64 - 64); omega)
    | exact headv_of (fun a k => x0 (ix3 a r k)) (fun k a v => x3 (ix3 a k v)) j 3 ⟨j.val - 64 - 64 - 64, by omega⟩ (by show j.val = 64 * 3 + (j.val - 64 - 64 - 64); omega)
    | exact headv_of (fun a k => x0 (ix3 a r k)) (fun k a v => x3 (ix3 a k v)) j 4 ⟨j.val - 64 - 64 - 64 - 64, by omega⟩ (by show j.val = 64 * 4 + (j.val - 64 - 64 - 64 - 64); omega)
    | exact headv_of (fun a k => x0 (ix3 a r k)) (fun k a v => x3 (ix3 a k v)) j 5 ⟨j.val - 64 - 64 - 64 - 64 - 64, by omega⟩ (by show j.val = 64 * 5 + (j.val - 64 - 64 - 64 - 64 - 64); omega)
    | exact headv_of (fun a k => x0 (ix3 a r k)) (fun k a v => x3 (ix3 a k v)) j 6 ⟨j.val - 64 - 64 - 64 - 64 - 64 - 64, by omega⟩ (by show j.val = 64 * 6 + (j.val - 64 - 64 - 64 - 64 - 64 - 64); omega)
    | exact headv_of (fun a k => x0 (ix3 a r k)) (fun k a v => x3 (ix3 a k v)) j 7 ⟨j.val - 64 - 64 - 64 - 64 - 64 - 64 - 64, by omega⟩ (by show j.val = 64 * 7 + (j.val - 64 - 64 - 64 - 64 - 64 - 64 - 64); omega)

/-- A block of the result, from the blocks the point reads. -/
theorem pay1_at (x0 : Vec Ideal S8x512x128 .f32) (x1 : Vec Ideal S512x512 .f32) (x2 : Vec Ideal S512x1024 .f32) (x3 : Vec Ideal S8x128x64 .bf16) (x4 : Vec Ideal S1024x1024 .bf16) (r : Fin 512) (d : Fin 1024) :
    k0_pay1 (k0_pay7 (k0_pay2 (View.ld x0 r0_0) (View.ld x3 r0_1)) (k0_pay3 (View.ld x0 r0_2) (View.ld x3 r0_3)) (k0_pay4 (View.ld x0 r0_4) (View.ld x3 r0_5)) (k0_pay5 (View.ld x0 r0_6) (View.ld x3 r0_7)) (k0_pay6 (View.ld x0 r0_8)) (View.ld x3 r0_9) (View.ld x0 r0_10) (View.ld x3 r0_11) (View.ld x0 r0_12) (View.ld x3 r0_13) (View.ld x0 r0_14) (View.ld x3 r0_15) (View.ld x2 r0_16) (View.ld x4 r0_17)) (View.ld x1 r0_18) (View.ld x4 r0_19) (ix2 r d) = x2 (ix2 r d) + (∑ j : Fin 512, headv (fun a k => x0 (ix3 a r k)) (fun k a v => x3 (ix3 a k v)) j * x4 (ix2 ⟨j.val, by omega⟩ d)
      + ∑ j : Fin 512, x1 (ix2 r j) * x4 (ix2 ⟨512 + j.val, by omega⟩ d)) := by
  rw [← add_assoc, ← pay7_at x0 x1 x2 x3 x4 r d]
  generalize k0_pay7 (k0_pay2 (View.ld x0 r0_0) (View.ld x3 r0_1)) (k0_pay3 (View.ld x0 r0_2) (View.ld x3 r0_3)) (k0_pay4 (View.ld x0 r0_4) (View.ld x3 r0_5)) (k0_pay5 (View.ld x0 r0_6) (View.ld x3 r0_7)) (k0_pay6 (View.ld x0 r0_8)) (View.ld x3 r0_9) (View.ld x0 r0_10) (View.ld x3 r0_11) (View.ld x0 r0_12) (View.ld x3 r0_13) (View.ld x0 r0_14) (View.ld x3 r0_15) (View.ld x2 r0_16) (View.ld x4 r0_17) = y
  pointwise [k0_pay1]

/-- Row `y` of point `t`'s block of 512 rows. -/
def brow (t : Fin cfg0.N) (y : Fin 512) : Fin 32768 := ⟨512 * t.val + y.val, by have : t.val < 64 := t.isLt; omega⟩

theorem idx0 : ∀ t : Fin cfg0.N, win0_0.index t = ![0, t.val, 0] := (by decide +kernel : ∀ t : Fin grid0.N, win0_0.index t = ![0, t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])

variable (m : (ℓ : Loc nD τ sig) → Buf (Elt Ideal) ℓ) (c : Dev nD)

theorem V1 : V m c main_v1 = truncf (F := Ideal) .bf16 (transpose S8x128x64 [1, 0, 2] (m ((c : Thread nD τ).loc main_arg3)) transposes_S128x8x64_S8x128x64_1_0_2) bitsLt_bf16_f32 := by
  unfold_abbrev_sides
  after_results

theorem V2 : V m c main_v2 = truncf (F := Ideal) .bf16 (m ((c : Thread nD τ).loc main_arg4)) bitsLt_bf16_f32 := by
  unfold_abbrev_sides
  after_results

theorem blk0 (t : Fin cfg0.N) (a : Fin 8) (y : Fin 512) (k : Fin 128) :
    iblk m c 0 t (ix3 a y k) = m ((c : Thread nD τ).loc main_arg0) (ix3 a (brow t y) k) := by
  unfold brow
  rw [← V_main_arg0 m c]
  blk_ext [iblk, idx0 t]

theorem blk1 (t : Fin cfg0.N) (y : Fin 512) (k : Fin 512) :
    iblk m c 1 t (ix2 y k) = m ((c : Thread nD τ).loc main_arg1) (ix2 (brow t y) k) := by
  unfold brow
  rw [← V_main_arg1 m c]
  blk_ext [iblk, idx1 t]

theorem blk2 (t : Fin cfg0.N) (y : Fin 512) (k : Fin 1024) :
    iblk m c 2 t (ix2 y k) = m ((c : Thread nD τ).loc main_arg2) (ix2 (brow t y) k) := by
  unfold brow
  rw [← V_main_arg2 m c]
  blk_ext [iblk, idx2 t]

theorem blk3 (t : Fin cfg0.N) (a : Fin 8) (k : Fin 128) (v : Fin 64) :
    iblk m c 3 t (ix3 a k v) = m ((c : Thread nD τ).loc main_arg3) (ix3 k a v) := by
  have e : iblk m c 3 t (ix3 a k v) = V m c main_v1 (ix3 a k v) := by blk_ext [iblk, idx3 t]
  rw [e, V1]
  pointwise

theorem blk4 (t : Fin cfg0.N) (j d : Fin 1024) :
    iblk m c 4 t (ix2 j d) = m ((c : Thread nD τ).loc main_arg4) (ix2 j d) := by
  have e : iblk m c 4 t (ix2 j d) = V m c main_v2 (ix2 j d) := by blk_ext [iblk, idx4 t]
  rw [e, V2]
  rfl

/-- The kernel's array. -/
theorem final5 : (dats m 0 c).arrAt 5 cfg0.N
      = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨n, d, rfl⟩ : ∃ (n : Fin 512) (d : Fin 1024), y = ix2 n d :=
    ⟨y 0, y 1, by funext k; match k with | ⟨0, _⟩ => rfl | ⟨1, _⟩ => rfl⟩
  have he : ((cfg0.win 5).blk t).view.emb (ix2 n d) = ix2 (brow t n) d := by
    unfold brow
    blk_ext [idx5 t]
  refine Eq.trans ?_ (congrArg (G _ _ _ _ _) he.symm)
  unfold out0_5
  refine (congrFun (View.canon_cons_unit_lit _ _ [] (by decide)) _).trans ?_
  refine (pay1_at _ _ _ _ _ n d).trans ?_
  simp only [blk0, blk1, blk2, blk3, blk4]
  rfl

end Cert.Out

end
-- ==== Proof.Memory.lean ====
/- The memory's keys and values: the kernel's arrays are the reference's. -/
module

public import proofs.«01_k».proof.Proof.Norm
public import proofs.«01_k».proof.Proof.Gen.MemoryIdeal.Value
public import proofs.«01_k».proof.Proof.Gen.MemoryRefIdeal.Run
public import Idealize.ShloMosaic.Lib.Pipeline.ValueKit
public import Idealize.ShloMosaic.Lib.WordCmp

@[expose] public section

set_option maxRecDepth 16384

noncomputable section

namespace Cert.MemoryRefIdeal.Value

open Cert.MemoryRefIdeal Cert.MemoryRefIdeal.Gen Idealize.ShloMosaic Idealize.ShloMosaic.TcCoe Idealize.SL.Sem
open Cert.Norm

/-- The normalised rows times a matrix: keys or values of the memory. -/
def G (x : Vec Ideal S4096x1024 .f32) (g : Vec Ideal S1024 .f32) (w : Vec Ideal S1024x256 .f32) : Vec Ideal S4096x256 .f32 := fun i =>
  ∑ k : Fin 1024, nrm 0x44800000#32 (fun k => x (ix2 (i 0) k)) (fun k => g (ix1 k)) k * w (ix2 k (i 1))

/-- The reference's product of the normalised rows with a matrix. -/
theorem ref_at (x : FVec Ideal S4096x1024 .f32) (g : FVec Ideal S1024 .f32) (w : FVec Ideal S1024x256 .f32) :
    Host.dotGeneral dot_S4096x1024_S1024x256_S4096x256_1_0_0_1_n_n none (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))) w = G x g w := by
  funext i
  obtain ⟨n, d, rfl⟩ : ∃ (n : Fin 4096) (d : Fin 256), i = ix2 n d :=
    ⟨i 0, i 1, by funext k; match k with | ⟨0, _⟩ => rfl | ⟨1, _⟩ => rfl⟩
  unfold G nrm
  pointwise

end Cert.MemoryRefIdeal.Value

namespace Cert.Memory

open Cert.MemoryIdeal Cert.MemoryIdeal.Gen Idealize.ShloMosaic Idealize.ShloMosaic.TcCoe Idealize.SL.Sem
open Cert.Norm
open Cert.MemoryRefIdeal.Value (G ref_at)

/-- A product of the normalised row with a column. -/
theorem pay1_at (x : Vec Ideal S512x1024 .f32) (g : Vec Ideal S1x1024 .f32) (w : Vec Ideal S1024x512 .bf16) (r : Fin 512) (c : Fin 512) :
    k0_pay1 x g w (ix2 r c) = ∑ k : Fin 1024, nrm 0x44800000#32 (fun k => x (ix2 r k)) (fun k => g (ix2 0 k)) k * w (ix2 k c) := by
  pointwise [k0_pay1]
  rfl

/-- Row `y` of point `t`'s block of 512 rows. -/
def brow (t : Fin cfg0.N) (y : Fin 512) : Fin 4096 := ⟨512 * t.val + y.val, by have : t.val < 8 := t.isLt; omega⟩

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])

variable (m : (ℓ : Loc nD τ sig) → Buf (Elt Ideal) ℓ) (c : Dev nD)

theorem V0 : V m c main_v0 = shapeCast S1x1024 (m ((c : Thread nD τ).loc main_arg1)) shapeCasts_S1024_S1x1024 := by
  unfold_abbrev_sides
  after_results
  rfl

theorem V2 : V m c main_v2 = truncf (F := Ideal) .bf16 (concatenate S1024x512 1 [⟨S1024x256, m ((c : Thread nD τ).loc main_arg2)⟩, ⟨S1024x256, m ((c : Thread nD τ).loc main_arg3)⟩] concatenates_S1024x256_S1024x256_S1024x512_d1) bitsLt_bf16_f32 := by
  unfold_abbrev_sides
  after_results

theorem blk0 (t : Fin cfg0.N) (y : Fin 512) (k : Fin 1024) :
    iblk m c 0 t (ix2 y k) = m ((c : Thread nD τ).loc main_arg0) (ix2 (brow t y) k) := by
  unfold brow
  rw [← V_main_arg0 m c]
  blk_ext [iblk, idx0 t]

theorem blk1 (t : Fin cfg0.N) (k : Fin 1024) :
    iblk m c 1 t (ix2 0 k) = m ((c : Thread nD τ).loc main_arg1) (ix1 k) := by
  have e : iblk m c 1 t (ix2 0 k) = V m c main_v0 (ix2 0 k) := by blk_ext [iblk, idx1 t]
  rw [e, V0]
  pointwise

theorem blk2a (t : Fin cfg0.N) (k : Fin 1024) (j : Fin 256) :
    iblk m c 2 t (ix2 k ⟨j.val, by omega⟩) = m ((c : Thread nD τ).loc main_arg2) (ix2 k j) := by
  have e : iblk m c 2 t (ix2 k ⟨j.val, by omega⟩) = V m c main_v2 (ix2 k ⟨j.val, by omega⟩) := by blk_ext [iblk, idx2 t]
  rw [e, V2]
  pointwise

theorem blk2b (t : Fin cfg0.N) (k : Fin 1024) (j : Fin 256) :
    iblk m c 2 t (ix2 k ⟨256 + j.val, by omega⟩) = m ((c : Thread nD τ).loc main_arg3) (ix2 k j) := by
  have e : iblk m c 2 t (ix2 k ⟨256 + j.val, by omega⟩) = V m c main_v2 (ix2 k ⟨256 + j.val, by omega⟩) := by blk_ext [iblk, idx2 t]
  rw [e, V2]
  pointwise

theorem row3 (t : Fin cfg0.N) (n : Fin 512) (d : Fin 256) :
    k0_pay1 (iblk m c 0 t) (iblk m c 1 t) (iblk m c 2 t) (ix2 n ⟨d.val, by omega⟩)
      = G (m ((c : Thread nD τ).loc main_arg0)) (m ((c : Thread nD τ).loc main_arg1)) (m ((c : Thread nD τ).loc main_arg2)) (ix2 (brow t n) d) := by
  refine (pay1_at _ _ _ _ _).trans (Finset.sum_congr rfl fun k _ => ?_)
  rw [blk2a]
  simp only [blk0, blk1]
  rfl

theorem row4 (t : Fin cfg0.N) (n : Fin 512) (d : Fin 256) :
    k0_pay1 (iblk m c 0 t) (iblk m c 1 t) (iblk m c 2 t) (ix2 n ⟨256 + d.val, by omega⟩)
      = G (m ((c : Thread nD τ).loc main_arg0)) (m ((c : Thread nD τ).loc main_arg1)) (m ((c : Thread nD τ).loc main_arg3)) (ix2 (brow t n) d) := by
  refine (pay1_at _ _ _ _ _).trans (Finset.sum_congr rfl fun k _ => ?_)
  rw [blk2b]
  simp only [blk0, blk1]
  rfl

theorem final3 : (dats m 0 c).arrAt 3 cfg0.N
      = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨n, d, rfl⟩ : ∃ (n : Fin 512) (d : Fin 256), y = ix2 n d :=
    ⟨y 0, y 1, by funext k; match k with | ⟨0, _⟩ => rfl | ⟨1, _⟩ => rfl⟩
  have he : ((cfg0.win 3).blk t).view.emb (ix2 n d) = ix2 (brow t n) d := by
    unfold brow
    blk_ext [idx3 t]
  refine Eq.trans ?_ (congrArg (G _ _ _) he.symm)
  frame_out
  pointwise [k0_pay2]
  exact row3 m c t n d

theorem final4 : (dats m 0 c).arrAt 4 cfg0.N
      = G (m ((c : Thread nD τ).loc main_arg0)) (m ((c : Thread nD τ).loc main_arg1)) (m ((c : Thread nD τ).loc main_arg3)) := by
  refine (dats m 0 c).arrAt_eq_of_covers 4 _ (by decide +kernel) fun t hf y => ?_
  blk_simp
  rw [after0_4]
  obtain ⟨n, d, rfl⟩ : ∃ (n : Fin 512) (d : Fin 256), y = ix2 n d :=
    ⟨y 0, y 1, by funext k; match k with | ⟨0, _⟩ => rfl | ⟨1, _⟩ => rfl⟩
  have he : ((cfg0.win 4).blk t).view.emb (ix2 n d) = ix2 (brow t n) d := by
    unfold brow
    blk_ext [idx4 t]
  refine Eq.trans ?_ (congrArg (G _ _ _) he.symm)
  frame_out
  pointwise [k0_pay3]
  exact row4 m c t n d

end Cert.Memory

end
-- ==== Proof.Cross.lean ====
/- Attention over the memory: the kernel's array is the reference's. -/
module

public import proofs.«01_k».proof.Proof.Norm
public import proofs.«01_k».proof.Proof.Gen.CrossIdeal.Value
public import proofs.«01_k».proof.Proof.Gen.CrossRefIdeal.Run
public import Idealize.ShloMosaic.Lib.Pipeline.ValueKit
public import Idealize.ShloMosaic.Lib.WordCmp

@[expose] public section

set_option maxRecDepth 16384

noncomputable section

namespace Cert.CrossRefIdeal.Value

open Cert.CrossRefIdeal Cert.CrossRefIdeal.Gen Idealize.ShloMosaic Idealize.ShloMosaic.TcCoe Idealize.SL.Sem
open Cert.Norm

theorem neg_inf : Ideal.ofBits .f32 0xFF800000#32 = ⊥ := by simp [Ideal.ofBits, Ideal.ieee]

/-- Softmax of a row of scores at one of them. -/
def soft {n : ℕ} (s : Fin n → EReal) (k : Fin n) : EReal :=
  Ideal.div (Ideal.exp (s k - Finset.univ.fold max ⊥ s)) (∑ j, Ideal.exp (s j - Finset.univ.fold max ⊥ s))

/-- The score of a head's query against memory slot `k`. -/
def score (q : Fin 256 → EReal) (mk : Fin 256 → Fin 256 → EReal) (h : Fin 4) (k : Fin 256) : EReal :=
  (∑ v : Fin 64, q ⟨64 * h.val + v.val, by omega⟩ * mk k ⟨64 * h.val + v.val, by omega⟩) * Ideal.ofBits .f32 0x3E000000#32

/-- Head `h`'s attention over the memory at its column `v`. -/
def att (q : Fin 256 → EReal) (mk mv : Fin 256 → Fin 256 → EReal) (h : Fin 4) (v : Fin 64) : EReal :=
  ∑ k : Fin 256, soft (score q mk h) k * mv k ⟨64 * h.val + v.val, by omega⟩

/-- The heads side by side. -/
def heads (q : Fin 256 → EReal) (mk mv : Fin 256 → Fin 256 → EReal) (j : Fin 256) : EReal :=
  att q mk mv ⟨j.val / 64, by omega⟩ ⟨j.val % 64, by omega⟩

/-- Column `j` is column `v` of head `a`. -/
theorem heads_of (q : Fin 256 → EReal) (mk mv : Fin 256 → Fin 256 → EReal) (j : Fin 256) (a : Fin 4) (v : Fin 64) (hj : j.val = 64 * a.val + v.val) :
    att q mk mv a v = heads q mk mv j := by
  have e1 : (⟨j.val / 64, by omega⟩ : Fin 4) = a := Fin.ext (by show j.val / 64 = a.val; omega)
  have e2 : (⟨j.val % 64, by omega⟩ : Fin 64) = v := Fin.ext (by show j.val % 64 = v.val; omega)
  unfold heads
  rw [e1, e2]

/-- The query row of a row of the stream. -/
def qrow (h g : Fin 1024 → EReal) (w : Fin 1024 → Fin 256 → EReal) (j : Fin 256) : EReal :=
  ∑ k : Fin 1024, nrm 0x44800000#32 h g k * w k j

/-- The batch of a row of the stream. -/
def bt (n : Fin 32768) : Fin 16 := ⟨n.val / 2048, by omega⟩

/-- The stream plus the heads times the output matrix. -/
def G (h : FVec Ideal S32768x1024 .f32) (mk mv : FVec Ideal S16x256x256 .f32) (g : FVec Ideal S1024 .f32) (wq : FVec Ideal S1024x256 .f32) (wo : FVec Ideal S256x1024 .f32) :
    FVec Ideal S32768x1024 .f32 := fun i =>
  h (ix2 (i 0) (i 1)) + ∑ j : Fin 256, heads (qrow (fun k => h (ix2 (i 0) k)) (fun k => g (ix1 k)) fun k j => wq (ix2 k j))
    (fun k j => mk (ix3 (bt (i 0)) k j)) (fun k j => mv (ix3 (bt (i 0)) k j)) j * wo (ix2 j (i 1))

/-- Row `s` of batch `b`. -/
def row (b : Fin 16) (s : Fin 2048) : Fin 32768 := ⟨2048 * b.val + s.val, by omega⟩

/-- The reference's queries. -/
def queries (h : FVec Ideal S32768x1024 .f32) (g : FVec Ideal S1024 .f32) (wq : FVec Ideal S1024x256 .f32) : FVec Ideal S16x2048x256 .f32 :=
  Host.dotGeneral dot_S16x2048x1024_S1024x256_S16x2048x256_2_0_01_1_n_n none (mulf (mulf (shapeCast _ h shapeCasts_S32768x1024_S16x2048x1024) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (shapeCast _ h shapeCasts_S32768x1024_S16x2048x1024) (shapeCast _ h shapeCasts_S32768x1024_S16x2048x1024)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) wq

/-- The reference's scores. -/
def scores (Q : FVec Ideal S16x2048x256 .f32) (mk : FVec Ideal S16x256x256 .f32) : FVec Ideal S16x4x2048x256 .f32 :=
  mulf (Host.dotGeneral dot_S16x2048x4x64_S16x256x4x64_S16x4x2048x256_3_3_1_1_02_02 none (shapeCast _ Q shapeCasts_S16x2048x256_S16x2048x4x64) (shapeCast _ mk shapeCasts_S16x256x256_S16x256x4x64)) (broadcastInDim S16x4x2048x256 ![] bcast_S_S16x4x2048x256 (constant S_ .f32 0x3E000000#32))

/-- The largest score of each row. -/
def rowMax (X : FVec Ideal S16x4x2048x256 .f32) : FVec Ideal S16x4x2048 .f32 :=
  maximumf (broadcastInDim S16x4x2048 ![] bcast_S_S16x4x2048 (constant S_ .f32 0xFF800000#32)) (Host.reduce FloatOps.maximumf X (constant S_ .f32 0xFF800000#32) reducesTo_S16x4x2048x256_S16x4x2048_d3 h_S_)

/-- The exponentials of the scores less the row's largest. -/
def expo (X : FVec Ideal S16x4x2048x256 .f32) : FVec Ideal S16x4x2048x256 .f32 :=
  Host.exp (subf X (broadcastInDim S16x4x2048x256 ![0, 1, 2, 3] bcast_S16x4x2048x1_S16x4x2048x256_0_1_2_3 (broadcastInDim S16x4x2048x1 ![0, 1, 2] bcast_S16x4x2048_S16x4x2048x1_0_1_2 (rowMax X))))

/-- The exponentials over their row's sum. -/
def prob (E : FVec Ideal S16x4x2048x256 .f32) : FVec Ideal S16x4x2048x256 .f32 :=
  Host.divf E (broadcastInDim S16x4x2048x256 ![0, 1, 2, 3] bcast_S16x4x2048x1_S16x4x2048x256_0_1_2_3 (broadcastInDim S16x4x2048x1 ![0, 1, 2] bcast_S16x4x2048_S16x4x2048x1_0_1_2 (Host.reduceAdd E (constant S_ .f32 0x00000000#32) reducesTo_S16x4x2048x256_S16x4x2048_d3 h_S_)))

/-- The weighted sums of the values. -/
def mixed (mv : FVec Ideal S16x256x256 .f32) (P : FVec Ideal S16x4x2048x256 .f32) : FVec Ideal S16x2048x256 .f32 :=
  shapeCast _ (transpose S16x2048x4x64 [0, 3, 1, 2] (Host.dotGeneral dot_S16x256x4x64_S16x4x2048x256_S16x4x64x2048_1_3_3_2_02_01 none (shapeCast _ mv shapeCasts_S16x256x256_S16x256x4x64) P) transposes_S16x4x64x2048_S16x2048x4x64_0_3_1_2) shapeCasts_S16x2048x4x64_S16x2048x256

/-- The reference's last product and sum. -/
def outOf (h : FVec Ideal S32768x1024 .f32) (A : FVec Ideal S16x2048x256 .f32) (wo : FVec Ideal S256x1024 .f32) : FVec Ideal S32768x1024 .f32 :=
  addf h (shapeCast _ (Host.dotGeneral dot_S16x2048x256_S256x1024_S16x2048x1024_2_0_01_1_n_n none A wo) shapeCasts_S16x2048x1024_S32768x1024)

theorem out_eq (m : (ℓ : Loc nD τ sig) → Buf (Elt Ideal) ℓ) (c : Dev nD) :
    res_main_v37 m c = outOf (m ((c.tc : Thread nD τ).loc main_arg0)) (mixed (m ((c.tc : Thread nD τ).loc main_arg2)) (prob (expo (scores (queries (m ((c.tc : Thread nD τ).loc main_arg0)) (m ((c.tc : Thread nD τ).loc main_arg3)) (m ((c.tc : Thread nD τ).loc main_arg4))) (m ((c.tc : Thread nD τ).loc main_arg1))))))
      (m ((c.tc : Thread nD τ).loc main_arg5)) := rfl

theorem queries_at (h : FVec Ideal S32768x1024 .f32) (g : FVec Ideal S1024 .f32) (wq : FVec Ideal S1024x256 .f32) (b : Fin 16) (s : Fin 2048) (j : Fin 256) :
    queries h g wq (ix3 b s j) = qrow (fun k => h (ix2 (row b s) k)) (fun k => g (ix1 k)) (fun k j => wq (ix2 k j)) j := by
  have hr : ∀ p, (⟨b.val * 2048 + s.val, p⟩ : Fin 32768) = row b s := fun p => Fin.ext (by show b.val * 2048 + s.val = 2048 * b.val + s.val; omega)
  unfold qrow nrm
  pointwise [queries]
  simp only [hr]

theorem scores_at (Q : FVec Ideal S16x2048x256 .f32) (mk : FVec Ideal S16x256x256 .f32) (b : Fin 16) (a : Fin 4) (s : Fin 2048) (k : Fin 256) :
    scores Q mk (ix4 b a s k) = score (fun j => Q (ix3 b s j)) (fun k j => mk (ix3 b k j)) a k := by
  unfold score
  have e : ∀ (v : Fin 64) (p), (⟨a.val * 64 + v.val, p⟩ : Fin 256) = ⟨64 * a.val + v.val, by omega⟩ := fun v p => Fin.ext (by show a.val * 64 + v.val = 64 * a.val + v.val; omega)
  pointwise [scores]
  simp only [e]

theorem max_at {s : Shape} (A B : FVec Ideal s .f32) (j : s.Idx) : maximumf A B j = max (A j) (B j) := rfl

theorem reduceMax_at {n0 n1 n2 n3 : ℕ} (X : FVec Ideal (⟨4, ![n0, n1, n2, n3]⟩ : Shape) .f32) (init : FVec Ideal (⟨0, ![]⟩ : Shape) .f32)
    (h : (⟨4, ![n0, n1, n2, n3]⟩ : Shape).ReducesTo [3] ⟨3, ![n0, n1, n2]⟩) (hu : 0 < (⟨0, ![]⟩ : Shape).numel) (a : Fin n0) (b : Fin n1) (c : Fin n2) :
    Host.reduce FloatOps.maximumf X init h hu (ix3 a b c) = Finset.univ.fold max (init ix0) fun s : Fin n3 => X (ix4 a b c s) := by
  pointwise
  rw [show Shape.Idx.first hu = ix0 from funext fun a => a.elim0]

theorem splat_at (w : BitVec 32) (j : S16x4x2048.Idx) :
    broadcastInDim S16x4x2048 ![] bcast_S_S16x4x2048 (constant (F := Ideal) S_ .f32 w) j = Ideal.ofBits .f32 w := rfl

theorem const_at (w : BitVec 32) (j : S_.Idx) : constant (F := Ideal) S_ .f32 w j = Ideal.ofBits .f32 w := rfl

theorem rowMax_at (X : FVec Ideal S16x4x2048x256 .f32) (b : Fin 16) (a : Fin 4) (s : Fin 2048) :
    rowMax X (ix3 b a s) = Finset.univ.fold max ⊥ fun k : Fin 256 => X (ix4 b a s k) := by
  unfold rowMax
  rw [max_at, splat_at, reduceMax_at, const_at, neg_inf]
  exact max_eq_right bot_le

theorem expo_at (X : FVec Ideal S16x4x2048x256 .f32) (b : Fin 16) (a : Fin 4) (s : Fin 2048) (k : Fin 256) :
    expo X (ix4 b a s k) = Ideal.exp (X (ix4 b a s k) - rowMax X (ix3 b a s)) := by
  pointwise [expo]

theorem prob_at (E : FVec Ideal S16x4x2048x256 .f32) (b : Fin 16) (a : Fin 4) (s : Fin 2048) (k : Fin 256) :
    prob E (ix4 b a s k) = Ideal.div (E (ix4 b a s k)) (∑ j : Fin 256, E (ix4 b a s j)) := by
  pointwise [prob]

/-- The weights are the softmax of the scores. -/
theorem weight_at (X : FVec Ideal S16x4x2048x256 .f32) (b : Fin 16) (a : Fin 4) (s : Fin 2048) (k : Fin 256) :
    prob (expo X) (ix4 b a s k) = soft (fun k => X (ix4 b a s k)) k := by
  rw [prob_at]
  simp only [expo_at, rowMax_at]
  rfl

theorem mixed_at (mv : FVec Ideal S16x256x256 .f32) (P : FVec Ideal S16x4x2048x256 .f32) (b : Fin 16) (s : Fin 2048) (j : Fin 256) :
    mixed mv P (ix3 b s j) = ∑ k : Fin 256, P (ix4 b ⟨j.val / 64, by omega⟩ s k) * mv (ix3 b k ⟨64 * (j.val / 64) + j.val % 64, by omega⟩) := by
  pointwise [mixed]
  refine Finset.sum_congr rfl fun k _ => ?_
  rw [mul_comm, show (⟨64 * (j.val / 64) + j.val % 64, by omega⟩ : Fin 256) = j from Fin.ext (by show 64 * (j.val / 64) + j.val % 64 = j.val; omega)]

theorem outOf_at (h : FVec Ideal S32768x1024 .f32) (A : FVec Ideal S16x2048x256 .f32) (wo : FVec Ideal S256x1024 .f32) (n : Fin 32768) (d : Fin 1024) :
    outOf h A wo (ix2 n d) = h (ix2 n d) + ∑ j : Fin 256, A (ix3 (bt n) ⟨n.val % 2048, by omega⟩ j) * wo (ix2 j d) := by
  unfold bt
  pointwise [outOf]

theorem ref_at (h : FVec Ideal S32768x1024 .f32) (mk mv : FVec Ideal S16x256x256 .f32) (g : FVec Ideal S1024 .f32) (wq : FVec Ideal S1024x256 .f32) (wo : FVec Ideal S256x1024 .f32) :
    outOf h (mixed mv (prob (expo (scores (queries h g wq) mk)))) wo = G h mk mv g wq wo := by
  funext i
  obtain ⟨n, d, rfl⟩ : ∃ (n : Fin 32768) (d : Fin 1024), i = ix2 n d :=
    ⟨i 0, i 1, by funext k; match k with | ⟨0, _⟩ => rfl | ⟨1, _⟩ => rfl⟩
  have hr : row (bt n) ⟨n.val % 2048, by omega⟩ = n := Fin.ext (by show 2048 * (n.val / 2048) + n.val % 2048 = n.val; omega)
  rw [outOf_at]
  simp only [mixed_at, weight_at, scores_at, queries_at, hr]
  rfl

end Cert.CrossRefIdeal.Value

namespace Cert.Cross

open Cert.CrossIdeal Cert.CrossIdeal.Gen Idealize.ShloMosaic Idealize.ShloMosaic.TcCoe Idealize.SL.Sem
open Cert.Norm
open Cert.CrossRefIdeal.Value (neg_inf soft score att heads heads_of qrow bt G ref_at)

/-- The query row. -/
theorem pay2_at (x : Vec Ideal S512x1024 .f32) (g : Vec Ideal S1x1024 .f32) (w : Vec Ideal S1024x256 .bf16) (r : Fin 512) (c : Fin 256) :
    k0_pay2 x g w (ix2 r c) = qrow (fun k => x (ix2 r k)) (fun k => g (ix2 0 k)) (fun k j => w (ix2 k j)) c := by
  unfold qrow nrm
  pointwise [k0_pay2]

theorem pay3_at (x : Vec Ideal S1x256x256 .f32) (k j : Fin 256) : k0_pay3 x (ix2 k j) = x (ix3 0 k j) := by
  pointwise [k0_pay3]

theorem pay4_at (x : Vec Ideal S1x256x256 .f32) (k j : Fin 256) : k0_pay4 x (ix2 k j) = x (ix3 0 k j) := by
  pointwise [k0_pay4]

/-- The first head. -/
theorem pay7_at (x : Vec Ideal S512x1024 .f32) (g : Vec Ideal S1x1024 .f32) (w : Vec Ideal S1024x256 .bf16) (y : Vec Ideal S1x256x256 .f32) (mv : FVec Ideal S256x256 .bf16) (r : Fin 512) (v : Fin 64) :
    k0_pay7 mv (k0_pay5 x g w y) (k0_pay6 x g w y) (ix2 r v)
      = att (fun j => k0_pay2 x g w (ix2 r j)) (fun k j => k0_pay3 y (ix2 k j)) (fun k j => mv (ix2 k j)) 0 v := by
  unfold att soft score k0_pay6 k0_pay5
  generalize k0_pay2 x g w = q
  generalize k0_pay3 y = mk
  pointwise [k0_pay7]
  rfl

theorem pay8_at (q : FVec Ideal S512x256 .f32) (mk mv : FVec Ideal S256x256 .bf16) (r : Fin 512) (v : Fin 64) :
    k0_pay8 q mk mv (ix2 r v) = att (fun j => q (ix2 r j)) (fun k j => mk (ix2 k j)) (fun k j => mv (ix2 k j)) 1 v := by
  unfold att soft score
  pointwise [k0_pay8]
  rfl

theorem pay9_at (q : FVec Ideal S512x256 .f32) (mk mv : FVec Ideal S256x256 .bf16) (r : Fin 512) (v : Fin 64) :
    k0_pay9 q mk mv (ix2 r v) = att (fun j => q (ix2 r j)) (fun k j => mk (ix2 k j)) (fun k j => mv (ix2 k j)) 2 v := by
  unfold att soft score
  pointwise [k0_pay9]
  rfl

theorem pay10_at (q : FVec Ideal S512x256 .f32) (mk : FVec Ideal S256x256 .bf16) (r : Fin 512) (k : Fin 256) :
    k0_pay10 q mk (ix2 r k) = score (fun j => q (ix2 r j)) (fun k j => mk (ix2 k j)) 3 k := by
  unfold score
  pointwise [k0_pay10]

/-- The last head, the heads side by side, their product with the output matrix, and the stream added. -/
theorem pay1_at (h : Vec Ideal S512x1024 .f32) (mv : FVec Ideal S256x256 .bf16) (a b c : FVec Ideal S512x64 .f32) (s : FVec Ideal S512x256 .f32) (w : Vec Ideal S256x1024 .bf16)
    (q : Fin 256 → EReal) (mk : Fin 256 → Fin 256 → EReal) (r : Fin 512) (d : Fin 1024)
    (ha : ∀ v, a (ix2 r v) = att q mk (fun k j => mv (ix2 k j)) 0 v) (hb : ∀ v, b (ix2 r v) = att q mk (fun k j => mv (ix2 k j)) 1 v)
    (hc : ∀ v, c (ix2 r v) = att q mk (fun k j => mv (ix2 k j)) 2 v) (hs : ∀ k, s (ix2 r k) = score q mk 3 k) :
    k0_pay1 h mv a b c s w (ix2 r d) = h (ix2 r d) + ∑ j : Fin 256, heads q mk (fun k j => mv (ix2 k j)) j * w (ix2 j d) := by
  pointwise [k0_pay1]
  refine congrArg (h (ix2 r d) + ·) (Finset.sum_congr rfl fun j _ => congrArg (· * w (ix2 j d)) ?_)
  have hj : j.val < 256 := j.isLt
  by_cases h0 : j.val < 64
  · rw [dif_pos h0, ha]
    exact heads_of q mk (fun k j => mv (ix2 k j)) j 0 ⟨j.val, by omega⟩ (by show j.val = 64 * 0 + j.val; omega)
  rw [dif_neg h0]
  by_cases h1 : j.val - 64 < 64
  · rw [dif_pos h1, hb]
    exact heads_of q mk (fun k j => mv (ix2 k j)) j 1 ⟨j.val - 64, by omega⟩ (by show j.val = 64 * 1 + (j.val - 64); omega)
  rw [dif_neg h1]
  by_cases h2 : j.val - 64 - 64 < 64
  · rw [dif_pos h2, hc]
    exact heads_of q mk (fun k j => mv (ix2 k j)) j 2 ⟨j.val - 64 - 64, by omega⟩ (by show j.val = 64 * 2 + (j.val - 64 - 64); omega)
  rw [dif_neg h2, ← heads_of q mk (fun k j => mv (ix2 k j)) j 3 ⟨j.val - 64 - 64 - 64, by omega⟩ (by show j.val = 64 * 3 + (j.val - 64 - 64 - 64); omega)]
  unfold att soft
  rw [← neg_inf, show score q mk 3 = fun k => s (ix2 r k) from funext fun k => (hs k).symm]
  rfl

/-- Row `y` of point `t`'s block of 512 rows. -/
def brow (t : Fin cfg0.N) (y : Fin 512) : Fin 32768 := ⟨512 * t.val + y.val, by have : t.val < 64 := t.isLt; omega⟩

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val / 4, 0, 0] := (by decide +kernel : ∀ t : Fin grid0.N, win0_3.index t = ![t.val / 4, 0, 0])
theorem idx4 : ∀ t : Fin cfg0.N, win0_4.index t = ![t.val / 4, 0, 0] := (by decide +kernel : ∀ t : Fin grid0.N, win0_4.index t = ![t.val / 4, 0, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])

variable (m : (ℓ : Loc nD τ sig) → Buf (Elt Ideal) ℓ) (c : Dev nD)

theorem V0 : V m c main_v0 = shapeCast S1x1024 (m ((c : Thread nD τ).loc main_arg3)) shapeCasts_S1024_S1x1024 := by
  unfold_abbrev_sides
  after_results
  rfl

theorem V1 : V m c main_v1 = truncf (F := Ideal) .bf16 (m ((c : Thread nD τ).loc main_arg4)) bitsLt_bf16_f32 := by
  unfold_abbrev_sides
  after_results

theorem V2 : V m c main_v2 = truncf (F := Ideal) .bf16 (m ((c : Thread nD τ).loc main_arg5)) bitsLt_bf16_f32 := by
  unfold_abbrev_sides
  after_results

theorem blk0 (t : Fin cfg0.N) (y : Fin 512) (k : Fin 1024) :
    iblk m c 0 t (ix2 y k) = m ((c : Thread nD τ).loc main_arg0) (ix2 (brow t y) k) := by
  unfold brow
  rw [← V_main_arg0 m c]
  blk_ext [iblk, idx0 t]

theorem blk1 (t : Fin cfg0.N) (k : Fin 1024) :
    iblk m c 1 t (ix2 0 k) = m ((c : Thread nD τ).loc main_arg3) (ix1 k) := by
  have e : iblk m c 1 t (ix2 0 k) = V m c main_v0 (ix2 0 k) := by blk_ext [iblk, idx1 t]
  rw [e, V0]
  pointwise

theorem blk2 (t : Fin cfg0.N) (k : Fin 1024) (j : Fin 256) :
    iblk m c 2 t (ix2 k j) = m ((c : Thread nD τ).loc main_arg4) (ix2 k j) := by
  have e : iblk m c 2 t (ix2 k j) = V m c main_v1 (ix2 k j) := by blk_ext [iblk, idx2 t]
  rw [e, V1]
  rfl

/-- The batch of point `t`'s rows. -/
def bbt (t : Fin cfg0.N) : Fin 16 := ⟨t.val / 4, by have : t.val < 64 := t.isLt; omega⟩

theorem bt_brow (t : Fin cfg0.N) (y : Fin 512) : bt (brow t y) = bbt t :=
  Fin.ext (by show (512 * t.val + y.val) / 2048 = t.val / 4; omega)

theorem blk3 (t : Fin cfg0.N) (k j : Fin 256) :
    iblk m c 3 t (ix3 0 k j) = m ((c : Thread nD τ).loc main_arg1) (ix3 (bbt t) k j) := by
  unfold bbt
  rw [← V_main_arg1 m c]
  blk_ext [iblk, idx3 t]

theorem blk4 (t : Fin cfg0.N) (k j : Fin 256) :
    iblk m c 4 t (ix3 0 k j) = m ((c : Thread nD τ).loc main_arg2) (ix3 (bbt t) k j) := by
  unfold bbt
  rw [← V_main_arg2 m c]
  blk_ext [iblk, idx4 t]

theorem blk5 (t : Fin cfg0.N) (j : Fin 256) (d : Fin 1024) :
    iblk m c 5 t (ix2 j d) = m ((c : Thread nD τ).loc main_arg5) (ix2 j d) := by
  have e : iblk m c 5 t (ix2 j d) = V m c main_v2 (ix2 j d) := by blk_ext [iblk, idx5 t]
  rw [e, V2]
  rfl

/-- A block of the result, from the blocks the point reads. -/
theorem out_at (x0 : Vec Ideal S512x1024 .f32) (x1 : Vec Ideal S1x1024 .f32) (x2 : Vec Ideal S1024x256 .bf16) (x3 x4 : Vec Ideal S1x256x256 .f32) (x5 : Vec Ideal S256x1024 .bf16) (r : Fin 512) (d : Fin 1024) :
    out0_6 x0 x1 x2 x3 x4 x5 (ix2 r d) = x0 (ix2 r d) + ∑ j : Fin 256, heads (qrow (fun k => x0 (ix2 r k)) (fun k => x1 (ix2 0 k)) fun k j => x2 (ix2 k j))
      (fun k j => x3 (ix3 0 k j)) (fun k j => x4 (ix3 0 k j)) j * x5 (ix2 j d) := by
  unfold_out out0_6
  refine (congrFun (View.canon_cons_unit_lit _ _ [] (by decide)) _).trans ?_
  have l0 : View.ld x0 r0_0 = x0 := View.ld_unit_lit _ _ (by decide)
  have l1 : View.ld x1 r0_1 = x1 := View.ld_unit_lit _ _ (by decide)
  have l2 : View.ld x2 r0_2 = x2 := View.ld_unit_lit _ _ (by decide)
  have l3 : View.ld x3 r0_3 = x3 := View.ld_unit_lit _ _ (by decide)
  have l4 : View.ld x4 r0_3 = x4 := View.ld_unit_lit _ _ (by decide)
  have l5 : View.ld x5 r0_4 = x5 := View.ld_unit_lit _ _ (by decide)
  rw [l0, l1, l2, l3, l4, l5]
  refine (pay1_at _ _ _ _ _ _ _ (fun j => k0_pay2 x0 x1 x2 (ix2 r j)) (fun k j => k0_pay3 x3 (ix2 k j)) r d
    (fun v => pay7_at x0 x1 x2 x3 (k0_pay4 x4) r v) (fun v => pay8_at (k0_pay2 x0 x1 x2) (k0_pay3 x3) (k0_pay4 x4) r v)
    (fun v => pay9_at (k0_pay2 x0 x1 x2) (k0_pay3 x3) (k0_pay4 x4) r v) (fun k => pay10_at (k0_pay2 x0 x1 x2) (k0_pay3 x3) r k)).trans ?_
  simp only [pay2_at, pay3_at]
  refine congrArg (fun u => x0 (ix2 r d) + u) (Finset.sum_congr rfl fun j _ => congrArg (fun u => u * x5 (ix2 j d)) ?_)
  refine congrArg (fun u => heads _ _ u j) (funext fun k => funext fun j => ?_)
  exact pay4_at x4 k j

/-- The kernel's array. -/
theorem final6 : (dats m 0 c).arrAt 6 cfg0.N
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  obtain ⟨n, d, rfl⟩ : ∃ (n : Fin 512) (d : Fin 1024), y = ix2 n d :=
    ⟨y 0, y 1, by funext k; match k with | ⟨0, _⟩ => rfl | ⟨1, _⟩ => rfl⟩
  have he : ((cfg0.win 6).blk t).view.emb (ix2 n d) = ix2 (brow t n) d := by
    unfold brow
    blk_ext [idx6 t]
  refine Eq.trans ?_ (congrArg (G _ _ _ _ _ _) he.symm)
  refine (out_at _ _ _ _ _ _ n d).trans ?_
  simp only [blk0, blk1, blk2, blk3, blk4, blk5]
  rw [← bt_brow t n]
  rfl

end Cert.Cross

end
-- ==== Proof.SampleRef.lean ====
/- The mixer's projections of the samples: what the reference computes, as formulas. -/
module

public import proofs.«01_k».proof.Proof.MixerRef
public import proofs.«01_k».proof.Proof.Gen.SampleRefIdeal.Run
public import Idealize.ShloMosaic.Lib.Pipeline.ValueKit
public import Idealize.ShloMosaic.Lib.WordCmp

@[expose] public section

set_option maxRecDepth 16384

noncomputable section

namespace Cert.SampleRefIdeal.Value

open Cert.SampleRefIdeal Cert.SampleRefIdeal.Gen Idealize.ShloMosaic Idealize.ShloMosaic.TcCoe Idealize.SL.Sem Idealize.ShloMosaic.StableHlo
open Cert.Norm
open Cert.MixerRefIdeal.Value (rot16 rot32 arr2 arr3 arr2_ext arr3_ext)

/-- The rotation angle of the new token `s`, which stands 8192 places on, for the pair `j` of `n`, `w` the word of `n`. -/
def ang (w : BitVec 32) {n : ℕ} (s : Fin 8) (j : Fin n) : EReal :=
  FloatOps.sitofp (F := Ideal) FTy.f32 (IntOp.addi 8192#32 (BitVec.ofNat 32 s.val)) *
    Ideal.pow (Ideal.ofBits FTy.f32 0x461C4000#32) (Ideal.div (-FloatOps.sitofp (F := Ideal) FTy.f32 (BitVec.ofNat 32 j.val)) (Ideal.ofBits FTy.f32 w))

/-- The place of row `n` among the new tokens of its sequence. -/
def pos (n : Fin 1024) : Fin 8 := ⟨n.val % 8, by omega⟩

section
variable (x : FVec Ideal S1024x1024 .f32) (g : FVec Ideal S1024 .f32) (w : FVec Ideal S1024x1768 .f32)

/-- The normalised row against the weights. -/
def proj (n : Fin 1024) (j : Fin 1768) : EReal :=
  ∑ k : Fin 1024, nrm 0x44800000#32 (fun k => x (ix2 n k)) (fun k => g (ix1 k)) k * w (ix2 k j)

/-- The queries. -/
def query (gq : FVec Ideal S256 .f32) (wu : FVec Ideal S256x768 .f32) (n : Fin 1024) (j : Fin 768) : EReal :=
  ∑ k : Fin 256, nrm 0x43800000#32 (fun k : Fin 256 => proj x g w n ⟨k.val, by omega⟩) (fun k => gq (ix1 k)) k * wu (ix2 k j)

def gckv (gk : FVec Ideal S128 .f32) (n : Fin 1024) (d : Fin 128) : EReal :=
  nrm 0x43000000#32 (fun k : Fin 128 => proj x g w n ⟨256 + k.val, by omega⟩) (fun k => gk (ix1 k)) d

def gkr (n : Fin 1024) (d : Fin 32) : EReal :=
  rot16 (fun j => proj x g w n ⟨384 + j.val, by omega⟩) (ang 0x41800000#32 (pos n)) d

def gkv (n : Fin 1024) (d : Fin 256) : EReal :=
  if d.val / 128 < 1 then
    rot32 (fun j => proj x g w n ⟨928 + (d.val / 64 % 2 * 64 + j.val), by omega⟩) (ang 0x42000000#32 (pos n)) ⟨d.val % 64, by omega⟩
  else proj x g w n ⟨1056 + (d.val / 64 % 2 * 64 + d.val % 64), by omega⟩

def gik (n : Fin 1024) (d : Fin 64) : EReal :=
  rot32 (fun j => proj x g w n ⟨1704 + j.val, by omega⟩) (ang 0x42000000#32 (pos n)) d

def gql (gq : FVec Ideal S256 .f32) (wu : FVec Ideal S256x768 .f32) (wk : FVec Ideal S128x8x64 .f32) (h : Fin 8) (n : Fin 1024) (d : Fin 128) : EReal :=
  ∑ v : Fin 64, query x g w gq wu n ⟨h.val * 96 + v.val, by omega⟩ * wk (ix3 d h v)

def gqr (gq : FVec Ideal S256 .f32) (wu : FVec Ideal S256x768 .f32) (n : Fin 1024) (d : Fin 256) : EReal :=
  rot16 (fun j => query x g w gq wu n ⟨d.val / 32 * 96 + (64 + j.val), by omega⟩) (ang 0x41800000#32 (pos n)) ⟨d.val % 32, by omega⟩

def gdq (n : Fin 1024) (d : Fin 512) : EReal :=
  rot32 (fun j => proj x g w n ⟨416 + (d.val / 64 * 64 + j.val), by omega⟩) (ang 0x42000000#32 (pos n)) ⟨d.val % 64, by omega⟩

def giq (n : Fin 1024) (d : Fin 512) : EReal :=
  rot32 (fun j => proj x g w n ⟨1184 + (d.val / 64 * 64 + j.val), by omega⟩) (ang 0x42000000#32 (pos n)) ⟨d.val % 64, by omega⟩

def giw (n : Fin 1024) (d : Fin 8) : EReal := proj x g w n ⟨1696 + d.val, by omega⟩

end

variable (V0 : Valuation τ sig (Elt Ideal))

theorem row_eq (n : Fin 1024) (p) : (⟨n.val / 8 * 8 + n.val % 8, p⟩ : Fin 1024) = n := Fin.ext (by show n.val / 8 * 8 + n.val % 8 = n.val; omega)

theorem v17_at (b : Fin 128) (s : Fin 8) (j : Fin 1768) :
    (res_main_v17 V0 : FVec Ideal S128x8x1768 .f32) (ix3 b s j)
      = proj (V0 (Proc.devRef .tc main_arg0)) (V0 (Proc.devRef .tc main_arg1)) (V0 (Proc.devRef .tc main_arg2)) ⟨b.val * 8 + s.val, by omega⟩ j := by
  pointwise [res_main_v17, res_main_v3]
  rfl

theorem v41_at (b : Fin 128) (s : Fin 8) (h : Fin 8) (j : Fin 96) :
    (res_main_v41 V0 : FVec Ideal S128x8x8x96 .f32) (ix4 b s h j)
      = query (V0 (Proc.devRef .tc main_arg0)) (V0 (Proc.devRef .tc main_arg1)) (V0 (Proc.devRef .tc main_arg2)) (V0 (Proc.devRef .tc main_arg3)) (V0 (Proc.devRef .tc main_arg4))
          ⟨b.val * 8 + s.val, by omega⟩ ⟨h.val * 96 + j.val, by omega⟩ := by
  unfold query nrm
  pointwise [res_main_v41, res_main_v18]
  simp only [v17_at]

theorem v101_at (s : Fin 8) (j : Fin 16) : (res_main_v101 V0 : FVec Ideal S8x16 .f32) (ix2 s j) = ang 0x41800000#32 s j := by
  pointwise [res_main_v101, res_main_v2]
  rfl

theorem v235_at (s : Fin 8) (j : Fin 32) : (res_main_v235 V0 : FVec Ideal S8x32 .f32) (ix2 s j) = ang 0x42000000#32 s j := by
  pointwise [res_main_v235, res_main_v2]
  rfl

theorem v57_at (s : Fin 8) (j : Fin 16) : (res_main_v57 V0 : FVec Ideal S8x1x16 .f32) (ix3 s 0 j) = ang 0x41800000#32 s j := by
  pointwise [res_main_v57, res_main_v2]
  rfl

theorem v134_at (s : Fin 8) (j : Fin 32) : (res_main_v134 V0 : FVec Ideal S8x1x32 .f32) (ix3 s 0 j) = ang 0x42000000#32 s j := by
  pointwise [res_main_v134, res_main_v2]
  rfl

theorem v167_at (s : Fin 8) (j : Fin 32) : (res_main_v167 V0 : FVec Ideal S8x1x32 .f32) (ix3 s 0 j) = ang 0x42000000#32 s j := by
  pointwise [res_main_v167, res_main_v2]
  rfl

theorem v204_at (s : Fin 8) (j : Fin 32) : (res_main_v204 V0 : FVec Ideal S8x1x32 .f32) (ix3 s 0 j) = ang 0x42000000#32 s j := by
  pointwise [res_main_v204, res_main_v2]
  rfl

theorem gckv_at (n : Fin 1024) (d : Fin 128) :
    (shapeCast _ (mulf (mulf (res_main_v19 V0) (broadcastInDim S128x8x128 ![0, 1, 2] bcast_S128x8x1_S128x8x128_0_1_2 (Host.rsqrt (addf (Host.divf (broadcastInDim S128x8x1 ![0, 1] bcast_S128x8_S128x8x1_0_1 (Host.reduceAdd (mulf (res_main_v19 V0) (res_main_v19 V0)) (constant S_ .f32 0x00000000#32) reducesTo_S128x8x128_S128x8_d2 h_S_)) (broadcastInDim S128x8x1 ![] bcast_S_S128x8x1 (constant S_ .f32 0x43000000#32))) (broadcastInDim S128x8x1 ![] bcast_S_S128x8x1 (constant S_ .f32 0x358637BD#32)))))) (broadcastInDim S128x8x128 ![0, 1, 2] bcast_S1x1x128_S128x8x128_0_1_2 (broadcastInDim S1x1x128 ![2] bcast_S128_S1x1x128_2 (V0 (Proc.devRef .tc main_arg5))))) shapeCasts_S128x8x128_S1024x128 : FVec Ideal S1024x128 .f32) (ix2 n d) = gckv (V0 (Proc.devRef .tc main_arg0)) (V0 (Proc.devRef .tc main_arg1)) (V0 (Proc.devRef .tc main_arg2)) (V0 (Proc.devRef .tc main_arg5)) n d := by
  unfold gckv nrm
  pointwise [res_main_v19]
  simp only [v17_at, row_eq]

theorem gkr_at (n : Fin 1024) (d : Fin 32) :
    (shapeCast _ (concatenate S128x8x32 2 [⟨S128x8x16, (subf (mulf (res_main_v104 V0) (broadcastInDim S128x8x16 ![0, 1, 2] bcast_S1x8x16_S128x8x16_0_1_2 (broadcastInDim S1x8x16 ![1, 2] bcast_S8x16_S1x8x16_1_2 (res_main_v102 V0)))) (mulf (res_main_v105 V0) (broadcastInDim S128x8x16 ![0, 1, 2] bcast_S1x8x16_S128x8x16_0_1_2 (broadcastInDim S1x8x16 ![1, 2] bcast_S8x16_S1x8x16_1_2 (res_main_v103 V0)))))⟩, ⟨S128x8x16, (addf (mulf (res_main_v105 V0) (broadcastInDim S128x8x16 ![0, 1, 2] bcast_S1x8x16_S128x8x16_0_1_2 (broadcastInDim S1x8x16 ![1, 2] bcast_S8x16_S1x8x16_1_2 (res_main_v102 V0)))) (mulf (res_main_v104 V0) (broadcastInDim S128x8x16 ![0, 1, 2] bcast_S1x8x16_S128x8x16_0_1_2 (broadcastInDim S1x8x16 ![1, 2] bcast_S8x16_S1x8x16_1_2 (res_main_v103 V0)))))⟩] concatenates_S128x8x16_S128x8x16_S128x8x32_d2) shapeCasts_S128x8x32_S1024x32 : FVec Ideal S1024x32 .f32) (ix2 n d) = gkr (V0 (Proc.devRef .tc main_arg0)) (V0 (Proc.devRef .tc main_arg1)) (V0 (Proc.devRef .tc main_arg2)) n d := by
  unfold gkr
  pointwise [res_main_v104, res_main_v105, res_main_v20, res_main_v102, res_main_v103]
  simp only [v17_at, v101_at, row_eq]
  rfl

theorem gkv_at (n : Fin 1024) (d : Fin 256) :
    (shapeCast _ (concatenate S128x8x2x2x64 2 [⟨S128x8x1x2x64, (broadcastInDim S128x8x1x2x64 ![0, 1, 3, 4] bcast_S128x8x2x64_S128x8x1x2x64_0_1_3_4 (concatenate S128x8x2x64 3 [⟨S128x8x2x32, (subf (mulf (res_main_v170 V0) (broadcastInDim S128x8x2x32 ![0, 1, 2, 3] bcast_S1x8x1x32_S128x8x2x32_0_1_2_3 (broadcastInDim S1x8x1x32 ![1, 2, 3] bcast_S8x1x32_S1x8x1x32_1_2_3 (res_main_v168 V0)))) (mulf (res_main_v171 V0) (broadcastInDim S128x8x2x32 ![0, 1, 2, 3] bcast_S1x8x1x32_S128x8x2x32_0_1_2_3 (broadcastInDim S1x8x1x32 ![1, 2, 3] bcast_S8x1x32_S1x8x1x32_1_2_3 (res_main_v169 V0)))))⟩, ⟨S128x8x2x32, (addf (mulf (res_main_v171 V0) (broadcastInDim S128x8x2x32 ![0, 1, 2, 3] bcast_S1x8x1x32_S128x8x2x32_0_1_2_3 (broadcastInDim S1x8x1x32 ![1, 2, 3] bcast_S8x1x32_S1x8x1x32_1_2_3 (res_main_v168 V0)))) (mulf (res_main_v170 V0) (broadcastInDim S128x8x2x32 ![0, 1, 2, 3] bcast_S1x8x1x32_S128x8x2x32_0_1_2_3 (broadcastInDim S1x8x1x32 ![1, 2, 3] bcast_S8x1x32_S1x8x1x32_1_2_3 (res_main_v169 V0)))))⟩] concatenates_S128x8x2x32_S128x8x2x32_S128x8x2x64_d3))⟩, ⟨S128x8x1x2x64, (broadcastInDim S128x8x1x2x64 ![0, 1, 3, 4] bcast_S128x8x2x64_S128x8x1x2x64_0_1_3_4 (shapeCast _ (extractStridedSlice S128x8x128 ![0, 0, 1056] (res_main_v17 V0) slices_S128x8x1768_S128x8x128_0_0_1056) shapeCasts_S128x8x128_S128x8x2x64))⟩] concatenates_S128x8x1x2x64_S128x8x1x2x64_S128x8x2x2x64_d2) shapeCasts_S128x8x2x2x64_S1024x256 : FVec Ideal S1024x256 .f32) (ix2 n d) = gkv (V0 (Proc.devRef .tc main_arg0)) (V0 (Proc.devRef .tc main_arg1)) (V0 (Proc.devRef .tc main_arg2)) n d := by
  unfold gkv
  pointwise [res_main_v170, res_main_v171, res_main_v154, res_main_v168, res_main_v169]
  simp only [v17_at, v167_at, row_eq]
  rfl

theorem gik_at (n : Fin 1024) (d : Fin 64) :
    (shapeCast _ (concatenate S128x8x64 2 [⟨S128x8x32, (subf (mulf (res_main_v238 V0) (broadcastInDim S128x8x32 ![0, 1, 2] bcast_S1x8x32_S128x8x32_0_1_2 (broadcastInDim S1x8x32 ![1, 2] bcast_S8x32_S1x8x32_1_2 (res_main_v236 V0)))) (mulf (res_main_v239 V0) (broadcastInDim S128x8x32 ![0, 1, 2] bcast_S1x8x32_S128x8x32_0_1_2 (broadcastInDim S1x8x32 ![1, 2] bcast_S8x32_S1x8x32_1_2 (res_main_v237 V0)))))⟩, ⟨S128x8x32, (addf (mulf (res_main_v239 V0) (broadcastInDim S128x8x32 ![0, 1, 2] bcast_S1x8x32_S128x8x32_0_1_2 (broadcastInDim S1x8x32 ![1, 2] bcast_S8x32_S1x8x32_1_2 (res_main_v236 V0)))) (mulf (res_main_v238 V0) (broadcastInDim S128x8x32 ![0, 1, 2] bcast_S1x8x32_S128x8x32_0_1_2 (broadcastInDim S1x8x32 ![1, 2] bcast_S8x32_S1x8x32_1_2 (res_main_v237 V0)))))⟩] concatenates_S128x8x32_S128x8x32_S128x8x64_d2) shapeCasts_S128x8x64_S1024x64 : FVec Ideal S1024x64 .f32) (ix2 n d) = gik (V0 (Proc.devRef .tc main_arg0)) (V0 (Proc.devRef .tc main_arg1)) (V0 (Proc.devRef .tc main_arg2)) n d := by
  unfold gik
  pointwise [res_main_v238, res_main_v239, res_main_v26, res_main_v236, res_main_v237]
  simp only [v17_at, v235_at, row_eq]
  rfl

theorem gqr_at (n : Fin 1024) (d : Fin 256) :
    (shapeCast _ (concatenate S128x8x8x32 3 [⟨S128x8x8x16, (subf (mulf (res_main_v60 V0) (broadcastInDim S128x8x8x16 ![0, 1, 2, 3] bcast_S1x8x1x16_S128x8x8x16_0_1_2_3 (broadcastInDim S1x8x1x16 ![1, 2, 3] bcast_S8x1x16_S1x8x1x16_1_2_3 (res_main_v58 V0)))) (mulf (res_main_v61 V0) (broadcastInDim S128x8x8x16 ![0, 1, 2, 3] bcast_S1x8x1x16_S128x8x8x16_0_1_2_3 (broadcastInDim S1x8x1x16 ![1, 2, 3] bcast_S8x1x16_S1x8x1x16_1_2_3 (res_main_v59 V0)))))⟩, ⟨S128x8x8x16, (addf (mulf (res_main_v61 V0) (broadcastInDim S128x8x8x16 ![0, 1, 2, 3] bcast_S1x8x1x16_S128x8x8x16_0_1_2_3 (broadcastInDim S1x8x1x16 ![1, 2, 3] bcast_S8x1x16_S1x8x1x16_1_2_3 (res_main_v58 V0)))) (mulf (res_main_v60 V0) (broadcastInDim S128x8x8x16 ![0, 1, 2, 3] bcast_S1x8x1x16_S128x8x8x16_0_1_2_3 (broadcastInDim S1x8x1x16 ![1, 2, 3] bcast_S8x1x16_S1x8x1x16_1_2_3 (res_main_v59 V0)))))⟩] concatenates_S128x8x8x16_S128x8x8x16_S128x8x8x32_d3) shapeCasts_S128x8x8x32_S1024x256 : FVec Ideal S1024x256 .f32) (ix2 n d) = gqr (V0 (Proc.devRef .tc main_arg0)) (V0 (Proc.devRef .tc main_arg1)) (V0 (Proc.devRef .tc main_arg2)) (V0 (Proc.devRef .tc main_arg3)) (V0 (Proc.devRef .tc main_arg4)) n d := by
  unfold gqr
  pointwise [res_main_v60, res_main_v61, res_main_v44, res_main_v58, res_main_v59]
  simp only [v41_at, v57_at, row_eq]
  rfl

theorem gdq_at (n : Fin 1024) (d : Fin 512) :
    (shapeCast _ (concatenate S128x8x8x64 3 [⟨S128x8x8x32, (subf (mulf (res_main_v137 V0) (broadcastInDim S128x8x8x32 ![0, 1, 2, 3] bcast_S1x8x1x32_S128x8x8x32_0_1_2_3 (broadcastInDim S1x8x1x32 ![1, 2, 3] bcast_S8x1x32_S1x8x1x32_1_2_3 (res_main_v135 V0)))) (mulf (res_main_v138 V0) (broadcastInDim S128x8x8x32 ![0, 1, 2, 3] bcast_S1x8x1x32_S128x8x8x32_0_1_2_3 (broadcastInDim S1x8x1x32 ![1, 2, 3] bcast_S8x1x32_S1x8x1x32_1_2_3 (res_main_v136 V0)))))⟩, ⟨S128x8x8x32, (addf (mulf (res_main_v138 V0) (broadcastInDim S128x8x8x32 ![0, 1, 2, 3] bcast_S1x8x1x32_S128x8x8x32_0_1_2_3 (broadcastInDim S1x8x1x32 ![1, 2, 3] bcast_S8x1x32_S1x8x1x32_1_2_3 (res_main_v135 V0)))) (mulf (res_main_v137 V0) (broadcastInDim S128x8x8x32 ![0, 1, 2, 3] bcast_S1x8x1x32_S128x8x8x32_0_1_2_3 (broadcastInDim S1x8x1x32 ![1, 2, 3] bcast_S8x1x32_S1x8x1x32_1_2_3 (res_main_v136 V0)))))⟩] concatenates_S128x8x8x32_S128x8x8x32_S128x8x8x64_d3) shapeCasts_S128x8x8x64_S1024x512 : FVec Ideal S1024x512 .f32) (ix2 n d) = gdq (V0 (Proc.devRef .tc main_arg0)) (V0 (Proc.devRef .tc main_arg1)) (V0 (Proc.devRef .tc main_arg2)) n d := by
  unfold gdq
  pointwise [res_main_v137, res_main_v138, res_main_v121, res_main_v135, res_main_v136]
  have e : ∀ p, (⟨416 + d.val, p⟩ : Fin 1768) = ⟨416 + (d.val / 64 * 64 + d.val % 64), by omega⟩ := fun p => Fin.ext (by show 416 + d.val = 416 + (d.val / 64 * 64 + d.val % 64); omega)
  simp only [e, v17_at, v134_at, row_eq]
  rfl

theorem giq_at (n : Fin 1024) (d : Fin 512) :
    (shapeCast _ (concatenate S128x8x8x64 3 [⟨S128x8x8x32, (subf (mulf (res_main_v207 V0) (broadcastInDim S128x8x8x32 ![0, 1, 2, 3] bcast_S1x8x1x32_S128x8x8x32_0_1_2_3 (broadcastInDim S1x8x1x32 ![1, 2, 3] bcast_S8x1x32_S1x8x1x32_1_2_3 (res_main_v205 V0)))) (mulf (res_main_v208 V0) (broadcastInDim S128x8x8x32 ![0, 1, 2, 3] bcast_S1x8x1x32_S128x8x8x32_0_1_2_3 (broadcastInDim S1x8x1x32 ![1, 2, 3] bcast_S8x1x32_S1x8x1x32_1_2_3 (res_main_v206 V0)))))⟩, ⟨S128x8x8x32, (addf (mulf (res_main_v208 V0) (broadcastInDim S128x8x8x32 ![0, 1, 2, 3] bcast_S1x8x1x32_S128x8x8x32_0_1_2_3 (broadcastInDim S1x8x1x32 ![1, 2, 3] bcast_S8x1x32_S1x8x1x32_1_2_3 (res_main_v205 V0)))) (mulf (res_main_v207 V0) (broadcastInDim S128x8x8x32 ![0, 1, 2, 3] bcast_S1x8x1x32_S128x8x8x32_0_1_2_3 (broadcastInDim S1x8x1x32 ![1, 2, 3] bcast_S8x1x32_S1x8x1x32_1_2_3 (res_main_v206 V0)))))⟩] concatenates_S128x8x8x32_S128x8x8x32_S128x8x8x64_d3) shapeCasts_S128x8x8x64_S1024x512 : FVec Ideal S1024x512 .f32) (ix2 n d) = giq (V0 (Proc.devRef .tc main_arg0)) (V0 (Proc.devRef .tc main_arg1)) (V0 (Proc.devRef .tc main_arg2)) n d := by
  unfold giq
  pointwise [res_main_v207, res_main_v208, res_main_v191, res_main_v205, res_main_v206]
  have e : ∀ p, (⟨1184 + d.val, p⟩ : Fin 1768) = ⟨1184 + (d.val / 64 * 64 + d.val % 64), by omega⟩ := fun p => Fin.ext (by show 1184 + d.val = 1184 + (d.val / 64 * 64 + d.val % 64); omega)
  simp only [e, v17_at, v204_at, row_eq]
  rfl

theorem giw_at (n : Fin 1024) (d : Fin 8) :
    (shapeCast _ (extractStridedSlice S128x8x8 ![0, 0, 1696] (res_main_v17 V0) slices_S128x8x1768_S128x8x8_0_0_1696) shapeCasts_S128x8x8_S1024x8 : FVec Ideal S1024x8 .f32) (ix2 n d) = giw (V0 (Proc.devRef .tc main_arg0)) (V0 (Proc.devRef .tc main_arg1)) (V0 (Proc.devRef .tc main_arg2)) n d := by
  unfold giw
  pointwise
  simp only [v17_at, row_eq]

theorem gql_at (h : Fin 8) (n : Fin 1024) (d : Fin 128) :
    (shapeCast _ (Host.dotGeneral (φ₁ := .f32) (φ₂ := .f32) dot_S128x8x8x64_S128x8x64_S8x128x8x128_3_2_01_0_2_1 none (extractStridedSlice S128x8x8x64 ![0, 0, 0, 0] (res_main_v41 V0) slices_S128x8x8x96_S128x8x8x64_0_0_0_0) (V0 (Proc.devRef .tc main_arg6))) shapeCasts_S8x128x8x128_S8x1024x128 : FVec Ideal S8x1024x128 .f32) (ix3 h n d) = gql (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg6)) h n d := by
  unfold gql
  pointwise
  simp only [v41_at, row_eq]

theorem gckv_eq : (shapeCast _ (mulf (mulf (res_main_v19 V0) (broadcastInDim S128x8x128 ![0, 1, 2] bcast_S128x8x1_S128x8x128_0_1_2 (Host.rsqrt (addf (Host.divf (broadcastInDim S128x8x1 ![0, 1] bcast_S128x8_S128x8x1_0_1 (Host.reduceAdd (mulf (res_main_v19 V0) (res_main_v19 V0)) (constant S_ .f32 0x00000000#32) reducesTo_S128x8x128_S128x8_d2 h_S_)) (broadcastInDim S128x8x1 ![] bcast_S_S128x8x1 (constant S_ .f32 0x43000000#32))) (broadcastInDim S128x8x1 ![] bcast_S_S128x8x1 (constant S_ .f32 0x358637BD#32)))))) (broadcastInDim S128x8x128 ![0, 1, 2] bcast_S1x1x128_S128x8x128_0_1_2 (broadcastInDim S1x1x128 ![2] bcast_S128_S1x1x128_2 (V0 (Proc.devRef .tc main_arg5))))) shapeCasts_S128x8x128_S1024x128 : FVec Ideal S1024x128 .f32) = arr2 (gckv (V0 (Proc.devRef .tc main_arg0)) (V0 (Proc.devRef .tc main_arg1)) (V0 (Proc.devRef .tc main_arg2)) (V0 (Proc.devRef .tc main_arg5))) :=
  arr2_ext _ _ fun n d => gckv_at V0 n d

theorem gkr_eq : (shapeCast _ (concatenate S128x8x32 2 [⟨S128x8x16, (subf (mulf (res_main_v104 V0) (broadcastInDim S128x8x16 ![0, 1, 2] bcast_S1x8x16_S128x8x16_0_1_2 (broadcastInDim S1x8x16 ![1, 2] bcast_S8x16_S1x8x16_1_2 (res_main_v102 V0)))) (mulf (res_main_v105 V0) (broadcastInDim S128x8x16 ![0, 1, 2] bcast_S1x8x16_S128x8x16_0_1_2 (broadcastInDim S1x8x16 ![1, 2] bcast_S8x16_S1x8x16_1_2 (res_main_v103 V0)))))⟩, ⟨S128x8x16, (addf (mulf (res_main_v105 V0) (broadcastInDim S128x8x16 ![0, 1, 2] bcast_S1x8x16_S128x8x16_0_1_2 (broadcastInDim S1x8x16 ![1, 2] bcast_S8x16_S1x8x16_1_2 (res_main_v102 V0)))) (mulf (res_main_v104 V0) (broadcastInDim S128x8x16 ![0, 1, 2] bcast_S1x8x16_S128x8x16_0_1_2 (broadcastInDim S1x8x16 ![1, 2] bcast_S8x16_S1x8x16_1_2 (res_main_v103 V0)))))⟩] concatenates_S128x8x16_S128x8x16_S128x8x32_d2) shapeCasts_S128x8x32_S1024x32 : FVec Ideal S1024x32 .f32) = arr2 (gkr (V0 (Proc.devRef .tc main_arg0)) (V0 (Proc.devRef .tc main_arg1)) (V0 (Proc.devRef .tc main_arg2))) :=
  arr2_ext _ _ fun n d => gkr_at V0 n d

theorem gkv_eq : (shapeCast _ (concatenate S128x8x2x2x64 2 [⟨S128x8x1x2x64, (broadcastInDim S128x8x1x2x64 ![0, 1, 3, 4] bcast_S128x8x2x64_S128x8x1x2x64_0_1_3_4 (concatenate S128x8x2x64 3 [⟨S128x8x2x32, (subf (mulf (res_main_v170 V0) (broadcastInDim S128x8x2x32 ![0, 1, 2, 3] bcast_S1x8x1x32_S128x8x2x32_0_1_2_3 (broadcastInDim S1x8x1x32 ![1, 2, 3] bcast_S8x1x32_S1x8x1x32_1_2_3 (res_main_v168 V0)))) (mulf (res_main_v171 V0) (broadcastInDim S128x8x2x32 ![0, 1, 2, 3] bcast_S1x8x1x32_S128x8x2x32_0_1_2_3 (broadcastInDim S1x8x1x32 ![1, 2, 3] bcast_S8x1x32_S1x8x1x32_1_2_3 (res_main_v169 V0)))))⟩, ⟨S128x8x2x32, (addf (mulf (res_main_v171 V0) (broadcastInDim S128x8x2x32 ![0, 1, 2, 3] bcast_S1x8x1x32_S128x8x2x32_0_1_2_3 (broadcastInDim S1x8x1x32 ![1, 2, 3] bcast_S8x1x32_S1x8x1x32_1_2_3 (res_main_v168 V0)))) (mulf (res_main_v170 V0) (broadcastInDim S128x8x2x32 ![0, 1, 2, 3] bcast_S1x8x1x32_S128x8x2x32_0_1_2_3 (broadcastInDim S1x8x1x32 ![1, 2, 3] bcast_S8x1x32_S1x8x1x32_1_2_3 (res_main_v169 V0)))))⟩] concatenates_S128x8x2x32_S128x8x2x32_S128x8x2x64_d3))⟩, ⟨S128x8x1x2x64, (broadcastInDim S128x8x1x2x64 ![0, 1, 3, 4] bcast_S128x8x2x64_S128x8x1x2x64_0_1_3_4 (shapeCast _ (extractStridedSlice S128x8x128 ![0, 0, 1056] (res_main_v17 V0) slices_S128x8x1768_S128x8x128_0_0_1056) shapeCasts_S128x8x128_S128x8x2x64))⟩] concatenates_S128x8x1x2x64_S128x8x1x2x64_S128x8x2x2x64_d2) shapeCasts_S128x8x2x2x64_S1024x256 : FVec Ideal S1024x256 .f32) = arr2 (gkv (V0 (Proc.devRef .tc main_arg0)) (V0 (Proc.devRef .tc main_arg1)) (V0 (Proc.devRef .tc main_arg2))) :=
  arr2_ext _ _ fun n d => gkv_at V0 n d

theorem gik_eq : (shapeCast _ (concatenate S128x8x64 2 [⟨S128x8x32, (subf (mulf (res_main_v238 V0) (broadcastInDim S128x8x32 ![0, 1, 2] bcast_S1x8x32_S128x8x32_0_1_2 (broadcastInDim S1x8x32 ![1, 2] bcast_S8x32_S1x8x32_1_2 (res_main_v236 V0)))) (mulf (res_main_v239 V0) (broadcastInDim S128x8x32 ![0, 1, 2] bcast_S1x8x32_S128x8x32_0_1_2 (broadcastInDim S1x8x32 ![1, 2] bcast_S8x32_S1x8x32_1_2 (res_main_v237 V0)))))⟩, ⟨S128x8x32, (addf (mulf (res_main_v239 V0) (broadcastInDim S128x8x32 ![0, 1, 2] bcast_S1x8x32_S128x8x32_0_1_2 (broadcastInDim S1x8x32 ![1, 2] bcast_S8x32_S1x8x32_1_2 (res_main_v236 V0)))) (mulf (res_main_v238 V0) (broadcastInDim S128x8x32 ![0, 1, 2] bcast_S1x8x32_S128x8x32_0_1_2 (broadcastInDim S1x8x32 ![1, 2] bcast_S8x32_S1x8x32_1_2 (res_main_v237 V0)))))⟩] concatenates_S128x8x32_S128x8x32_S128x8x64_d2) shapeCasts_S128x8x64_S1024x64 : FVec Ideal S1024x64 .f32) = arr2 (gik (V0 (Proc.devRef .tc main_arg0)) (V0 (Proc.devRef .tc main_arg1)) (V0 (Proc.devRef .tc main_arg2))) :=
  arr2_ext _ _ fun n d => gik_at V0 n d

theorem gql_eq : (shapeCast _ (Host.dotGeneral (φ₁ := .f32) (φ₂ := .f32) dot_S128x8x8x64_S128x8x64_S8x128x8x128_3_2_01_0_2_1 none (extractStridedSlice S128x8x8x64 ![0, 0, 0, 0] (res_main_v41 V0) slices_S128x8x8x96_S128x8x8x64_0_0_0_0) (V0 (Proc.devRef .tc main_arg6))) shapeCasts_S8x128x8x128_S8x1024x128 : FVec Ideal S8x1024x128 .f32) = arr3 (gql (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg6))) :=
  arr3_ext _ _ fun h n d => gql_at V0 h n d

theorem gqr_eq : (shapeCast _ (concatenate S128x8x8x32 3 [⟨S128x8x8x16, (subf (mulf (res_main_v60 V0) (broadcastInDim S128x8x8x16 ![0, 1, 2, 3] bcast_S1x8x1x16_S128x8x8x16_0_1_2_3 (broadcastInDim S1x8x1x16 ![1, 2, 3] bcast_S8x1x16_S1x8x1x16_1_2_3 (res_main_v58 V0)))) (mulf (res_main_v61 V0) (broadcastInDim S128x8x8x16 ![0, 1, 2, 3] bcast_S1x8x1x16_S128x8x8x16_0_1_2_3 (broadcastInDim S1x8x1x16 ![1, 2, 3] bcast_S8x1x16_S1x8x1x16_1_2_3 (res_main_v59 V0)))))⟩, ⟨S128x8x8x16, (addf (mulf (res_main_v61 V0) (broadcastInDim S128x8x8x16 ![0, 1, 2, 3] bcast_S1x8x1x16_S128x8x8x16_0_1_2_3 (broadcastInDim S1x8x1x16 ![1, 2, 3] bcast_S8x1x16_S1x8x1x16_1_2_3 (res_main_v58 V0)))) (mulf (res_main_v60 V0) (broadcastInDim S128x8x8x16 ![0, 1, 2, 3] bcast_S1x8x1x16_S128x8x8x16_0_1_2_3 (broadcastInDim S1x8x1x16 ![1, 2, 3] bcast_S8x1x16_S1x8x1x16_1_2_3 (res_main_v59 V0)))))⟩] concatenates_S128x8x8x16_S128x8x8x16_S128x8x8x32_d3) shapeCasts_S128x8x8x32_S1024x256 : FVec Ideal S1024x256 .f32) = arr2 (gqr (V0 (Proc.devRef .tc main_arg0)) (V0 (Proc.devRef .tc main_arg1)) (V0 (Proc.devRef .tc main_arg2)) (V0 (Proc.devRef .tc main_arg3)) (V0 (Proc.devRef .tc main_arg4))) :=
  arr2_ext _ _ fun n d => gqr_at V0 n d

theorem gdq_eq : (shapeCast _ (concatenate S128x8x8x64 3 [⟨S128x8x8x32, (subf (mulf (res_main_v137 V0) (broadcastInDim S128x8x8x32 ![0, 1, 2, 3] bcast_S1x8x1x32_S128x8x8x32_0_1_2_3 (broadcastInDim S1x8x1x32 ![1, 2, 3] bcast_S8x1x32_S1x8x1x32_1_2_3 (res_main_v135 V0)))) (mulf (res_main_v138 V0) (broadcastInDim S128x8x8x32 ![0, 1, 2, 3] bcast_S1x8x1x32_S128x8x8x32_0_1_2_3 (broadcastInDim S1x8x1x32 ![1, 2, 3] bcast_S8x1x32_S1x8x1x32_1_2_3 (res_main_v136 V0)))))⟩, ⟨S128x8x8x32, (addf (mulf (res_main_v138 V0) (broadcastInDim S128x8x8x32 ![0, 1, 2, 3] bcast_S1x8x1x32_S128x8x8x32_0_1_2_3 (broadcastInDim S1x8x1x32 ![1, 2, 3] bcast_S8x1x32_S1x8x1x32_1_2_3 (res_main_v135 V0)))) (mulf (res_main_v137 V0) (broadcastInDim S128x8x8x32 ![0, 1, 2, 3] bcast_S1x8x1x32_S128x8x8x32_0_1_2_3 (broadcastInDim S1x8x1x32 ![1, 2, 3] bcast_S8x1x32_S1x8x1x32_1_2_3 (res_main_v136 V0)))))⟩] concatenates_S128x8x8x32_S128x8x8x32_S128x8x8x64_d3) shapeCasts_S128x8x8x64_S1024x512 : FVec Ideal S1024x512 .f32) = arr2 (gdq (V0 (Proc.devRef .tc main_arg0)) (V0 (Proc.devRef .tc main_arg1)) (V0 (Proc.devRef .tc main_arg2))) :=
  arr2_ext _ _ fun n d => gdq_at V0 n d

theorem giq_eq : (shapeCast _ (concatenate S128x8x8x64 3 [⟨S128x8x8x32, (subf (mulf (res_main_v207 V0) (broadcastInDim S128x8x8x32 ![0, 1, 2, 3] bcast_S1x8x1x32_S128x8x8x32_0_1_2_3 (broadcastInDim S1x8x1x32 ![1, 2, 3] bcast_S8x1x32_S1x8x1x32_1_2_3 (res_main_v205 V0)))) (mulf (res_main_v208 V0) (broadcastInDim S128x8x8x32 ![0, 1, 2, 3] bcast_S1x8x1x32_S128x8x8x32_0_1_2_3 (broadcastInDim S1x8x1x32 ![1, 2, 3] bcast_S8x1x32_S1x8x1x32_1_2_3 (res_main_v206 V0)))))⟩, ⟨S128x8x8x32, (addf (mulf (res_main_v208 V0) (broadcastInDim S128x8x8x32 ![0, 1, 2, 3] bcast_S1x8x1x32_S128x8x8x32_0_1_2_3 (broadcastInDim S1x8x1x32 ![1, 2, 3] bcast_S8x1x32_S1x8x1x32_1_2_3 (res_main_v205 V0)))) (mulf (res_main_v207 V0) (broadcastInDim S128x8x8x32 ![0, 1, 2, 3] bcast_S1x8x1x32_S128x8x8x32_0_1_2_3 (broadcastInDim S1x8x1x32 ![1, 2, 3] bcast_S8x1x32_S1x8x1x32_1_2_3 (res_main_v206 V0)))))⟩] concatenates_S128x8x8x32_S128x8x8x32_S128x8x8x64_d3) shapeCasts_S128x8x8x64_S1024x512 : FVec Ideal S1024x512 .f32) = arr2 (giq (V0 (Proc.devRef .tc main_arg0)) (V0 (Proc.devRef .tc main_arg1)) (V0 (Proc.devRef .tc main_arg2))) :=
  arr2_ext _ _ fun n d => giq_at V0 n d

theorem giw_eq : (shapeCast _ (extractStridedSlice S128x8x8 ![0, 0, 1696] (res_main_v17 V0) slices_S128x8x1768_S128x8x8_0_0_1696) shapeCasts_S128x8x8_S1024x8 : FVec Ideal S1024x8 .f32) = arr2 (giw (V0 (Proc.devRef .tc main_arg0)) (V0 (Proc.devRef .tc main_arg1)) (V0 (Proc.devRef .tc main_arg2))) :=
  arr2_ext _ _ fun n d => giw_at V0 n d

end Cert.SampleRefIdeal.Value

end
-- ==== Proof.SampleHost.lean ====
/- The mixer's projections of the samples: the weights and tables the kernel's blocks are cut from. -/
module

public import proofs.«01_k».proof.Proof.Norm
public import proofs.«01_k».proof.Proof.Gen.SampleIdeal.Value
public import proofs.«01_k».proof.Proof.SampleRef
public import proofs.«01_k».proof.Proof.MixerHost
public import Idealize.ShloMosaic.Lib.StableHlo.ReadAt
public import Idealize.ShloMosaic.Lib.Pipeline.ValueKit
public import Idealize.ShloMosaic.Lib.WordCmp

@[expose] public section

set_option maxRecDepth 16384

noncomputable section

namespace Cert.Sample

open Cert.SampleIdeal Cert.SampleIdeal.Gen Idealize.ShloMosaic Idealize.ShloMosaic.TcCoe Idealize.SL.Sem
open Cert.Norm
open Cert.SampleRefIdeal.Value (ang pos)
open Cert.MixerRefIdeal.Value (rot16 rot32)
open Cert.Mixer (cos32 sin32 cos16 sin16)

variable (m : (ℓ : Loc nD τ sig) → Buf (Elt Ideal) ℓ) (c : Dev nD)

/-- The place of row `s` of the tables among the new tokens. -/
def plc (s : Fin 512) : Fin 8 := ⟨s.val % 8, by omega⟩

theorem V54 (s : Fin 512) (d : Fin 128) : (V m c main_v54 : FVec Ideal S512x128 .f32) (ix2 s d) = cos32 (ang 0x42000000#32 (plc s)) d.val := by
  unfold V
  after_reads_at
  by_cases h : d.val % 64 < 32
  · rw [dif_pos h]
    after_reads_at
    unfold cos32
    rw [dif_pos h]
    rfl
  · rw [dif_neg h]
    after_reads_at
    unfold cos32
    rw [dif_neg h]
    rfl

theorem V57 (s : Fin 512) (d : Fin 128) : (V m c main_v57 : FVec Ideal S512x128 .f32) (ix2 s d) = sin32 (ang 0x42000000#32 (plc s)) d.val := by
  unfold V
  after_reads_at
  by_cases h : d.val % 64 < 32
  · rw [dif_pos h]
    after_reads_at
    unfold sin32
    rw [dif_pos h]
    rfl
  · rw [dif_neg h]
    after_reads_at
    unfold sin32
    rw [dif_neg h]
    rfl

theorem V83 (s : Fin 512) (d : Fin 128) : (V m c main_v83 : FVec Ideal S512x128 .f32) (ix2 s d) = cos16 (ang 0x41800000#32 (plc s)) d.val := by
  unfold V
  after_reads_at
  by_cases h : d.val % 32 < 16
  · rw [dif_pos h]
    after_reads_at
    unfold cos16
    rw [dif_pos h]
    rfl
  · rw [dif_neg h]
    after_reads_at
    unfold cos16
    rw [dif_neg h]
    rfl

theorem V86 (s : Fin 512) (d : Fin 128) : (V m c main_v86 : FVec Ideal S512x128 .f32) (ix2 s d) = sin16 (ang 0x41800000#32 (plc s)) d.val := by
  unfold V
  after_reads_at
  by_cases h : d.val % 32 < 16
  · rw [dif_pos h]
    after_reads_at
    unfold sin16
    rw [dif_pos h]
    rfl
  · rw [dif_neg h]
    after_reads_at
    unfold sin16
    rw [dif_neg h]
    rfl

theorem V25 (h : Fin 8) (v : Fin 64) (d : Fin 128) : (V m c main_v25 : FVec Ideal S8x64x128 .bf16) (ix3 h v d) = m ((c : Thread nD τ).loc main_arg6) (ix3 d h v) := by
  unfold V
  after_reads_at

theorem V22_nope (k : Fin 256) (d : Fin 512) : (V m c main_v22 : FVec Ideal S256x768 .bf16) (ix2 k ⟨d.val, by omega⟩)
    = m ((c : Thread nD τ).loc main_arg4) (ix2 k ⟨d.val / 64 * 96 + d.val % 64, by omega⟩) := by
  unfold V
  after_reads_at
  after_reads_at

theorem V22_rope (k : Fin 256) (d : Fin 256) : (V m c main_v22 : FVec Ideal S256x768 .bf16) (ix2 k ⟨512 + d.val, by omega⟩)
    = m ((c : Thread nD τ).loc main_arg4) (ix2 k ⟨d.val / 32 * 96 + (64 + d.val % 32), by omega⟩) := by
  unfold V
  after_reads_at
  after_reads_at

theorem V20_cq (k : Fin 1024) (d : Fin 256) : (V m c main_v20 : FVec Ideal S1024x2048 .bf16) (ix2 k ⟨d.val, by omega⟩)
    = m ((c : Thread nD τ).loc main_arg2) (ix2 k ⟨d.val, by omega⟩) := by
  unfold V
  after_reads_at
  after_reads_at

theorem V20_ckv (k : Fin 1024) (d : Fin 128) : (V m c main_v20 : FVec Ideal S1024x2048 .bf16) (ix2 k ⟨256 + d.val, by omega⟩)
    = m ((c : Thread nD τ).loc main_arg2) (ix2 k ⟨256 + d.val, by omega⟩) := by
  unfold V
  after_reads_at
  after_reads_at

theorem V20_kr (k : Fin 1024) (d : Fin 32) : (V m c main_v20 : FVec Ideal S1024x2048 .bf16) (ix2 k ⟨384 + d.val, by omega⟩)
    = m ((c : Thread nD τ).loc main_arg2) (ix2 k ⟨384 + d.val, by omega⟩) := by
  unfold V
  after_reads_at
  rw [dif_neg (show ¬ 384 + d.val < 256 by omega), dif_neg (show ¬ 384 + d.val - 256 < 128 by omega), dif_pos (show 384 + d.val - 256 - 128 < 128 by omega)]
  after_reads_at
  rw [dif_pos (show 384 + d.val - 256 - 128 < 32 by omega)]
  exact congrArg (fun j => m ((c : Thread nD τ).loc main_arg2) (ix2 k j)) (Fin.ext (by show 384 + (384 + d.val - 256 - 128) = 384 + d.val; omega))

theorem V20_dq (k : Fin 1024) (d : Fin 512) : (V m c main_v20 : FVec Ideal S1024x2048 .bf16) (ix2 k ⟨512 + d.val, by omega⟩)
    = m ((c : Thread nD τ).loc main_arg2) (ix2 k ⟨416 + d.val, by omega⟩) := by
  unfold V
  after_reads_at
  rw [dif_neg (show ¬ 512 + d.val < 256 by omega), dif_neg (show ¬ 512 + d.val - 256 < 128 by omega), dif_neg (show ¬ 512 + d.val - 256 - 128 < 128 by omega), dif_pos (show 512 + d.val - 256 - 128 - 128 < 512 by omega)]
  after_reads_at
  exact congrArg (fun j => m ((c : Thread nD τ).loc main_arg2) (ix2 k j)) (Fin.ext (by show 416 + (512 + d.val - 256 - 128 - 128) = 416 + d.val; omega))

theorem V20_dk (k : Fin 1024) (d : Fin 128) : (V m c main_v20 : FVec Ideal S1024x2048 .bf16) (ix2 k ⟨1024 + d.val, by omega⟩)
    = m ((c : Thread nD τ).loc main_arg2) (ix2 k ⟨928 + d.val, by omega⟩) := by
  unfold V
  after_reads_at
  rw [dif_neg (show ¬ 1024 + d.val < 256 by omega), dif_neg (show ¬ 1024 + d.val - 256 < 128 by omega), dif_neg (show ¬ 1024 + d.val - 256 - 128 < 128 by omega), dif_neg (show ¬ 1024 + d.val - 256 - 128 - 128 < 512 by omega), dif_pos (show 1024 + d.val - 256 - 128 - 128 - 512 < 128 by omega)]
  after_reads_at
  exact congrArg (fun j => m ((c : Thread nD τ).loc main_arg2) (ix2 k j)) (Fin.ext (by show 928 + (1024 + d.val - 256 - 128 - 128 - 512) = 928 + d.val; omega))

theorem V20_dv (k : Fin 1024) (d : Fin 128) : (V m c main_v20 : FVec Ideal S1024x2048 .bf16) (ix2 k ⟨1152 + d.val, by omega⟩)
    = m ((c : Thread nD τ).loc main_arg2) (ix2 k ⟨1056 + d.val, by omega⟩) := by
  unfold V
  after_reads_at
  rw [dif_neg (show ¬ 1152 + d.val < 256 by omega), dif_neg (show ¬ 1152 + d.val - 256 < 128 by omega), dif_neg (show ¬ 1152 + d.val - 256 - 128 < 128 by omega), dif_neg (show ¬ 1152 + d.val - 256 - 128 - 128 < 512 by omega), dif_neg (show ¬ 1152 + d.val - 256 - 128 - 128 - 512 < 128 by omega), dif_pos (show 1152 + d.val - 256 - 128 - 128 - 512 - 128 < 128 by omega)]
  after_reads_at
  exact congrArg (fun j => m ((c : Thread nD τ).loc main_arg2) (ix2 k j)) (Fin.ext (by show 1056 + (1152 + d.val - 256 - 128 - 128 - 512 - 128) = 1056 + d.val; omega))

theorem V20_iq (k : Fin 1024) (d : Fin 512) : (V m c main_v20 : FVec Ideal S1024x2048 .bf16) (ix2 k ⟨1280 + d.val, by omega⟩)
    = m ((c : Thread nD τ).loc main_arg2) (ix2 k ⟨1184 + d.val, by omega⟩) := by
  unfold V
  after_reads_at
  rw [dif_neg (show ¬ 1280 + d.val < 256 by omega), dif_neg (show ¬ 1280 + d.val - 256 < 128 by omega), dif_neg (show ¬ 1280 + d.val - 256 - 128 < 128 by omega), dif_neg (show ¬ 1280 + d.val - 256 - 128 - 128 < 512 by omega), dif_neg (show ¬ 1280 + d.val - 256 - 128 - 128 - 512 < 128 by omega), dif_neg (show ¬ 1280 + d.val - 256 - 128 - 128 - 512 - 128 < 128 by omega), dif_pos (show 1280 + d.val - 256 - 128 - 128 - 512 - 128 - 128 < 512 by omega)]
  after_reads_at
  exact congrArg (fun j => m ((c : Thread nD τ).loc main_arg2) (ix2 k j)) (Fin.ext (by show 1184 + (1280 + d.val - 256 - 128 - 128 - 512 - 128 - 128) = 1184 + d.val; omega))

theorem V20_ik (k : Fin 1024) (d : Fin 64) : (V m c main_v20 : FVec Ideal S1024x2048 .bf16) (ix2 k ⟨1792 + d.val, by omega⟩)
    = m ((c : Thread nD τ).loc main_arg2) (ix2 k ⟨1704 + d.val, by omega⟩) := by
  unfold V
  after_reads_at
  rw [dif_neg (show ¬ 1792 + d.val < 256 by omega), dif_neg (show ¬ 1792 + d.val - 256 < 128 by omega), dif_neg (show ¬ 1792 + d.val - 256 - 128 < 128 by omega), dif_neg (show ¬ 1792 + d.val - 256 - 128 - 128 < 512 by omega), dif_neg (show ¬ 1792 + d.val - 256 - 128 - 128 - 512 < 128 by omega), dif_neg (show ¬ 1792 + d.val - 256 - 128 - 128 - 512 - 128 < 128 by omega), dif_neg (show ¬ 1792 + d.val - 256 - 128 - 128 - 512 - 128 - 128 < 512 by omega), dif_pos (show 1792 + d.val - 256 - 128 - 128 - 512 - 128 - 128 - 512 < 128 by omega)]
  after_reads_at
  rw [dif_pos (show 1792 + d.val - 256 - 128 - 128 - 512 - 128 - 128 - 512 < 64 by omega)]
  exact congrArg (fun j => m ((c : Thread nD τ).loc main_arg2) (ix2 k j)) (Fin.ext (by show 1704 + (1792 + d.val - 256 - 128 - 128 - 512 - 128 - 128 - 512) = 1704 + d.val; omega))

theorem V20_iw (k : Fin 1024) (d : Fin 8) : (V m c main_v20 : FVec Ideal S1024x2048 .bf16) (ix2 k ⟨1920 + d.val, by omega⟩)
    = m ((c : Thread nD τ).loc main_arg2) (ix2 k ⟨1696 + d.val, by omega⟩) := by
  unfold V
  after_reads_at
  rw [dif_neg (show ¬ 1920 + d.val < 256 by omega), dif_neg (show ¬ 1920 + d.val - 256 < 128 by omega), dif_neg (show ¬ 1920 + d.val - 256 - 128 < 128 by omega), dif_neg (show ¬ 1920 + d.val - 256 - 128 - 128 < 512 by omega), dif_neg (show ¬ 1920 + d.val - 256 - 128 - 128 - 512 < 128 by omega), dif_neg (show ¬ 1920 + d.val - 256 - 128 - 128 - 512 - 128 < 128 by omega), dif_neg (show ¬ 1920 + d.val - 256 - 128 - 128 - 512 - 128 - 128 < 512 by omega), dif_neg (show ¬ 1920 + d.val - 256 - 128 - 128 - 512 - 128 - 128 - 512 < 128 by omega)]
  after_reads_at
  rw [dif_pos (show 1920 + d.val - 256 - 128 - 128 - 512 - 128 - 128 - 512 - 128 < 8 by omega)]
  exact congrArg (fun j => m ((c : Thread nD τ).loc main_arg2) (ix2 k j)) (Fin.ext (by show 1696 + (1920 + d.val - 256 - 128 - 128 - 512 - 128 - 128 - 512 - 128) = 1696 + d.val; omega))

/-- Row `y` of point `t`'s block of 512 rows. -/
def brow (t : Fin cfg0.N) (y : Fin 512) : Fin 1024 := ⟨512 * t.val + y.val, by have : t.val < 2 := t.isLt; omega⟩

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0, 0] := (by decide +kernel : ∀ t : Fin grid0.N, win0_6.index t = ![0, 0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])
theorem idx13 : ∀ t : Fin cfg0.N, win0_13.index t = ![t.val, 0] := (by decide +kernel : ∀ t : Fin grid0.N, win0_13.index t = ![t.val, 0])
theorem idx14 : ∀ t : Fin cfg0.N, win0_14.index t = ![t.val, 0] := (by decide +kernel : ∀ t : Fin grid0.N, win0_14.index t = ![t.val, 0])
theorem idx15 : ∀ t : Fin cfg0.N, win0_15.index t = ![0, t.val, 0] := (by decide +kernel : ∀ t : Fin grid0.N, win0_15.index t = ![0, t.val, 0])
theorem idx16 : ∀ t : Fin cfg0.N, win0_16.index t = ![t.val, 0] := (by decide +kernel : ∀ t : Fin grid0.N, win0_16.index t = ![t.val, 0])
theorem idx17 : ∀ t : Fin cfg0.N, win0_17.index t = ![t.val, 0] := (by decide +kernel : ∀ t : Fin grid0.N, win0_17.index t = ![t.val, 0])
theorem idx18 : ∀ t : Fin cfg0.N, win0_18.index t = ![t.val, 0] := (by decide +kernel : ∀ t : Fin grid0.N, win0_18.index t = ![t.val, 0])
theorem idx19 : ∀ t : Fin cfg0.N, win0_19.index t = ![t.val, 0] := (by decide +kernel : ∀ t : Fin grid0.N, win0_19.index t = ![t.val, 0])

theorem blk0 (t : Fin cfg0.N) (y : Fin 512) (k : Fin 1024) :
    iblk m c 0 t (ix2 y k) = m ((c : Thread nD τ).loc main_arg0) (ix2 (brow t y) k) := by
  unfold brow
  rw [← V_main_arg0 m c]
  blk_ext [iblk, idx0 t]

theorem V19 (k : Fin 1024) : (V m c main_v19 : FVec Ideal S1x1024 .f32) (ix2 0 k) = m ((c : Thread nD τ).loc main_arg1) (ix1 k) := by
  unfold V
  after_reads_at

theorem blk1 (t : Fin cfg0.N) (k : Fin 1024) :
    iblk m c 1 t (ix2 0 k) = m ((c : Thread nD τ).loc main_arg1) (ix1 k) := by
  have e : iblk m c 1 t (ix2 0 k) = V m c main_v19 (ix2 0 k) := by blk_ext [iblk, idx1 t]
  rw [e]
  exact V19 m c k

theorem V21 (k : Fin 256) : (V m c main_v21 : FVec Ideal S1x256 .f32) (ix2 0 k) = m ((c : Thread nD τ).loc main_arg3) (ix1 k) := by
  unfold V
  after_reads_at

theorem blk3 (t : Fin cfg0.N) (k : Fin 256) :
    iblk m c 3 t (ix2 0 k) = m ((c : Thread nD τ).loc main_arg3) (ix1 k) := by
  have e : iblk m c 3 t (ix2 0 k) = V m c main_v21 (ix2 0 k) := by blk_ext [iblk, idx3 t]
  rw [e]
  exact V21 m c k

theorem V23 (k : Fin 128) : (V m c main_v23 : FVec Ideal S1x128 .f32) (ix2 0 k) = m ((c : Thread nD τ).loc main_arg5) (ix1 k) := by
  unfold V
  after_reads_at

theorem blk5 (t : Fin cfg0.N) (k : Fin 128) :
    iblk m c 5 t (ix2 0 k) = m ((c : Thread nD τ).loc main_arg5) (ix1 k) := by
  have e : iblk m c 5 t (ix2 0 k) = V m c main_v23 (ix2 0 k) := by blk_ext [iblk, idx5 t]
  rw [e]
  exact V23 m c k

theorem blk2 (t : Fin cfg0.N) (k : Fin 1024) (j : Fin 2048) :
    iblk m c 2 t (ix2 k j) = V m c main_v20 (ix2 k j) := by
  blk_ext [iblk, idx2 t]

theorem blk4 (t : Fin cfg0.N) (k : Fin 256) (j : Fin 768) :
    iblk m c 4 t (ix2 k j) = V m c main_v22 (ix2 k j) := by
  blk_ext [iblk, idx4 t]

theorem blk6 (t : Fin cfg0.N) (h : Fin 8) (v : Fin 64) (d : Fin 128) :
    iblk m c 6 t (ix3 h v d) = m ((c : Thread nD τ).loc main_arg6) (ix3 d h v) := by
  have e : iblk m c 6 t (ix3 h v d) = V m c main_v25 (ix3 h v d) := by blk_ext [iblk, idx6 t]
  rw [e]
  exact V25 m c h v d

theorem pos_brow (t : Fin cfg0.N) (y : Fin 512) : plc y = pos (brow t y) :=
  Fin.ext (by show y.val % 8 = (512 * t.val + y.val) % 8; omega)

theorem blk7 (t : Fin cfg0.N) (y : Fin 512) (d : Fin 128) :
    iblk m c 7 t (ix2 y d) = cos32 (ang 0x42000000#32 (pos (brow t y))) d.val := by
  have e : iblk m c 7 t (ix2 y d) = V m c main_v54 (ix2 y d) := by blk_ext [iblk, idx7 t]
  rw [e, ← pos_brow]
  exact V54 m c _ d

theorem blk8 (t : Fin cfg0.N) (y : Fin 512) (d : Fin 128) :
    iblk m c 8 t (ix2 y d) = sin32 (ang 0x42000000#32 (pos (brow t y))) d.val := by
  have e : iblk m c 8 t (ix2 y d) = V m c main_v57 (ix2 y d) := by blk_ext [iblk, idx8 t]
  rw [e, ← pos_brow]
  exact V57 m c _ d

theorem blk9 (t : Fin cfg0.N) (y : Fin 512) (d : Fin 128) :
    iblk m c 9 t (ix2 y d) = cos16 (ang 0x41800000#32 (pos (brow t y))) d.val := by
  have e : iblk m c 9 t (ix2 y d) = V m c main_v83 (ix2 y d) := by blk_ext [iblk, idx9 t]
  rw [e, ← pos_brow]
  exact V83 m c _ d

theorem blk10 (t : Fin cfg0.N) (y : Fin 512) (d : Fin 128) :
    iblk m c 10 t (ix2 y d) = sin16 (ang 0x41800000#32 (pos (brow t y))) d.val := by
  have e : iblk m c 10 t (ix2 y d) = V m c main_v86 (ix2 y d) := by blk_ext [iblk, idx10 t]
  rw [e, ← pos_brow]
  exact V86 m c _ d

end Cert.Sample

end
-- ==== Proof.Sample.lean ====
/- The mixer's projections of the samples: the kernel's arrays are the reference's. -/
module

public import proofs.«01_k».proof.Proof.Norm
public import proofs.«01_k».proof.Proof.Gen.SampleIdeal.Value
public import proofs.«01_k».proof.Proof.SampleHost
public import proofs.«01_k».proof.Proof.MixerBody
public import Idealize.ShloMosaic.Lib.Pipeline.ValueKit
public import Idealize.ShloMosaic.Lib.WordCmp

@[expose] public section

set_option maxRecDepth 16384

noncomputable section

namespace Cert.Sample

open Cert.SampleIdeal
open Cert.SampleIdeal.Gen hiding k0_pay1
open Cert.MixerIdeal.Gen (k0_pay1)
open Idealize.ShloMosaic Idealize.ShloMosaic.TcCoe Idealize.SL.Sem
open Cert.Norm
open Cert.SampleRefIdeal.Value (ang pos proj query gckv gkr gkv gik gql gqr gdq giq giw)
open Cert.MixerRefIdeal.Value (rot16 rot32 arr2 arr3)
open Cert.Mixer (cos32 sin32 cos16 sin16 qry pay1_at pay11_at out11_at out12_at out13_at out14_at out16_at out17_at out18_at out19_at out15_at)

variable (m : (ℓ : Loc nD τ sig) → Buf (Elt Ideal) ℓ) (c : Dev nD)

/-! What one point of the grid stores is the same function of its blocks as for the prompt. -/

theorem out11_eq : @Cert.SampleIdeal.Gen.out0_11 Ideal _ = @Cert.MixerIdeal.Gen.out0_11 Ideal _ := rfl
theorem out12_eq : @Cert.SampleIdeal.Gen.out0_12 Ideal _ = @Cert.MixerIdeal.Gen.out0_12 Ideal _ := rfl
theorem out13_eq : @Cert.SampleIdeal.Gen.out0_13 Ideal _ = @Cert.MixerIdeal.Gen.out0_13 Ideal _ := rfl
theorem out14_eq : @Cert.SampleIdeal.Gen.out0_14 Ideal _ = @Cert.MixerIdeal.Gen.out0_14 Ideal _ := rfl
theorem out15_eq : @Cert.SampleIdeal.Gen.out0_15 Ideal _ = @Cert.MixerIdeal.Gen.out0_15 Ideal _ := rfl
theorem out16_eq : @Cert.SampleIdeal.Gen.out0_16 Ideal _ = @Cert.MixerIdeal.Gen.out0_16 Ideal _ := rfl
theorem out17_eq : @Cert.SampleIdeal.Gen.out0_17 Ideal _ = @Cert.MixerIdeal.Gen.out0_17 Ideal _ := rfl
theorem out18_eq : @Cert.SampleIdeal.Gen.out0_18 Ideal _ = @Cert.MixerIdeal.Gen.out0_18 Ideal _ := rfl
theorem out19_eq : @Cert.SampleIdeal.Gen.out0_19 Ideal _ = @Cert.MixerIdeal.Gen.out0_19 Ideal _ := rfl

/-- A column of a point's projection, by the column of the weights it is of. -/
theorem P_at (t : Fin cfg0.N) (y : Fin 512) (k : Fin 2048) (j : Fin 1768)
    (hk : ∀ s : Fin 1024, (V m c main_v20 : FVec Ideal S1024x2048 .bf16) (ix2 s k) = m ((c : Thread nD τ).loc main_arg2) (ix2 s j)) :
    k0_pay1 (iblk m c 0 t) (iblk m c 1 t) (iblk m c 2 t) (ix2 y k) = proj (m ((c : Thread nD τ).loc main_arg0)) (m ((c : Thread nD τ).loc main_arg1)) (m ((c : Thread nD τ).loc main_arg2)) (brow t y) j := by
  refine (pay1_at (iblk m c 0 t) (iblk m c 1 t) (iblk m c 2 t) y k).trans ?_
  simp only [blk0, blk1, blk2, hk]
  rfl

/-- The same of the queries. -/
theorem Q_at (t : Fin cfg0.N) (y : Fin 512) (k j : Fin 768)
    (hk : ∀ s : Fin 256, (V m c main_v22 : FVec Ideal S256x768 .bf16) (ix2 s k) = m ((c : Thread nD τ).loc main_arg4) (ix2 s j)) :
    qry (iblk m c 0 t) (iblk m c 1 t) (iblk m c 2 t) (iblk m c 3 t) (iblk m c 4 t) (ix2 y k) = query (m ((c : Thread nD τ).loc main_arg0)) (m ((c : Thread nD τ).loc main_arg1)) (m ((c : Thread nD τ).loc main_arg2)) (m ((c : Thread nD τ).loc main_arg3)) (m ((c : Thread nD τ).loc main_arg4)) (brow t y) j := by
  refine (pay11_at (iblk m c 0 t) (iblk m c 1 t) (iblk m c 2 t) (iblk m c 3 t) (iblk m c 4 t) y k).trans ?_
  simp only [blk3, blk4, hk]
  have e : (fun k : Fin 256 => k0_pay1 (iblk m c 0 t) (iblk m c 1 t) (iblk m c 2 t) (ix2 y ⟨k.val, by omega⟩)) = fun k : Fin 256 => proj (m ((c : Thread nD τ).loc main_arg0)) (m ((c : Thread nD τ).loc main_arg1)) (m ((c : Thread nD τ).loc main_arg2)) (brow t y) ⟨k.val, by omega⟩ :=
    funext fun k => P_at m c t y _ _ fun s => V20_cq m c s k
  rw [e]
  rfl

theorem final11 : (dats m 0 c).arrAt 11 cfg0.N = arr2 (gckv (m ((c : Thread nD τ).loc main_arg0)) (m ((c : Thread nD τ).loc main_arg1)) (m ((c : Thread nD τ).loc main_arg2)) (m ((c : Thread nD τ).loc main_arg5))) := by
  refine (dats m 0 c).arrAt_eq_of_covers 11 _ (by decide +kernel) fun t hf y => ?_
  blk_simp
  rw [after0_11, out11_eq]
  obtain ⟨n, d, rfl⟩ : ∃ (n : Fin 512) (d : Fin 128), y = ix2 n d :=
    ⟨y 0, y 1, by funext k; match k with | ⟨0, _⟩ => rfl | ⟨1, _⟩ => rfl⟩
  have he : ((cfg0.win 11).blk t).view.emb (ix2 n d) = ix2 (brow t n) d := by
    unfold brow
    blk_ext [idx11 t]
  refine Eq.trans ?_ (congrArg (arr2 (gckv (m ((c : Thread nD τ).loc main_arg0)) (m ((c : Thread nD τ).loc main_arg1)) (m ((c : Thread nD τ).loc main_arg2)) (m ((c : Thread nD τ).loc main_arg5)))) he.symm)
  refine (out11_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d).trans ?_
  simp only [blk5]
  have e : (fun k : Fin 128 => k0_pay1 (iblk m c 0 t) (iblk m c 1 t) (iblk m c 2 t) (ix2 n ⟨256 + k.val, by omega⟩)) = fun k : Fin 128 => proj (m ((c : Thread nD τ).loc main_arg0)) (m ((c : Thread nD τ).loc main_arg1)) (m ((c : Thread nD τ).loc main_arg2)) (brow t n) ⟨256 + k.val, by omega⟩ :=
    funext fun k => P_at m c t n _ _ fun s => V20_ckv m c s k
  rw [e]
  rfl

theorem final12 : (dats m 0 c).arrAt 12 cfg0.N = arr2 (gkr (m ((c : Thread nD τ).loc main_arg0)) (m ((c : Thread nD τ).loc main_arg1)) (m ((c : Thread nD τ).loc main_arg2))) := by
  refine (dats m 0 c).arrAt_eq_of_covers 12 _ (by decide +kernel) fun t hf y => ?_
  blk_simp
  rw [after0_12, out12_eq]
  obtain ⟨n, d, rfl⟩ : ∃ (n : Fin 512) (d : Fin 32), y = ix2 n d :=
    ⟨y 0, y 1, by funext k; match k with | ⟨0, _⟩ => rfl | ⟨1, _⟩ => rfl⟩
  have he : ((cfg0.win 12).blk t).view.emb (ix2 n d) = ix2 (brow t n) d := by
    unfold brow
    blk_ext [idx12 t]
  refine Eq.trans ?_ (congrArg (arr2 (gkr (m ((c : Thread nD τ).loc main_arg0)) (m ((c : Thread nD τ).loc main_arg1)) (m ((c : Thread nD τ).loc main_arg2)))) he.symm)
  refine (out12_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d (ang 0x41800000#32 (pos (brow t n))) (fun d => blk9 m c t n d) (fun d => blk10 m c t n d)).trans ?_
  show _ = gkr (m ((c : Thread nD τ).loc main_arg0)) (m ((c : Thread nD τ).loc main_arg1)) (m ((c : Thread nD τ).loc main_arg2)) (brow t n) d
  unfold gkr
  exact congrArg (fun x => rot16 x (ang 0x41800000#32 (pos (brow t n))) d) (funext fun j => P_at m c t n _ _ fun s => V20_kr m c s j)

theorem final13 : (dats m 0 c).arrAt 13 cfg0.N = arr2 (gkv (m ((c : Thread nD τ).loc main_arg0)) (m ((c : Thread nD τ).loc main_arg1)) (m ((c : Thread nD τ).loc main_arg2))) := by
  refine (dats m 0 c).arrAt_eq_of_covers 13 _ (by decide +kernel) fun t hf y => ?_
  blk_simp
  rw [after0_13, out13_eq]
  obtain ⟨n, d, rfl⟩ : ∃ (n : Fin 512) (d : Fin 256), y = ix2 n d :=
    ⟨y 0, y 1, by funext k; match k with | ⟨0, _⟩ => rfl | ⟨1, _⟩ => rfl⟩
  have he : ((cfg0.win 13).blk t).view.emb (ix2 n d) = ix2 (brow t n) d := by
    unfold brow
    blk_ext [idx13 t]
  refine Eq.trans ?_ (congrArg (arr2 (gkv (m ((c : Thread nD τ).loc main_arg0)) (m ((c : Thread nD τ).loc main_arg1)) (m ((c : Thread nD τ).loc main_arg2)))) he.symm)
  refine (out13_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d (ang 0x42000000#32 (pos (brow t n))) (fun d => blk7 m c t n d) (fun d => blk8 m c t n d)).trans ?_
  show _ = gkv (m ((c : Thread nD τ).loc main_arg0)) (m ((c : Thread nD τ).loc main_arg1)) (m ((c : Thread nD τ).loc main_arg2)) (brow t n) d
  unfold gkv
  by_cases h : d.val / 128 < 1
  · rw [if_pos h, if_pos h]
    exact congrArg (fun x => rot32 x (ang 0x42000000#32 (pos (brow t n))) ⟨d.val % 64, by omega⟩)
      (funext fun j => P_at m c t n _ _ fun s => V20_dk m c s ⟨d.val / 64 % 2 * 64 + j.val, by omega⟩)
  · rw [if_neg h, if_neg h]
    exact P_at m c t n _ _ fun s => V20_dv m c s ⟨d.val / 64 % 2 * 64 + d.val % 64, by omega⟩

theorem final14 : (dats m 0 c).arrAt 14 cfg0.N = arr2 (gik (m ((c : Thread nD τ).loc main_arg0)) (m ((c : Thread nD τ).loc main_arg1)) (m ((c : Thread nD τ).loc main_arg2))) := by
  refine (dats m 0 c).arrAt_eq_of_covers 14 _ (by decide +kernel) fun t hf y => ?_
  blk_simp
  rw [after0_14, out14_eq]
  obtain ⟨n, d, rfl⟩ : ∃ (n : Fin 512) (d : Fin 64), y = ix2 n d :=
    ⟨y 0, y 1, by funext k; match k with | ⟨0, _⟩ => rfl | ⟨1, _⟩ => rfl⟩
  have he : ((cfg0.win 14).blk t).view.emb (ix2 n d) = ix2 (brow t n) d := by
    unfold brow
    blk_ext [idx14 t]
  refine Eq.trans ?_ (congrArg (arr2 (gik (m ((c : Thread nD τ).loc main_arg0)) (m ((c : Thread nD τ).loc main_arg1)) (m ((c : Thread nD τ).loc main_arg2)))) he.symm)
  refine (out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d (ang 0x42000000#32 (pos (brow t n))) (fun d => blk7 m c t n d) (fun d => blk8 m c t n d)).trans ?_
  show _ = gik (m ((c : Thread nD τ).loc main_arg0)) (m ((c : Thread nD τ).loc main_arg1)) (m ((c : Thread nD τ).loc main_arg2)) (brow t n) d
  unfold gik
  exact congrArg (fun x => rot32 x (ang 0x42000000#32 (pos (brow t n))) d) (funext fun j => P_at m c t n _ _ fun s => V20_ik m c s j)

theorem final16 : (dats m 0 c).arrAt 16 cfg0.N = arr2 (gqr (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 16 _ (by decide +kernel) fun t hf y => ?_
  blk_simp
  rw [after0_16, out16_eq]
  obtain ⟨n, d, rfl⟩ : ∃ (n : Fin 512) (d : Fin 256), y = ix2 n d :=
    ⟨y 0, y 1, by funext k; match k with | ⟨0, _⟩ => rfl | ⟨1, _⟩ => rfl⟩
  have he : ((cfg0.win 16).blk t).view.emb (ix2 n d) = ix2 (brow t n) d := by
    unfold brow
    blk_ext [idx16 t]
  refine Eq.trans ?_ (congrArg (arr2 (gqr (m ((c : Thread nD τ).loc main_arg0)) (m ((c : Thread nD τ).loc main_arg1)) (m ((c : Thread nD τ).loc main_arg2)) (m ((c : Thread nD τ).loc main_arg3)) (m ((c : Thread nD τ).loc main_arg4)))) he.symm)
  refine (out16_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d (ang 0x41800000#32 (pos (brow t n))) (fun d => blk9 m c t n d) (fun d => blk10 m c t n d)).trans ?_
  show _ = gqr (m ((c : Thread nD τ).loc main_arg0)) (m ((c : Thread nD τ).loc main_arg1)) (m ((c : Thread nD τ).loc main_arg2)) (m ((c : Thread nD τ).loc main_arg3)) (m ((c : Thread nD τ).loc main_arg4)) (brow t n) d
  unfold gqr
  refine congrArg (fun x => rot16 x (ang 0x41800000#32 (pos (brow t n))) ⟨d.val % 32, by omega⟩) (funext fun j => Q_at m c t n _ _ fun s => ?_)
  refine (V22_rope m c s ⟨d.val / 32 * 32 + j.val, by omega⟩).trans (congrArg (fun k => m ((c : Thread nD τ).loc main_arg4) (ix2 s k)) (Fin.ext ?_))
  show (d.val / 32 * 32 + j.val) / 32 * 96 + (64 + (d.val / 32 * 32 + j.val) % 32) = d.val / 32 * 96 + (64 + j.val)
  omega

theorem final17 : (dats m 0 c).arrAt 17 cfg0.N = arr2 (gdq (m ((c : Thread nD τ).loc main_arg0)) (m ((c : Thread nD τ).loc main_arg1)) (m ((c : Thread nD τ).loc main_arg2))) := by
  refine (dats m 0 c).arrAt_eq_of_covers 17 _ (by decide +kernel) fun t hf y => ?_
  blk_simp
  rw [after0_17, out17_eq]
  obtain ⟨n, d, rfl⟩ : ∃ (n : Fin 512) (d : Fin 512), y = ix2 n d :=
    ⟨y 0, y 1, by funext k; match k with | ⟨0, _⟩ => rfl | ⟨1, _⟩ => rfl⟩
  have he : ((cfg0.win 17).blk t).view.emb (ix2 n d) = ix2 (brow t n) d := by
    unfold brow
    blk_ext [idx17 t]
  refine Eq.trans ?_ (congrArg (arr2 (gdq (m ((c : Thread nD τ).loc main_arg0)) (m ((c : Thread nD τ).loc main_arg1)) (m ((c : Thread nD τ).loc main_arg2)))) he.symm)
  refine (out17_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d (ang 0x42000000#32 (pos (brow t n))) (fun d => blk7 m c t n d) (fun d => blk8 m c t n d)).trans ?_
  show _ = gdq (m ((c : Thread nD τ).loc main_arg0)) (m ((c : Thread nD τ).loc main_arg1)) (m ((c : Thread nD τ).loc main_arg2)) (brow t n) d
  unfold gdq
  exact congrArg (fun x => rot32 x (ang 0x42000000#32 (pos (brow t n))) ⟨d.val % 64, by omega⟩) (funext fun j => P_at m c t n _ _ fun s => V20_dq m c s ⟨d.val / 64 * 64 + j.val, by omega⟩)

theorem final18 : (dats m 0 c).arrAt 18 cfg0.N = arr2 (giq (m ((c : Thread nD τ).loc main_arg0)) (m ((c : Thread nD τ).loc main_arg1)) (m ((c : Thread nD τ).loc main_arg2))) := by
  refine (dats m 0 c).arrAt_eq_of_covers 18 _ (by decide +kernel) fun t hf y => ?_
  blk_simp
  rw [after0_18, out18_eq]
  obtain ⟨n, d, rfl⟩ : ∃ (n : Fin 512) (d : Fin 512), y = ix2 n d :=
    ⟨y 0, y 1, by funext k; match k with | ⟨0, _⟩ => rfl | ⟨1, _⟩ => rfl⟩
  have he : ((cfg0.win 18).blk t).view.emb (ix2 n d) = ix2 (brow t n) d := by
    unfold brow
    blk_ext [idx18 t]
  refine Eq.trans ?_ (congrArg (arr2 (giq (m ((c : Thread nD τ).loc main_arg0)) (m ((c : Thread nD τ).loc main_arg1)) (m ((c : Thread nD τ).loc main_arg2)))) he.symm)
  refine (out18_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d (ang 0x42000000#32 (pos (brow t n))) (fun d => blk7 m c t n d) (fun d => blk8 m c t n d)).trans ?_
  show _ = giq (m ((c : Thread nD τ).loc main_arg0)) (m ((c : Thread nD τ).loc main_arg1)) (m ((c : Thread nD τ).loc main_arg2)) (brow t n) d
  unfold giq
  exact congrArg (fun x => rot32 x (ang 0x42000000#32 (pos (brow t n))) ⟨d.val % 64, by omega⟩) (funext fun j => P_at m c t n _ _ fun s => V20_iq m c s ⟨d.val / 64 * 64 + j.val, by omega⟩)

theorem final19 : (dats m 0 c).arrAt 19 cfg0.N = arr2 (giw (m ((c : Thread nD τ).loc main_arg0)) (m ((c : Thread nD τ).loc main_arg1)) (m ((c : Thread nD τ).loc main_arg2))) := by
  refine (dats m 0 c).arrAt_eq_of_covers 19 _ (by decide +kernel) fun t hf y => ?_
  blk_simp
  rw [after0_19, out19_eq]
  obtain ⟨n, d, rfl⟩ : ∃ (n : Fin 512) (d : Fin 8), y = ix2 n d :=
    ⟨y 0, y 1, by funext k; match k with | ⟨0, _⟩ => rfl | ⟨1, _⟩ => rfl⟩
  have he : ((cfg0.win 19).blk t).view.emb (ix2 n d) = ix2 (brow t n) d := by
    unfold brow
    blk_ext [idx19 t]
  refine Eq.trans ?_ (congrArg (arr2 (giw (m ((c : Thread nD τ).loc main_arg0)) (m ((c : Thread nD τ).loc main_arg1)) (m ((c : Thread nD τ).loc main_arg2)))) he.symm)
  refine (out19_at (iblk m c 0 t) (iblk m c 1 t) (iblk m c 2 t) (iblk m c 3 t) (iblk m c 4 t) (iblk m c 5 t) (iblk m c 6 t) (iblk m c 7 t) (iblk m c 8 t) (iblk m c 9 t) (iblk m c 10 t) n d).trans ?_
  exact P_at m c t n _ _ fun s => V20_iw m c s d

theorem final15 : (dats m 0 c).arrAt 15 cfg0.N = arr3 (gql (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) := by
  refine (dats m 0 c).arrAt_eq_of_covers 15 _ (by decide +kernel) fun t hf y => ?_
  blk_simp
  rw [after0_15, out15_eq]
  obtain ⟨h, n, d, rfl⟩ : ∃ (h : Fin 8) (n : Fin 512) (d : Fin 128), y = ix3 h n d :=
    ⟨y 0, y 1, y 2, by funext k; match k with | ⟨0, _⟩ => rfl | ⟨1, _⟩ => rfl | ⟨2, _⟩ => rfl⟩
  have he : ((cfg0.win 15).blk t).view.emb (ix3 h n d) = ix3 h (brow t n) d := by
    unfold brow
    blk_ext [idx15 t]
  refine Eq.trans ?_ (congrArg (arr3 (gql (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)))) he.symm)
  refine (out15_at (iblk m c 0 t) (iblk m c 1 t) (iblk m c 2 t) (iblk m c 3 t) (iblk m c 4 t) (iblk m c 5 t) (iblk m c 6 t) (iblk m c 7 t) (iblk m c 8 t) (iblk m c 9 t) (iblk m c 10 t) h n d).trans ?_
  show _ = gql (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) h (brow t n) d
  unfold gql
  refine Finset.sum_congr rfl fun v _ => congrArg₂ (· * ·) (Q_at m c t n _ _ fun s => ?_) (blk6 m c t h v d)
  refine (V22_nope m c s ⟨64 * h.val + v.val, by omega⟩).trans (congrArg (fun k => m ((c : Thread nD τ).loc main_arg4) (ix2 s k)) (Fin.ext ?_))
  show (64 * h.val + v.val) / 64 * 96 + (64 * h.val + v.val) % 64 = h.val * 96 + v.val
  omega

end Cert.Sample

end
-- ==== Proof.OutSample.lean ====
/- The mixer's output projection of the samples, added to the stream. -/
module

public import proofs.«01_k».proof.Proof.Out
public import proofs.«01_k».proof.Proof.Gen.OutSampleIdeal.Value
public import proofs.«01_k».proof.Proof.Gen.OutSampleRefIdeal.Run
public import Idealize.ShloMosaic.Lib.Pipeline.ValueKit
public import Idealize.ShloMosaic.Lib.WordCmp

@[expose] public section

set_option maxRecDepth 16384

noncomputable section

namespace Cert.OutSampleRefIdeal.Value

open Cert.OutSampleRefIdeal Cert.OutSampleRefIdeal.Gen Idealize.ShloMosaic Idealize.ShloMosaic.TcCoe Idealize.SL.Sem
open Cert.OutRefIdeal.Value (headv headv_of)

/-- The stream plus the two mixtures times the output matrix. -/
def G (o : FVec Ideal S8x1024x128 .f32) (s : FVec Ideal S1024x512 .f32) (h : FVec Ideal S1024x1024 .f32) (u : FVec Ideal S128x8x64 .f32) (w : FVec Ideal S1024x1024 .f32) :
    FVec Ideal S1024x1024 .f32 := fun i =>
  h (ix2 (i 0) (i 1)) + (∑ j : Fin 512, headv (fun a k => o (ix3 a (i 0) k)) (fun k a v => u (ix3 k a v)) j * w (ix2 ⟨j.val, by omega⟩ (i 1))
    + ∑ j : Fin 512, s (ix2 (i 0) j) * w (ix2 ⟨512 + j.val, by omega⟩ (i 1)))

theorem ref_at (o : FVec Ideal S8x1024x128 .f32) (s : FVec Ideal S1024x512 .f32) (h : FVec Ideal S1024x1024 .f32) (u : FVec Ideal S128x8x64 .f32) (w : FVec Ideal S1024x1024 .f32) :
    addf h (Host.dotGeneral dot_S1024x1024_S1024x1024_S1024x1024_1_0_0_1_n_n none (concatenate S1024x1024 1 [⟨S1024x512, (shapeCast _ (transpose S1024x8x64 [2, 0, 1] (Host.dotGeneral dot_S128x8x64_S8x1024x128_S8x64x1024_0_2_2_1_1_0 none u o) transposes_S8x64x1024_S1024x8x64_2_0_1) shapeCasts_S1024x8x64_S1024x512)⟩, ⟨S1024x512, s⟩] concatenates_S1024x512_S1024x512_S1024x1024_d1) w) = G o s h u w := by
  funext i
  obtain ⟨n, d, rfl⟩ : ∃ (n : Fin 1024) (d : Fin 1024), i = ix2 n d :=
    ⟨i 0, i 1, by funext k; match k with | ⟨0, _⟩ => rfl | ⟨1, _⟩ => rfl⟩
  unfold G headv
  pointwise
  simp only [mul_comm (u _)]

end Cert.OutSampleRefIdeal.Value

namespace Cert.OutSample

open Cert.OutSampleIdeal Cert.OutSampleIdeal.Gen Idealize.ShloMosaic Idealize.ShloMosaic.TcCoe Idealize.SL.Sem
open Cert.OutSampleRefIdeal.Value (G ref_at)
open Cert.OutRefIdeal.Value (headv)
open Cert.Out (pay1_at)

/-- What a point of the grid stores is the same function of its blocks as for the prompt. -/
theorem out5_eq : @Cert.OutSampleIdeal.Gen.out0_5 Ideal _ = @Cert.OutIdeal.Gen.out0_5 Ideal _ := rfl

/-- Row `y` of point `t`'s block of 512 rows. -/
def brow (t : Fin cfg0.N) (y : Fin 512) : Fin 1024 := ⟨512 * t.val + y.val, by have : t.val < 2 := t.isLt; omega⟩

theorem idx0 : ∀ t : Fin cfg0.N, win0_0.index t = ![0, t.val, 0] := (by decide +kernel : ∀ t : Fin grid0.N, win0_0.index t = ![0, t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])

variable (m : (ℓ : Loc nD τ sig) → Buf (Elt Ideal) ℓ) (c : Dev nD)

theorem V1 : V m c main_v1 = truncf (F := Ideal) .bf16 (transpose S8x128x64 [1, 0, 2] (m ((c : Thread nD τ).loc main_arg3)) transposes_S128x8x64_S8x128x64_1_0_2) bitsLt_bf16_f32 := by
  unfold_abbrev_sides
  after_results

theorem V2 : V m c main_v2 = truncf (F := Ideal) .bf16 (m ((c : Thread nD τ).loc main_arg4)) bitsLt_bf16_f32 := by
  unfold_abbrev_sides
  after_results

theorem blk0 (t : Fin cfg0.N) (a : Fin 8) (y : Fin 512) (k : Fin 128) :
    iblk m c 0 t (ix3 a y k) = m ((c : Thread nD τ).loc main_arg0) (ix3 a (brow t y) k) := by
  unfold brow
  rw [← V_main_arg0 m c]
  blk_ext [iblk, idx0 t]

theorem blk1 (t : Fin cfg0.N) (y : Fin 512) (k : Fin 512) :
    iblk m c 1 t (ix2 y k) = m ((c : Thread nD τ).loc main_arg1) (ix2 (brow t y) k) := by
  unfold brow
  rw [← V_main_arg1 m c]
  blk_ext [iblk, idx1 t]

theorem blk2 (t : Fin cfg0.N) (y : Fin 512) (k : Fin 1024) :
    iblk m c 2 t (ix2 y k) = m ((c : Thread nD τ).loc main_arg2) (ix2 (brow t y) k) := by
  unfold brow
  rw [← V_main_arg2 m c]
  blk_ext [iblk, idx2 t]

theorem blk3 (t : Fin cfg0.N) (a : Fin 8) (k : Fin 128) (v : Fin 64) :
    iblk m c 3 t (ix3 a k v) = m ((c : Thread nD τ).loc main_arg3) (ix3 k a v) := by
  have e : iblk m c 3 t (ix3 a k v) = V m c main_v1 (ix3 a k v) := by blk_ext [iblk, idx3 t]
  rw [e, V1]
  pointwise

theorem blk4 (t : Fin cfg0.N) (j d : Fin 1024) :
    iblk m c 4 t (ix2 j d) = m ((c : Thread nD τ).loc main_arg4) (ix2 j d) := by
  have e : iblk m c 4 t (ix2 j d) = V m c main_v2 (ix2 j d) := by blk_ext [iblk, idx4 t]
  rw [e, V2]
  rfl

/-- The kernel's array. -/
theorem final5 : (dats m 0 c).arrAt 5 cfg0.N
      = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, out5_eq]
  obtain ⟨n, d, rfl⟩ : ∃ (n : Fin 512) (d : Fin 1024), y = ix2 n d :=
    ⟨y 0, y 1, by funext k; match k with | ⟨0, _⟩ => rfl | ⟨1, _⟩ => rfl⟩
  have he : ((cfg0.win 5).blk t).view.emb (ix2 n d) = ix2 (brow t n) d := by
    unfold brow
    blk_ext [idx5 t]
  refine Eq.trans ?_ (congrArg (G _ _ _ _ _) he.symm)
  unfold Cert.OutIdeal.Gen.out0_5
  refine (congrFun (View.canon_cons_unit_lit _ _ [] (by decide)) _).trans ?_
  refine (pay1_at _ _ _ _ _ n d).trans ?_
  simp only [blk0, blk1, blk2, blk3, blk4]
  rfl

end Cert.OutSample

end
-- ==== Proof.CrossSample.lean ====
/- Attention of the samples to the memory: the kernel's array is the reference's. -/
module

public import proofs.«01_k».proof.Proof.Cross
public import proofs.«01_k».proof.Proof.Gen.CrossSampleIdeal.Value
public import proofs.«01_k».proof.Proof.Gen.CrossSampleRefIdeal.Run
public import Idealize.ShloMosaic.Lib.Pipeline.ValueKit
public import Idealize.ShloMosaic.Lib.WordCmp

@[expose] public section

set_option maxRecDepth 16384

noncomputable section

namespace Cert.CrossSampleRefIdeal.Value

open Cert.CrossSampleRefIdeal Cert.CrossSampleRefIdeal.Gen Idealize.ShloMosaic Idealize.ShloMosaic.TcCoe Idealize.SL.Sem
open Cert.Norm
open Cert.CrossRefIdeal.Value (neg_inf soft score att heads heads_of qrow max_at reduceMax_at)

/-- The batch of a row of the stream. -/
def bt (n : Fin 1024) : Fin 128 := ⟨n.val / 8, by omega⟩

/-- The stream plus the heads times the output matrix. -/
def G (h : FVec Ideal S1024x1024 .f32) (mk mv : FVec Ideal S128x256x256 .f32) (g : FVec Ideal S1024 .f32) (wq : FVec Ideal S1024x256 .f32) (wo : FVec Ideal S256x1024 .f32) :
    FVec Ideal S1024x1024 .f32 := fun i =>
  h (ix2 (i 0) (i 1)) + ∑ j : Fin 256, heads (qrow (fun k => h (ix2 (i 0) k)) (fun k => g (ix1 k)) fun k j => wq (ix2 k j))
    (fun k j => mk (ix3 (bt (i 0)) k j)) (fun k j => mv (ix3 (bt (i 0)) k j)) j * wo (ix2 j (i 1))

/-- Row `s` of batch `b`. -/
def row (b : Fin 128) (s : Fin 8) : Fin 1024 := ⟨8 * b.val + s.val, by omega⟩

/-- The reference's queries. -/
def queries (h : FVec Ideal S1024x1024 .f32) (g : FVec Ideal S1024 .f32) (wq : FVec Ideal S1024x256 .f32) : FVec Ideal S128x8x256 .f32 :=
  Host.dotGeneral dot_S128x8x1024_S1024x256_S128x8x256_2_0_01_1_n_n none (mulf (mulf (shapeCast _ h shapeCasts_S1024x1024_S128x8x1024) (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf (shapeCast _ h shapeCasts_S1024x1024_S128x8x1024) (shapeCast _ h shapeCasts_S1024x1024_S128x8x1024)) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 g))) wq

/-- The reference's scores. -/
def scores (Q : FVec Ideal S128x8x256 .f32) (mk : FVec Ideal S128x256x256 .f32) : FVec Ideal S128x4x8x256 .f32 :=
  mulf (Host.dotGeneral dot_S128x8x4x64_S128x256x4x64_S128x4x8x256_3_3_1_1_02_02 none (shapeCast _ Q shapeCasts_S128x8x256_S128x8x4x64) (shapeCast _ mk shapeCasts_S128x256x256_S128x256x4x64)) (broadcastInDim S128x4x8x256 ![] bcast_S_S128x4x8x256 (constant S_ .f32 0x3E000000#32))

/-- The largest score of each row. -/
def rowMax (X : FVec Ideal S128x4x8x256 .f32) : FVec Ideal S128x4x8 .f32 :=
  maximumf (broadcastInDim S128x4x8 ![] bcast_S_S128x4x8 (constant S_ .f32 0xFF800000#32)) (Host.reduce FloatOps.maximumf X (constant S_ .f32 0xFF800000#32) reducesTo_S128x4x8x256_S128x4x8_d3 h_S_)

/-- The exponentials of the scores less the row's largest. -/
def expo (X : FVec Ideal S128x4x8x256 .f32) : FVec Ideal S128x4x8x256 .f32 :=
  Host.exp (subf X (broadcastInDim S128x4x8x256 ![0, 1, 2, 3] bcast_S128x4x8x1_S128x4x8x256_0_1_2_3 (broadcastInDim S128x4x8x1 ![0, 1, 2] bcast_S128x4x8_S128x4x8x1_0_1_2 (rowMax X))))

/-- The exponentials over their row's sum. -/
def prob (E : FVec Ideal S128x4x8x256 .f32) : FVec Ideal S128x4x8x256 .f32 :=
  Host.divf E (broadcastInDim S128x4x8x256 ![0, 1, 2, 3] bcast_S128x4x8x1_S128x4x8x256_0_1_2_3 (broadcastInDim S128x4x8x1 ![0, 1, 2] bcast_S128x4x8_S128x4x8x1_0_1_2 (Host.reduceAdd E (constant S_ .f32 0x00000000#32) reducesTo_S128x4x8x256_S128x4x8_d3 h_S_)))

/-- The weighted sums of the values. -/
def mixed (mv : FVec Ideal S128x256x256 .f32) (P : FVec Ideal S128x4x8x256 .f32) : FVec Ideal S128x8x256 .f32 :=
  shapeCast _ (transpose S128x8x4x64 [0, 3, 1, 2] (Host.dotGeneral dot_S128x256x4x64_S128x4x8x256_S128x4x64x8_1_3_3_2_02_01 none (shapeCast _ mv shapeCasts_S128x256x256_S128x256x4x64) P) transposes_S128x4x64x8_S128x8x4x64_0_3_1_2) shapeCasts_S128x8x4x64_S128x8x256

/-- The reference's last product and sum. -/
def outOf (h : FVec Ideal S1024x1024 .f32) (A : FVec Ideal S128x8x256 .f32) (wo : FVec Ideal S256x1024 .f32) : FVec Ideal S1024x1024 .f32 :=
  addf h (shapeCast _ (Host.dotGeneral dot_S128x8x256_S256x1024_S128x8x1024_2_0_01_1_n_n none A wo) shapeCasts_S128x8x1024_S1024x1024)

theorem out_eq (m : (ℓ : Loc nD τ sig) → Buf (Elt Ideal) ℓ) (c : Dev nD) :
    res_main_v37 m c = outOf (m ((c.tc : Thread nD τ).loc main_arg0)) (mixed (m ((c.tc : Thread nD τ).loc main_arg2)) (prob (expo (scores (queries (m ((c.tc : Thread nD τ).loc main_arg0)) (m ((c.tc : Thread nD τ).loc main_arg3)) (m ((c.tc : Thread nD τ).loc main_arg4))) (m ((c.tc : Thread nD τ).loc main_arg1))))))
      (m ((c.tc : Thread nD τ).loc main_arg5)) := rfl

theorem queries_at (h : FVec Ideal S1024x1024 .f32) (g : FVec Ideal S1024 .f32) (wq : FVec Ideal S1024x256 .f32) (b : Fin 128) (s : Fin 8) (j : Fin 256) :
    queries h g wq (ix3 b s j) = qrow (fun k => h (ix2 (row b s) k)) (fun k => g (ix1 k)) (fun k j => wq (ix2 k j)) j := by
  have hr : ∀ p, (⟨b.val * 8 + s.val, p⟩ : Fin 1024) = row b s := fun p => Fin.ext (by show b.val * 8 + s.val = 8 * b.val + s.val; omega)
  unfold qrow nrm
  pointwise [queries]
  simp only [hr]

theorem scores_at (Q : FVec Ideal S128x8x256 .f32) (mk : FVec Ideal S128x256x256 .f32) (b : Fin 128) (a : Fin 4) (s : Fin 8) (k : Fin 256) :
    scores Q mk (ix4 b a s k) = score (fun j => Q (ix3 b s j)) (fun k j => mk (ix3 b k j)) a k := by
  unfold score
  have e : ∀ (v : Fin 64) (p), (⟨a.val * 64 + v.val, p⟩ : Fin 256) = ⟨64 * a.val + v.val, by omega⟩ := fun v p => Fin.ext (by show a.val * 64 + v.val = 64 * a.val + v.val; omega)
  pointwise [scores]
  simp only [e]

theorem splat_at (w : BitVec 32) (j : S128x4x8.Idx) :
    broadcastInDim S128x4x8 ![] bcast_S_S128x4x8 (constant (F := Ideal) S_ .f32 w) j = Ideal.ofBits .f32 w := rfl

theorem const_at (w : BitVec 32) (j : S_.Idx) : constant (F := Ideal) S_ .f32 w j = Ideal.ofBits .f32 w := rfl

theorem rowMax_at (X : FVec Ideal S128x4x8x256 .f32) (b : Fin 128) (a : Fin 4) (s : Fin 8) :
    rowMax X (ix3 b a s) = Finset.univ.fold max ⊥ fun k : Fin 256 => X (ix4 b a s k) := by
  unfold rowMax
  rw [max_at, splat_at, reduceMax_at, const_at, neg_inf]
  exact max_eq_right bot_le

theorem expo_at (X : FVec Ideal S128x4x8x256 .f32) (b : Fin 128) (a : Fin 4) (s : Fin 8) (k : Fin 256) :
    expo X (ix4 b a s k) = Ideal.exp (X (ix4 b a s k) - rowMax X (ix3 b a s)) := by
  pointwise [expo]

theorem prob_at (E : FVec Ideal S128x4x8x256 .f32) (b : Fin 128) (a : Fin 4) (s : Fin 8) (k : Fin 256) :
    prob E (ix4 b a s k) = Ideal.div (E (ix4 b a s k)) (∑ j : Fin 256, E (ix4 b a s j)) := by
  pointwise [prob]

/-- The weights are the softmax of the scores. -/
theorem weight_at (X : FVec Ideal S128x4x8x256 .f32) (b : Fin 128) (a : Fin 4) (s : Fin 8) (k : Fin 256) :
    prob (expo X) (ix4 b a s k) = soft (fun k => X (ix4 b a s k)) k := by
  rw [prob_at]
  simp only [expo_at, rowMax_at]
  rfl

theorem mixed_at (mv : FVec Ideal S128x256x256 .f32) (P : FVec Ideal S128x4x8x256 .f32) (b : Fin 128) (s : Fin 8) (j : Fin 256) :
    mixed mv P (ix3 b s j) = ∑ k : Fin 256, P (ix4 b ⟨j.val / 64, by omega⟩ s k) * mv (ix3 b k ⟨64 * (j.val / 64) + j.val % 64, by omega⟩) := by
  pointwise [mixed]
  refine Finset.sum_congr rfl fun k _ => ?_
  rw [mul_comm, show (⟨64 * (j.val / 64) + j.val % 64, by omega⟩ : Fin 256) = j from Fin.ext (by show 64 * (j.val / 64) + j.val % 64 = j.val; omega)]

theorem outOf_at (h : FVec Ideal S1024x1024 .f32) (A : FVec Ideal S128x8x256 .f32) (wo : FVec Ideal S256x1024 .f32) (n : Fin 1024) (d : Fin 1024) :
    outOf h A wo (ix2 n d) = h (ix2 n d) + ∑ j : Fin 256, A (ix3 (bt n) ⟨n.val % 8, by omega⟩ j) * wo (ix2 j d) := by
  unfold bt
  pointwise [outOf]

theorem ref_at (h : FVec Ideal S1024x1024 .f32) (mk mv : FVec Ideal S128x256x256 .f32) (g : FVec Ideal S1024 .f32) (wq : FVec Ideal S1024x256 .f32) (wo : FVec Ideal S256x1024 .f32) :
    outOf h (mixed mv (prob (expo (scores (queries h g wq) mk)))) wo = G h mk mv g wq wo := by
  funext i
  obtain ⟨n, d, rfl⟩ : ∃ (n : Fin 1024) (d : Fin 1024), i = ix2 n d :=
    ⟨i 0, i 1, by funext k; match k with | ⟨0, _⟩ => rfl | ⟨1, _⟩ => rfl⟩
  have hr : row (bt n) ⟨n.val % 8, by omega⟩ = n := Fin.ext (by show 8 * (n.val / 8) + n.val % 8 = n.val; omega)
  rw [outOf_at]
  simp only [mixed_at, weight_at, scores_at, queries_at, hr]
  rfl

end Cert.CrossSampleRefIdeal.Value

namespace Cert.CrossSample

open Cert.CrossSampleIdeal Cert.CrossSampleIdeal.Gen Idealize.ShloMosaic Idealize.ShloMosaic.TcCoe Idealize.SL.Sem
open Cert.Norm
open Cert.CrossRefIdeal.Value (neg_inf soft score att heads heads_of qrow max_at reduceMax_at)
open Cert.CrossSampleRefIdeal.Value (bt G ref_at)

/-- The query row. -/
theorem pay2_at (x : Vec Ideal S8x1024 .f32) (g : Vec Ideal S1x1024 .f32) (w : Vec Ideal S1024x256 .bf16) (r : Fin 8) (c : Fin 256) :
    k0_pay2 x g w (ix2 r c) = qrow (fun k => x (ix2 r k)) (fun k => g (ix2 0 k)) (fun k j => w (ix2 k j)) c := by
  unfold qrow nrm
  pointwise [k0_pay2]

theorem pay3_at (x : Vec Ideal S1x256x256 .f32) (k j : Fin 256) : k0_pay3 x (ix2 k j) = x (ix3 0 k j) := by
  pointwise [k0_pay3]

theorem pay4_at (x : Vec Ideal S1x256x256 .f32) (k j : Fin 256) : k0_pay4 x (ix2 k j) = x (ix3 0 k j) := by
  pointwise [k0_pay4]

/-- The first head. -/
theorem pay7_at (x : Vec Ideal S8x1024 .f32) (g : Vec Ideal S1x1024 .f32) (w : Vec Ideal S1024x256 .bf16) (y : Vec Ideal S1x256x256 .f32) (mv : FVec Ideal S256x256 .bf16) (r : Fin 8) (v : Fin 64) :
    k0_pay7 mv (k0_pay5 x g w y) (k0_pay6 x g w y) (ix2 r v)
      = att (fun j => k0_pay2 x g w (ix2 r j)) (fun k j => k0_pay3 y (ix2 k j)) (fun k j => mv (ix2 k j)) 0 v := by
  unfold att soft score k0_pay6 k0_pay5
  generalize k0_pay2 x g w = q
  generalize k0_pay3 y = mk
  pointwise [k0_pay7]
  rfl

theorem pay8_at (q : FVec Ideal S8x256 .f32) (mk mv : FVec Ideal S256x256 .bf16) (r : Fin 8) (v : Fin 64) :
    k0_pay8 q mk mv (ix2 r v) = att (fun j => q (ix2 r j)) (fun k j => mk (ix2 k j)) (fun k j => mv (ix2 k j)) 1 v := by
  unfold att soft score
  pointwise [k0_pay8]
  rfl

theorem pay9_at (q : FVec Ideal S8x256 .f32) (mk mv : FVec Ideal S256x256 .bf16) (r : Fin 8) (v : Fin 64) :
    k0_pay9 q mk mv (ix2 r v) = att (fun j => q (ix2 r j)) (fun k j => mk (ix2 k j)) (fun k j => mv (ix2 k j)) 2 v := by
  unfold att soft score
  pointwise [k0_pay9]
  rfl

theorem pay10_at (q : FVec Ideal S8x256 .f32) (mk : FVec Ideal S256x256 .bf16) (r : Fin 8) (k : Fin 256) :
    k0_pay10 q mk (ix2 r k) = score (fun j => q (ix2 r j)) (fun k j => mk (ix2 k j)) 3 k := by
  unfold score
  pointwise [k0_pay10]

/-- The last head, the heads side by side, their product with the output matrix, and the stream added. -/
theorem pay1_at (h : Vec Ideal S8x1024 .f32) (mv : FVec Ideal S256x256 .bf16) (a b c : FVec Ideal S8x64 .f32) (s : FVec Ideal S8x256 .f32) (w : Vec Ideal S256x1024 .bf16)
    (q : Fin 256 → EReal) (mk : Fin 256 → Fin 256 → EReal) (r : Fin 8) (d : Fin 1024)
    (ha : ∀ v, a (ix2 r v) = att q mk (fun k j => mv (ix2 k j)) 0 v) (hb : ∀ v, b (ix2 r v) = att q mk (fun k j => mv (ix2 k j)) 1 v)
    (hc : ∀ v, c (ix2 r v) = att q mk (fun k j => mv (ix2 k j)) 2 v) (hs : ∀ k, s (ix2 r k) = score q mk 3 k) :
    k0_pay1 h mv a b c s w (ix2 r d) = h (ix2 r d) + ∑ j : Fin 256, heads q mk (fun k j => mv (ix2 k j)) j * w (ix2 j d) := by
  pointwise [k0_pay1]
  refine congrArg (h (ix2 r d) + ·) (Finset.sum_congr rfl fun j _ => congrArg (· * w (ix2 j d)) ?_)
  have hj : j.val < 256 := j.isLt
  by_cases h0 : j.val < 64
  · rw [dif_pos h0, ha]
    exact heads_of q mk (fun k j => mv (ix2 k j)) j 0 ⟨j.val, by omega⟩ (by show j.val = 64 * 0 + j.val; omega)
  rw [dif_neg h0]
  by_cases h1 : j.val - 64 < 64
  · rw [dif_pos h1, hb]
    exact heads_of q mk (fun k j => mv (ix2 k j)) j 1 ⟨j.val - 64, by omega⟩ (by show j.val = 64 * 1 + (j.val - 64); omega)
  rw [dif_neg h1]
  by_cases h2 : j.val - 64 - 64 < 64
  · rw [dif_pos h2, hc]
    exact heads_of q mk (fun k j => mv (ix2 k j)) j 2 ⟨j.val - 64 - 64, by omega⟩ (by show j.val = 64 * 2 + (j.val - 64 - 64); omega)
  rw [dif_neg h2, ← heads_of q mk (fun k j => mv (ix2 k j)) j 3 ⟨j.val - 64 - 64 - 64, by omega⟩ (by show j.val = 64 * 3 + (j.val - 64 - 64 - 64); omega)]
  unfold att soft
  rw [← neg_inf, show score q mk 3 = fun k => s (ix2 r k) from funext fun k => (hs k).symm]
  rfl

/-- Row `y` of point `t`'s block of 8 rows. -/
def brow (t : Fin cfg0.N) (y : Fin 8) : Fin 1024 := ⟨8 * t.val + y.val, by have : t.val < 128 := t.isLt; omega⟩

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0, 0] := (by decide +kernel : ∀ t : Fin grid0.N, win0_3.index t = ![t.val, 0, 0])
theorem idx4 : ∀ t : Fin cfg0.N, win0_4.index t = ![t.val, 0, 0] := (by decide +kernel : ∀ t : Fin grid0.N, win0_4.index t = ![t.val, 0, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])

variable (m : (ℓ : Loc nD τ sig) → Buf (Elt Ideal) ℓ) (c : Dev nD)

theorem V0 : V m c main_v0 = shapeCast S1x1024 (m ((c : Thread nD τ).loc main_arg3)) shapeCasts_S1024_S1x1024 := by
  unfold_abbrev_sides
  after_results
  rfl

theorem V1 : V m c main_v1 = truncf (F := Ideal) .bf16 (m ((c : Thread nD τ).loc main_arg4)) bitsLt_bf16_f32 := by
  unfold_abbrev_sides
  after_results

theorem V2 : V m c main_v2 = truncf (F := Ideal) .bf16 (m ((c : Thread nD τ).loc main_arg5)) bitsLt_bf16_f32 := by
  unfold_abbrev_sides
  after_results

theorem blk0 (t : Fin cfg0.N) (y : Fin 8) (k : Fin 1024) :
    iblk m c 0 t (ix2 y k) = m ((c : Thread nD τ).loc main_arg0) (ix2 (brow t y) k) := by
  unfold brow
  rw [← V_main_arg0 m c]
  blk_ext [iblk, idx0 t]

theorem blk1 (t : Fin cfg0.N) (k : Fin 1024) :
    iblk m c 1 t (ix2 0 k) = m ((c : Thread nD τ).loc main_arg3) (ix1 k) := by
  have e : iblk m c 1 t (ix2 0 k) = V m c main_v0 (ix2 0 k) := by blk_ext [iblk, idx1 t]
  rw [e, V0]
  pointwise

theorem blk2 (t : Fin cfg0.N) (k : Fin 1024) (j : Fin 256) :
    iblk m c 2 t (ix2 k j) = m ((c : Thread nD τ).loc main_arg4) (ix2 k j) := by
  have e : iblk m c 2 t (ix2 k j) = V m c main_v1 (ix2 k j) := by blk_ext [iblk, idx2 t]
  rw [e, V1]
  rfl

/-- The batch of point `t`'s rows. -/
def bbt (t : Fin cfg0.N) : Fin 128 := ⟨t.val, by have : t.val < 128 := t.isLt; omega⟩

theorem bt_brow (t : Fin cfg0.N) (y : Fin 8) : bt (brow t y) = bbt t :=
  Fin.ext (by show (8 * t.val + y.val) / 8 = t.val; omega)

theorem blk3 (t : Fin cfg0.N) (k j : Fin 256) :
    iblk m c 3 t (ix3 0 k j) = m ((c : Thread nD τ).loc main_arg1) (ix3 (bbt t) k j) := by
  unfold bbt
  rw [← V_main_arg1 m c]
  blk_ext [iblk, idx3 t]

theorem blk4 (t : Fin cfg0.N) (k j : Fin 256) :
    iblk m c 4 t (ix3 0 k j) = m ((c : Thread nD τ).loc main_arg2) (ix3 (bbt t) k j) := by
  unfold bbt
  rw [← V_main_arg2 m c]
  blk_ext [iblk, idx4 t]

theorem blk5 (t : Fin cfg0.N) (j : Fin 256) (d : Fin 1024) :
    iblk m c 5 t (ix2 j d) = m ((c : Thread nD τ).loc main_arg5) (ix2 j d) := by
  have e : iblk m c 5 t (ix2 j d) = V m c main_v2 (ix2 j d) := by blk_ext [iblk, idx5 t]
  rw [e, V2]
  rfl

/-- A block of the result, from the blocks the point reads. -/
theorem out_at (x0 : Vec Ideal S8x1024 .f32) (x1 : Vec Ideal S1x1024 .f32) (x2 : Vec Ideal S1024x256 .bf16) (x3 x4 : Vec Ideal S1x256x256 .f32) (x5 : Vec Ideal S256x1024 .bf16) (r : Fin 8) (d : Fin 1024) :
    out0_6 x0 x1 x2 x3 x4 x5 (ix2 r d) = x0 (ix2 r d) + ∑ j : Fin 256, heads (qrow (fun k => x0 (ix2 r k)) (fun k => x1 (ix2 0 k)) fun k j => x2 (ix2 k j))
      (fun k j => x3 (ix3 0 k j)) (fun k j => x4 (ix3 0 k j)) j * x5 (ix2 j d) := by
  unfold_out out0_6
  refine (congrFun (View.canon_cons_unit_lit _ _ [] (by decide)) _).trans ?_
  have l0 : View.ld x0 r0_0 = x0 := View.ld_unit_lit _ _ (by decide)
  have l1 : View.ld x1 r0_1 = x1 := View.ld_unit_lit _ _ (by decide)
  have l2 : View.ld x2 r0_2 = x2 := View.ld_unit_lit _ _ (by decide)
  have l3 : View.ld x3 r0_3 = x3 := View.ld_unit_lit _ _ (by decide)
  have l4 : View.ld x4 r0_3 = x4 := View.ld_unit_lit _ _ (by decide)
  have l5 : View.ld x5 r0_4 = x5 := View.ld_unit_lit _ _ (by decide)
  rw [l0, l1, l2, l3, l4, l5]
  refine (pay1_at _ _ _ _ _ _ _ (fun j => k0_pay2 x0 x1 x2 (ix2 r j)) (fun k j => k0_pay3 x3 (ix2 k j)) r d
    (fun v => pay7_at x0 x1 x2 x3 (k0_pay4 x4) r v) (fun v => pay8_at (k0_pay2 x0 x1 x2) (k0_pay3 x3) (k0_pay4 x4) r v)
    (fun v => pay9_at (k0_pay2 x0 x1 x2) (k0_pay3 x3) (k0_pay4 x4) r v) (fun k => pay10_at (k0_pay2 x0 x1 x2) (k0_pay3 x3) r k)).trans ?_
  simp only [pay2_at, pay3_at]
  refine congrArg (fun u => x0 (ix2 r d) + u) (Finset.sum_congr rfl fun j _ => congrArg (fun u => u * x5 (ix2 j d)) ?_)
  refine congrArg (fun u => heads _ _ u j) (funext fun k => funext fun j => ?_)
  exact pay4_at x4 k j

/-- The kernel's array. -/
theorem final6 : (dats m 0 c).arrAt 6 cfg0.N
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  obtain ⟨n, d, rfl⟩ : ∃ (n : Fin 8) (d : Fin 1024), y = ix2 n d :=
    ⟨y 0, y 1, by funext k; match k with | ⟨0, _⟩ => rfl | ⟨1, _⟩ => rfl⟩
  have he : ((cfg0.win 6).blk t).view.emb (ix2 n d) = ix2 (brow t n) d := by
    unfold brow
    blk_ext [idx6 t]
  refine Eq.trans ?_ (congrArg (G _ _ _ _ _ _) he.symm)
  refine (out_at _ _ _ _ _ _ n d).trans ?_
  simp only [blk0, blk1, blk2, blk3, blk4, blk5]
  rw [← bt_brow t n]
  rfl

end Cert.CrossSample

end
-- ==== Proof.lean ====
/- The claims about the eight calls, put together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Whole
public import proofs.«01_k».proof.Proof.Mixer
public import proofs.«01_k».proof.Proof.Out
public import proofs.«01_k».proof.Proof.Memory
public import proofs.«01_k».proof.Proof.Cross
public import proofs.«01_k».proof.Proof.Sample
public import proofs.«01_k».proof.Proof.OutSample
public import proofs.«01_k».proof.Proof.CrossSample
public import proofs.«01_k».proof.Proof.Gen.Mixer
public import proofs.«01_k».proof.Proof.Gen.Mixer.Frame
public import proofs.«01_k».proof.Proof.Gen.MixerIdeal
public import proofs.«01_k».proof.Proof.Gen.MixerIdeal.Frame
public import proofs.«01_k».proof.Proof.Gen.MixerRefIdeal
public import proofs.«01_k».proof.Proof.Gen.MixerIdeal.Value
public import proofs.«01_k».proof.Proof.Gen.MixerRefIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.OutIdeal.Value
public import proofs.«01_k».proof.Proof.Gen.OutRefIdeal.Run
public import proofs.«01_k».proof.Proof.Gen.Memory
public import proofs.«01_k».proof.Proof.Gen.Memory.Frame
public import proofs.«01_k».proof.Proof.Gen.MemoryIdeal
public import proofs.«01_k».proof.Proof.Gen.MemoryIdeal.Frame
public import proofs.«01_k».proof.Proof.Gen.MemoryRefIdeal
public import proofs.«01_k».proof.Proof.Gen.MemoryIdeal.Value
public import proofs.«01_k».proof.Proof.Gen.MemoryRefIdeal.Run
public import proofs.«01_k».proof.Proof.Gen.Cross
public import proofs.«01_k».proof.Proof.Gen.Cross.Frame
public import proofs.«01_k».proof.Proof.Gen.CrossIdeal
public import proofs.«01_k».proof.Proof.Gen.CrossIdeal.Frame
public import proofs.«01_k».proof.Proof.Gen.CrossRefIdeal
public import proofs.«01_k».proof.Proof.Gen.CrossIdeal.Value
public import proofs.«01_k».proof.Proof.Gen.CrossRefIdeal.Run
public import proofs.«01_k».proof.Proof.Gen.Sample
public import proofs.«01_k».proof.Proof.Gen.Sample.Frame
public import proofs.«01_k».proof.Proof.Gen.SampleIdeal
public import proofs.«01_k».proof.Proof.Gen.SampleIdeal.Frame
public import proofs.«01_k».proof.Proof.Gen.SampleRefIdeal
public import proofs.«01_k».proof.Proof.Gen.SampleIdeal.Value
public import proofs.«01_k».proof.Proof.Gen.SampleRefIdeal.Run
public import proofs.«01_k».proof.Proof.Gen.OutSample
public import proofs.«01_k».proof.Proof.Gen.OutSample.Frame
public import proofs.«01_k».proof.Proof.Gen.OutSampleIdeal
public import proofs.«01_k».proof.Proof.Gen.OutSampleIdeal.Frame
public import proofs.«01_k».proof.Proof.Gen.OutSampleRefIdeal
public import proofs.«01_k».proof.Proof.Gen.OutSampleIdeal.Value
public import proofs.«01_k».proof.Proof.Gen.OutSampleRefIdeal.Run
public import proofs.«01_k».proof.Proof.Gen.CrossSample
public import proofs.«01_k».proof.Proof.Gen.CrossSample.Frame
public import proofs.«01_k».proof.Proof.Gen.CrossSampleIdeal
public import proofs.«01_k».proof.Proof.Gen.CrossSampleIdeal.Frame
public import proofs.«01_k».proof.Proof.Gen.CrossSampleRefIdeal
public import proofs.«01_k».proof.Proof.Gen.CrossSampleIdeal.Value
public import proofs.«01_k».proof.Proof.Gen.CrossSampleRefIdeal.Run
public import Idealize.ShloMosaic.Adequacy
public import Idealize.ShloMosaic.Init

@[expose] public section

noncomputable section

namespace Cert.Proof

open Idealize.ShloMosaic Idealize.SL.Sem Cert.Kernel

/-- The side conditions of the precondition's operations. -/
theorem finite_facts : Cert.Pre_finite.Facts where
  bcast_S_S8x32768x128 := by decide
  bcast_S_S32768x256 := by decide
  bcast_S_S32768x128 := by decide
  bcast_S_S32768x32 := by decide

/-- From finite arguments the kernel and the reference end with the same array, causal attention. -/
theorem value : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre harg
  refine ⟨fun c => Cert.Whole.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    (θ_run _ _ _).mono (fun r h c => ⟨(h c).1.trans ?_, (h c).2⟩) (Cert.KernelIdeal.Value.run_blocks m g),
    (θ_run _ _ _).mono (fun r h c => ⟨(h c).1.trans ?_, (h c).2⟩) (Cert.ReferenceIdeal.Value.run m' g')⟩
  · obtain ⟨p0, p1, p2, p3⟩ := hpre c
    exact Cert.Whole.final m c (Cert.Whole.real_of_fn _ p0) (Cert.Whole.real_of_fn _ p1) (Cert.Whole.real_of_fn _ p2) (Cert.Whole.real_of_fn _ p3)
  · obtain ⟨p0, p1, p2, p3⟩ := hpre c
    obtain ⟨a0, a1, a2, a3⟩ := harg c
    refine (Cert.ReferenceIdeal.Value.out_eq m' c).trans ?_
    rw [a0, a1, a2, a3]
    exact Cert.Whole.ref_final _ _ _ _ (Cert.Whole.real_of_fn _ p0) (Cert.Whole.real_of_fn _ p1) (Cert.Whole.real_of_fn _ p2) (Cert.Whole.real_of_fn _ p3)

/-- The reference runs and leaves its arguments as they were; it has no semaphore to leave changed. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

namespace Mixer

variable (m : (ℓ : Loc Cert.MixerIdeal.nD Cert.MixerIdeal.τ Cert.MixerIdeal.sig) → Buf (Elt Ideal) ℓ) (g : Dev Cert.MixerIdeal.nD → PrngReg)
variable (m' : (ℓ : Loc Cert.MixerRefIdeal.nD Cert.MixerRefIdeal.τ Cert.MixerRefIdeal.sig) → Buf (Elt Ideal) ℓ) (g' : Dev Cert.MixerRefIdeal.nD → PrngReg)

/-- The reference's run, each result as the array of its entries. -/
theorem ref_run : θ_run (Cert.MixerRefIdeal.defs (F := Ideal)) (onTc (τ := Cert.MixerRefIdeal.τ) (Cert.MixerRefIdeal.main (F := Ideal))) ⟨m', fun _ => 0, g'⟩ fun r => ∀ c : Dev Cert.MixerRefIdeal.nD,
      r.2.mem ((c.tc : Thread Cert.MixerRefIdeal.nD Cert.MixerRefIdeal.τ).loc Cert.MixerRefIdeal.main_v253) = Cert.MixerRefIdeal.Value.arr2 (Cert.MixerRefIdeal.Value.gckv (m' ((c.tc : Thread Cert.MixerRefIdeal.nD Cert.MixerRefIdeal.τ).loc Cert.MixerRefIdeal.main_arg0)) (m' ((c.tc : Thread Cert.MixerRefIdeal.nD Cert.MixerRefIdeal.τ).loc Cert.MixerRefIdeal.main_arg1)) (m' ((c.tc : Thread Cert.MixerRefIdeal.nD Cert.MixerRefIdeal.τ).loc Cert.MixerRefIdeal.main_arg2)) (m' ((c.tc : Thread Cert.MixerRefIdeal.nD Cert.MixerRefIdeal.τ).loc Cert.MixerRefIdeal.main_arg5)))
      ∧ r.2.mem ((c.tc : Thread Cert.MixerRefIdeal.nD Cert.MixerRefIdeal.τ).loc Cert.MixerRefIdeal.main_v254) = Cert.MixerRefIdeal.Value.arr2 (Cert.MixerRefIdeal.Value.gkr (m' ((c.tc : Thread Cert.MixerRefIdeal.nD Cert.MixerRefIdeal.τ).loc Cert.MixerRefIdeal.main_arg0)) (m' ((c.tc : Thread Cert.MixerRefIdeal.nD Cert.MixerRefIdeal.τ).loc Cert.MixerRefIdeal.main_arg1)) (m' ((c.tc : Thread Cert.MixerRefIdeal.nD Cert.MixerRefIdeal.τ).loc Cert.MixerRefIdeal.main_arg2)))
      ∧ r.2.mem ((c.tc : Thread Cert.MixerRefIdeal.nD Cert.MixerRefIdeal.τ).loc Cert.MixerRefIdeal.main_v255) = Cert.MixerRefIdeal.Value.arr2 (Cert.MixerRefIdeal.Value.gkv (m' ((c.tc : Thread Cert.MixerRefIdeal.nD Cert.MixerRefIdeal.τ).loc Cert.MixerRefIdeal.main_arg0)) (m' ((c.tc : Thread Cert.MixerRefIdeal.nD Cert.MixerRefIdeal.τ).loc Cert.MixerRefIdeal.main_arg1)) (m' ((c.tc : Thread Cert.MixerRefIdeal.nD Cert.MixerRefIdeal.τ).loc Cert.MixerRefIdeal.main_arg2)))
      ∧ r.2.mem ((c.tc : Thread Cert.MixerRefIdeal.nD Cert.MixerRefIdeal.τ).loc Cert.MixerRefIdeal.main_v256) = Cert.MixerRefIdeal.Value.arr2 (Cert.MixerRefIdeal.Value.gik (m' ((c.tc : Thread Cert.MixerRefIdeal.nD Cert.MixerRefIdeal.τ).loc Cert.MixerRefIdeal.main_arg0)) (m' ((c.tc : Thread Cert.MixerRefIdeal.nD Cert.MixerRefIdeal.τ).loc Cert.MixerRefIdeal.main_arg1)) (m' ((c.tc : Thread Cert.MixerRefIdeal.nD Cert.MixerRefIdeal.τ).loc Cert.MixerRefIdeal.main_arg2)))
      ∧ r.2.mem ((c.tc : Thread Cert.MixerRefIdeal.nD Cert.MixerRefIdeal.τ).loc Cert.MixerRefIdeal.main_v257) = Cert.MixerRefIdeal.Value.arr3 (Cert.MixerRefIdeal.Value.gql (m' ((c.tc : Thread Cert.MixerRefIdeal.nD Cert.MixerRefIdeal.τ).loc Cert.MixerRefIdeal.main_arg0)) (m' ((c.tc : Thread Cert.MixerRefIdeal.nD Cert.MixerRefIdeal.τ).loc Cert.MixerRefIdeal.main_arg1)) (m' ((c.tc : Thread Cert.MixerRefIdeal.nD Cert.MixerRefIdeal.τ).loc Cert.MixerRefIdeal.main_arg2)) (m' ((c.tc : Thread Cert.MixerRefIdeal.nD Cert.MixerRefIdeal.τ).loc Cert.MixerRefIdeal.main_arg3)) (m' ((c.tc : Thread Cert.MixerRefIdeal.nD Cert.MixerRefIdeal.τ).loc Cert.MixerRefIdeal.main_arg4)) (m' ((c.tc : Thread Cert.MixerRefIdeal.nD Cert.MixerRefIdeal.τ).loc Cert.MixerRefIdeal.main_arg6)))
      ∧ r.2.mem ((c.tc : Thread Cert.MixerRefIdeal.nD Cert.MixerRefIdeal.τ).loc Cert.MixerRefIdeal.main_v258) = Cert.MixerRefIdeal.Value.arr2 (Cert.MixerRefIdeal.Value.gqr (m' ((c.tc : Thread Cert.MixerRefIdeal.nD Cert.MixerRefIdeal.τ).loc Cert.MixerRefIdeal.main_arg0)) (m' ((c.tc : Thread Cert.MixerRefIdeal.nD Cert.MixerRefIdeal.τ).loc Cert.MixerRefIdeal.main_arg1)) (m' ((c.tc : Thread Cert.MixerRefIdeal.nD Cert.MixerRefIdeal.τ).loc Cert.MixerRefIdeal.main_arg2)) (m' ((c.tc : Thread Cert.MixerRefIdeal.nD Cert.MixerRefIdeal.τ).loc Cert.MixerRefIdeal.main_arg3)) (m' ((c.tc : Thread Cert.MixerRefIdeal.nD Cert.MixerRefIdeal.τ).loc Cert.MixerRefIdeal.main_arg4)))
      ∧ r.2.mem ((c.tc : Thread Cert.MixerRefIdeal.nD Cert.MixerRefIdeal.τ).loc Cert.MixerRefIdeal.main_v259) = Cert.MixerRefIdeal.Value.arr2 (Cert.MixerRefIdeal.Value.gdq (m' ((c.tc : Thread Cert.MixerRefIdeal.nD Cert.MixerRefIdeal.τ).loc Cert.MixerRefIdeal.main_arg0)) (m' ((c.tc : Thread Cert.MixerRefIdeal.nD Cert.MixerRefIdeal.τ).loc Cert.MixerRefIdeal.main_arg1)) (m' ((c.tc : Thread Cert.MixerRefIdeal.nD Cert.MixerRefIdeal.τ).loc Cert.MixerRefIdeal.main_arg2)))
      ∧ r.2.mem ((c.tc : Thread Cert.MixerRefIdeal.nD Cert.MixerRefIdeal.τ).loc Cert.MixerRefIdeal.main_v260) = Cert.MixerRefIdeal.Value.arr2 (Cert.MixerRefIdeal.Value.giq (m' ((c.tc : Thread Cert.MixerRefIdeal.nD Cert.MixerRefIdeal.τ).loc Cert.MixerRefIdeal.main_arg0)) (m' ((c.tc : Thread Cert.MixerRefIdeal.nD Cert.MixerRefIdeal.τ).loc Cert.MixerRefIdeal.main_arg1)) (m' ((c.tc : Thread Cert.MixerRefIdeal.nD Cert.MixerRefIdeal.τ).loc Cert.MixerRefIdeal.main_arg2)))
      ∧ r.2.mem ((c.tc : Thread Cert.MixerRefIdeal.nD Cert.MixerRefIdeal.τ).loc Cert.MixerRefIdeal.main_v261) = Cert.MixerRefIdeal.Value.arr2 (Cert.MixerRefIdeal.Value.giw (m' ((c.tc : Thread Cert.MixerRefIdeal.nD Cert.MixerRefIdeal.τ).loc Cert.MixerRefIdeal.main_arg0)) (m' ((c.tc : Thread Cert.MixerRefIdeal.nD Cert.MixerRefIdeal.τ).loc Cert.MixerRefIdeal.main_arg1)) (m' ((c.tc : Thread Cert.MixerRefIdeal.nD Cert.MixerRefIdeal.τ).loc Cert.MixerRefIdeal.main_arg2)))
      ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6) :=
  (θ_run _ _ _).mono (fun r h c => ⟨(h c).1.trans (Cert.MixerRefIdeal.Value.gckv_eq (StableHlo.launchContents m' c)), (h c).2.1.trans (Cert.MixerRefIdeal.Value.gkr_eq (StableHlo.launchContents m' c)), (h c).2.2.1.trans (Cert.MixerRefIdeal.Value.gkv_eq (StableHlo.launchContents m' c)), (h c).2.2.2.1.trans (Cert.MixerRefIdeal.Value.gik_eq (StableHlo.launchContents m' c)), (h c).2.2.2.2.1.trans (Cert.MixerRefIdeal.Value.gql_eq (StableHlo.launchContents m' c)), (h c).2.2.2.2.2.1.trans (Cert.MixerRefIdeal.Value.gqr_eq (StableHlo.launchContents m' c)), (h c).2.2.2.2.2.2.1.trans (Cert.MixerRefIdeal.Value.gdq_eq (StableHlo.launchContents m' c)), (h c).2.2.2.2.2.2.2.1.trans (Cert.MixerRefIdeal.Value.giq_eq (StableHlo.launchContents m' c)), (h c).2.2.2.2.2.2.2.2.1.trans (Cert.MixerRefIdeal.Value.giw_eq (StableHlo.launchContents m' c)), (h c).2.2.2.2.2.2.2.2.2⟩) (Cert.MixerRefIdeal.Value.run m' g')

/-- The kernel's run, likewise. -/
theorem kernel_run : θ_run (Cert.MixerIdeal.defs (F := Ideal)) (onTc (τ := Cert.MixerIdeal.τ) (Cert.MixerIdeal.main (F := Ideal))) ⟨m, fun _ => 0, g⟩ fun r => ∀ c : Dev Cert.MixerIdeal.nD,
      r.2.mem ((c.tc : Thread Cert.MixerIdeal.nD Cert.MixerIdeal.τ).loc Cert.MixerIdeal.main_v85_0) = Cert.MixerRefIdeal.Value.arr2 (Cert.MixerRefIdeal.Value.gckv (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg5)))
      ∧ r.2.mem ((c.tc : Thread Cert.MixerIdeal.nD Cert.MixerIdeal.τ).loc Cert.MixerIdeal.main_v85_1) = Cert.MixerRefIdeal.Value.arr2 (Cert.MixerRefIdeal.Value.gkr (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)))
      ∧ r.2.mem ((c.tc : Thread Cert.MixerIdeal.nD Cert.MixerIdeal.τ).loc Cert.MixerIdeal.main_v85_2) = Cert.MixerRefIdeal.Value.arr2 (Cert.MixerRefIdeal.Value.gkv (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)))
      ∧ r.2.mem ((c.tc : Thread Cert.MixerIdeal.nD Cert.MixerIdeal.τ).loc Cert.MixerIdeal.main_v85_3) = Cert.MixerRefIdeal.Value.arr2 (Cert.MixerRefIdeal.Value.gik (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)))
      ∧ r.2.mem ((c.tc : Thread Cert.MixerIdeal.nD Cert.MixerIdeal.τ).loc Cert.MixerIdeal.main_v85_4) = Cert.MixerRefIdeal.Value.arr3 (Cert.MixerRefIdeal.Value.gql (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg6)))
      ∧ r.2.mem ((c.tc : Thread Cert.MixerIdeal.nD Cert.MixerIdeal.τ).loc Cert.MixerIdeal.main_v85_5) = Cert.MixerRefIdeal.Value.arr2 (Cert.MixerRefIdeal.Value.gqr (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)))
      ∧ r.2.mem ((c.tc : Thread Cert.MixerIdeal.nD Cert.MixerIdeal.τ).loc Cert.MixerIdeal.main_v85_6) = Cert.MixerRefIdeal.Value.arr2 (Cert.MixerRefIdeal.Value.gdq (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)))
      ∧ r.2.mem ((c.tc : Thread Cert.MixerIdeal.nD Cert.MixerIdeal.τ).loc Cert.MixerIdeal.main_v85_7) = Cert.MixerRefIdeal.Value.arr2 (Cert.MixerRefIdeal.Value.giq (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)))
      ∧ r.2.mem ((c.tc : Thread Cert.MixerIdeal.nD Cert.MixerIdeal.τ).loc Cert.MixerIdeal.main_v85_8) = Cert.MixerRefIdeal.Value.arr2 (Cert.MixerRefIdeal.Value.giw (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)))
      ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6) :=
  (θ_run _ _ _).mono (fun r h c => ⟨(h c).1.trans (Cert.Mixer.final11 m c), (h c).2.1.trans (Cert.Mixer.final12 m c), (h c).2.2.1.trans (Cert.Mixer.final13 m c), (h c).2.2.2.1.trans (Cert.Mixer.final14 m c), (h c).2.2.2.2.1.trans (Cert.Mixer.final15 m c), (h c).2.2.2.2.2.1.trans (Cert.Mixer.final16 m c), (h c).2.2.2.2.2.2.1.trans (Cert.Mixer.final17 m c), (h c).2.2.2.2.2.2.2.1.trans (Cert.Mixer.final18 m c), (h c).2.2.2.2.2.2.2.2.1.trans (Cert.Mixer.final19 m c), (h c).2.2.2.2.2.2.2.2.2⟩) (Cert.MixerIdeal.Value.run_blocks m g)

/-- The reference's run from the kernel's arguments. -/
theorem ref_run' (harg : ∀ c : Dev Cert.MixerIdeal.nD, (m' ((c.tc : Thread Cert.MixerRefIdeal.nD Cert.MixerRefIdeal.τ).loc Cert.MixerRefIdeal.main_arg0)) = (m ((c.tc : Thread Cert.MixerIdeal.nD Cert.MixerIdeal.τ).loc Cert.MixerIdeal.main_arg0)) ∧ (m' ((c.tc : Thread Cert.MixerRefIdeal.nD Cert.MixerRefIdeal.τ).loc Cert.MixerRefIdeal.main_arg1)) = (m ((c.tc : Thread Cert.MixerIdeal.nD Cert.MixerIdeal.τ).loc Cert.MixerIdeal.main_arg1)) ∧ (m' ((c.tc : Thread Cert.MixerRefIdeal.nD Cert.MixerRefIdeal.τ).loc Cert.MixerRefIdeal.main_arg2)) = (m ((c.tc : Thread Cert.MixerIdeal.nD Cert.MixerIdeal.τ).loc Cert.MixerIdeal.main_arg2)) ∧ (m' ((c.tc : Thread Cert.MixerRefIdeal.nD Cert.MixerRefIdeal.τ).loc Cert.MixerRefIdeal.main_arg3)) = (m ((c.tc : Thread Cert.MixerIdeal.nD Cert.MixerIdeal.τ).loc Cert.MixerIdeal.main_arg3)) ∧ (m' ((c.tc : Thread Cert.MixerRefIdeal.nD Cert.MixerRefIdeal.τ).loc Cert.MixerRefIdeal.main_arg4)) = (m ((c.tc : Thread Cert.MixerIdeal.nD Cert.MixerIdeal.τ).loc Cert.MixerIdeal.main_arg4)) ∧ (m' ((c.tc : Thread Cert.MixerRefIdeal.nD Cert.MixerRefIdeal.τ).loc Cert.MixerRefIdeal.main_arg5)) = (m ((c.tc : Thread Cert.MixerIdeal.nD Cert.MixerIdeal.τ).loc Cert.MixerIdeal.main_arg5)) ∧ (m' ((c.tc : Thread Cert.MixerRefIdeal.nD Cert.MixerRefIdeal.τ).loc Cert.MixerRefIdeal.main_arg6)) = (m ((c.tc : Thread Cert.MixerIdeal.nD Cert.MixerIdeal.τ).loc Cert.MixerIdeal.main_arg6))) : θ_run (Cert.MixerRefIdeal.defs (F := Ideal)) (onTc (τ := Cert.MixerRefIdeal.τ) (Cert.MixerRefIdeal.main (F := Ideal))) ⟨m', fun _ => 0, g'⟩ fun r => ∀ c : Dev Cert.MixerRefIdeal.nD,
      r.2.mem ((c.tc : Thread Cert.MixerRefIdeal.nD Cert.MixerRefIdeal.τ).loc Cert.MixerRefIdeal.main_v253) = Cert.MixerRefIdeal.Value.arr2 (Cert.MixerRefIdeal.Value.gckv (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg5)))
      ∧ r.2.mem ((c.tc : Thread Cert.MixerRefIdeal.nD Cert.MixerRefIdeal.τ).loc Cert.MixerRefIdeal.main_v254) = Cert.MixerRefIdeal.Value.arr2 (Cert.MixerRefIdeal.Value.gkr (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)))
      ∧ r.2.mem ((c.tc : Thread Cert.MixerRefIdeal.nD Cert.MixerRefIdeal.τ).loc Cert.MixerRefIdeal.main_v255) = Cert.MixerRefIdeal.Value.arr2 (Cert.MixerRefIdeal.Value.gkv (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)))
      ∧ r.2.mem ((c.tc : Thread Cert.MixerRefIdeal.nD Cert.MixerRefIdeal.τ).loc Cert.MixerRefIdeal.main_v256) = Cert.MixerRefIdeal.Value.arr2 (Cert.MixerRefIdeal.Value.gik (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)))
      ∧ r.2.mem ((c.tc : Thread Cert.MixerRefIdeal.nD Cert.MixerRefIdeal.τ).loc Cert.MixerRefIdeal.main_v257) = Cert.MixerRefIdeal.Value.arr3 (Cert.MixerRefIdeal.Value.gql (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg6)))
      ∧ r.2.mem ((c.tc : Thread Cert.MixerRefIdeal.nD Cert.MixerRefIdeal.τ).loc Cert.MixerRefIdeal.main_v258) = Cert.MixerRefIdeal.Value.arr2 (Cert.MixerRefIdeal.Value.gqr (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)))
      ∧ r.2.mem ((c.tc : Thread Cert.MixerRefIdeal.nD Cert.MixerRefIdeal.τ).loc Cert.MixerRefIdeal.main_v259) = Cert.MixerRefIdeal.Value.arr2 (Cert.MixerRefIdeal.Value.gdq (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)))
      ∧ r.2.mem ((c.tc : Thread Cert.MixerRefIdeal.nD Cert.MixerRefIdeal.τ).loc Cert.MixerRefIdeal.main_v260) = Cert.MixerRefIdeal.Value.arr2 (Cert.MixerRefIdeal.Value.giq (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)))
      ∧ r.2.mem ((c.tc : Thread Cert.MixerRefIdeal.nD Cert.MixerRefIdeal.τ).loc Cert.MixerRefIdeal.main_v261) = Cert.MixerRefIdeal.Value.arr2 (Cert.MixerRefIdeal.Value.giw (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)))
      ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6) := by
  refine (θ_run _ _ _).mono (fun r h c => ?_) (ref_run m' g')
  have h := h c
  obtain ⟨a0, a1, a2, a3, a4, a5, a6⟩ := harg c
  rw [a0, a1, a2, a3, a4, a5, a6] at h
  rw [a0, a1, a2, a3, a4, a5, a6]
  exact h

/-- The kernel and the reference end with the same nine arrays. -/
theorem value : Cert.algebraic_MixerIdeal_MixerRefIdeal (hMixerIdeal := Cert.MixerIdeal.Gen.facts) (hMixerRefIdeal := Cert.MixerRefIdeal.Gen.facts) :=
  fun m g m' g' _ harg => ⟨_, _, _, _, _, _, _, _, _, kernel_run m g, ref_run' m m' g' harg⟩

/-- The reference runs and leaves its arguments as they were; it has no semaphore to leave changed. -/
theorem frame_reference : Cert.quiescent_MixerRefIdeal (hMixerRefIdeal := Cert.MixerRefIdeal.Gen.facts) := fun m g _ =>
  (θ_run _ _ _).mono (fun r h => ⟨fun c => (h c).2.2.2.2.2.2.2.2.2, sem_eq_zero_of_no_sems (by decide) r.2⟩) (Cert.MixerRefIdeal.Value.run m g)

end Mixer

namespace Out

/-- The kernel and the reference end with the same stream. -/
theorem value : Cert.algebraic_OutIdeal_OutRefIdeal (hOutIdeal := Cert.OutIdeal.Gen.facts) (hOutRefIdeal := Cert.OutRefIdeal.Gen.facts) := by
  intro m g m' g' _ harg
  refine ⟨fun c => Cert.OutRefIdeal.Value.G (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)),
    (θ_run _ _ _).mono (fun r h c => ⟨(h c).1.trans (Cert.Out.final5 m c), (h c).2⟩) (Cert.OutIdeal.Value.run_blocks m g),
    (θ_run _ _ _).mono (fun r h c => ⟨(h c).1.trans ?_, (h c).2⟩) (Cert.OutRefIdeal.Value.run m' g')⟩
  · obtain ⟨a0, a1, a2, a3, a4⟩ := harg c
    rw [a0, a1, a2, a3, a4]
    exact Cert.OutRefIdeal.Value.ref_at _ _ _ _ _

/-- The reference runs and leaves its arguments as they were; it has no semaphore to leave changed. -/
theorem frame_reference : Cert.quiescent_OutRefIdeal (hOutRefIdeal := Cert.OutRefIdeal.Gen.facts) := fun m g _ =>
  (θ_run _ _ _).mono (fun r h => ⟨fun c => (h c).2, sem_eq_zero_of_no_sems (by decide) r.2⟩) (Cert.OutRefIdeal.Value.run m g)

end Out

namespace Memory

/-- The kernel and the reference end with the same keys and the same values. -/
theorem value : Cert.algebraic_MemoryIdeal_MemoryRefIdeal (hMemoryIdeal := Cert.MemoryIdeal.Gen.facts) (hMemoryRefIdeal := Cert.MemoryRefIdeal.Gen.facts) := by
  intro m g m' g' _ harg
  refine ⟨fun c => Cert.MemoryRefIdeal.Value.G (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1)) (m ((c.tc : Thread Cert.MemoryIdeal.nD Cert.MemoryIdeal.τ).loc Cert.MemoryIdeal.main_arg2)),
    fun c => Cert.MemoryRefIdeal.Value.G (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1)) (m ((c.tc : Thread Cert.MemoryIdeal.nD Cert.MemoryIdeal.τ).loc Cert.MemoryIdeal.main_arg3)),
    (θ_run _ _ _).mono (fun r h c => ⟨(h c).1.trans (Cert.Memory.final3 m c), (h c).2.1.trans (Cert.Memory.final4 m c), (h c).2.2⟩) (Cert.MemoryIdeal.Value.run_blocks m g),
    (θ_run _ _ _).mono (fun r h c => ⟨(h c).1.trans ?_, (h c).2.1.trans ?_, (h c).2.2⟩) (Cert.MemoryRefIdeal.Value.run m' g')⟩
  · obtain ⟨a0, a1, a2, a3⟩ := harg c
    rw [a0, a1, a2]
    exact Cert.MemoryRefIdeal.Value.ref_at _ _ _
  · obtain ⟨a0, a1, a2, a3⟩ := harg c
    rw [a0, a1, a3]
    exact Cert.MemoryRefIdeal.Value.ref_at _ _ _

/-- The reference runs and leaves its arguments as they were; it has no semaphore to leave changed. -/
theorem frame_reference : Cert.quiescent_MemoryRefIdeal (hMemoryRefIdeal := Cert.MemoryRefIdeal.Gen.facts) := fun m g _ =>
  (θ_run _ _ _).mono (fun r h => ⟨fun c => (h c).2.2, sem_eq_zero_of_no_sems (by decide) r.2⟩) (Cert.MemoryRefIdeal.Value.run m g)

end Memory

namespace Cross

/-- The kernel and the reference end with the same stream. -/
theorem value : Cert.algebraic_CrossIdeal_CrossRefIdeal (hCrossIdeal := Cert.CrossIdeal.Gen.facts) (hCrossRefIdeal := Cert.CrossRefIdeal.Gen.facts) := by
  intro m g m' g' _ harg
  refine ⟨fun c => Cert.CrossRefIdeal.Value.G (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)),
    (θ_run _ _ _).mono (fun r h c => ⟨(h c).1.trans (Cert.Cross.final6 m c), (h c).2⟩) (Cert.CrossIdeal.Value.run_blocks m g),
    (θ_run _ _ _).mono (fun r h c => ⟨(h c).1.trans ?_, (h c).2⟩) (Cert.CrossRefIdeal.Value.run m' g')⟩
  · obtain ⟨a0, a1, a2, a3, a4, a5⟩ := harg c
    refine (Cert.CrossRefIdeal.Value.out_eq m' c).trans ?_
    rw [a0, a1, a2, a3, a4, a5]
    exact Cert.CrossRefIdeal.Value.ref_at _ _ _ _ _ _

/-- The reference runs and leaves its arguments as they were; it has no semaphore to leave changed. -/
theorem frame_reference : Cert.quiescent_CrossRefIdeal (hCrossRefIdeal := Cert.CrossRefIdeal.Gen.facts) := fun m g _ =>
  (θ_run _ _ _).mono (fun r h => ⟨fun c => (h c).2, sem_eq_zero_of_no_sems (by decide) r.2⟩) (Cert.CrossRefIdeal.Value.run m g)

end Cross

namespace Sample

variable (m : (ℓ : Loc Cert.SampleIdeal.nD Cert.SampleIdeal.τ Cert.SampleIdeal.sig) → Buf (Elt Ideal) ℓ) (g : Dev Cert.SampleIdeal.nD → PrngReg)
variable (m' : (ℓ : Loc Cert.SampleRefIdeal.nD Cert.SampleRefIdeal.τ Cert.SampleRefIdeal.sig) → Buf (Elt Ideal) ℓ) (g' : Dev Cert.SampleRefIdeal.nD → PrngReg)

/-- The reference's run, each result as the array of its entries. -/
theorem ref_run : θ_run (Cert.SampleRefIdeal.defs (F := Ideal)) (onTc (τ := Cert.SampleRefIdeal.τ) (Cert.SampleRefIdeal.main (F := Ideal))) ⟨m', fun _ => 0, g'⟩ fun r => ∀ c : Dev Cert.SampleRefIdeal.nD,
      r.2.mem ((c.tc : Thread Cert.SampleRefIdeal.nD Cert.SampleRefIdeal.τ).loc Cert.SampleRefIdeal.main_v255) = Cert.MixerRefIdeal.Value.arr2 (Cert.SampleRefIdeal.Value.gckv (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2)) (m' ((c.tc : Thread Cert.SampleRefIdeal.nD Cert.SampleRefIdeal.τ).loc Cert.SampleRefIdeal.main_arg5)))
      ∧ r.2.mem ((c.tc : Thread Cert.SampleRefIdeal.nD Cert.SampleRefIdeal.τ).loc Cert.SampleRefIdeal.main_v256) = Cert.MixerRefIdeal.Value.arr2 (Cert.SampleRefIdeal.Value.gkr (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2)))
      ∧ r.2.mem ((c.tc : Thread Cert.SampleRefIdeal.nD Cert.SampleRefIdeal.τ).loc Cert.SampleRefIdeal.main_v257) = Cert.MixerRefIdeal.Value.arr2 (Cert.SampleRefIdeal.Value.gkv (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2)))
      ∧ r.2.mem ((c.tc : Thread Cert.SampleRefIdeal.nD Cert.SampleRefIdeal.τ).loc Cert.SampleRefIdeal.main_v258) = Cert.MixerRefIdeal.Value.arr2 (Cert.SampleRefIdeal.Value.gik (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2)))
      ∧ r.2.mem ((c.tc : Thread Cert.SampleRefIdeal.nD Cert.SampleRefIdeal.τ).loc Cert.SampleRefIdeal.main_v259) = Cert.MixerRefIdeal.Value.arr3 (Cert.SampleRefIdeal.Value.gql (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)) (m' ((c.tc : Thread Cert.SampleRefIdeal.nD Cert.SampleRefIdeal.τ).loc Cert.SampleRefIdeal.main_arg6)))
      ∧ r.2.mem ((c.tc : Thread Cert.SampleRefIdeal.nD Cert.SampleRefIdeal.τ).loc Cert.SampleRefIdeal.main_v260) = Cert.MixerRefIdeal.Value.arr2 (Cert.SampleRefIdeal.Value.gqr (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)))
      ∧ r.2.mem ((c.tc : Thread Cert.SampleRefIdeal.nD Cert.SampleRefIdeal.τ).loc Cert.SampleRefIdeal.main_v261) = Cert.MixerRefIdeal.Value.arr2 (Cert.SampleRefIdeal.Value.gdq (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2)))
      ∧ r.2.mem ((c.tc : Thread Cert.SampleRefIdeal.nD Cert.SampleRefIdeal.τ).loc Cert.SampleRefIdeal.main_v262) = Cert.MixerRefIdeal.Value.arr2 (Cert.SampleRefIdeal.Value.giq (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2)))
      ∧ r.2.mem ((c.tc : Thread Cert.SampleRefIdeal.nD Cert.SampleRefIdeal.τ).loc Cert.SampleRefIdeal.main_v263) = Cert.MixerRefIdeal.Value.arr2 (Cert.SampleRefIdeal.Value.giw (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2)))
      ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6) :=
  (θ_run _ _ _).mono (fun r h c => ⟨(h c).1.trans (Cert.SampleRefIdeal.Value.gckv_eq (StableHlo.launchContents m' c)), (h c).2.1.trans (Cert.SampleRefIdeal.Value.gkr_eq (StableHlo.launchContents m' c)), (h c).2.2.1.trans (Cert.SampleRefIdeal.Value.gkv_eq (StableHlo.launchContents m' c)), (h c).2.2.2.1.trans (Cert.SampleRefIdeal.Value.gik_eq (StableHlo.launchContents m' c)), (h c).2.2.2.2.1.trans (Cert.SampleRefIdeal.Value.gql_eq (StableHlo.launchContents m' c)), (h c).2.2.2.2.2.1.trans (Cert.SampleRefIdeal.Value.gqr_eq (StableHlo.launchContents m' c)), (h c).2.2.2.2.2.2.1.trans (Cert.SampleRefIdeal.Value.gdq_eq (StableHlo.launchContents m' c)), (h c).2.2.2.2.2.2.2.1.trans (Cert.SampleRefIdeal.Value.giq_eq (StableHlo.launchContents m' c)), (h c).2.2.2.2.2.2.2.2.1.trans (Cert.SampleRefIdeal.Value.giw_eq (StableHlo.launchContents m' c)), (h c).2.2.2.2.2.2.2.2.2⟩) (Cert.SampleRefIdeal.Value.run m' g')

/-- The kernel's run, likewise. -/
theorem kernel_run : θ_run (Cert.SampleIdeal.defs (F := Ideal)) (onTc (τ := Cert.SampleIdeal.τ) (Cert.SampleIdeal.main (F := Ideal))) ⟨m, fun _ => 0, g⟩ fun r => ∀ c : Dev Cert.SampleIdeal.nD,
      r.2.mem ((c.tc : Thread Cert.SampleIdeal.nD Cert.SampleIdeal.τ).loc Cert.SampleIdeal.main_v87_0) = Cert.MixerRefIdeal.Value.arr2 (Cert.SampleRefIdeal.Value.gckv (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg5)))
      ∧ r.2.mem ((c.tc : Thread Cert.SampleIdeal.nD Cert.SampleIdeal.τ).loc Cert.SampleIdeal.main_v87_1) = Cert.MixerRefIdeal.Value.arr2 (Cert.SampleRefIdeal.Value.gkr (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)))
      ∧ r.2.mem ((c.tc : Thread Cert.SampleIdeal.nD Cert.SampleIdeal.τ).loc Cert.SampleIdeal.main_v87_2) = Cert.MixerRefIdeal.Value.arr2 (Cert.SampleRefIdeal.Value.gkv (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)))
      ∧ r.2.mem ((c.tc : Thread Cert.SampleIdeal.nD Cert.SampleIdeal.τ).loc Cert.SampleIdeal.main_v87_3) = Cert.MixerRefIdeal.Value.arr2 (Cert.SampleRefIdeal.Value.gik (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)))
      ∧ r.2.mem ((c.tc : Thread Cert.SampleIdeal.nD Cert.SampleIdeal.τ).loc Cert.SampleIdeal.main_v87_4) = Cert.MixerRefIdeal.Value.arr3 (Cert.SampleRefIdeal.Value.gql (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg6)))
      ∧ r.2.mem ((c.tc : Thread Cert.SampleIdeal.nD Cert.SampleIdeal.τ).loc Cert.SampleIdeal.main_v87_5) = Cert.MixerRefIdeal.Value.arr2 (Cert.SampleRefIdeal.Value.gqr (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)))
      ∧ r.2.mem ((c.tc : Thread Cert.SampleIdeal.nD Cert.SampleIdeal.τ).loc Cert.SampleIdeal.main_v87_6) = Cert.MixerRefIdeal.Value.arr2 (Cert.SampleRefIdeal.Value.gdq (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)))
      ∧ r.2.mem ((c.tc : Thread Cert.SampleIdeal.nD Cert.SampleIdeal.τ).loc Cert.SampleIdeal.main_v87_7) = Cert.MixerRefIdeal.Value.arr2 (Cert.SampleRefIdeal.Value.giq (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)))
      ∧ r.2.mem ((c.tc : Thread Cert.SampleIdeal.nD Cert.SampleIdeal.τ).loc Cert.SampleIdeal.main_v87_8) = Cert.MixerRefIdeal.Value.arr2 (Cert.SampleRefIdeal.Value.giw (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)))
      ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6) :=
  (θ_run _ _ _).mono (fun r h c => ⟨(h c).1.trans (Cert.Sample.final11 m c), (h c).2.1.trans (Cert.Sample.final12 m c), (h c).2.2.1.trans (Cert.Sample.final13 m c), (h c).2.2.2.1.trans (Cert.Sample.final14 m c), (h c).2.2.2.2.1.trans (Cert.Sample.final15 m c), (h c).2.2.2.2.2.1.trans (Cert.Sample.final16 m c), (h c).2.2.2.2.2.2.1.trans (Cert.Sample.final17 m c), (h c).2.2.2.2.2.2.2.1.trans (Cert.Sample.final18 m c), (h c).2.2.2.2.2.2.2.2.1.trans (Cert.Sample.final19 m c), (h c).2.2.2.2.2.2.2.2.2⟩) (Cert.SampleIdeal.Value.run_blocks m g)

/-- The reference's run from the kernel's arguments. -/
theorem ref_run' (harg : ∀ c : Dev Cert.SampleIdeal.nD, (m' ((c.tc : Thread Cert.SampleRefIdeal.nD Cert.SampleRefIdeal.τ).loc Cert.SampleRefIdeal.main_arg0)) = (m ((c.tc : Thread Cert.SampleIdeal.nD Cert.SampleIdeal.τ).loc Cert.SampleIdeal.main_arg0)) ∧ (m' ((c.tc : Thread Cert.SampleRefIdeal.nD Cert.SampleRefIdeal.τ).loc Cert.SampleRefIdeal.main_arg1)) = (m ((c.tc : Thread Cert.SampleIdeal.nD Cert.SampleIdeal.τ).loc Cert.SampleIdeal.main_arg1)) ∧ (m' ((c.tc : Thread Cert.SampleRefIdeal.nD Cert.SampleRefIdeal.τ).loc Cert.SampleRefIdeal.main_arg2)) = (m ((c.tc : Thread Cert.SampleIdeal.nD Cert.SampleIdeal.τ).loc Cert.SampleIdeal.main_arg2)) ∧ (m' ((c.tc : Thread Cert.SampleRefIdeal.nD Cert.SampleRefIdeal.τ).loc Cert.SampleRefIdeal.main_arg3)) = (m ((c.tc : Thread Cert.SampleIdeal.nD Cert.SampleIdeal.τ).loc Cert.SampleIdeal.main_arg3)) ∧ (m' ((c.tc : Thread Cert.SampleRefIdeal.nD Cert.SampleRefIdeal.τ).loc Cert.SampleRefIdeal.main_arg4)) = (m ((c.tc : Thread Cert.SampleIdeal.nD Cert.SampleIdeal.τ).loc Cert.SampleIdeal.main_arg4)) ∧ (m' ((c.tc : Thread Cert.SampleRefIdeal.nD Cert.SampleRefIdeal.τ).loc Cert.SampleRefIdeal.main_arg5)) = (m ((c.tc : Thread Cert.SampleIdeal.nD Cert.SampleIdeal.τ).loc Cert.SampleIdeal.main_arg5)) ∧ (m' ((c.tc : Thread Cert.SampleRefIdeal.nD Cert.SampleRefIdeal.τ).loc Cert.SampleRefIdeal.main_arg6)) = (m ((c.tc : Thread Cert.SampleIdeal.nD Cert.SampleIdeal.τ).loc Cert.SampleIdeal.main_arg6))) : θ_run (Cert.SampleRefIdeal.defs (F := Ideal)) (onTc (τ := Cert.SampleRefIdeal.τ) (Cert.SampleRefIdeal.main (F := Ideal))) ⟨m', fun _ => 0, g'⟩ fun r => ∀ c : Dev Cert.SampleRefIdeal.nD,
      r.2.mem ((c.tc : Thread Cert.SampleRefIdeal.nD Cert.SampleRefIdeal.τ).loc Cert.SampleRefIdeal.main_v255) = Cert.MixerRefIdeal.Value.arr2 (Cert.SampleRefIdeal.Value.gckv (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg5)))
      ∧ r.2.mem ((c.tc : Thread Cert.SampleRefIdeal.nD Cert.SampleRefIdeal.τ).loc Cert.SampleRefIdeal.main_v256) = Cert.MixerRefIdeal.Value.arr2 (Cert.SampleRefIdeal.Value.gkr (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)))
      ∧ r.2.mem ((c.tc : Thread Cert.SampleRefIdeal.nD Cert.SampleRefIdeal.τ).loc Cert.SampleRefIdeal.main_v257) = Cert.MixerRefIdeal.Value.arr2 (Cert.SampleRefIdeal.Value.gkv (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)))
      ∧ r.2.mem ((c.tc : Thread Cert.SampleRefIdeal.nD Cert.SampleRefIdeal.τ).loc Cert.SampleRefIdeal.main_v258) = Cert.MixerRefIdeal.Value.arr2 (Cert.SampleRefIdeal.Value.gik (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)))
      ∧ r.2.mem ((c.tc : Thread Cert.SampleRefIdeal.nD Cert.SampleRefIdeal.τ).loc Cert.SampleRefIdeal.main_v259) = Cert.MixerRefIdeal.Value.arr3 (Cert.SampleRefIdeal.Value.gql (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg6)))
      ∧ r.2.mem ((c.tc : Thread Cert.SampleRefIdeal.nD Cert.SampleRefIdeal.τ).loc Cert.SampleRefIdeal.main_v260) = Cert.MixerRefIdeal.Value.arr2 (Cert.SampleRefIdeal.Value.gqr (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)))
      ∧ r.2.mem ((c.tc : Thread Cert.SampleRefIdeal.nD Cert.SampleRefIdeal.τ).loc Cert.SampleRefIdeal.main_v261) = Cert.MixerRefIdeal.Value.arr2 (Cert.SampleRefIdeal.Value.gdq (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)))
      ∧ r.2.mem ((c.tc : Thread Cert.SampleRefIdeal.nD Cert.SampleRefIdeal.τ).loc Cert.SampleRefIdeal.main_v262) = Cert.MixerRefIdeal.Value.arr2 (Cert.SampleRefIdeal.Value.giq (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)))
      ∧ r.2.mem ((c.tc : Thread Cert.SampleRefIdeal.nD Cert.SampleRefIdeal.τ).loc Cert.SampleRefIdeal.main_v263) = Cert.MixerRefIdeal.Value.arr2 (Cert.SampleRefIdeal.Value.giw (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)))
      ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6) := by
  refine (θ_run _ _ _).mono (fun r h c => ?_) (ref_run m' g')
  have h := h c
  obtain ⟨a0, a1, a2, a3, a4, a5, a6⟩ := harg c
  rw [a0, a1, a2, a3, a4, a5, a6] at h
  rw [a0, a1, a2, a3, a4, a5, a6]
  exact h

/-- The kernel and the reference end with the same nine arrays. -/
theorem value : Cert.algebraic_SampleIdeal_SampleRefIdeal (hSampleIdeal := Cert.SampleIdeal.Gen.facts) (hSampleRefIdeal := Cert.SampleRefIdeal.Gen.facts) :=
  fun m g m' g' _ harg => ⟨_, _, _, _, _, _, _, _, _, kernel_run m g, ref_run' m m' g' harg⟩

/-- The reference runs and leaves its arguments as they were; it has no semaphore to leave changed. -/
theorem frame_reference : Cert.quiescent_SampleRefIdeal (hSampleRefIdeal := Cert.SampleRefIdeal.Gen.facts) := fun m g _ =>
  (θ_run _ _ _).mono (fun r h => ⟨fun c => (h c).2.2.2.2.2.2.2.2.2, sem_eq_zero_of_no_sems (by decide) r.2⟩) (Cert.SampleRefIdeal.Value.run m g)

end Sample

namespace OutSample

/-- The kernel and the reference end with the same stream. -/
theorem value : Cert.algebraic_OutSampleIdeal_OutSampleRefIdeal (hOutSampleIdeal := Cert.OutSampleIdeal.Gen.facts) (hOutSampleRefIdeal := Cert.OutSampleRefIdeal.Gen.facts) := by
  intro m g m' g' _ harg
  refine ⟨fun c => Cert.OutSampleRefIdeal.Value.G (m ((c.tc : Thread Cert.OutSampleIdeal.nD Cert.OutSampleIdeal.τ).loc Cert.OutSampleIdeal.main_arg0)) (m ((c.tc : Thread Cert.OutSampleIdeal.nD Cert.OutSampleIdeal.τ).loc Cert.OutSampleIdeal.main_arg1)) (m ((c.tc : Thread Cert.OutSampleIdeal.nD Cert.OutSampleIdeal.τ).loc Cert.OutSampleIdeal.main_arg2)) (m ((c.tc : Thread Cert.OutSampleIdeal.nD Cert.OutSampleIdeal.τ).loc Cert.OutSampleIdeal.main_arg3)) (m ((c.tc : Thread Cert.OutSampleIdeal.nD Cert.OutSampleIdeal.τ).loc Cert.OutSampleIdeal.main_arg4)),
    (θ_run _ _ _).mono (fun r h c => ⟨(h c).1.trans (Cert.OutSample.final5 m c), (h c).2⟩) (Cert.OutSampleIdeal.Value.run_blocks m g),
    (θ_run _ _ _).mono (fun r h c => ⟨(h c).1.trans ?_, (h c).2⟩) (Cert.OutSampleRefIdeal.Value.run m' g')⟩
  · obtain ⟨a0, a1, a2, a3, a4⟩ := harg c
    rw [a0, a1, a2, a3, a4]
    exact Cert.OutSampleRefIdeal.Value.ref_at _ _ _ _ _

/-- The reference runs and leaves its arguments as they were; it has no semaphore to leave changed. -/
theorem frame_reference : Cert.quiescent_OutSampleRefIdeal (hOutSampleRefIdeal := Cert.OutSampleRefIdeal.Gen.facts) := fun m g _ =>
  (θ_run _ _ _).mono (fun r h => ⟨fun c => (h c).2, sem_eq_zero_of_no_sems (by decide) r.2⟩) (Cert.OutSampleRefIdeal.Value.run m g)

end OutSample

namespace CrossSample

/-- The kernel and the reference end with the same stream. -/
theorem value : Cert.algebraic_CrossSampleIdeal_CrossSampleRefIdeal (hCrossSampleIdeal := Cert.CrossSampleIdeal.Gen.facts) (hCrossSampleRefIdeal := Cert.CrossSampleRefIdeal.Gen.facts) := by
  intro m g m' g' _ harg
  refine ⟨fun c => Cert.CrossSampleRefIdeal.Value.G (m ((c.tc : Thread Cert.CrossSampleIdeal.nD Cert.CrossSampleIdeal.τ).loc Cert.CrossSampleIdeal.main_arg0)) (m ((c.tc : Thread Cert.CrossSampleIdeal.nD Cert.CrossSampleIdeal.τ).loc Cert.CrossSampleIdeal.main_arg1)) (m ((c.tc : Thread Cert.CrossSampleIdeal.nD Cert.CrossSampleIdeal.τ).loc Cert.CrossSampleIdeal.main_arg2)) (m ((c.tc : Thread Cert.CrossSampleIdeal.nD Cert.CrossSampleIdeal.τ).loc Cert.CrossSampleIdeal.main_arg3)) (m ((c.tc : Thread Cert.CrossSampleIdeal.nD Cert.CrossSampleIdeal.τ).loc Cert.CrossSampleIdeal.main_arg4)) (m ((c.tc : Thread Cert.CrossSampleIdeal.nD Cert.CrossSampleIdeal.τ).loc Cert.CrossSampleIdeal.main_arg5)),
    (θ_run _ _ _).mono (fun r h c => ⟨(h c).1.trans (Cert.CrossSample.final6 m c), (h c).2⟩) (Cert.CrossSampleIdeal.Value.run_blocks m g),
    (θ_run _ _ _).mono (fun r h c => ⟨(h c).1.trans ?_, (h c).2⟩) (Cert.CrossSampleRefIdeal.Value.run m' g')⟩
  · obtain ⟨a0, a1, a2, a3, a4, a5⟩ := harg c
    refine (Cert.CrossSampleRefIdeal.Value.out_eq m' c).trans ?_
    rw [a0, a1, a2, a3, a4, a5]
    exact Cert.CrossSampleRefIdeal.Value.ref_at _ _ _ _ _ _

/-- The reference runs and leaves its arguments as they were; it has no semaphore to leave changed. -/
theorem frame_reference : Cert.quiescent_CrossSampleRefIdeal (hCrossSampleRefIdeal := Cert.CrossSampleRefIdeal.Gen.facts) := fun m g _ =>
  (θ_run _ _ _).mono (fun r h => ⟨fun c => (h c).2, sem_eq_zero_of_no_sems (by decide) r.2⟩) (Cert.CrossSampleRefIdeal.Value.run m g)

end CrossSample

/-- Every claim of this certificate. -/
theorem claim : Cert.Claim := ⟨Cert.Kernel.Gen.facts, Cert.KernelIdeal.Gen.facts, Cert.ReferenceIdeal.Gen.facts,
  Cert.Mixer.Gen.facts, Cert.MixerIdeal.Gen.facts, Cert.MixerRefIdeal.Gen.facts,
  Cert.Out.Gen.facts, Cert.OutIdeal.Gen.facts, Cert.OutRefIdeal.Gen.facts,
  Cert.Memory.Gen.facts, Cert.MemoryIdeal.Gen.facts, Cert.MemoryRefIdeal.Gen.facts,
  Cert.Cross.Gen.facts, Cert.CrossIdeal.Gen.facts, Cert.CrossRefIdeal.Gen.facts,
  Cert.Sample.Gen.facts, Cert.SampleIdeal.Gen.facts, Cert.SampleRefIdeal.Gen.facts,
  Cert.OutSample.Gen.facts, Cert.OutSampleIdeal.Gen.facts, Cert.OutSampleRefIdeal.Gen.facts,
  Cert.CrossSample.Gen.facts, Cert.CrossSampleIdeal.Gen.facts, Cert.CrossSampleRefIdeal.Gen.facts,
  finite_facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.Mixer.Gen.frame m g, fun m g _ => Cert.MixerIdeal.Gen.frame m g, Mixer.frame_reference,
  fun m g _ => Cert.Out.Gen.frame m g, fun m g _ => Cert.OutIdeal.Gen.frame m g, Out.frame_reference,
  fun m g _ => Cert.Memory.Gen.frame m g, fun m g _ => Cert.MemoryIdeal.Gen.frame m g, Memory.frame_reference,
  fun m g _ => Cert.Cross.Gen.frame m g, fun m g _ => Cert.CrossIdeal.Gen.frame m g, Cross.frame_reference,
  fun m g _ => Cert.Sample.Gen.frame m g, fun m g _ => Cert.SampleIdeal.Gen.frame m g, Sample.frame_reference,
  fun m g _ => Cert.OutSample.Gen.frame m g, fun m g _ => Cert.OutSampleIdeal.Gen.frame m g, OutSample.frame_reference,
  fun m g _ => Cert.CrossSample.Gen.frame m g, fun m g _ => Cert.CrossSampleIdeal.Gen.frame m g, CrossSample.frame_reference,
  IdealRules.named_const.statement Cert.KernelIdeal.κ "mask" .f32 0xF149F2CA#32 ⊥ rfl, value,
  trivial, Mixer.value, trivial, Out.value, trivial, Memory.value, trivial, Cross.value, trivial, Sample.value, trivial, OutSample.value, trivial, CrossSample.value⟩

end Cert.Proof

end
